-- ==== Defs.lean ====
def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_weights_and_cotangent [hPre_finite_weights_and_cotangent : Cert.Pre_finite_weights_and_cotangent.Facts] (m : (ℓ : Loc Cert.PoolIdeal.nD Cert.PoolIdeal.τ Cert.PoolIdeal.sig) → Buf (Elt Ideal) ℓ) : Prop :=
  ∀ c : Dev Cert.PoolIdeal.nD,
    (Cert.Pre_finite_weights_and_cotangent.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_finite_weights_and_cotangent.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 = (fun _ => 1#1)
    ∧ (Cert.Pre_finite_weights_and_cotangent.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_weights_and_cotangent [hPre_finite_weights_and_cotangent : Cert.Pre_finite_weights_and_cotangent.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_weights_and_cotangent.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_finite_weights_and_cotangent.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.1 = (fun _ => 1#1)
    ∧ (Cert.Pre_finite_weights_and_cotangent.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2 = (fun _ => 1#1)

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_UpFRefIdeal (m : (ℓ : Loc Cert.UpFRefIdeal.nD Cert.UpFRefIdeal.τ Cert.UpFRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_DownF (m : (ℓ : Loc Cert.DownF.nD Cert.DownF.τ Cert.DownF.sig) → Buf (Elt Bits) ℓ) : Prop :=
  True

def Pre_DownFIdeal (m : (ℓ : Loc Cert.DownFIdeal.nD Cert.DownFIdeal.τ Cert.DownFIdeal.sig) → Buf (Elt Ideal) ℓ) : Prop :=
  True

def Pre_DownFRefIdeal (m : (ℓ : Loc Cert.DownFRefIdeal.nD Cert.DownFRefIdeal.τ Cert.DownFRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFIdeal_finite_stream [hPre_finite_stream : Cert.Pre_finite_stream.Facts] (m : (ℓ : Loc Cert.PoolFIdeal.nD Cert.PoolFIdeal.τ Cert.PoolFIdeal.sig) → Buf (Elt Ideal) ℓ) : Prop :=
  ∀ c : Dev Cert.PoolFIdeal.nD,
    (Cert.Pre_finite_stream.fn (F := Ideal) (m ((c.tc : Thread Cert.PoolFIdeal.nD Cert.PoolFIdeal.τ).loc Cert.PoolFIdeal.main_arg0)) (m ((c.tc : Thread Cert.PoolFIdeal.nD Cert.PoolFIdeal.τ).loc Cert.PoolFIdeal.main_arg1)) (m ((c.tc : Thread Cert.PoolFIdeal.nD Cert.PoolFIdeal.τ).loc Cert.PoolFIdeal.main_arg2))) = (fun _ => 1#1)

def Pre_PoolFRefIdeal (m : (ℓ : Loc Cert.PoolFRefIdeal.nD Cert.PoolFRefIdeal.τ Cert.PoolFRefIdeal.sig) → Buf (Elt Ideal) ℓ) : Prop :=
  True

def Pre_PoolFRefIdeal_finite_stream [hPre_finite_stream : Cert.Pre_finite_stream.Facts] (m : (ℓ : Loc Cert.PoolFRefIdeal.nD Cert.PoolFRefIdeal.τ Cert.PoolFRefIdeal.sig) → Buf (Elt Ideal) ℓ) : Prop :=
  ∀ c : Dev Cert.PoolFRefIdeal.nD,
    (Cert.Pre_finite_stream.fn (F := Ideal) (m ((c.tc : Thread Cert.PoolFRefIdeal.nD Cert.PoolFRefIdeal.τ).loc Cert.PoolFRefIdeal.main_arg0)) (m ((c.tc : Thread Cert.PoolFRefIdeal.nD Cert.PoolFRefIdeal.τ).loc Cert.PoolFRefIdeal.main_arg1)) (m ((c.tc : Thread Cert.PoolFRefIdeal.nD Cert.PoolFRefIdeal.τ).loc Cert.PoolFRefIdeal.main_arg2))) = (fun _ => 1#1)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1)
      ∧ r.2.mem ((c.tc : Thread Cert.DownX.nD Cert.DownX.τ).loc Cert.DownX.main_arg2) = m ((c.tc : Thread Cert.DownX.nD Cert.DownX.τ).loc Cert.DownX.main_arg2))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
      ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1)
      ∧ r.2.mem ((c.tc : Thread Cert.DownXRefIdeal.nD Cert.DownXRefIdeal.τ).loc Cert.DownXRefIdeal.main_arg2) = m ((c.tc : Thread Cert.DownXRefIdeal.nD Cert.DownXRefIdeal.τ).loc Cert.DownXRefIdeal.main_arg2))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1)
      ∧ r.2.mem ((c.tc : Thread Cert.DownW.nD Cert.DownW.τ).loc Cert.DownW.main_arg2) = m ((c.tc : Thread Cert.DownW.nD Cert.DownW.τ).loc Cert.DownW.main_arg2))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
      ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1)
      ∧ r.2.mem ((c.tc : Thread Cert.DownWRefIdeal.nD Cert.DownWRefIdeal.τ).loc Cert.DownWRefIdeal.main_arg2) = m ((c.tc : Thread Cert.DownWRefIdeal.nD Cert.DownWRefIdeal.τ).loc Cert.DownWRefIdeal.main_arg2))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1)
      ∧ r.2.mem ((c.tc : Thread Cert.OutX.nD Cert.OutX.τ).loc Cert.OutX.main_arg2) = m ((c.tc : Thread Cert.OutX.nD Cert.OutX.τ).loc Cert.OutX.main_arg2)
      ∧ r.2.mem ((c.tc : Thread Cert.OutX.nD Cert.OutX.τ).loc Cert.OutX.main_arg3) = m ((c.tc : Thread Cert.OutX.nD Cert.OutX.τ).loc Cert.OutX.main_arg3))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
      ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2)
      ∧ r.2.mem ((c.tc : Thread Cert.OutXIdeal.nD Cert.OutXIdeal.τ).loc Cert.OutXIdeal.main_arg3) = m ((c.tc : Thread Cert.OutXIdeal.nD Cert.OutXIdeal.τ).loc Cert.OutXIdeal.main_arg3))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1)
      ∧ r.2.mem ((c.tc : Thread Cert.OutXRefIdeal.nD Cert.OutXRefIdeal.τ).loc Cert.OutXRefIdeal.main_arg2) = m ((c.tc : Thread Cert.OutXRefIdeal.nD Cert.OutXRefIdeal.τ).loc Cert.OutXRefIdeal.main_arg2)
      ∧ r.2.mem ((c.tc : Thread Cert.OutXRefIdeal.nD Cert.OutXRefIdeal.τ).loc Cert.OutXRefIdeal.main_arg3) = m ((c.tc : Thread Cert.OutXRefIdeal.nD Cert.OutXRefIdeal.τ).loc Cert.OutXRefIdeal.main_arg3))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1)
      ∧ r.2.mem ((c.tc : Thread Cert.OutW.nD Cert.OutW.τ).loc Cert.OutW.main_arg2) = m ((c.tc : Thread Cert.OutW.nD Cert.OutW.τ).loc Cert.OutW.main_arg2)
      ∧ r.2.mem ((c.tc : Thread Cert.OutW.nD Cert.OutW.τ).loc Cert.OutW.main_arg3) = m ((c.tc : Thread Cert.OutW.nD Cert.OutW.τ).loc Cert.OutW.main_arg3))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
      ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2)
      ∧ r.2.mem ((c.tc : Thread Cert.OutWIdeal.nD Cert.OutWIdeal.τ).loc Cert.OutWIdeal.main_arg3) = m ((c.tc : Thread Cert.OutWIdeal.nD Cert.OutWIdeal.τ).loc Cert.OutWIdeal.main_arg3))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1)
      ∧ r.2.mem ((c.tc : Thread Cert.OutWRefIdeal.nD Cert.OutWRefIdeal.τ).loc Cert.OutWRefIdeal.main_arg2) = m ((c.tc : Thread Cert.OutWRefIdeal.nD Cert.OutWRefIdeal.τ).loc Cert.OutWRefIdeal.main_arg2)
      ∧ r.2.mem ((c.tc : Thread Cert.OutWRefIdeal.nD Cert.OutWRefIdeal.τ).loc Cert.OutWRefIdeal.main_arg3) = m ((c.tc : Thread Cert.OutWRefIdeal.nD Cert.OutWRefIdeal.τ).loc Cert.OutWRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_finite_weights_and_cotangent [hPoolIdeal : Cert.PoolIdeal.Facts] [hPre_finite_weights_and_cotangent : Cert.Pre_finite_weights_and_cotangent.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_weights_and_cotangent m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_finite_weights_and_cotangent [hPoolRefIdeal : Cert.PoolRefIdeal.Facts] [hPre_finite_weights_and_cotangent : Cert.Pre_finite_weights_and_cotangent.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_weights_and_cotangent m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1)
      ∧ r.2.mem ((c.tc : Thread Cert.UpX.nD Cert.UpX.τ).loc Cert.UpX.main_arg2) = m ((c.tc : Thread Cert.UpX.nD Cert.UpX.τ).loc Cert.UpX.main_arg2)
      ∧ r.2.mem ((c.tc : Thread Cert.UpX.nD Cert.UpX.τ).loc Cert.UpX.main_arg3) = m ((c.tc : Thread Cert.UpX.nD Cert.UpX.τ).loc Cert.UpX.main_arg3)
      ∧ r.2.mem ((c.tc : Thread Cert.UpX.nD Cert.UpX.τ).loc Cert.UpX.main_arg4) = m ((c.tc : Thread Cert.UpX.nD Cert.UpX.τ).loc Cert.UpX.main_arg4)
      ∧ r.2.mem ((c.tc : Thread Cert.UpX.nD Cert.UpX.τ).loc Cert.UpX.main_arg5) = m ((c.tc : Thread Cert.UpX.nD Cert.UpX.τ).loc Cert.UpX.main_arg5)
      ∧ r.2.mem ((c.tc : Thread Cert.UpX.nD Cert.UpX.τ).loc Cert.UpX.main_arg6) = m ((c.tc : Thread Cert.UpX.nD Cert.UpX.τ).loc Cert.UpX.main_arg6))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
      ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2)
      ∧ r.2.mem ((c.tc : Thread Cert.UpXIdeal.nD Cert.UpXIdeal.τ).loc Cert.UpXIdeal.main_arg3) = m ((c.tc : Thread Cert.UpXIdeal.nD Cert.UpXIdeal.τ).loc Cert.UpXIdeal.main_arg3)
      ∧ r.2.mem ((c.tc : Thread Cert.UpXIdeal.nD Cert.UpXIdeal.τ).loc Cert.UpXIdeal.main_arg4) = m ((c.tc : Thread Cert.UpXIdeal.nD Cert.UpXIdeal.τ).loc Cert.UpXIdeal.main_arg4)
      ∧ r.2.mem ((c.tc : Thread Cert.UpXIdeal.nD Cert.UpXIdeal.τ).loc Cert.UpXIdeal.main_arg5) = m ((c.tc : Thread Cert.UpXIdeal.nD Cert.UpXIdeal.τ).loc Cert.UpXIdeal.main_arg5)
      ∧ r.2.mem ((c.tc : Thread Cert.UpXIdeal.nD Cert.UpXIdeal.τ).loc Cert.UpXIdeal.main_arg6) = m ((c.tc : Thread Cert.UpXIdeal.nD Cert.UpXIdeal.τ).loc Cert.UpXIdeal.main_arg6))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1)
      ∧ r.2.mem ((c.tc : Thread Cert.UpXRefIdeal.nD Cert.UpXRefIdeal.τ).loc Cert.UpXRefIdeal.main_arg2) = m ((c.tc : Thread Cert.UpXRefIdeal.nD Cert.UpXRefIdeal.τ).loc Cert.UpXRefIdeal.main_arg2)
      ∧ r.2.mem ((c.tc : Thread Cert.UpXRefIdeal.nD Cert.UpXRefIdeal.τ).loc Cert.UpXRefIdeal.main_arg3) = m ((c.tc : Thread Cert.UpXRefIdeal.nD Cert.UpXRefIdeal.τ).loc Cert.UpXRefIdeal.main_arg3)
      ∧ r.2.mem ((c.tc : Thread Cert.UpXRefIdeal.nD Cert.UpXRefIdeal.τ).loc Cert.UpXRefIdeal.main_arg4) = m ((c.tc : Thread Cert.UpXRefIdeal.nD Cert.UpXRefIdeal.τ).loc Cert.UpXRefIdeal.main_arg4)
      ∧ r.2.mem ((c.tc : Thread Cert.UpXRefIdeal.nD Cert.UpXRefIdeal.τ).loc Cert.UpXRefIdeal.main_arg5) = m ((c.tc : Thread Cert.UpXRefIdeal.nD Cert.UpXRefIdeal.τ).loc Cert.UpXRefIdeal.main_arg5)
      ∧ r.2.mem ((c.tc : Thread Cert.UpXRefIdeal.nD Cert.UpXRefIdeal.τ).loc Cert.UpXRefIdeal.main_arg6) = m ((c.tc : Thread Cert.UpXRefIdeal.nD Cert.UpXRefIdeal.τ).loc Cert.UpXRefIdeal.main_arg6))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4)
      ∧ r.2.mem ((c.tc : Thread Cert.InX.nD Cert.InX.τ).loc Cert.InX.main_arg5) = m ((c.tc : Thread Cert.InX.nD Cert.InX.τ).loc Cert.InX.main_arg5)
      ∧ r.2.mem ((c.tc : Thread Cert.InX.nD Cert.InX.τ).loc Cert.InX.main_arg6) = m ((c.tc : Thread Cert.InX.nD Cert.InX.τ).loc Cert.InX.main_arg6)
      ∧ r.2.mem ((c.tc : Thread Cert.InX.nD Cert.InX.τ).loc Cert.InX.main_arg7) = m ((c.tc : Thread Cert.InX.nD Cert.InX.τ).loc Cert.InX.main_arg7)
      ∧ r.2.mem ((c.tc : Thread Cert.InX.nD Cert.InX.τ).loc Cert.InX.main_arg8) = m ((c.tc : Thread Cert.InX.nD Cert.InX.τ).loc Cert.InX.main_arg8))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
      ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
      ∧ r.2.mem ((c.tc : Thread Cert.InXIdeal.nD Cert.InXIdeal.τ).loc Cert.InXIdeal.main_arg6) = m ((c.tc : Thread Cert.InXIdeal.nD Cert.InXIdeal.τ).loc Cert.InXIdeal.main_arg6)
      ∧ r.2.mem ((c.tc : Thread Cert.InXIdeal.nD Cert.InXIdeal.τ).loc Cert.InXIdeal.main_arg7) = m ((c.tc : Thread Cert.InXIdeal.nD Cert.InXIdeal.τ).loc Cert.InXIdeal.main_arg7)
      ∧ r.2.mem ((c.tc : Thread Cert.InXIdeal.nD Cert.InXIdeal.τ).loc Cert.InXIdeal.main_arg8) = m ((c.tc : Thread Cert.InXIdeal.nD Cert.InXIdeal.τ).loc Cert.InXIdeal.main_arg8))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
      ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4)
      ∧ r.2.mem ((c.tc : Thread Cert.InXRefIdeal.nD Cert.InXRefIdeal.τ).loc Cert.InXRefIdeal.main_arg5) = m ((c.tc : Thread Cert.InXRefIdeal.nD Cert.InXRefIdeal.τ).loc Cert.InXRefIdeal.main_arg5)
      ∧ r.2.mem ((c.tc : Thread Cert.InXRefIdeal.nD Cert.InXRefIdeal.τ).loc Cert.InXRefIdeal.main_arg6) = m ((c.tc : Thread Cert.InXRefIdeal.nD Cert.InXRefIdeal.τ).loc Cert.InXRefIdeal.main_arg6)
      ∧ r.2.mem ((c.tc : Thread Cert.InXRefIdeal.nD Cert.InXRefIdeal.τ).loc Cert.InXRefIdeal.main_arg7) = m ((c.tc : Thread Cert.InXRefIdeal.nD Cert.InXRefIdeal.τ).loc Cert.InXRefIdeal.main_arg7)
      ∧ r.2.mem ((c.tc : Thread Cert.InXRefIdeal.nD Cert.InXRefIdeal.τ).loc Cert.InXRefIdeal.main_arg8) = m ((c.tc : Thread Cert.InXRefIdeal.nD Cert.InXRefIdeal.τ).loc Cert.InXRefIdeal.main_arg8))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ r.2.sem = fun _ => 0)

def quiescent_UpFRefIdeal [hUpFRefIdeal : Cert.UpFRefIdeal.Facts] : Prop :=
  ∀ (m : (ℓ : Loc Cert.UpFRefIdeal.nD Cert.UpFRefIdeal.τ Cert.UpFRefIdeal.sig) → Buf (Elt Ideal) ℓ) (g : Dev Cert.UpFRefIdeal.nD → PrngReg), Pre_UpFRefIdeal m →
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1)
      ∧ r.2.mem ((c.tc : Thread Cert.InF.nD Cert.InF.τ).loc Cert.InF.main_arg2) = m ((c.tc : Thread Cert.InF.nD Cert.InF.τ).loc Cert.InF.main_arg2)
      ∧ r.2.mem ((c.tc : Thread Cert.InF.nD Cert.InF.τ).loc Cert.InF.main_arg3) = m ((c.tc : Thread Cert.InF.nD Cert.InF.τ).loc Cert.InF.main_arg3))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
      ∧ r.2.mem ((c.tc : Thread Cert.InFIdeal.nD Cert.InFIdeal.τ).loc Cert.InFIdeal.main_arg2) = m ((c.tc : Thread Cert.InFIdeal.nD Cert.InFIdeal.τ).loc Cert.InFIdeal.main_arg2)
      ∧ r.2.mem ((c.tc : Thread Cert.InFIdeal.nD Cert.InFIdeal.τ).loc Cert.InFIdeal.main_arg3) = m ((c.tc : Thread Cert.InFIdeal.nD Cert.InFIdeal.τ).loc Cert.InFIdeal.main_arg3))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1)
      ∧ r.2.mem ((c.tc : Thread Cert.InFRefIdeal.nD Cert.InFRefIdeal.τ).loc Cert.InFRefIdeal.main_arg2) = m ((c.tc : Thread Cert.InFRefIdeal.nD Cert.InFRefIdeal.τ).loc Cert.InFRefIdeal.main_arg2)
      ∧ r.2.mem ((c.tc : Thread Cert.InFRefIdeal.nD Cert.InFRefIdeal.τ).loc Cert.InFRefIdeal.main_arg3) = m ((c.tc : Thread Cert.InFRefIdeal.nD Cert.InFRefIdeal.τ).loc Cert.InFRefIdeal.main_arg3))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2)
      ∧ r.2.mem ((c.tc : Thread Cert.OutF.nD Cert.OutF.τ).loc Cert.OutF.main_arg3) = m ((c.tc : Thread Cert.OutF.nD Cert.OutF.τ).loc Cert.OutF.main_arg3)
      ∧ r.2.mem ((c.tc : Thread Cert.OutF.nD Cert.OutF.τ).loc Cert.OutF.main_arg4) = m ((c.tc : Thread Cert.OutF.nD Cert.OutF.τ).loc Cert.OutF.main_arg4)
      ∧ r.2.mem ((c.tc : Thread Cert.OutF.nD Cert.OutF.τ).loc Cert.OutF.main_arg5) = m ((c.tc : Thread Cert.OutF.nD Cert.OutF.τ).loc Cert.OutF.main_arg5))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
      ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
      ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4)
      ∧ r.2.mem ((c.tc : Thread Cert.OutFIdeal.nD Cert.OutFIdeal.τ).loc Cert.OutFIdeal.main_arg5) = m ((c.tc : Thread Cert.OutFIdeal.nD Cert.OutFIdeal.τ).loc Cert.OutFIdeal.main_arg5))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2)
      ∧ r.2.mem ((c.tc : Thread Cert.OutFRefIdeal.nD Cert.OutFRefIdeal.τ).loc Cert.OutFRefIdeal.main_arg3) = m ((c.tc : Thread Cert.OutFRefIdeal.nD Cert.OutFRefIdeal.τ).loc Cert.OutFRefIdeal.main_arg3)
      ∧ r.2.mem ((c.tc : Thread Cert.OutFRefIdeal.nD Cert.OutFRefIdeal.τ).loc Cert.OutFRefIdeal.main_arg4) = m ((c.tc : Thread Cert.OutFRefIdeal.nD Cert.OutFRefIdeal.τ).loc Cert.OutFRefIdeal.main_arg4)
      ∧ r.2.mem ((c.tc : Thread Cert.OutFRefIdeal.nD Cert.OutFRefIdeal.τ).loc Cert.OutFRefIdeal.main_arg5) = m ((c.tc : Thread Cert.OutFRefIdeal.nD Cert.OutFRefIdeal.τ).loc Cert.OutFRefIdeal.main_arg5))
      ∧ r.2.sem = fun _ => 0)

def quiescent_DownF [hDownF : Cert.DownF.Facts] : Prop :=
  ∀ (m : (ℓ : Loc Cert.DownF.nD Cert.DownF.τ Cert.DownF.sig) → Buf (Elt Bits) ℓ) (g : Dev Cert.DownF.nD → PrngReg), Pre_DownF m →
    θ_run (Cert.DownF.defs (F := Bits)) (onTc (τ := Cert.DownF.τ) (Cert.DownF.main (F := Bits))) ⟨m, fun _ => 0, g⟩ (fun r => (∀ c : Dev Cert.DownF.nD,
      r.2.mem ((c.tc : Thread Cert.DownF.nD Cert.DownF.τ).loc Cert.DownF.main_arg0) = m ((c.tc : Thread Cert.DownF.nD Cert.DownF.τ).loc Cert.DownF.main_arg0)
      ∧ r.2.mem ((c.tc : Thread Cert.DownF.nD Cert.DownF.τ).loc Cert.DownF.main_arg1) = m ((c.tc : Thread Cert.DownF.nD Cert.DownF.τ).loc Cert.DownF.main_arg1)
      ∧ r.2.mem ((c.tc : Thread Cert.DownF.nD Cert.DownF.τ).loc Cert.DownF.main_arg2) = m ((c.tc : Thread Cert.DownF.nD Cert.DownF.τ).loc Cert.DownF.main_arg2)
      ∧ r.2.mem ((c.tc : Thread Cert.DownF.nD Cert.DownF.τ).loc Cert.DownF.main_arg3) = m ((c.tc : Thread Cert.DownF.nD Cert.DownF.τ).loc Cert.DownF.main_arg3)
      ∧ r.2.mem ((c.tc : Thread Cert.DownF.nD Cert.DownF.τ).loc Cert.DownF.main_arg4) = m ((c.tc : Thread Cert.DownF.nD Cert.DownF.τ).loc Cert.DownF.main_arg4)
      ∧ r.2.mem ((c.tc : Thread Cert.DownF.nD Cert.DownF.τ).loc Cert.DownF.main_arg5) = m ((c.tc : Thread Cert.DownF.nD Cert.DownF.τ).loc Cert.DownF.main_arg5))
      ∧ r.2.sem = fun _ => 0)

def quiescent_DownFIdeal [hDownFIdeal : Cert.DownFIdeal.Facts] : Prop :=
  ∀ (m : (ℓ : Loc Cert.DownFIdeal.nD Cert.DownFIdeal.τ Cert.DownFIdeal.sig) → Buf (Elt Ideal) ℓ) (g : Dev Cert.DownFIdeal.nD → PrngReg), Pre_DownFIdeal m →
    θ_run (Cert.DownFIdeal.defs (F := Ideal)) (onTc (τ := Cert.DownFIdeal.τ) (Cert.DownFIdeal.main (F := Ideal))) ⟨m, fun _ => 0, g⟩ (fun r => (∀ c : Dev Cert.DownFIdeal.nD,
      r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
      ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
      ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2)
      ∧ r.2.mem ((c.tc : Thread Cert.DownFIdeal.nD Cert.DownFIdeal.τ).loc Cert.DownFIdeal.main_arg3) = m ((c.tc : Thread Cert.DownFIdeal.nD Cert.DownFIdeal.τ).loc Cert.DownFIdeal.main_arg3)
      ∧ r.2.mem ((c.tc : Thread Cert.DownFIdeal.nD Cert.DownFIdeal.τ).loc Cert.DownFIdeal.main_arg4) = m ((c.tc : Thread Cert.DownFIdeal.nD Cert.DownFIdeal.τ).loc Cert.DownFIdeal.main_arg4)
      ∧ r.2.mem ((c.tc : Thread Cert.DownFIdeal.nD Cert.DownFIdeal.τ).loc Cert.DownFIdeal.main_arg5) = m ((c.tc : Thread Cert.DownFIdeal.nD Cert.DownFIdeal.τ).loc Cert.DownFIdeal.main_arg5))
      ∧ r.2.sem = fun _ => 0)

def quiescent_DownFRefIdeal [hDownFRefIdeal : Cert.DownFRefIdeal.Facts] : Prop :=
  ∀ (m : (ℓ : Loc Cert.DownFRefIdeal.nD Cert.DownFRefIdeal.τ Cert.DownFRefIdeal.sig) → Buf (Elt Ideal) ℓ) (g : Dev Cert.DownFRefIdeal.nD → PrngReg), Pre_DownFRefIdeal m →
    θ_run (Cert.DownFRefIdeal.defs (F := Ideal)) (onTc (τ := Cert.DownFRefIdeal.τ) (Cert.DownFRefIdeal.main (F := Ideal))) ⟨m, fun _ => 0, g⟩ (fun r => (∀ c : Dev Cert.DownFRefIdeal.nD,
      r.2.mem ((c.tc : Thread Cert.DownFRefIdeal.nD Cert.DownFRefIdeal.τ).loc Cert.DownFRefIdeal.main_arg0) = m ((c.tc : Thread Cert.DownFRefIdeal.nD Cert.DownFRefIdeal.τ).loc Cert.DownFRefIdeal.main_arg0)
      ∧ r.2.mem ((c.tc : Thread Cert.DownFRefIdeal.nD Cert.DownFRefIdeal.τ).loc Cert.DownFRefIdeal.main_arg1) = m ((c.tc : Thread Cert.DownFRefIdeal.nD Cert.DownFRefIdeal.τ).loc Cert.DownFRefIdeal.main_arg1)
      ∧ r.2.mem ((c.tc : Thread Cert.DownFRefIdeal.nD Cert.DownFRefIdeal.τ).loc Cert.DownFRefIdeal.main_arg2) = m ((c.tc : Thread Cert.DownFRefIdeal.nD Cert.DownFRefIdeal.τ).loc Cert.DownFRefIdeal.main_arg2)
      ∧ r.2.mem ((c.tc : Thread Cert.DownFRefIdeal.nD Cert.DownFRefIdeal.τ).loc Cert.DownFRefIdeal.main_arg3) = m ((c.tc : Thread Cert.DownFRefIdeal.nD Cert.DownFRefIdeal.τ).loc Cert.DownFRefIdeal.main_arg3)
      ∧ r.2.mem ((c.tc : Thread Cert.DownFRefIdeal.nD Cert.DownFRefIdeal.τ).loc Cert.DownFRefIdeal.main_arg4) = m ((c.tc : Thread Cert.DownFRefIdeal.nD Cert.DownFRefIdeal.τ).loc Cert.DownFRefIdeal.main_arg4)
      ∧ r.2.mem ((c.tc : Thread Cert.DownFRefIdeal.nD Cert.DownFRefIdeal.τ).loc Cert.DownFRefIdeal.main_arg5) = m ((c.tc : Thread Cert.DownFRefIdeal.nD Cert.DownFRefIdeal.τ).loc Cert.DownFRefIdeal.main_arg5))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2)
      ∧ r.2.mem ((c.tc : Thread Cert.InW.nD Cert.InW.τ).loc Cert.InW.main_arg3) = m ((c.tc : Thread Cert.InW.nD Cert.InW.τ).loc Cert.InW.main_arg3)
      ∧ r.2.mem ((c.tc : Thread Cert.InW.nD Cert.InW.τ).loc Cert.InW.main_arg4) = m ((c.tc : Thread Cert.InW.nD Cert.InW.τ).loc Cert.InW.main_arg4)
      ∧ r.2.mem ((c.tc : Thread Cert.InW.nD Cert.InW.τ).loc Cert.InW.main_arg5) = m ((c.tc : Thread Cert.InW.nD Cert.InW.τ).loc Cert.InW.main_arg5))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
      ∧ r.2.mem ((c.tc : Thread Cert.InWIdeal.nD Cert.InWIdeal.τ).loc Cert.InWIdeal.main_arg3) = m ((c.tc : Thread Cert.InWIdeal.nD Cert.InWIdeal.τ).loc Cert.InWIdeal.main_arg3)
      ∧ r.2.mem ((c.tc : Thread Cert.InWIdeal.nD Cert.InWIdeal.τ).loc Cert.InWIdeal.main_arg4) = m ((c.tc : Thread Cert.InWIdeal.nD Cert.InWIdeal.τ).loc Cert.InWIdeal.main_arg4)
      ∧ r.2.mem ((c.tc : Thread Cert.InWIdeal.nD Cert.InWIdeal.τ).loc Cert.InWIdeal.main_arg5) = m ((c.tc : Thread Cert.InWIdeal.nD Cert.InWIdeal.τ).loc Cert.InWIdeal.main_arg5))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1)
      ∧ r.2.mem ((c.tc : Thread Cert.InWRefIdeal.nD Cert.InWRefIdeal.τ).loc Cert.InWRefIdeal.main_arg2) = m ((c.tc : Thread Cert.InWRefIdeal.nD Cert.InWRefIdeal.τ).loc Cert.InWRefIdeal.main_arg2)
      ∧ r.2.mem ((c.tc : Thread Cert.InWRefIdeal.nD Cert.InWRefIdeal.τ).loc Cert.InWRefIdeal.main_arg3) = m ((c.tc : Thread Cert.InWRefIdeal.nD Cert.InWRefIdeal.τ).loc Cert.InWRefIdeal.main_arg3)
      ∧ r.2.mem ((c.tc : Thread Cert.InWRefIdeal.nD Cert.InWRefIdeal.τ).loc Cert.InWRefIdeal.main_arg4) = m ((c.tc : Thread Cert.InWRefIdeal.nD Cert.InWRefIdeal.τ).loc Cert.InWRefIdeal.main_arg4)
      ∧ r.2.mem ((c.tc : Thread Cert.InWRefIdeal.nD Cert.InWRefIdeal.τ).loc Cert.InWRefIdeal.main_arg5) = m ((c.tc : Thread Cert.InWRefIdeal.nD Cert.InWRefIdeal.τ).loc Cert.InWRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0)
      ∧ r.2.mem ((c.tc : Thread Cert.PoolF.nD Cert.PoolF.τ).loc Cert.PoolF.main_arg1) = m ((c.tc : Thread Cert.PoolF.nD Cert.PoolF.τ).loc Cert.PoolF.main_arg1)
      ∧ r.2.mem ((c.tc : Thread Cert.PoolF.nD Cert.PoolF.τ).loc Cert.PoolF.main_arg2) = m ((c.tc : Thread Cert.PoolF.nD Cert.PoolF.τ).loc Cert.PoolF.main_arg2))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ r.2.sem = fun _ => 0)

def quiescent_PoolFIdeal_pre_finite_stream [hPoolFIdeal : Cert.PoolFIdeal.Facts] [hPre_finite_stream : Cert.Pre_finite_stream.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal_finite_stream m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def quiescent_PoolFRefIdeal_pre_finite_stream [hPoolFRefIdeal : Cert.PoolFRefIdeal.Facts] [hPre_finite_stream : Cert.Pre_finite_stream.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal_finite_stream m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)
      ∧ m' ((c.tc : Thread Cert.DownXRefIdeal.nD Cert.DownXRefIdeal.τ).loc Cert.DownXRefIdeal.main_arg2) = m ((c.tc : Thread Cert.DownXIdeal.nD Cert.DownXIdeal.τ).loc Cert.DownXIdeal.main_arg2)) →
    ∃ (v0 : (c : Dev Cert.DownXIdeal.nD) → Buf (Elt Ideal) ((c.tc : Thread Cert.DownXIdeal.nD Cert.DownXIdeal.τ).loc Cert.DownXIdeal.main_v5)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v5) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
          ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v12) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1)
          ∧ r.2.mem ((c.tc : Thread Cert.DownXRefIdeal.nD Cert.DownXRefIdeal.τ).loc Cert.DownXRefIdeal.main_arg2) = m' ((c.tc : Thread Cert.DownXRefIdeal.nD Cert.DownXRefIdeal.τ).loc Cert.DownXRefIdeal.main_arg2))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)
      ∧ m' ((c.tc : Thread Cert.DownWRefIdeal.nD Cert.DownWRefIdeal.τ).loc Cert.DownWRefIdeal.main_arg2) = m ((c.tc : Thread Cert.DownWIdeal.nD Cert.DownWIdeal.τ).loc Cert.DownWIdeal.main_arg2)) →
    ∃ (v0 : (c : Dev Cert.DownWIdeal.nD) → Buf (Elt Ideal) ((c.tc : Thread Cert.DownWIdeal.nD Cert.DownWIdeal.τ).loc Cert.DownWIdeal.main_v2)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v2) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
          ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v5) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1)
          ∧ r.2.mem ((c.tc : Thread Cert.DownWRefIdeal.nD Cert.DownWRefIdeal.τ).loc Cert.DownWRefIdeal.main_arg2) = m' ((c.tc : Thread Cert.DownWRefIdeal.nD Cert.DownWRefIdeal.τ).loc Cert.DownWRefIdeal.main_arg2))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)
      ∧ m' ((c.tc : Thread Cert.UpWRefIdeal.nD Cert.UpWRefIdeal.τ).loc Cert.UpWRefIdeal.main_arg2) = m ((c.tc : Thread Cert.UpWIdeal.nD Cert.UpWIdeal.τ).loc Cert.UpWIdeal.main_arg2)) →
    ∃ (v0 : (c : Dev Cert.UpWIdeal.nD) → Buf (Elt Ideal) ((c.tc : Thread Cert.UpWIdeal.nD Cert.UpWIdeal.τ).loc Cert.UpWIdeal.main_v2)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v2) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v5) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1)
          ∧ r.2.mem ((c.tc : Thread Cert.UpWRefIdeal.nD Cert.UpWRefIdeal.τ).loc Cert.UpWRefIdeal.main_arg2) = m' ((c.tc : Thread Cert.UpWRefIdeal.nD Cert.UpWRefIdeal.τ).loc Cert.UpWRefIdeal.main_arg2))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)
      ∧ m' ((c.tc : Thread Cert.OutXRefIdeal.nD Cert.OutXRefIdeal.τ).loc Cert.OutXRefIdeal.main_arg2) = m ((c.tc : Thread Cert.OutXIdeal.nD Cert.OutXIdeal.τ).loc Cert.OutXIdeal.main_arg2)
      ∧ m' ((c.tc : Thread Cert.OutXRefIdeal.nD Cert.OutXRefIdeal.τ).loc Cert.OutXRefIdeal.main_arg3) = m ((c.tc : Thread Cert.OutXIdeal.nD Cert.OutXIdeal.τ).loc Cert.OutXIdeal.main_arg3)) →
    ∃ (v0 : (c : Dev Cert.OutXIdeal.nD) → Buf (Elt Ideal) ((c.tc : Thread Cert.OutXIdeal.nD Cert.OutXIdeal.τ).loc Cert.OutXIdeal.main_v3_0)) (v1 : (c : Dev Cert.OutXIdeal.nD) → Buf (Elt Ideal) ((c.tc : Thread Cert.OutXIdeal.nD Cert.OutXIdeal.τ).loc Cert.OutXIdeal.main_v3_1)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v3_0) = v0 c
          ∧ r.2.mem ((c.tc : Thread Cert.OutXIdeal.nD Cert.OutXIdeal.τ).loc Cert.OutXIdeal.main_v3_1) = v1 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
          ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2)
          ∧ r.2.mem ((c.tc : Thread Cert.OutXIdeal.nD Cert.OutXIdeal.τ).loc Cert.OutXIdeal.main_arg3) = m ((c.tc : Thread Cert.OutXIdeal.nD Cert.OutXIdeal.τ).loc Cert.OutXIdeal.main_arg3))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v3) = v0 c
          ∧ r.2.mem ((c.tc : Thread Cert.OutXRefIdeal.nD Cert.OutXRefIdeal.τ).loc Cert.OutXRefIdeal.main_v4) = v1 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1)
          ∧ r.2.mem ((c.tc : Thread Cert.OutXRefIdeal.nD Cert.OutXRefIdeal.τ).loc Cert.OutXRefIdeal.main_arg2) = m' ((c.tc : Thread Cert.OutXRefIdeal.nD Cert.OutXRefIdeal.τ).loc Cert.OutXRefIdeal.main_arg2)
          ∧ r.2.mem ((c.tc : Thread Cert.OutXRefIdeal.nD Cert.OutXRefIdeal.τ).loc Cert.OutXRefIdeal.main_arg3) = m' ((c.tc : Thread Cert.OutXRefIdeal.nD Cert.OutXRefIdeal.τ).loc Cert.OutXRefIdeal.main_arg3))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)
      ∧ m' ((c.tc : Thread Cert.OutWRefIdeal.nD Cert.OutWRefIdeal.τ).loc Cert.OutWRefIdeal.main_arg2) = m ((c.tc : Thread Cert.OutWIdeal.nD Cert.OutWIdeal.τ).loc Cert.OutWIdeal.main_arg2)
      ∧ m' ((c.tc : Thread Cert.OutWRefIdeal.nD Cert.OutWRefIdeal.τ).loc Cert.OutWRefIdeal.main_arg3) = m ((c.tc : Thread Cert.OutWIdeal.nD Cert.OutWIdeal.τ).loc Cert.OutWIdeal.main_arg3)) →
    ∃ (v0 : (c : Dev Cert.OutWIdeal.nD) → Buf (Elt Ideal) ((c.tc : Thread Cert.OutWIdeal.nD Cert.OutWIdeal.τ).loc Cert.OutWIdeal.main_v3)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v3) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
          ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2)
          ∧ r.2.mem ((c.tc : Thread Cert.OutWIdeal.nD Cert.OutWIdeal.τ).loc Cert.OutWIdeal.main_arg3) = m ((c.tc : Thread Cert.OutWIdeal.nD Cert.OutWIdeal.τ).loc Cert.OutWIdeal.main_arg3))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v4) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1)
          ∧ r.2.mem ((c.tc : Thread Cert.OutWRefIdeal.nD Cert.OutWRefIdeal.τ).loc Cert.OutWRefIdeal.main_arg2) = m' ((c.tc : Thread Cert.OutWRefIdeal.nD Cert.OutWRefIdeal.τ).loc Cert.OutWRefIdeal.main_arg2)
          ∧ r.2.mem ((c.tc : Thread Cert.OutWRefIdeal.nD Cert.OutWRefIdeal.τ).loc Cert.OutWRefIdeal.main_arg3) = m' ((c.tc : Thread Cert.OutWRefIdeal.nD Cert.OutWRefIdeal.τ).loc Cert.OutWRefIdeal.main_arg3))

def preserves_Pool_PoolIdeal : Prop :=
  True

def algebraic_PoolIdeal_PoolRefIdeal_pre_finite_weights_and_cotangent [hPoolIdeal : Cert.PoolIdeal.Facts] [hPoolRefIdeal : Cert.PoolRefIdeal.Facts] [hPre_finite_weights_and_cotangent : Cert.Pre_finite_weights_and_cotangent.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_weights_and_cotangent m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v57_0)) (v1 : (c : Dev Cert.PoolIdeal.nD) → Buf (Elt Ideal) ((c.tc : Thread Cert.PoolIdeal.nD Cert.PoolIdeal.τ).loc Cert.PoolIdeal.main_v57_1)) (v2 : (c : Dev Cert.PoolIdeal.nD) → Buf (Elt Ideal) ((c.tc : Thread Cert.PoolIdeal.nD Cert.PoolIdeal.τ).loc Cert.PoolIdeal.main_v57_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v57_0) = v0 c
          ∧ r.2.mem ((c.tc : Thread Cert.PoolIdeal.nD Cert.PoolIdeal.τ).loc Cert.PoolIdeal.main_v57_1) = v1 c
          ∧ r.2.mem ((c.tc : Thread Cert.PoolIdeal.nD Cert.PoolIdeal.τ).loc Cert.PoolIdeal.main_v57_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v137) = v0 c
          ∧ r.2.mem ((c.tc : Thread Cert.PoolRefIdeal.nD Cert.PoolRefIdeal.τ).loc Cert.PoolRefIdeal.main_v79) = v1 c
          ∧ r.2.mem ((c.tc : Thread Cert.PoolRefIdeal.nD Cert.PoolRefIdeal.τ).loc Cert.PoolRefIdeal.main_v73) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)
      ∧ m' ((c.tc : Thread Cert.UpXRefIdeal.nD Cert.UpXRefIdeal.τ).loc Cert.UpXRefIdeal.main_arg2) = m ((c.tc : Thread Cert.UpXIdeal.nD Cert.UpXIdeal.τ).loc Cert.UpXIdeal.main_arg2)
      ∧ m' ((c.tc : Thread Cert.UpXRefIdeal.nD Cert.UpXRefIdeal.τ).loc Cert.UpXRefIdeal.main_arg3) = m ((c.tc : Thread Cert.UpXIdeal.nD Cert.UpXIdeal.τ).loc Cert.UpXIdeal.main_arg3)
      ∧ m' ((c.tc : Thread Cert.UpXRefIdeal.nD Cert.UpXRefIdeal.τ).loc Cert.UpXRefIdeal.main_arg4) = m ((c.tc : Thread Cert.UpXIdeal.nD Cert.UpXIdeal.τ).loc Cert.UpXIdeal.main_arg4)
      ∧ m' ((c.tc : Thread Cert.UpXRefIdeal.nD Cert.UpXRefIdeal.τ).loc Cert.UpXRefIdeal.main_arg5) = m ((c.tc : Thread Cert.UpXIdeal.nD Cert.UpXIdeal.τ).loc Cert.UpXIdeal.main_arg5)
      ∧ m' ((c.tc : Thread Cert.UpXRefIdeal.nD Cert.UpXRefIdeal.τ).loc Cert.UpXRefIdeal.main_arg6) = m ((c.tc : Thread Cert.UpXIdeal.nD Cert.UpXIdeal.τ).loc Cert.UpXIdeal.main_arg6)) →
    ∃ (v0 : (c : Dev Cert.UpXIdeal.nD) → Buf (Elt Ideal) ((c.tc : Thread Cert.UpXIdeal.nD Cert.UpXIdeal.τ).loc Cert.UpXIdeal.main_v12_0)) (v1 : (c : Dev Cert.UpXIdeal.nD) → Buf (Elt Ideal) ((c.tc : Thread Cert.UpXIdeal.nD Cert.UpXIdeal.τ).loc Cert.UpXIdeal.main_v12_1)) (v2 : (c : Dev Cert.UpXIdeal.nD) → Buf (Elt Ideal) ((c.tc : Thread Cert.UpXIdeal.nD Cert.UpXIdeal.τ).loc Cert.UpXIdeal.main_v12_2)) (v3 : (c : Dev Cert.UpXIdeal.nD) → Buf (Elt Ideal) ((c.tc : Thread Cert.UpXIdeal.nD Cert.UpXIdeal.τ).loc Cert.UpXIdeal.main_v12_3)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v12_0) = v0 c
          ∧ r.2.mem ((c.tc : Thread Cert.UpXIdeal.nD Cert.UpXIdeal.τ).loc Cert.UpXIdeal.main_v12_1) = v1 c
          ∧ r.2.mem ((c.tc : Thread Cert.UpXIdeal.nD Cert.UpXIdeal.τ).loc Cert.UpXIdeal.main_v12_2) = v2 c
          ∧ r.2.mem ((c.tc : Thread Cert.UpXIdeal.nD Cert.UpXIdeal.τ).loc Cert.UpXIdeal.main_v12_3) = v3 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
          ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2)
          ∧ r.2.mem ((c.tc : Thread Cert.UpXIdeal.nD Cert.UpXIdeal.τ).loc Cert.UpXIdeal.main_arg3) = m ((c.tc : Thread Cert.UpXIdeal.nD Cert.UpXIdeal.τ).loc Cert.UpXIdeal.main_arg3)
          ∧ r.2.mem ((c.tc : Thread Cert.UpXIdeal.nD Cert.UpXIdeal.τ).loc Cert.UpXIdeal.main_arg4) = m ((c.tc : Thread Cert.UpXIdeal.nD Cert.UpXIdeal.τ).loc Cert.UpXIdeal.main_arg4)
          ∧ r.2.mem ((c.tc : Thread Cert.UpXIdeal.nD Cert.UpXIdeal.τ).loc Cert.UpXIdeal.main_arg5) = m ((c.tc : Thread Cert.UpXIdeal.nD Cert.UpXIdeal.τ).loc Cert.UpXIdeal.main_arg5)
          ∧ r.2.mem ((c.tc : Thread Cert.UpXIdeal.nD Cert.UpXIdeal.τ).loc Cert.UpXIdeal.main_arg6) = m ((c.tc : Thread Cert.UpXIdeal.nD Cert.UpXIdeal.τ).loc Cert.UpXIdeal.main_arg6))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v74) = v0 c
          ∧ r.2.mem ((c.tc : Thread Cert.UpXRefIdeal.nD Cert.UpXRefIdeal.τ).loc Cert.UpXRefIdeal.main_v76) = v1 c
          ∧ r.2.mem ((c.tc : Thread Cert.UpXRefIdeal.nD Cert.UpXRefIdeal.τ).loc Cert.UpXRefIdeal.main_v73) = v2 c
          ∧ r.2.mem ((c.tc : Thread Cert.UpXRefIdeal.nD Cert.UpXRefIdeal.τ).loc Cert.UpXRefIdeal.main_v51) = v3 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1)
          ∧ r.2.mem ((c.tc : Thread Cert.UpXRefIdeal.nD Cert.UpXRefIdeal.τ).loc Cert.UpXRefIdeal.main_arg2) = m' ((c.tc : Thread Cert.UpXRefIdeal.nD Cert.UpXRefIdeal.τ).loc Cert.UpXRefIdeal.main_arg2)
          ∧ r.2.mem ((c.tc : Thread Cert.UpXRefIdeal.nD Cert.UpXRefIdeal.τ).loc Cert.UpXRefIdeal.main_arg3) = m' ((c.tc : Thread Cert.UpXRefIdeal.nD Cert.UpXRefIdeal.τ).loc Cert.UpXRefIdeal.main_arg3)
          ∧ r.2.mem ((c.tc : Thread Cert.UpXRefIdeal.nD Cert.UpXRefIdeal.τ).loc Cert.UpXRefIdeal.main_arg4) = m' ((c.tc : Thread Cert.UpXRefIdeal.nD Cert.UpXRefIdeal.τ).loc Cert.UpXRefIdeal.main_arg4)
          ∧ r.2.mem ((c.tc : Thread Cert.UpXRefIdeal.nD Cert.UpXRefIdeal.τ).loc Cert.UpXRefIdeal.main_arg5) = m' ((c.tc : Thread Cert.UpXRefIdeal.nD Cert.UpXRefIdeal.τ).loc Cert.UpXRefIdeal.main_arg5)
          ∧ r.2.mem ((c.tc : Thread Cert.UpXRefIdeal.nD Cert.UpXRefIdeal.τ).loc Cert.UpXRefIdeal.main_arg6) = m' ((c.tc : Thread Cert.UpXRefIdeal.nD Cert.UpXRefIdeal.τ).loc Cert.UpXRefIdeal.main_arg6))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)
      ∧ m' ((c.tc : Thread Cert.InXRefIdeal.nD Cert.InXRefIdeal.τ).loc Cert.InXRefIdeal.main_arg3) = m ((c.tc : Thread Cert.InXIdeal.nD Cert.InXIdeal.τ).loc Cert.InXIdeal.main_arg3)
      ∧ m' ((c.tc : Thread Cert.InXRefIdeal.nD Cert.InXRefIdeal.τ).loc Cert.InXRefIdeal.main_arg4) = m ((c.tc : Thread Cert.InXIdeal.nD Cert.InXIdeal.τ).loc Cert.InXIdeal.main_arg4)
      ∧ m' ((c.tc : Thread Cert.InXRefIdeal.nD Cert.InXRefIdeal.τ).loc Cert.InXRefIdeal.main_arg5) = m ((c.tc : Thread Cert.InXIdeal.nD Cert.InXIdeal.τ).loc Cert.InXIdeal.main_arg5)
      ∧ m' ((c.tc : Thread Cert.InXRefIdeal.nD Cert.InXRefIdeal.τ).loc Cert.InXRefIdeal.main_arg6) = m ((c.tc : Thread Cert.InXIdeal.nD Cert.InXIdeal.τ).loc Cert.InXIdeal.main_arg6)
      ∧ m' ((c.tc : Thread Cert.InXRefIdeal.nD Cert.InXRefIdeal.τ).loc Cert.InXRefIdeal.main_arg7) = m ((c.tc : Thread Cert.InXIdeal.nD Cert.InXIdeal.τ).loc Cert.InXIdeal.main_arg7)
      ∧ m' ((c.tc : Thread Cert.InXRefIdeal.nD Cert.InXRefIdeal.τ).loc Cert.InXRefIdeal.main_arg8) = m ((c.tc : Thread Cert.InXIdeal.nD Cert.InXIdeal.τ).loc Cert.InXIdeal.main_arg8)) →
    ∃ (v0 : (c : Dev Cert.InXIdeal.nD) → Buf (Elt Ideal) ((c.tc : Thread Cert.InXIdeal.nD Cert.InXIdeal.τ).loc Cert.InXIdeal.main_v10_0)) (v1 : (c : Dev Cert.InXIdeal.nD) → Buf (Elt Ideal) ((c.tc : Thread Cert.InXIdeal.nD Cert.InXIdeal.τ).loc Cert.InXIdeal.main_v10_1)) (v2 : (c : Dev Cert.InXIdeal.nD) → Buf (Elt Ideal) ((c.tc : Thread Cert.InXIdeal.nD Cert.InXIdeal.τ).loc Cert.InXIdeal.main_v10_2)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v10_0) = v0 c
          ∧ r.2.mem ((c.tc : Thread Cert.InXIdeal.nD Cert.InXIdeal.τ).loc Cert.InXIdeal.main_v10_1) = v1 c
          ∧ r.2.mem ((c.tc : Thread Cert.InXIdeal.nD Cert.InXIdeal.τ).loc Cert.InXIdeal.main_v10_2) = v2 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
          ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
          ∧ r.2.mem ((c.tc : Thread Cert.InXIdeal.nD Cert.InXIdeal.τ).loc Cert.InXIdeal.main_arg6) = m ((c.tc : Thread Cert.InXIdeal.nD Cert.InXIdeal.τ).loc Cert.InXIdeal.main_arg6)
          ∧ r.2.mem ((c.tc : Thread Cert.InXIdeal.nD Cert.InXIdeal.τ).loc Cert.InXIdeal.main_arg7) = m ((c.tc : Thread Cert.InXIdeal.nD Cert.InXIdeal.τ).loc Cert.InXIdeal.main_arg7)
          ∧ r.2.mem ((c.tc : Thread Cert.InXIdeal.nD Cert.InXIdeal.τ).loc Cert.InXIdeal.main_arg8) = m ((c.tc : Thread Cert.InXIdeal.nD Cert.InXIdeal.τ).loc Cert.InXIdeal.main_arg8))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v79) = v0 c
          ∧ r.2.mem ((c.tc : Thread Cert.InXRefIdeal.nD Cert.InXRefIdeal.τ).loc Cert.InXRefIdeal.main_v78) = v1 c
          ∧ r.2.mem ((c.tc : Thread Cert.InXRefIdeal.nD Cert.InXRefIdeal.τ).loc Cert.InXRefIdeal.main_v61) = v2 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2)
          ∧ r.2.mem ((c.tc : Thread Cert.InXRefIdeal.nD Cert.InXRefIdeal.τ).loc Cert.InXRefIdeal.main_arg3) = m' ((c.tc : Thread Cert.InXRefIdeal.nD Cert.InXRefIdeal.τ).loc Cert.InXRefIdeal.main_arg3)
          ∧ r.2.mem ((c.tc : Thread Cert.InXRefIdeal.nD Cert.InXRefIdeal.τ).loc Cert.InXRefIdeal.main_arg4) = m' ((c.tc : Thread Cert.InXRefIdeal.nD Cert.InXRefIdeal.τ).loc Cert.InXRefIdeal.main_arg4)
          ∧ r.2.mem ((c.tc : Thread Cert.InXRefIdeal.nD Cert.InXRefIdeal.τ).loc Cert.InXRefIdeal.main_arg5) = m' ((c.tc : Thread Cert.InXRefIdeal.nD Cert.InXRefIdeal.τ).loc Cert.InXRefIdeal.main_arg5)
          ∧ r.2.mem ((c.tc : Thread Cert.InXRefIdeal.nD Cert.InXRefIdeal.τ).loc Cert.InXRefIdeal.main_arg6) = m' ((c.tc : Thread Cert.InXRefIdeal.nD Cert.InXRefIdeal.τ).loc Cert.InXRefIdeal.main_arg6)
          ∧ r.2.mem ((c.tc : Thread Cert.InXRefIdeal.nD Cert.InXRefIdeal.τ).loc Cert.InXRefIdeal.main_arg7) = m' ((c.tc : Thread Cert.InXRefIdeal.nD Cert.InXRefIdeal.τ).loc Cert.InXRefIdeal.main_arg7)
          ∧ r.2.mem ((c.tc : Thread Cert.InXRefIdeal.nD Cert.InXRefIdeal.τ).loc Cert.InXRefIdeal.main_arg8) = m' ((c.tc : Thread Cert.InXRefIdeal.nD Cert.InXRefIdeal.τ).loc Cert.InXRefIdeal.main_arg8))

def preserves_UpF_UpFIdeal : Prop :=
  True

def algebraic_UpFIdeal_UpFRefIdeal [hUpFIdeal : Cert.UpFIdeal.Facts] [hUpFRefIdeal : Cert.UpFRefIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.UpFRefIdeal.nD Cert.UpFRefIdeal.τ Cert.UpFRefIdeal.sig) → Buf (Elt Ideal) ℓ) (g' : Dev Cert.UpFRefIdeal.nD → PrngReg), Pre_UpFIdeal m →
    (∀ c : Dev Cert.UpFIdeal.nD,
      m' ((c.tc : Thread Cert.UpFRefIdeal.nD Cert.UpFRefIdeal.τ).loc Cert.UpFRefIdeal.main_arg0) = m ((c.tc : Thread Cert.UpFIdeal.nD Cert.UpFIdeal.τ).loc Cert.UpFIdeal.main_arg0)
      ∧ m' ((c.tc : Thread Cert.UpFRefIdeal.nD Cert.UpFRefIdeal.τ).loc Cert.UpFRefIdeal.main_arg1) = m ((c.tc : Thread Cert.UpFIdeal.nD Cert.UpFIdeal.τ).loc Cert.UpFIdeal.main_arg1)) →
    ∃ (v0 : (c : Dev Cert.UpFIdeal.nD) → Buf (Elt Ideal) ((c.tc : Thread Cert.UpFIdeal.nD Cert.UpFIdeal.τ).loc Cert.UpFIdeal.main_v4)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v4) = v0 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ θ_run (Cert.UpFRefIdeal.defs (F := Ideal)) (onTc (τ := Cert.UpFRefIdeal.τ) (Cert.UpFRefIdeal.main (F := Ideal))) ⟨m', fun _ => 0, g'⟩ (fun r => ∀ c : Dev Cert.UpFRefIdeal.nD,
          r.2.mem ((c.tc : Thread Cert.UpFRefIdeal.nD Cert.UpFRefIdeal.τ).loc Cert.UpFRefIdeal.main_v1) = v0 c
          ∧ r.2.mem ((c.tc : Thread Cert.UpFRefIdeal.nD Cert.UpFRefIdeal.τ).loc Cert.UpFRefIdeal.main_arg0) = m' ((c.tc : Thread Cert.UpFRefIdeal.nD Cert.UpFRefIdeal.τ).loc Cert.UpFRefIdeal.main_arg0)
          ∧ r.2.mem ((c.tc : Thread Cert.UpFRefIdeal.nD Cert.UpFRefIdeal.τ).loc Cert.UpFRefIdeal.main_arg1) = m' ((c.tc : Thread Cert.UpFRefIdeal.nD Cert.UpFRefIdeal.τ).loc Cert.UpFRefIdeal.main_arg1))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)
      ∧ m' ((c.tc : Thread Cert.InFRefIdeal.nD Cert.InFRefIdeal.τ).loc Cert.InFRefIdeal.main_arg2) = m ((c.tc : Thread Cert.InFIdeal.nD Cert.InFIdeal.τ).loc Cert.InFIdeal.main_arg2)
      ∧ m' ((c.tc : Thread Cert.InFRefIdeal.nD Cert.InFRefIdeal.τ).loc Cert.InFRefIdeal.main_arg3) = m ((c.tc : Thread Cert.InFIdeal.nD Cert.InFIdeal.τ).loc Cert.InFIdeal.main_arg3)) →
    ∃ (v0 : (c : Dev Cert.InFIdeal.nD) → Buf (Elt Ideal) ((c.tc : Thread Cert.InFIdeal.nD Cert.InFIdeal.τ).loc Cert.InFIdeal.main_v4_0)) (v1 : (c : Dev Cert.InFIdeal.nD) → Buf (Elt Ideal) ((c.tc : Thread Cert.InFIdeal.nD Cert.InFIdeal.τ).loc Cert.InFIdeal.main_v4_1)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v4_0) = v0 c
          ∧ r.2.mem ((c.tc : Thread Cert.InFIdeal.nD Cert.InFIdeal.τ).loc Cert.InFIdeal.main_v4_1) = v1 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
          ∧ r.2.mem ((c.tc : Thread Cert.InFIdeal.nD Cert.InFIdeal.τ).loc Cert.InFIdeal.main_arg2) = m ((c.tc : Thread Cert.InFIdeal.nD Cert.InFIdeal.τ).loc Cert.InFIdeal.main_arg2)
          ∧ r.2.mem ((c.tc : Thread Cert.InFIdeal.nD Cert.InFIdeal.τ).loc Cert.InFIdeal.main_arg3) = m ((c.tc : Thread Cert.InFIdeal.nD Cert.InFIdeal.τ).loc Cert.InFIdeal.main_arg3))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v30) = v0 c
          ∧ r.2.mem ((c.tc : Thread Cert.InFRefIdeal.nD Cert.InFRefIdeal.τ).loc Cert.InFRefIdeal.main_v32) = v1 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1)
          ∧ r.2.mem ((c.tc : Thread Cert.InFRefIdeal.nD Cert.InFRefIdeal.τ).loc Cert.InFRefIdeal.main_arg2) = m' ((c.tc : Thread Cert.InFRefIdeal.nD Cert.InFRefIdeal.τ).loc Cert.InFRefIdeal.main_arg2)
          ∧ r.2.mem ((c.tc : Thread Cert.InFRefIdeal.nD Cert.InFRefIdeal.τ).loc Cert.InFRefIdeal.main_arg3) = m' ((c.tc : Thread Cert.InFRefIdeal.nD Cert.InFRefIdeal.τ).loc Cert.InFRefIdeal.main_arg3))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)
      ∧ m' ((c.tc : Thread Cert.OutFRefIdeal.nD Cert.OutFRefIdeal.τ).loc Cert.OutFRefIdeal.main_arg3) = m ((c.tc : Thread Cert.OutFIdeal.nD Cert.OutFIdeal.τ).loc Cert.OutFIdeal.main_arg3)
      ∧ m' ((c.tc : Thread Cert.OutFRefIdeal.nD Cert.OutFRefIdeal.τ).loc Cert.OutFRefIdeal.main_arg4) = m ((c.tc : Thread Cert.OutFIdeal.nD Cert.OutFIdeal.τ).loc Cert.OutFIdeal.main_arg4)
      ∧ m' ((c.tc : Thread Cert.OutFRefIdeal.nD Cert.OutFRefIdeal.τ).loc Cert.OutFRefIdeal.main_arg5) = m ((c.tc : Thread Cert.OutFIdeal.nD Cert.OutFIdeal.τ).loc Cert.OutFIdeal.main_arg5)) →
    ∃ (v0 : (c : Dev Cert.OutFIdeal.nD) → Buf (Elt Ideal) ((c.tc : Thread Cert.OutFIdeal.nD Cert.OutFIdeal.τ).loc Cert.OutFIdeal.main_v4_0)) (v1 : (c : Dev Cert.OutFIdeal.nD) → Buf (Elt Ideal) ((c.tc : Thread Cert.OutFIdeal.nD Cert.OutFIdeal.τ).loc Cert.OutFIdeal.main_v4_1)) (v2 : (c : Dev Cert.OutFIdeal.nD) → Buf (Elt Ideal) ((c.tc : Thread Cert.OutFIdeal.nD Cert.OutFIdeal.τ).loc Cert.OutFIdeal.main_v4_2)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v4_0) = v0 c
          ∧ r.2.mem ((c.tc : Thread Cert.OutFIdeal.nD Cert.OutFIdeal.τ).loc Cert.OutFIdeal.main_v4_1) = v1 c
          ∧ r.2.mem ((c.tc : Thread Cert.OutFIdeal.nD Cert.OutFIdeal.τ).loc Cert.OutFIdeal.main_v4_2) = v2 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
          ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
          ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4)
          ∧ r.2.mem ((c.tc : Thread Cert.OutFIdeal.nD Cert.OutFIdeal.τ).loc Cert.OutFIdeal.main_arg5) = m ((c.tc : Thread Cert.OutFIdeal.nD Cert.OutFIdeal.τ).loc Cert.OutFIdeal.main_arg5))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v34) = v0 c
          ∧ r.2.mem ((c.tc : Thread Cert.OutFRefIdeal.nD Cert.OutFRefIdeal.τ).loc Cert.OutFRefIdeal.main_v36) = v1 c
          ∧ r.2.mem ((c.tc : Thread Cert.OutFRefIdeal.nD Cert.OutFRefIdeal.τ).loc Cert.OutFRefIdeal.main_v38) = v2 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2)
          ∧ r.2.mem ((c.tc : Thread Cert.OutFRefIdeal.nD Cert.OutFRefIdeal.τ).loc Cert.OutFRefIdeal.main_arg3) = m' ((c.tc : Thread Cert.OutFRefIdeal.nD Cert.OutFRefIdeal.τ).loc Cert.OutFRefIdeal.main_arg3)
          ∧ r.2.mem ((c.tc : Thread Cert.OutFRefIdeal.nD Cert.OutFRefIdeal.τ).loc Cert.OutFRefIdeal.main_arg4) = m' ((c.tc : Thread Cert.OutFRefIdeal.nD Cert.OutFRefIdeal.τ).loc Cert.OutFRefIdeal.main_arg4)
          ∧ r.2.mem ((c.tc : Thread Cert.OutFRefIdeal.nD Cert.OutFRefIdeal.τ).loc Cert.OutFRefIdeal.main_arg5) = m' ((c.tc : Thread Cert.OutFRefIdeal.nD Cert.OutFRefIdeal.τ).loc Cert.OutFRefIdeal.main_arg5))

def preserves_DownF_DownFIdeal : Prop :=
  True

def algebraic_DownFIdeal_DownFRefIdeal [hDownFIdeal : Cert.DownFIdeal.Facts] [hDownFRefIdeal : Cert.DownFRefIdeal.Facts] : Prop :=
  ∀ (m : (ℓ : Loc Cert.DownFIdeal.nD Cert.DownFIdeal.τ Cert.DownFIdeal.sig) → Buf (Elt Ideal) ℓ) (g : Dev Cert.DownFIdeal.nD → PrngReg)
    (m' : (ℓ : Loc Cert.DownFRefIdeal.nD Cert.DownFRefIdeal.τ Cert.DownFRefIdeal.sig) → Buf (Elt Ideal) ℓ) (g' : Dev Cert.DownFRefIdeal.nD → PrngReg), Pre_DownFIdeal m →
    (∀ c : Dev Cert.DownFIdeal.nD,
      m' ((c.tc : Thread Cert.DownFRefIdeal.nD Cert.DownFRefIdeal.τ).loc Cert.DownFRefIdeal.main_arg0) = m ((c.tc : Thread Cert.DownFIdeal.nD Cert.DownFIdeal.τ).loc Cert.DownFIdeal.main_arg0)
      ∧ m' ((c.tc : Thread Cert.DownFRefIdeal.nD Cert.DownFRefIdeal.τ).loc Cert.DownFRefIdeal.main_arg1) = m ((c.tc : Thread Cert.DownFIdeal.nD Cert.DownFIdeal.τ).loc Cert.DownFIdeal.main_arg1)
      ∧ m' ((c.tc : Thread Cert.DownFRefIdeal.nD Cert.DownFRefIdeal.τ).loc Cert.DownFRefIdeal.main_arg2) = m ((c.tc : Thread Cert.DownFIdeal.nD Cert.DownFIdeal.τ).loc Cert.DownFIdeal.main_arg2)
      ∧ m' ((c.tc : Thread Cert.DownFRefIdeal.nD Cert.DownFRefIdeal.τ).loc Cert.DownFRefIdeal.main_arg3) = m ((c.tc : Thread Cert.DownFIdeal.nD Cert.DownFIdeal.τ).loc Cert.DownFIdeal.main_arg3)
      ∧ m' ((c.tc : Thread Cert.DownFRefIdeal.nD Cert.DownFRefIdeal.τ).loc Cert.DownFRefIdeal.main_arg4) = m ((c.tc : Thread Cert.DownFIdeal.nD Cert.DownFIdeal.τ).loc Cert.DownFIdeal.main_arg4)
      ∧ m' ((c.tc : Thread Cert.DownFRefIdeal.nD Cert.DownFRefIdeal.τ).loc Cert.DownFRefIdeal.main_arg5) = m ((c.tc : Thread Cert.DownFIdeal.nD Cert.DownFIdeal.τ).loc Cert.DownFIdeal.main_arg5)) →
    ∃ (v0 : (c : Dev Cert.DownFIdeal.nD) → Buf (Elt Ideal) ((c.tc : Thread Cert.DownFIdeal.nD Cert.DownFIdeal.τ).loc Cert.DownFIdeal.main_v3_0)) (v1 : (c : Dev Cert.DownFIdeal.nD) → Buf (Elt Ideal) ((c.tc : Thread Cert.DownFIdeal.nD Cert.DownFIdeal.τ).loc Cert.DownFIdeal.main_v3_1)) (v2 : (c : Dev Cert.DownFIdeal.nD) → Buf (Elt Ideal) ((c.tc : Thread Cert.DownFIdeal.nD Cert.DownFIdeal.τ).loc Cert.DownFIdeal.main_v3_2)) (v3 : (c : Dev Cert.DownFIdeal.nD) → Buf (Elt Ideal) ((c.tc : Thread Cert.DownFIdeal.nD Cert.DownFIdeal.τ).loc Cert.DownFIdeal.main_v3_3)) (v4 : (c : Dev Cert.DownFIdeal.nD) → Buf (Elt Ideal) ((c.tc : Thread Cert.DownFIdeal.nD Cert.DownFIdeal.τ).loc Cert.DownFIdeal.main_v3_4)),
      θ_run (Cert.DownFIdeal.defs (F := Ideal)) (onTc (τ := Cert.DownFIdeal.τ) (Cert.DownFIdeal.main (F := Ideal))) ⟨m, fun _ => 0, g⟩ (fun r => ∀ c : Dev Cert.DownFIdeal.nD,
          r.2.mem ((c.tc : Thread Cert.DownFIdeal.nD Cert.DownFIdeal.τ).loc Cert.DownFIdeal.main_v3_0) = v0 c
          ∧ r.2.mem ((c.tc : Thread Cert.DownFIdeal.nD Cert.DownFIdeal.τ).loc Cert.DownFIdeal.main_v3_1) = v1 c
          ∧ r.2.mem ((c.tc : Thread Cert.DownFIdeal.nD Cert.DownFIdeal.τ).loc Cert.DownFIdeal.main_v3_2) = v2 c
          ∧ r.2.mem ((c.tc : Thread Cert.DownFIdeal.nD Cert.DownFIdeal.τ).loc Cert.DownFIdeal.main_v3_3) = v3 c
          ∧ r.2.mem ((c.tc : Thread Cert.DownFIdeal.nD Cert.DownFIdeal.τ).loc Cert.DownFIdeal.main_v3_4) = v4 c
          ∧ r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
          ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
          ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2)
          ∧ r.2.mem ((c.tc : Thread Cert.DownFIdeal.nD Cert.DownFIdeal.τ).loc Cert.DownFIdeal.main_arg3) = m ((c.tc : Thread Cert.DownFIdeal.nD Cert.DownFIdeal.τ).loc Cert.DownFIdeal.main_arg3)
          ∧ r.2.mem ((c.tc : Thread Cert.DownFIdeal.nD Cert.DownFIdeal.τ).loc Cert.DownFIdeal.main_arg4) = m ((c.tc : Thread Cert.DownFIdeal.nD Cert.DownFIdeal.τ).loc Cert.DownFIdeal.main_arg4)
          ∧ r.2.mem ((c.tc : Thread Cert.DownFIdeal.nD Cert.DownFIdeal.τ).loc Cert.DownFIdeal.main_arg5) = m ((c.tc : Thread Cert.DownFIdeal.nD Cert.DownFIdeal.τ).loc Cert.DownFIdeal.main_arg5))
      ∧ θ_run (Cert.DownFRefIdeal.defs (F := Ideal)) (onTc (τ := Cert.DownFRefIdeal.τ) (Cert.DownFRefIdeal.main (F := Ideal))) ⟨m', fun _ => 0, g'⟩ (fun r => ∀ c : Dev Cert.DownFRefIdeal.nD,
          r.2.mem ((c.tc : Thread Cert.DownFRefIdeal.nD Cert.DownFRefIdeal.τ).loc Cert.DownFRefIdeal.main_v74) = v0 c
          ∧ r.2.mem ((c.tc : Thread Cert.DownFRefIdeal.nD Cert.DownFRefIdeal.τ).loc Cert.DownFRefIdeal.main_v75) = v1 c
          ∧ r.2.mem ((c.tc : Thread Cert.DownFRefIdeal.nD Cert.DownFRefIdeal.τ).loc Cert.DownFRefIdeal.main_v77) = v2 c
          ∧ r.2.mem ((c.tc : Thread Cert.DownFRefIdeal.nD Cert.DownFRefIdeal.τ).loc Cert.DownFRefIdeal.main_v53) = v3 c
          ∧ r.2.mem ((c.tc : Thread Cert.DownFRefIdeal.nD Cert.DownFRefIdeal.τ).loc Cert.DownFRefIdeal.main_v72) = v4 c
          ∧ r.2.mem ((c.tc : Thread Cert.DownFRefIdeal.nD Cert.DownFRefIdeal.τ).loc Cert.DownFRefIdeal.main_arg0) = m' ((c.tc : Thread Cert.DownFRefIdeal.nD Cert.DownFRefIdeal.τ).loc Cert.DownFRefIdeal.main_arg0)
          ∧ r.2.mem ((c.tc : Thread Cert.DownFRefIdeal.nD Cert.DownFRefIdeal.τ).loc Cert.DownFRefIdeal.main_arg1) = m' ((c.tc : Thread Cert.DownFRefIdeal.nD Cert.DownFRefIdeal.τ).loc Cert.DownFRefIdeal.main_arg1)
          ∧ r.2.mem ((c.tc : Thread Cert.DownFRefIdeal.nD Cert.DownFRefIdeal.τ).loc Cert.DownFRefIdeal.main_arg2) = m' ((c.tc : Thread Cert.DownFRefIdeal.nD Cert.DownFRefIdeal.τ).loc Cert.DownFRefIdeal.main_arg2)
          ∧ r.2.mem ((c.tc : Thread Cert.DownFRefIdeal.nD Cert.DownFRefIdeal.τ).loc Cert.DownFRefIdeal.main_arg3) = m' ((c.tc : Thread Cert.DownFRefIdeal.nD Cert.DownFRefIdeal.τ).loc Cert.DownFRefIdeal.main_arg3)
          ∧ r.2.mem ((c.tc : Thread Cert.DownFRefIdeal.nD Cert.DownFRefIdeal.τ).loc Cert.DownFRefIdeal.main_arg4) = m' ((c.tc : Thread Cert.DownFRefIdeal.nD Cert.DownFRefIdeal.τ).loc Cert.DownFRefIdeal.main_arg4)
          ∧ r.2.mem ((c.tc : Thread Cert.DownFRefIdeal.nD Cert.DownFRefIdeal.τ).loc Cert.DownFRefIdeal.main_arg5) = m' ((c.tc : Thread Cert.DownFRefIdeal.nD Cert.DownFRefIdeal.τ).loc Cert.DownFRefIdeal.main_arg5))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)
      ∧ m' ((c.tc : Thread Cert.InWRefIdeal.nD Cert.InWRefIdeal.τ).loc Cert.InWRefIdeal.main_arg2) = m ((c.tc : Thread Cert.InWIdeal.nD Cert.InWIdeal.τ).loc Cert.InWIdeal.main_arg2)
      ∧ m' ((c.tc : Thread Cert.InWRefIdeal.nD Cert.InWRefIdeal.τ).loc Cert.InWRefIdeal.main_arg3) = m ((c.tc : Thread Cert.InWIdeal.nD Cert.InWIdeal.τ).loc Cert.InWIdeal.main_arg3)
      ∧ m' ((c.tc : Thread Cert.InWRefIdeal.nD Cert.InWRefIdeal.τ).loc Cert.InWRefIdeal.main_arg4) = m ((c.tc : Thread Cert.InWIdeal.nD Cert.InWIdeal.τ).loc Cert.InWIdeal.main_arg4)
      ∧ m' ((c.tc : Thread Cert.InWRefIdeal.nD Cert.InWRefIdeal.τ).loc Cert.InWRefIdeal.main_arg5) = m ((c.tc : Thread Cert.InWIdeal.nD Cert.InWIdeal.τ).loc Cert.InWIdeal.main_arg5)) →
    ∃ (v0 : (c : Dev Cert.InWIdeal.nD) → Buf (Elt Ideal) ((c.tc : Thread Cert.InWIdeal.nD Cert.InWIdeal.τ).loc Cert.InWIdeal.main_v7)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v7) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
          ∧ r.2.mem ((c.tc : Thread Cert.InWIdeal.nD Cert.InWIdeal.τ).loc Cert.InWIdeal.main_arg3) = m ((c.tc : Thread Cert.InWIdeal.nD Cert.InWIdeal.τ).loc Cert.InWIdeal.main_arg3)
          ∧ r.2.mem ((c.tc : Thread Cert.InWIdeal.nD Cert.InWIdeal.τ).loc Cert.InWIdeal.main_arg4) = m ((c.tc : Thread Cert.InWIdeal.nD Cert.InWIdeal.τ).loc Cert.InWIdeal.main_arg4)
          ∧ r.2.mem ((c.tc : Thread Cert.InWIdeal.nD Cert.InWIdeal.τ).loc Cert.InWIdeal.main_arg5) = m ((c.tc : Thread Cert.InWIdeal.nD Cert.InWIdeal.τ).loc Cert.InWIdeal.main_arg5))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v17) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1)
          ∧ r.2.mem ((c.tc : Thread Cert.InWRefIdeal.nD Cert.InWRefIdeal.τ).loc Cert.InWRefIdeal.main_arg2) = m' ((c.tc : Thread Cert.InWRefIdeal.nD Cert.InWRefIdeal.τ).loc Cert.InWRefIdeal.main_arg2)
          ∧ r.2.mem ((c.tc : Thread Cert.InWRefIdeal.nD Cert.InWRefIdeal.τ).loc Cert.InWRefIdeal.main_arg3) = m' ((c.tc : Thread Cert.InWRefIdeal.nD Cert.InWRefIdeal.τ).loc Cert.InWRefIdeal.main_arg3)
          ∧ r.2.mem ((c.tc : Thread Cert.InWRefIdeal.nD Cert.InWRefIdeal.τ).loc Cert.InWRefIdeal.main_arg4) = m' ((c.tc : Thread Cert.InWRefIdeal.nD Cert.InWRefIdeal.τ).loc Cert.InWRefIdeal.main_arg4)
          ∧ r.2.mem ((c.tc : Thread Cert.InWRefIdeal.nD Cert.InWRefIdeal.τ).loc Cert.InWRefIdeal.main_arg5) = m' ((c.tc : Thread Cert.InWRefIdeal.nD Cert.InWRefIdeal.τ).loc Cert.InWRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1_0)) (v1 : (c : Dev Cert.AdaIdeal.nD) → Buf (Elt Ideal) ((c.tc : Thread Cert.AdaIdeal.nD Cert.AdaIdeal.τ).loc Cert.AdaIdeal.main_v1_1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1_0) = v0 c
          ∧ r.2.mem ((c.tc : Thread Cert.AdaIdeal.nD Cert.AdaIdeal.τ).loc Cert.AdaIdeal.main_v1_1) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v3) = v0 c
          ∧ r.2.mem ((c.tc : Thread Cert.AdaRefIdeal.nD Cert.AdaRefIdeal.τ).loc Cert.AdaRefIdeal.main_v0) = v1 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_PoolF_PoolFIdeal : Prop :=
  True

def algebraic_PoolFIdeal_PoolFRefIdeal_pre_finite_stream [hPoolFIdeal : Cert.PoolFIdeal.Facts] [hPoolFRefIdeal : Cert.PoolFRefIdeal.Facts] [hPre_finite_stream : Cert.Pre_finite_stream.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFIdeal_finite_stream m →
    (∀ c : Dev Cert.PoolFIdeal.nD,
      m' ((c.tc : Thread Cert.PoolFRefIdeal.nD Cert.PoolFRefIdeal.τ).loc Cert.PoolFRefIdeal.main_arg0) = m ((c.tc : Thread Cert.PoolFIdeal.nD Cert.PoolFIdeal.τ).loc Cert.PoolFIdeal.main_arg0)
      ∧ m' ((c.tc : Thread Cert.PoolFRefIdeal.nD Cert.PoolFRefIdeal.τ).loc Cert.PoolFRefIdeal.main_arg1) = m ((c.tc : Thread Cert.PoolFIdeal.nD Cert.PoolFIdeal.τ).loc Cert.PoolFIdeal.main_arg1)
      ∧ m' ((c.tc : Thread Cert.PoolFRefIdeal.nD Cert.PoolFRefIdeal.τ).loc Cert.PoolFRefIdeal.main_arg2) = m ((c.tc : Thread Cert.PoolFIdeal.nD Cert.PoolFIdeal.τ).loc Cert.PoolFIdeal.main_arg2)) →
    ∃ (v0 : (c : Dev Cert.PoolFIdeal.nD) → Buf (Elt Ideal) ((c.tc : Thread Cert.PoolFIdeal.nD Cert.PoolFIdeal.τ).loc Cert.PoolFIdeal.main_v1_0)) (v1 : (c : Dev Cert.PoolFIdeal.nD) → Buf (Elt Ideal) ((c.tc : Thread Cert.PoolFIdeal.nD Cert.PoolFIdeal.τ).loc Cert.PoolFIdeal.main_v1_1)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v1_0) = v0 c
          ∧ r.2.mem ((c.tc : Thread Cert.PoolFIdeal.nD Cert.PoolFIdeal.τ).loc Cert.PoolFIdeal.main_v1_1) = v1 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
          ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
          ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v63) = v0 c
          ∧ r.2.mem ((c.tc : Thread Cert.PoolFRefIdeal.nD Cert.PoolFRefIdeal.τ).loc Cert.PoolFRefIdeal.main_v65) = v1 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0)
          ∧ r.2.mem ((c.tc : Thread Cert.PoolFRefIdeal.nD Cert.PoolFRefIdeal.τ).loc Cert.PoolFRefIdeal.main_arg1) = m' ((c.tc : Thread Cert.PoolFRefIdeal.nD Cert.PoolFRefIdeal.τ).loc Cert.PoolFRefIdeal.main_arg1)
          ∧ r.2.mem ((c.tc : Thread Cert.PoolFRefIdeal.nD Cert.PoolFRefIdeal.τ).loc Cert.PoolFRefIdeal.main_arg2) = m' ((c.tc : Thread Cert.PoolFRefIdeal.nD Cert.PoolFRefIdeal.τ).loc Cert.PoolFRefIdeal.main_arg2))

def Claim : Prop :=
  ∃ (hDownX : Cert.DownX.Facts) (hDownXIdeal : Cert.DownXIdeal.Facts) (hDownXRefIdeal : Cert.DownXRefIdeal.Facts) (hDownW : Cert.DownW.Facts) (hDownWIdeal : Cert.DownWIdeal.Facts) (hDownWRefIdeal : Cert.DownWRefIdeal.Facts) (hUpW : Cert.UpW.Facts) (hUpWIdeal : Cert.UpWIdeal.Facts) (hUpWRefIdeal : Cert.UpWRefIdeal.Facts) (hOutX : Cert.OutX.Facts) (hOutXIdeal : Cert.OutXIdeal.Facts) (hOutXRefIdeal : Cert.OutXRefIdeal.Facts) (hOutW : Cert.OutW.Facts) (hOutWIdeal : Cert.OutWIdeal.Facts) (hOutWRefIdeal : Cert.OutWRefIdeal.Facts) (hPool : Cert.Pool.Facts) (hPoolIdeal : Cert.PoolIdeal.Facts) (hPoolRefIdeal : Cert.PoolRefIdeal.Facts) (hUpX : Cert.UpX.Facts) (hUpXIdeal : Cert.UpXIdeal.Facts) (hUpXRefIdeal : Cert.UpXRefIdeal.Facts) (hInX : Cert.InX.Facts) (hInXIdeal : Cert.InXIdeal.Facts) (hInXRefIdeal : Cert.InXRefIdeal.Facts) (hUpF : Cert.UpF.Facts) (hUpFIdeal : Cert.UpFIdeal.Facts) (hUpFRefIdeal : Cert.UpFRefIdeal.Facts) (hInF : Cert.InF.Facts) (hInFIdeal : Cert.InFIdeal.Facts) (hInFRefIdeal : Cert.InFRefIdeal.Facts) (hOutF : Cert.OutF.Facts) (hOutFIdeal : Cert.OutFIdeal.Facts) (hOutFRefIdeal : Cert.OutFRefIdeal.Facts) (hDownF : Cert.DownF.Facts) (hDownFIdeal : Cert.DownFIdeal.Facts) (hDownFRefIdeal : Cert.DownFRefIdeal.Facts) (hInW : Cert.InW.Facts) (hInWIdeal : Cert.InWIdeal.Facts) (hInWRefIdeal : Cert.InWRefIdeal.Facts) (hAda : Cert.Ada.Facts) (hAdaIdeal : Cert.AdaIdeal.Facts) (hAdaRefIdeal : Cert.AdaRefIdeal.Facts) (hPoolF : Cert.PoolF.Facts) (hPoolFIdeal : Cert.PoolFIdeal.Facts) (hPoolFRefIdeal : Cert.PoolFRefIdeal.Facts) (hPre_finite_weights_and_cotangent : Cert.Pre_finite_weights_and_cotangent.Facts) (hPre_finite_stream : Cert.Pre_finite_stream.Facts),
    quiescent_DownX (hDownX := hDownX)
    ∧ quiescent_DownXIdeal (hDownXIdeal := hDownXIdeal)
    ∧ quiescent_DownXRefIdeal (hDownXRefIdeal := hDownXRefIdeal)
    ∧ quiescent_DownW (hDownW := hDownW)
    ∧ quiescent_DownWIdeal (hDownWIdeal := hDownWIdeal)
    ∧ quiescent_DownWRefIdeal (hDownWRefIdeal := hDownWRefIdeal)
    ∧ quiescent_UpW (hUpW := hUpW)
    ∧ quiescent_UpWIdeal (hUpWIdeal := hUpWIdeal)
    ∧ quiescent_UpWRefIdeal (hUpWRefIdeal := hUpWRefIdeal)
    ∧ quiescent_OutX (hOutX := hOutX)
    ∧ quiescent_OutXIdeal (hOutXIdeal := hOutXIdeal)
    ∧ quiescent_OutXRefIdeal (hOutXRefIdeal := hOutXRefIdeal)
    ∧ quiescent_OutW (hOutW := hOutW)
    ∧ quiescent_OutWIdeal (hOutWIdeal := hOutWIdeal)
    ∧ quiescent_OutWRefIdeal (hOutWRefIdeal := hOutWRefIdeal)
    ∧ quiescent_Pool (hPool := hPool)
    ∧ quiescent_PoolIdeal (hPoolIdeal := hPoolIdeal)
    ∧ quiescent_PoolIdeal_pre_finite_weights_and_cotangent (hPoolIdeal := hPoolIdeal) (hPre_finite_weights_and_cotangent := hPre_finite_weights_and_cotangent)
    ∧ quiescent_PoolRefIdeal (hPoolRefIdeal := hPoolRefIdeal)
    ∧ quiescent_PoolRefIdeal_pre_finite_weights_and_cotangent (hPoolRefIdeal := hPoolRefIdeal) (hPre_finite_weights_and_cotangent := hPre_finite_weights_and_cotangent)
    ∧ quiescent_UpX (hUpX := hUpX)
    ∧ quiescent_UpXIdeal (hUpXIdeal := hUpXIdeal)
    ∧ quiescent_UpXRefIdeal (hUpXRefIdeal := hUpXRefIdeal)
    ∧ quiescent_InX (hInX := hInX)
    ∧ quiescent_InXIdeal (hInXIdeal := hInXIdeal)
    ∧ quiescent_InXRefIdeal (hInXRefIdeal := hInXRefIdeal)
    ∧ quiescent_UpF (hUpF := hUpF)
    ∧ quiescent_UpFIdeal (hUpFIdeal := hUpFIdeal)
    ∧ quiescent_UpFRefIdeal (hUpFRefIdeal := hUpFRefIdeal)
    ∧ quiescent_InF (hInF := hInF)
    ∧ quiescent_InFIdeal (hInFIdeal := hInFIdeal)
    ∧ quiescent_InFRefIdeal (hInFRefIdeal := hInFRefIdeal)
    ∧ quiescent_OutF (hOutF := hOutF)
    ∧ quiescent_OutFIdeal (hOutFIdeal := hOutFIdeal)
    ∧ quiescent_OutFRefIdeal (hOutFRefIdeal := hOutFRefIdeal)
    ∧ quiescent_DownF (hDownF := hDownF)
    ∧ quiescent_DownFIdeal (hDownFIdeal := hDownFIdeal)
    ∧ quiescent_DownFRefIdeal (hDownFRefIdeal := hDownFRefIdeal)
    ∧ quiescent_InW (hInW := hInW)
    ∧ quiescent_InWIdeal (hInWIdeal := hInWIdeal)
    ∧ quiescent_InWRefIdeal (hInWRefIdeal := hInWRefIdeal)
    ∧ quiescent_Ada (hAda := hAda)
    ∧ quiescent_AdaIdeal (hAdaIdeal := hAdaIdeal)
    ∧ quiescent_AdaRefIdeal (hAdaRefIdeal := hAdaRefIdeal)
    ∧ quiescent_PoolF (hPoolF := hPoolF)
    ∧ quiescent_PoolFIdeal (hPoolFIdeal := hPoolFIdeal)
    ∧ quiescent_PoolFIdeal_pre_finite_stream (hPoolFIdeal := hPoolFIdeal) (hPre_finite_stream := hPre_finite_stream)
    ∧ quiescent_PoolFRefIdeal (hPoolFRefIdeal := hPoolFRefIdeal)
    ∧ quiescent_PoolFRefIdeal_pre_finite_stream (hPoolFRefIdeal := hPoolFRefIdeal) (hPre_finite_stream := hPre_finite_stream)
    ∧ preserves_DownX_DownXIdeal
    ∧ algebraic_DownXIdeal_DownXRefIdeal (hDownXIdeal := hDownXIdeal) (hDownXRefIdeal := hDownXRefIdeal)
    ∧ preserves_DownW_DownWIdeal
    ∧ algebraic_DownWIdeal_DownWRefIdeal (hDownWIdeal := hDownWIdeal) (hDownWRefIdeal := hDownWRefIdeal)
    ∧ preserves_UpW_UpWIdeal
    ∧ algebraic_UpWIdeal_UpWRefIdeal (hUpWIdeal := hUpWIdeal) (hUpWRefIdeal := hUpWRefIdeal)
    ∧ preserves_OutX_OutXIdeal
    ∧ algebraic_OutXIdeal_OutXRefIdeal (hOutXIdeal := hOutXIdeal) (hOutXRefIdeal := hOutXRefIdeal)
    ∧ preserves_OutW_OutWIdeal
    ∧ algebraic_OutWIdeal_OutWRefIdeal (hOutWIdeal := hOutWIdeal) (hOutWRefIdeal := hOutWRefIdeal)
    ∧ preserves_Pool_PoolIdeal
    ∧ algebraic_PoolIdeal_PoolRefIdeal_pre_finite_weights_and_cotangent (hPoolIdeal := hPoolIdeal) (hPoolRefIdeal := hPoolRefIdeal) (hPre_finite_weights_and_cotangent := hPre_finite_weights_and_cotangent)
    ∧ preserves_UpX_UpXIdeal
    ∧ algebraic_UpXIdeal_UpXRefIdeal (hUpXIdeal := hUpXIdeal) (hUpXRefIdeal := hUpXRefIdeal)
    ∧ preserves_InX_InXIdeal
    ∧ algebraic_InXIdeal_InXRefIdeal (hInXIdeal := hInXIdeal) (hInXRefIdeal := hInXRefIdeal)
    ∧ preserves_UpF_UpFIdeal
    ∧ algebraic_UpFIdeal_UpFRefIdeal (hUpFIdeal := hUpFIdeal) (hUpFRefIdeal := hUpFRefIdeal)
    ∧ preserves_InF_InFIdeal
    ∧ algebraic_InFIdeal_InFRefIdeal (hInFIdeal := hInFIdeal) (hInFRefIdeal := hInFRefIdeal)
    ∧ preserves_OutF_OutFIdeal
    ∧ algebraic_OutFIdeal_OutFRefIdeal (hOutFIdeal := hOutFIdeal) (hOutFRefIdeal := hOutFRefIdeal)
    ∧ preserves_DownF_DownFIdeal
    ∧ algebraic_DownFIdeal_DownFRefIdeal (hDownFIdeal := hDownFIdeal) (hDownFRefIdeal := hDownFRefIdeal)
    ∧ preserves_InW_InWIdeal
    ∧ algebraic_InWIdeal_InWRefIdeal (hInWIdeal := hInWIdeal) (hInWRefIdeal := hInWRefIdeal)
    ∧ preserves_Ada_AdaIdeal
    ∧ algebraic_AdaIdeal_AdaRefIdeal (hAdaIdeal := hAdaIdeal) (hAdaRefIdeal := hAdaRefIdeal)
    ∧ preserves_PoolF_PoolFIdeal
    ∧ algebraic_PoolFIdeal_PoolFRefIdeal_pre_finite_stream (hPoolFIdeal := hPoolFIdeal) (hPoolFRefIdeal := hPoolFRefIdeal) (hPre_finite_stream := hPre_finite_stream)
-- ==== Pre_finite_stream.lean ====
abbrev S4096x3200 : Shape := ⟨2, ![4096, 3200]⟩
abbrev S4x128x128 : Shape := ⟨3, ![4, 128, 128]⟩
abbrev S1x512 : Shape := ⟨2, ![1, 512]⟩
abbrev S4096x512 : Shape := ⟨2, ![4096, 512]⟩
abbrev S_ : Shape := ⟨0, ![]⟩

class Facts : Prop where
  slices_S4096x3200_S4096x512_0_0 : S4096x3200.Slices ![0, 0] S4096x512
  bcast_S_S4096x512 : S_.BroadcastsInDim S4096x512 (![] : Fin 0 → Fin S4096x512.rank)

variable [Facts]

def fn {F : FTy → Type} [FloatOps F] (main_arg0 : FVec F S4096x3200 .f32) (main_arg1 : FVec F S4x128x128 .f32) (main_arg2 : FVec F S1x512 .f32) : IVec S4096x512 1 :=
  let main_v0 : FVec F S4096x512 .f32 := (extractStridedSlice S4096x512 ![0, 0] · slices_S4096x3200_S4096x512_0_0) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  main_v3
-- ==== Pre_finite_weights_and_cotangent.lean ====
abbrev S4096x512 : Shape := ⟨2, ![4096, 512]⟩
abbrev S4x128x128 : Shape := ⟨3, ![4, 128, 128]⟩
abbrev S1x512 : Shape := ⟨2, ![1, 512]⟩
abbrev S_ : Shape := ⟨0, ![]⟩

class Facts : Prop where
  bcast_S_S4x128x128 : S_.BroadcastsInDim S4x128x128 (![] : Fin 0 → Fin S4x128x128.rank)
  bcast_S_S1x512 : S_.BroadcastsInDim S1x512 (![] : Fin 0 → Fin S1x512.rank)
  bcast_S_S4096x512 : S_.BroadcastsInDim S4096x512 (![] : Fin 0 → Fin S4096x512.rank)

variable [Facts]

def fn {F : FTy → Type} [FloatOps F] (main_arg0 : FVec F S4096x512 .f32) (main_arg1 : FVec F S4x128x128 .f32) (main_arg2 : FVec F S1x512 .f32) (main_arg3 : FVec F S4096x512 .f32) : IVec S4x128x128 1 × IVec S1x512 1 × IVec S4096x512 1 :=
  let main_v0 : FVec F S4x128x128 .f32 := Host.absf main_arg1
  let main_cst : FVec F S_ .f32 := constant S_ .f32 0x7F800000#32
  let main_v1 : FVec F S4x128x128 .f32 := broadcastInDim S4x128x128 ![] bcast_S_S4x128x128 main_cst
  let main_v2 : IVec S4x128x128 1 := cmpf .olt main_v0 main_v1
  let main_v3 : FVec F S1x512 .f32 := Host.absf main_arg2
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S4096x512 .f32 := Host.absf main_arg3
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  (main_v2, main_v5, main_v8)
-- ==== DownX.lean ====
abbrev S4096x4096 : Shape := ⟨2, ![4096, 4096]⟩
abbrev S4096x1024 : Shape := ⟨2, ![4096, 1024]⟩
abbrev S4x1024x1024 : Shape := ⟨3, ![4, 1024, 1024]⟩
abbrev S_ : Shape := ⟨0, ![]⟩
abbrev S8x128 : Shape := ⟨2, ![8, 128]⟩
abbrev S1024x1024 : Shape := ⟨2, ![1024, 1024]⟩
abbrev S1x1024x1024 : Shape := ⟨3, ![1, 1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4x1024x1024, .bf16⟩
  | .hbm, ⟨5, _⟩ => ⟨S4096x1024, .bf16⟩
  | .hbm, ⟨6, _⟩ => ⟨S4096x4096, .bf16⟩
  | .hbm, ⟨7, _⟩ => ⟨S_, .f32⟩
  | .hbm, ⟨8, _⟩ => ⟨S8x128, .f32⟩
  | .hbm, ⟨9, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S4x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | .local _ .vmem, ⟨6, _⟩ => ⟨S1024x1024, .bf16⟩
  | .local _ .vmem, ⟨7, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v2 : Index := Scalar.indexCast arg1
  let c0_1 : Index := 0#32
  let c0_2 : Index := 0#32
  ![v2.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownXRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DownW.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownWRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== UpW.lean ====
abbrev S4096x1024 : Shape := ⟨2, ![4096, 1024]⟩
abbrev S1024x4096 : Shape := ⟨2, ![1024, 4096]⟩
abbrev S4096x4096 : Shape := ⟨2, ![4096, 4096]⟩
abbrev S4x1024x1024 : Shape := ⟨3, ![4, 1024, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x1024, .bf16⟩
  | .hbm, ⟨4, _⟩ => ⟨S4096x4096, .bf16⟩
  | .hbm, ⟨5, _⟩ => ⟨S4x1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpWRefIdeal.lean ====
abbrev S4096x1024 : Shape := ⟨2, ![4096, 1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S1024x4x1024, .f32⟩
  | .hbm, ⟨7, _⟩ => ⟨S4x1024x1024, .f32⟩
  | .hbm, ⟨8, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutX.lean ====
abbrev S4096x512 : Shape := ⟨2, ![4096, 512]⟩
abbrev S4096x1024 : Shape := ⟨2, ![4096, 1024]⟩
abbrev S1536x1024 : Shape := ⟨2, ![1536, 1024]⟩
abbrev S_ : Shape := ⟨0, ![]⟩
abbrev S8x128 : Shape := ⟨2, ![8, 128]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1536x1024, .f32⟩
  | .hbm, ⟨3, _⟩ => ⟨S4096x1024, .f32⟩
  | .hbm, ⟨4, _⟩ => ⟨S4096x1024, .bf16⟩
  | .hbm, ⟨5, _⟩ => ⟨S1536x1024, .bf16⟩
  | .hbm, ⟨6, _⟩ => ⟨S_, .f32⟩
  | .hbm, ⟨7, _⟩ => ⟨S8x128, .f32⟩
  | .hbm, ⟨8, _⟩ => ⟨S4096x512, .f32⟩
  | .hbm, ⟨9, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S8x128, .f32⟩
  | .local _ .vmem, ⟨4, _⟩ => ⟨S1024x512, .f32⟩
  | .local _ .vmem, ⟨5, _⟩ => ⟨S1024x512, .f32⟩
  | .local _ .vmem, ⟨6, _⟩ => ⟨S1024x1024, .f32⟩
  | .local _ .vmem, ⟨7, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutXRefIdeal.lean ====
abbrev S4096x512 : Shape := ⟨2, ![4096, 512]⟩
abbrev S4096x1024 : Shape := ⟨2, ![4096, 1024]⟩
abbrev S1536x1024 : Shape := ⟨2, ![1536, 1024]⟩
abbrev S4096x1536 : Shape := ⟨2, ![4096, 1536]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1536x1024, .f32⟩
  | .hbm, ⟨3, _⟩ => ⟨S4096x1024, .f32⟩
  | .hbm, ⟨4, _⟩ => ⟨S4096x1536, .f32⟩
  | .hbm, ⟨5, _⟩ => ⟨S4096x1024, .f32⟩
  | .hbm, ⟨6, _⟩ => ⟨S4096x1536, .f32⟩
  | .hbm, ⟨7, _⟩ => ⟨S4096x512, .f32⟩
  | .hbm, ⟨8, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutW.lean ====
abbrev S4096x512 : Shape := ⟨2, ![4096, 512]⟩
abbrev S4096x1024 : Shape := ⟨2, ![4096, 1024]⟩
abbrev S1536x1024 : Shape := ⟨2, ![1536, 1024]⟩
abbrev S512x1024 : Shape := ⟨2, ![512, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1536x1024, .f32⟩
  | .hbm, ⟨3, _⟩ => ⟨S4096x1024, .f32⟩
  | .hbm, ⟨4, _⟩ => ⟨S4096x512, .bf16⟩
  | .hbm, ⟨5, _⟩ => ⟨S4096x1024, .bf16⟩
  | .hbm, ⟨6, _⟩ => ⟨S4096x1024, .bf16⟩
  | .hbm, ⟨7, _⟩ => ⟨S1536x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutWRefIdeal.lean ====
abbrev S4096x512 : Shape := ⟨2, ![4096, 512]⟩
abbrev S4096x1024 : Shape := ⟨2, ![4096, 1024]⟩
abbrev S1536x1024 : Shape := ⟨2, ![1536, 1024]⟩
abbrev S4096x1536 : Shape := ⟨2, ![4096, 1536]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1536x1024, .f32⟩
  | .hbm, ⟨3, _⟩ => ⟨S4096x1024, .f32⟩
  | .hbm, ⟨4, _⟩ => ⟨S4096x1536, .f32⟩
  | .hbm, ⟨5, _⟩ => ⟨S4096x1024, .f32⟩
  | .hbm, ⟨6, _⟩ => ⟨S1024x1536, .f32⟩
  | .hbm, ⟨7, _⟩ => ⟨S1536x1024, .f32⟩
  | .hbm, ⟨8, _⟩ => ⟨S1536x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Pool.lean ====
abbrev S4096x512 : Shape := ⟨2, ![4096, 512]⟩
abbrev S4x128x128 : Shape := ⟨3, ![4, 128, 128]⟩
abbrev S1x512 : Shape := ⟨2, ![1, 512]⟩
abbrev S2x2048x512 : Shape := ⟨3, ![2, 2048, 512]⟩
abbrev S_ : Shape := ⟨0, ![]⟩
abbrev S2048 : Shape := ⟨1, ![2048]⟩
abbrev S1x2048x1 : Shape := ⟨3, ![1, 2048, 1]⟩
abbrev S2x2048x128 : Shape := ⟨3, ![2, 2048, 128]⟩
abbrev S2x2x128 : Shape := ⟨3, ![2, 2, 128]⟩
abbrev S2x2046x128 : Shape := ⟨3, ![2, 2046, 128]⟩
abbrev S2x4x128 : Shape := ⟨3, ![2, 4, 128]⟩
abbrev S2x2044x128 : Shape := ⟨3, ![2, 2044, 128]⟩
abbrev S2x8x128 : Shape := ⟨3, ![2, 8, 128]⟩
abbrev S2x2040x128 : Shape := ⟨3, ![2, 2040, 128]⟩
abbrev S2x16x128 : Shape := ⟨3, ![2, 16, 128]⟩
abbrev S2x2032x128 : Shape := ⟨3, ![2, 2032, 128]⟩
abbrev S2x2048x1x128 : Shape := ⟨4, ![2, 2048, 1, 128]⟩
abbrev S2x2048x4x128 : Shape := ⟨4, ![2, 2048, 4, 128]⟩
abbrev S1024x512 : Shape := ⟨2, ![1024, 512]⟩
abbrev S16x512 : Shape := ⟨2, ![16, 512]⟩
abbrev S1040x512 : Shape := ⟨2, ![1040, 512]⟩
abbrev S1040x1 : Shape := ⟨2, ![1040, 1]⟩
abbrev S1x128x128 : Shape := ⟨3, ![1, 128, 128]⟩
abbrev S128x128 : Shape := ⟨2, ![128, 128]⟩
abbrev S1024x128 : Shape := ⟨2, ![1024, 128]⟩
abbrev S1x128 : Shape := ⟨2, ![1, 128]⟩
abbrev S128 : Shape := ⟨1, ![128]⟩
abbrev S1040x128 : Shape := ⟨2, ![1040, 128]⟩

abbrev nBuf : Space → Nat
  | .hbm => 75
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4x128x128, .f32⟩
  | .hbm, ⟨2, _⟩ => ⟨S1x512, .f32⟩
  | .hbm, ⟨3, _⟩ => ⟨S4096x512, .f32⟩
  | .hbm, ⟨4, _⟩ => ⟨S2x2048x512, .f32⟩
  | .hbm, ⟨5, _⟩ => ⟨S_, .f32⟩
  | .hbm, ⟨6, _⟩ => ⟨S_, .f32⟩
  | .hbm, ⟨7, _⟩ => ⟨S2x2048x512, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S1x2048x1, .f32⟩
  | .hbm, ⟨13, _⟩ => ⟨S2x2048x128, .f32⟩
  | .hbm, ⟨14, _⟩ => ⟨S_, .f32⟩
  | .hbm, ⟨15, _⟩ => ⟨S2x2x128, .f32⟩
  | .hbm, ⟨16, _⟩ => ⟨S2x2046x128, .f32⟩
  | .hbm, ⟨17, _⟩ => ⟨S2x2048x128, .f32⟩
  | .hbm, ⟨18, _⟩ => ⟨S2x2048x128, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S2x2048x128, .f32⟩
  | .hbm, ⟨23, _⟩ => ⟨S2x2048x128, .f32⟩
  | .hbm, ⟨24, _⟩ => ⟨S2x2048x128, .f32⟩
  | .hbm, ⟨25, _⟩ => ⟨S2x2048x128, .f32⟩
  | .hbm, ⟨26, _⟩ => ⟨S2x2048x128, .f32⟩
  | .hbm, ⟨27, _⟩ => ⟨S_, .f32⟩
  | .hbm, ⟨28, _⟩ => ⟨S2x4x128, .f32⟩
  | .hbm, ⟨29, _⟩ => ⟨S2x2044x128, .f32⟩
  | .hbm, ⟨30, _⟩ => ⟨S2x2048x128, .f32⟩
  | .hbm, ⟨31, _⟩ => ⟨S2x2048x128, .f32⟩
  | .hbm, ⟨32, _⟩ => ⟨S_, .f32⟩
  | .hbm, ⟨33, _⟩ => ⟨S1x2048x1, .f32⟩
  | .hbm, ⟨34, _⟩ => ⟨S1x2048x1, .f32⟩
  | .hbm, ⟨35, _⟩ => ⟨S2x2048x128, .f32⟩
  | .hbm, ⟨36, _⟩ => ⟨S2x2048x128, .f32⟩
  | .hbm, ⟨37, _⟩ => ⟨S2x2048x128, .f32⟩
  | .hbm, ⟨38, _⟩ => ⟨S2x2048x128, .f32⟩
  | .hbm, ⟨39, _⟩ => ⟨S2x2048x128, .f32⟩
  | .hbm, ⟨40, _⟩ => ⟨S_, .f32⟩
  | .hbm, ⟨41, _⟩ => ⟨S2x8x128, .f32⟩
  | .hbm, ⟨42, _⟩ => ⟨S2x2040x128, .f32⟩
  | .hbm, ⟨43, _⟩ => ⟨S2x2048x128, .f32⟩
  | .hbm, ⟨44, _⟩ => ⟨S2x2048x128, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S2x2048x128, .f32⟩
  | .hbm, ⟨49, _⟩ => ⟨S2x2048x128, .f32⟩
  | .hbm, ⟨50, _⟩ => ⟨S2x2048x128, .f32⟩
  | .hbm, ⟨51, _⟩ => ⟨S2x2048x128, .f32⟩
  | .hbm, ⟨52, _⟩ => ⟨S2x2048x128, .f32⟩
  | .hbm, ⟨53, _⟩ => ⟨S_, .f32⟩
  | .hbm, ⟨54, _⟩ => ⟨S2x16x128, .f32⟩
  | .hbm, ⟨55, _⟩ => ⟨S2x2032x128, .f32⟩
  | .hbm, ⟨56, _⟩ => ⟨S2x2048x128, .f32⟩
  | .hbm, ⟨57, _⟩ => ⟨S2x2048x128, .f32⟩
  | .hbm, ⟨58, _⟩ => ⟨S_, .f32⟩
  | .hbm, ⟨59, _⟩ => ⟨S1x2048x1, .f32⟩
  | .hbm, ⟨60, _⟩ => ⟨S1x2048x1, .f32⟩
  | .hbm, ⟨61, _⟩ => ⟨S2x2048x128, .f32⟩
  | .hbm, ⟨62, _⟩ => ⟨S2x2048x128, .f32⟩
  | .hbm, ⟨63, _⟩ => ⟨S2x2048x128, .f32⟩
  | .hbm, ⟨64, _⟩ => ⟨S2x2048x128, .f32⟩
  | .hbm, ⟨65, _⟩ => ⟨S2x2048x1x128, .f32⟩
  | .hbm, ⟨66, _⟩ => ⟨S2x2048x1x128, .f32⟩
  | .hbm, ⟨67, _⟩ => ⟨S2x2048x1x128, .f32⟩
  | .hbm, ⟨68, _⟩ => ⟨S2x2048x1x128, .f32⟩
  | .hbm, ⟨69, _⟩ => ⟨S2x2048x4x128, .f32⟩
  | .hbm, ⟨70, _⟩ => ⟨S4096x512, .f32⟩
  | .hbm, ⟨71, _⟩ => ⟨S4096x512, .bf16⟩
  | .hbm, ⟨72, _⟩ => ⟨S4096x512, .bf16⟩
  | .hbm, ⟨73, _⟩ => ⟨S4x128x128, .f32⟩
  | .hbm, ⟨74, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S16x512, .f32⟩
  | .local _ .vmem, ⟨3, _⟩ => ⟨S16x512, .f32⟩
  | .local _ .vmem, ⟨4, _⟩ => ⟨S1024x512, .bf16⟩
  | .local _ .vmem, ⟨5, _⟩ => ⟨S1024x512, .bf16⟩
  | .local _ .vmem, ⟨6, _⟩ => ⟨S4x128x128, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S4x128x128, .f32⟩
  | .local _ .vmem, ⟨11, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57_0 : Ref sig .tc := ⟨.hbm, 72, rfl⟩
abbrev main_v57_1 : Ref sig .tc := ⟨.hbm, 73, rfl⟩
abbrev main_v57_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.addi v1 c1_i32
  let c64_i32 : BitVec 32 := 64#32
  let v3 : BitVec 32 := Scalar.muli v2 c64_i32
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== PoolRefIdeal.lean ====
abbrev S4096x512 : Shape := ⟨2, ![4096, 512]⟩
abbrev S4x128x128 : Shape := ⟨3, ![4, 128, 128]⟩
abbrev S1x512 : Shape := ⟨2, ![1, 512]⟩
abbrev S2x2048x512 : Shape := ⟨3, ![2, 2048, 512]⟩
abbrev S_ : Shape := ⟨0, ![]⟩
abbrev S2048 : Shape := ⟨1, ![2048]⟩
abbrev S1x2048x1 : Shape := ⟨3, ![1, 2048, 1]⟩
abbrev S2x2048x128 : Shape := ⟨3, ![2, 2048, 128]⟩
abbrev S2x2x128 : Shape := ⟨3, ![2, 2, 128]⟩
abbrev S2x2046x128 : Shape := ⟨3, ![2, 2046, 128]⟩
abbrev S2x4x128 : Shape := ⟨3, ![2, 4, 128]⟩
abbrev S2x2044x128 : Shape := ⟨3, ![2, 2044, 128]⟩
abbrev S2x8x128 : Shape := ⟨3, ![2, 8, 128]⟩
abbrev S2x2040x128 : Shape := ⟨3, ![2, 2040, 128]⟩
abbrev S2x16x128 : Shape := ⟨3, ![2, 16, 128]⟩
abbrev S2x2032x128 : Shape := ⟨3, ![2, 2032, 128]⟩
abbrev S2x2048x1x128 : Shape := ⟨4, ![2, 2048, 1, 128]⟩
abbrev S2x2048x4x128 : Shape := ⟨4, ![2, 2048, 4, 128]⟩
abbrev S4x128x2x2048 : Shape := ⟨4, ![4, 128, 2, 2048]⟩
abbrev S1x1x512 : Shape := ⟨3, ![1, 1, 512]⟩
abbrev S512 : Shape := ⟨1, ![512]⟩
abbrev S4x2x2048x128 : Shape := ⟨4, ![4, 2, 2048, 128]⟩

abbrev nBuf : Space → Nat
  | .hbm => 173
  | .vmem => 0
  | .smem => 0
  | _ => 0

abbrev hbmTy0_0 (i : Nat) : BufTy := match i % 128 with
  | 0 => ⟨S4096x512, .f32⟩
  | 1 => ⟨S4x128x128, .f32⟩
  | 2 => ⟨S1x512, .f32⟩
  | 3 => ⟨S4096x512, .f32⟩
  | 4 => ⟨S2x2048x512, .f32⟩
  | 5 => ⟨S_, .f32⟩
  | 6 => ⟨S_, .f32⟩
  | 7 => ⟨S2x2048x512, .f32⟩
  | 8 => ⟨S2048, .f32⟩
  | 9 => ⟨S_, .f32⟩
  | 10 => ⟨S2048, .f32⟩
  | 11 => ⟨S2048, .f32⟩
  | 12 => ⟨S1x2048x1, .f32⟩
  | 13 => ⟨S2x2048x128, .f32⟩
  | 14 => ⟨S_, .f32⟩
  | 15 => ⟨S2x2x128, .f32⟩
  | 16 => ⟨S2x2046x128, .f32⟩
  | 17 => ⟨S2x2048x128, .f32⟩
  | 18 => ⟨S_, .f32⟩
  | 19 => ⟨S2x2x128, .f32⟩
  | 20 => ⟨S2x2048x128, .f32⟩
  | 21 => ⟨S_, .f32⟩
  | 22 => ⟨S1x2048x1, .f32⟩
  | 23 => ⟨S1x2048x1, .f32⟩
  | 24 => ⟨S2x2048x128, .f32⟩
  | 25 => ⟨S2x2048x128, .f32⟩
  | 26 => ⟨S2x2048x128, .f32⟩
  | 27 => ⟨S2x2048x128, .f32⟩
  | 28 => ⟨S2x2048x128, .f32⟩
  | 29 => ⟨S_, .f32⟩
  | 30 => ⟨S2x4x128, .f32⟩
  | 31 => ⟨S2x2044x128, .f32⟩
  | 32 => ⟨S2x2048x128, .f32⟩
  | 33 => ⟨S_, .f32⟩
  | 34 => ⟨S2x4x128, .f32⟩
  | 35 => ⟨S2x2048x128, .f32⟩
  | 36 => ⟨S_, .f32⟩
  | 37 => ⟨S1x2048x1, .f32⟩
  | 38 => ⟨S1x2048x1, .f32⟩
  | 39 => ⟨S2x2048x128, .f32⟩
  | 40 => ⟨S2x2048x128, .f32⟩
  | 41 => ⟨S2x2048x128, .f32⟩
  | 42 => ⟨S2x2048x128, .f32⟩
  | 43 => ⟨S2x2048x128, .f32⟩
  | 44 => ⟨S_, .f32⟩
  | 45 => ⟨S2x8x128, .f32⟩
  | 46 => ⟨S2x2040x128, .f32⟩
  | 47 => ⟨S2x2048x128, .f32⟩
  | 48 => ⟨S_, .f32⟩
  | 49 => ⟨S2x8x128, .f32⟩
  | 50 => ⟨S2x2048x128, .f32⟩
  | 51 => ⟨S_, .f32⟩
  | 52 => ⟨S1x2048x1, .f32⟩
  | 53 => ⟨S1x2048x1, .f32⟩
  | 54 => ⟨S2x2048x128, .f32⟩
  | 55 => ⟨S2x2048x128, .f32⟩
  | 56 => ⟨S2x2048x128, .f32⟩
  | 57 => ⟨S2x2048x128, .f32⟩
  | 58 => ⟨S2x2048x128, .f32⟩
  | 59 => ⟨S_, .f32⟩
  | 60 => ⟨S2x16x128, .f32⟩
  | 61 => ⟨S2x2032x128, .f32⟩
  | 62 => ⟨S2x2048x128, .f32⟩
  | 63 => ⟨S_, .f32⟩
  | 64 => ⟨S2x16x128, .f32⟩
  | 65 => ⟨S2x2048x128, .f32⟩
  | 66 => ⟨S_, .f32⟩
  | 67 => ⟨S1x2048x1, .f32⟩
  | 68 => ⟨S1x2048x1, .f32⟩
  | 69 => ⟨S2x2048x128, .f32⟩
  | 70 => ⟨S2x2048x128, .f32⟩
  | 71 => ⟨S2x2048x128, .f32⟩
  | 72 => ⟨S2x2048x128, .f32⟩
  | 73 => ⟨S2x2048x1x128, .f32⟩
  | 74 => ⟨S2x2048x1x128, .f32⟩
  | 75 => ⟨S2x2048x1x128, .f32⟩
  | 76 => ⟨S2x2048x1x128, .f32⟩
  | 77 => ⟨S2x2048x4x128, .f32⟩
  | 78 => ⟨S4x128x2x2048, .f32⟩
  | 79 => ⟨S2x2048x4x128, .f32⟩
  | 80 => ⟨S2x2048x512, .f32⟩
  | 81 => ⟨S1x1x512, .f32⟩
  | 82 => ⟨S2x2048x512, .f32⟩
  | 83 => ⟨S2x2048x512, .f32⟩
  | 84 => ⟨S4096x512, .f32⟩
  | 85 => ⟨S2x2048x512, .f32⟩
  | 86 => ⟨S2x2048x512, .f32⟩
  | 87 => ⟨S_, .f32⟩
  | 88 => ⟨S512, .f32⟩
  | 89 => ⟨S1x1x512, .f32⟩
  | 90 => ⟨S2x2048x512, .f32⟩
  | 91 => ⟨S2x2048x512, .f32⟩
  | 92 => ⟨S_, .f32⟩
  | 93 => ⟨S512, .f32⟩
  | 94 => ⟨S1x512, .f32⟩
  | 95 => ⟨S2x2048x4x128, .f32⟩
  | 96 => ⟨S4x128x2x2048, .f32⟩
  | 97 => ⟨S4x2x2048x128, .f32⟩
  | 98 => ⟨S2x2048x4x128, .f32⟩
  | 99 => ⟨S4x128x128, .f32⟩
  | 100 => ⟨S4x128x128, .f32⟩
  | 101 => ⟨S2x2048x1x128, .f32⟩
  | 102 => ⟨S2x2048x128, .f32⟩
  | 103 => ⟨S2x2048x1x128, .f32⟩
  | 104 => ⟨S2x2048x128, .f32⟩
  | 105 => ⟨S2x2048x1x128, .f32⟩
  | 106 => ⟨S2x2048x128, .f32⟩
  | 107 => ⟨S2x2048x1x128, .f32⟩
  | 108 => ⟨S2x2048x128, .f32⟩
  | 109 => ⟨S2x2048x128, .f32⟩
  | 110 => ⟨S_, .f32⟩
  | 111 => ⟨S2x2048x512, .f32⟩
  | 112 => ⟨S2x2048x128, .f32⟩
  | 113 => ⟨S2x2048x128, .f32⟩
  | 114 => ⟨S2x2048x128, .f32⟩
  | 115 => ⟨S2x16x128, .f32⟩
  | 116 => ⟨S2x2032x128, .f32⟩
  | 117 => ⟨S_, .f32⟩
  | 118 => ⟨S2x2048x128, .f32⟩
  | 119 => ⟨S2x2048x128, .f32⟩
  | 120 => ⟨S_, .f32⟩
  | 121 => ⟨S2x2048x512, .f32⟩
  | 122 => ⟨S2x2048x128, .f32⟩
  | 123 => ⟨S_, .f32⟩
  | 124 => ⟨S2x2048x512, .f32⟩
  | 125 => ⟨S2x2048x512, .f32⟩
  | 126 => ⟨S2x2048x128, .f32⟩
  | 127 => ⟨S2x2048x128, .f32⟩
  | _ => ⟨S4096x512, .f32⟩

abbrev hbmTy0_1 (i : Nat) : BufTy := match i % 128 with
  | 0 => ⟨S2x2048x128, .f32⟩
  | 1 => ⟨S2x8x128, .f32⟩
  | 2 => ⟨S2x2040x128, .f32⟩
  | 3 => ⟨S_, .f32⟩
  | 4 => ⟨S2x2048x128, .f32⟩
  | 5 => ⟨S2x2048x128, .f32⟩
  | 6 => ⟨S_, .f32⟩
  | 7 => ⟨S2x2048x512, .f32⟩
  | 8 => ⟨S2x2048x512, .f32⟩
  | 9 => ⟨S2x2048x128, .f32⟩
  | 10 => ⟨S_, .f32⟩
  | 11 => ⟨S2x2048x512, .f32⟩
  | 12 => ⟨S2x2048x512, .f32⟩
  | 13 => ⟨S2x2048x128, .f32⟩
  | 14 => ⟨S2x2048x128, .f32⟩
  | 15 => ⟨S2x2048x128, .f32⟩
  | 16 => ⟨S2x4x128, .f32⟩
  | 17 => ⟨S2x2044x128, .f32⟩
  | 18 => ⟨S_, .f32⟩
  | 19 => ⟨S2x2048x128, .f32⟩
  | 20 => ⟨S2x2048x128, .f32⟩
  | 21 => ⟨S_, .f32⟩
  | 22 => ⟨S2x2048x512, .f32⟩
  | 23 => ⟨S2x2048x512, .f32⟩
  | 24 => ⟨S2x2048x128, .f32⟩
  | 25 => ⟨S_, .f32⟩
  | 26 => ⟨S2x2048x512, .f32⟩
  | 27 => ⟨S2x2048x512, .f32⟩
  | 28 => ⟨S2x2048x128, .f32⟩
  | 29 => ⟨S2x2048x128, .f32⟩
  | 30 => ⟨S2x2048x128, .f32⟩
  | 31 => ⟨S2x2x128, .f32⟩
  | 32 => ⟨S2x2046x128, .f32⟩
  | 33 => ⟨S_, .f32⟩
  | 34 => ⟨S2x2048x128, .f32⟩
  | 35 => ⟨S2x2048x128, .f32⟩
  | 36 => ⟨S_, .f32⟩
  | 37 => ⟨S2x2048x512, .f32⟩
  | 38 => ⟨S2x2048x512, .f32⟩
  | 39 => ⟨S_, .f32⟩
  | 40 => ⟨S_, .f32⟩
  | 41 => ⟨S2x2048x512, .f32⟩
  | 42 => ⟨S2x2048x512, .f32⟩
  | 43 => ⟨S4096x512, .f32⟩
  | 44 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_12 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_13 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_14 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_15 : Ref sig .tc := ⟨.hbm, 117, rfl⟩
abbrev main_v95 : Ref sig .tc := ⟨.hbm, 118, rfl⟩
abbrev main_v96 : Ref sig .tc := ⟨.hbm, 119, rfl⟩
abbrev main_cst_16 : Ref sig .tc := ⟨.hbm, 120, rfl⟩
abbrev main_v97 : Ref sig .tc := ⟨.hbm, 121, rfl⟩
abbrev main_v98 : Ref sig .tc := ⟨.hbm, 122, rfl⟩
abbrev main_cst_17 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_18 : Ref sig .tc := ⟨.hbm, 131, rfl⟩
abbrev main_v106 : Ref sig .tc := ⟨.hbm, 132, rfl⟩
abbrev main_v107 : Ref sig .tc := ⟨.hbm, 133, rfl⟩
abbrev main_cst_19 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_20 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_21 : Ref sig .tc := ⟨.hbm, 146, rfl⟩
abbrev main_v118 : Ref sig .tc := ⟨.hbm, 147, rfl⟩
abbrev main_v119 : Ref sig .tc := ⟨.hbm, 148, rfl⟩
abbrev main_cst_22 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_23 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_24 : Ref sig .tc := ⟨.hbm, 161, rfl⟩
abbrev main_v130 : Ref sig .tc := ⟨.hbm, 162, rfl⟩
abbrev main_v131 : Ref sig .tc := ⟨.hbm, 163, rfl⟩
abbrev main_cst_25 : Ref sig .tc := ⟨.hbm, 164, rfl⟩
abbrev main_v132 : Ref sig .tc := ⟨.hbm, 165, rfl⟩
abbrev main_v133 : Ref sig .tc := ⟨.hbm, 166, rfl⟩
abbrev main_call1_call0_cst : Ref sig .tc := ⟨.hbm, 167, rfl⟩
abbrev main_call1_call0_v0 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩

abbrev nD : Nat := 1
abbrev τ : Topo := Topo.v7x

variable {F : FTy → Type} [FloatOps F]
-- ==== UpX.lean ====
abbrev S4096x1024 : Shape := ⟨2, ![4096, 1024]⟩
abbrev S2x6144 : Shape := ⟨2, ![2, 6144]⟩
abbrev S1x1024 : Shape := ⟨2, ![1, 1024]⟩
abbrev S1024x4096 : Shape := ⟨2, ![1024, 4096]⟩
abbrev S4096x4096 : Shape := ⟨2, ![4096, 4096]⟩
abbrev S2x6x1024 : Shape := ⟨3, ![2, 6, 1024]⟩
abbrev S2x1x1024 : Shape := ⟨3, ![2, 1, 1024]⟩
abbrev S2x2048x1024 : Shape := ⟨3, ![2, 2048, 1024]⟩
abbrev S1024x4x1024 : Shape := ⟨3, ![1024, 4, 1024]⟩
abbrev S4x1024x1024 : Shape := ⟨3, ![4, 1024, 1024]⟩
abbrev S_ : Shape := ⟨0, ![]⟩
abbrev S8x128 : Shape := ⟨2, ![8, 128]⟩
abbrev S2x8x1024 : Shape := ⟨3, ![2, 8, 1024]⟩
abbrev S512x4096 : Shape := ⟨2, ![512, 4096]⟩
abbrev S512x1024 : Shape := ⟨2, ![512, 1024]⟩
abbrev S1x6x1024 : Shape := ⟨3, ![1, 6, 1024]⟩
abbrev S1x8x1024 : Shape := ⟨3, ![1, 8, 1024]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1x1x1024 : Shape := ⟨3, ![1, 1, 1024]⟩
abbrev S1024 : Shape := ⟨1, ![1024]⟩

abbrev nBuf : Space → Nat
  | .hbm => 24
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x6144, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S2x6x1024, .f32⟩
  | .hbm, ⟨8, _⟩ => ⟨S2x1x1024, .f32⟩
  | .hbm, ⟨9, _⟩ => ⟨S2x2048x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1024x4096, .bf16⟩
  | .hbm, ⟨14, _⟩ => ⟨S1024x4x1024, .bf16⟩
  | .hbm, ⟨15, _⟩ => ⟨S4x1024x1024, .bf16⟩
  | .hbm, ⟨16, _⟩ => ⟨S4096x4096, .bf16⟩
  | .hbm, ⟨17, _⟩ => ⟨S4096x1024, .bf16⟩
  | .hbm, ⟨18, _⟩ => ⟨S_, .f32⟩
  | .hbm, ⟨19, _⟩ => ⟨S8x128, .f32⟩
  | .hbm, ⟨20, _⟩ => ⟨S4096x1024, .f32⟩
  | .hbm, ⟨21, _⟩ => ⟨S4096x1024, .bf16⟩
  | .hbm, ⟨22, _⟩ => ⟨S2x8x1024, .f32⟩
  | .hbm, ⟨23, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x6x1024, .f32⟩
  | .local _ .vmem, ⟨10, _⟩ => ⟨S1x6x1024, .f32⟩
  | .local _ .vmem, ⟨11, _⟩ => ⟨S1x1024, .f32⟩
  | .local _ .vmem, ⟨12, _⟩ => ⟨S8x128, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x8x1024, .f32⟩
  | .local _ .vmem, ⟨18, _⟩ => ⟨S1x8x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== UpXRefIdeal.lean ====
abbrev S4096x1024 : Shape := ⟨2, ![4096, 1024]⟩
abbrev S2x6144 : Shape := ⟨2, ![2, 6144]⟩
abbrev S1x1024 : Shape := ⟨2, ![1, 1024]⟩
abbrev S1024x4096 : Shape := ⟨2, ![1024, 4096]⟩
abbrev S4096x4096 : Shape := ⟨2, ![4096, 4096]⟩
abbrev S2x1x6144 : Shape := ⟨3, ![2, 1, 6144]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x4096 : Shape := ⟨3, ![2, 2048, 4096]⟩
abbrev S2x1024 : Shape := ⟨2, ![2, 1024]⟩
abbrev S1024 : Shape := ⟨1, ![1024]⟩
abbrev S2x5x1024 : Shape := ⟨3, ![2, 5, 1024]⟩
abbrev S2x8x1024 : Shape := ⟨3, ![2, 8, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x6144, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S2x1x6144, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S_, .f32⟩
  | .hbm, ⟨21, _⟩ => ⟨S2x2048, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x1x1024, .f32⟩
  | .hbm, ⟨41, _⟩ => ⟨S2x1x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x4096, .f32⟩
  | .hbm, ⟨47, _⟩ => ⟨S2x2048x1024, .f32⟩
  | .hbm, ⟨48, _⟩ => ⟨S2x2048x4096, .f32⟩
  | .hbm, ⟨49, _⟩ => ⟨S2x2048x1024, .f32⟩
  | .hbm, ⟨50, _⟩ => ⟨S_, .f32⟩
  | .hbm, ⟨51, _⟩ => ⟨S2x1024, .f32⟩
  | .hbm, ⟨52, _⟩ => ⟨S2x1x1024, .f32⟩
  | .hbm, ⟨53, _⟩ => ⟨S2x2048x1024, .f32⟩
  | .hbm, ⟨54, _⟩ => ⟨S_, .f32⟩
  | .hbm, ⟨55, _⟩ => ⟨S2x1024, .f32⟩
  | .hbm, ⟨56, _⟩ => ⟨S2x1x1024, .f32⟩
  | .hbm, ⟨57, _⟩ => ⟨S2x2048x1024, .f32⟩
  | .hbm, ⟨58, _⟩ => ⟨S2x2048x1024, .f32⟩
  | .hbm, ⟨59, _⟩ => ⟨S2x2048x1024, .f32⟩
  | .hbm, ⟨60, _⟩ => ⟨S_, .f32⟩
  | .hbm, ⟨61, _⟩ => ⟨S1024, .f32⟩
  | .hbm, ⟨62, _⟩ => ⟨S1x1x1024, .f32⟩
  | .hbm, ⟨63, _⟩ => ⟨S2x2048x1024, .f32⟩
  | .hbm, ⟨64, _⟩ => ⟨S2x2048x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S2x2048x1024, .f32⟩
  | .hbm, ⟨69, _⟩ => ⟨S_, .f32⟩
  | .hbm, ⟨70, _⟩ => ⟨S2x2048, .f32⟩
  | .hbm, ⟨71, _⟩ => ⟨S2x2048x1, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1, .f32⟩
  | .hbm, ⟨76, _⟩ => ⟨S_, .f32⟩
  | .hbm, ⟨77, _⟩ => ⟨S2x2048x1, .f32⟩
  | .hbm, ⟨78, _⟩ => ⟨S2x2048x1, .f32⟩
  | .hbm, ⟨79, _⟩ => ⟨S_, .f32⟩
  | .hbm, ⟨80, _⟩ => ⟨S2x2048, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S2x2048x1024, .f32⟩
  | .hbm, ⟨87, _⟩ => ⟨S2x2048x1024, .f32⟩
  | .hbm, ⟨88, _⟩ => ⟨S2x2048x1024, .f32⟩
  | .hbm, ⟨89, _⟩ => ⟨S_, .f32⟩
  | .hbm, ⟨90, _⟩ => ⟨S2x1024, .f32⟩
  | .hbm, ⟨91, _⟩ => ⟨S2x1x1024, .f32⟩
  | .hbm, ⟨92, _⟩ => ⟨S_, .f32⟩
  | .hbm, ⟨93, _⟩ => ⟨S2x5x1024, .f32⟩
  | .hbm, ⟨94, _⟩ => ⟨S2x8x1024, .f32⟩
  | .hbm, ⟨95, _⟩ => ⟨S4096x1024, .f32⟩
  | .hbm, ⟨96, _⟩ => ⟨S4096x1024, .f32⟩
  | .hbm, ⟨97, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_cst_12 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩

abbrev nD : Nat := 1
abbrev τ : Topo := Topo.v7x

variable {F : FTy → Type} [FloatOps F]
-- ==== InX.lean ====
abbrev S4096x1024 : Shape := ⟨2, ![4096, 1024]⟩
abbrev S2x6144 : Shape := ⟨2, ![2, 6144]⟩
abbrev S1x1024 : Shape := ⟨2, ![1, 1024]⟩
abbrev S1024x3088 : Shape := ⟨2, ![1024, 3088]⟩
abbrev S4096x512 : Shape := ⟨2, ![4096, 512]⟩
abbrev S4096x1536 : Shape := ⟨2, ![4096, 1536]⟩
abbrev S4096x16 : Shape := ⟨2, ![4096, 16]⟩
abbrev S_ : Shape := ⟨0, ![]⟩
abbrev S4096x112 : Shape := ⟨2, ![4096, 112]⟩
abbrev S4096x128 : Shape := ⟨2, ![4096, 128]⟩
abbrev S3088x1024 : Shape := ⟨2, ![3088, 1024]⟩
abbrev S2x6x1024 : Shape := ⟨3, ![2, 6, 1024]⟩
abbrev S8x128 : Shape := ⟨2, ![8, 128]⟩
abbrev S2x8x1024 : Shape := ⟨3, ![2, 8, 1024]⟩
abbrev S512x512 : Shape := ⟨2, ![512, 512]⟩
abbrev S512x1024 : Shape := ⟨2, ![512, 1024]⟩
abbrev S512x1536 : Shape := ⟨2, ![512, 1536]⟩
abbrev S512x128 : Shape := ⟨2, ![512, 128]⟩
abbrev S1x6x1024 : Shape := ⟨3, ![1, 6, 1024]⟩
abbrev S1x8x1024 : Shape := ⟨3, ![1, 8, 1024]⟩
abbrev S256x512 : Shape := ⟨2, ![256, 512]⟩
abbrev S256x1024 : Shape := ⟨2, ![256, 1024]⟩
abbrev S256x1536 : Shape := ⟨2, ![256, 1536]⟩
abbrev S256x3072 : Shape := ⟨2, ![256, 3072]⟩
abbrev S3072x1024 : Shape := ⟨2, ![3072, 1024]⟩
abbrev S256x16 : Shape := ⟨2, ![256, 16]⟩
abbrev S16x1024 : Shape := ⟨2, ![16, 1024]⟩
abbrev S256 : Shape := ⟨1, ![256]⟩
abbrev S256x1 : Shape := ⟨2, ![256, 1]⟩
abbrev S1x1x1024 : Shape := ⟨3, ![1, 1, 1024]⟩
abbrev S1024 : Shape := ⟨1, ![1024]⟩

abbrev nBuf : Space → Nat
  | .hbm => 24
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S2x6144, .f32⟩
  | .hbm, ⟨2, _⟩ => ⟨S1x1024, .f32⟩
  | .hbm, ⟨3, _⟩ => ⟨S1024x3088, .f32⟩
  | .hbm, ⟨4, _⟩ => ⟨S4096x1024, .f32⟩
  | .hbm, ⟨5, _⟩ => ⟨S4096x512, .f32⟩
  | .hbm, ⟨6, _⟩ => ⟨S4096x1024, .f32⟩
  | .hbm, ⟨7, _⟩ => ⟨S4096x1536, .f32⟩
  | .hbm, ⟨8, _⟩ => ⟨S4096x16, .f32⟩
  | .hbm, ⟨9, _⟩ => ⟨S_, .f32⟩
  | .hbm, ⟨10, _⟩ => ⟨S4096x112, .f32⟩
  | .hbm, ⟨11, _⟩ => ⟨S4096x128, .f32⟩
  | .hbm, ⟨12, _⟩ => ⟨S4096x512, .bf16⟩
  | .hbm, ⟨13, _⟩ => ⟨S4096x1024, .bf16⟩
  | .hbm, ⟨14, _⟩ => ⟨S4096x1536, .bf16⟩
  | .hbm, ⟨15, _⟩ => ⟨S4096x128, .bf16⟩
  | .hbm, ⟨16, _⟩ => ⟨S3088x1024, .f32⟩
  | .hbm, ⟨17, _⟩ => ⟨S3088x1024, .bf16⟩
  | .hbm, ⟨18, _⟩ => ⟨S2x6x1024, .f32⟩
  | .hbm, ⟨19, _⟩ => ⟨S_, .f32⟩
  | .hbm, ⟨20, _⟩ => ⟨S8x128, .f32⟩
  | .hbm, ⟨21, _⟩ => ⟨S4096x1024, .f32⟩
  | .hbm, ⟨22, _⟩ => ⟨S2x8x1024, .f32⟩
  | .hbm, ⟨23, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1536, .bf16⟩
  | .local _ .vmem, ⟨5, _⟩ => ⟨S512x1536, .bf16⟩
  | .local _ .vmem, ⟨6, _⟩ => ⟨S512x128, .bf16⟩
  | .local _ .vmem, ⟨7, _⟩ => ⟨S512x128, .bf16⟩
  | .local _ .vmem, ⟨8, _⟩ => ⟨S3088x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x6x1024, .f32⟩
  | .local _ .vmem, ⟨14, _⟩ => ⟨S1x6x1024, .f32⟩
  | .local _ .vmem, ⟨15, _⟩ => ⟨S1x1024, .f32⟩
  | .local _ .vmem, ⟨16, _⟩ => ⟨S8x128, .f32⟩
  | .local _ .vmem, ⟨17, _⟩ => ⟨S512x1024, .f32⟩
  | .local _ .vmem, ⟨18, _⟩ => ⟨S512x1024, .f32⟩
  | .local _ .vmem, ⟨19, _⟩ => ⟨S1x8x1024, .f32⟩
  | .local _ .vmem, ⟨20, _⟩ => ⟨S1x8x1024, .f32⟩
  | .local _ .vmem, ⟨21, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3088x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InXRefIdeal.lean ====
abbrev S4096x1024 : Shape := ⟨2, ![4096, 1024]⟩
abbrev S2x6144 : Shape := ⟨2, ![2, 6144]⟩
abbrev S1x1024 : Shape := ⟨2, ![1, 1024]⟩
abbrev S1024x3088 : Shape := ⟨2, ![1024, 3088]⟩
abbrev S4096x512 : Shape := ⟨2, ![4096, 512]⟩
abbrev S4096x1536 : Shape := ⟨2, ![4096, 1536]⟩
abbrev S4096x16 : Shape := ⟨2, ![4096, 16]⟩
abbrev S2x1x6144 : Shape := ⟨3, ![2, 1, 6144]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3088 : Shape := ⟨3, ![2, 2048, 3088]⟩
abbrev S2x2048x512 : Shape := ⟨3, ![2, 2048, 512]⟩
abbrev S2x2048x1536 : Shape := ⟨3, ![2, 2048, 1536]⟩
abbrev S2x2048x16 : Shape := ⟨3, ![2, 2048, 16]⟩
abbrev S2x1024 : Shape := ⟨2, ![2, 1024]⟩
abbrev S1024 : Shape := ⟨1, ![1024]⟩
abbrev S2x6x1024 : Shape := ⟨3, ![2, 6, 1024]⟩
abbrev S2x8x1024 : Shape := ⟨3, ![2, 8, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x6144, .f32⟩
  | .hbm, ⟨2, _⟩ => ⟨S1x1024, .f32⟩
  | .hbm, ⟨3, _⟩ => ⟨S1024x3088, .f32⟩
  | .hbm, ⟨4, _⟩ => ⟨S4096x1024, .f32⟩
  | .hbm, ⟨5, _⟩ => ⟨S4096x512, .f32⟩
  | .hbm, ⟨6, _⟩ => ⟨S4096x1024, .f32⟩
  | .hbm, ⟨7, _⟩ => ⟨S4096x1536, .f32⟩
  | .hbm, ⟨8, _⟩ => ⟨S4096x16, .f32⟩
  | .hbm, ⟨9, _⟩ => ⟨S2x1x6144, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S2x2048x1024, .f32⟩
  | .hbm, ⟨33, _⟩ => ⟨S2x2048x1024, .f32⟩
  | .hbm, ⟨34, _⟩ => ⟨S1x1x1024, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x3088, .f32⟩
  | .hbm, ⟨45, _⟩ => ⟨S2x2048x512, .f32⟩
  | .hbm, ⟨46, _⟩ => ⟨S2x2048x1024, .f32⟩
  | .hbm, ⟨47, _⟩ => ⟨S2x2048x1536, .f32⟩
  | .hbm, ⟨48, _⟩ => ⟨S2x2048x16, .f32⟩
  | .hbm, ⟨49, _⟩ => ⟨S2x2048x1024, .f32⟩
  | .hbm, ⟨50, _⟩ => ⟨S2x2048x512, .f32⟩
  | .hbm, ⟨51, _⟩ => ⟨S2x2048x1024, .f32⟩
  | .hbm, ⟨52, _⟩ => ⟨S2x2048x1536, .f32⟩
  | .hbm, ⟨53, _⟩ => ⟨S2x2048x16, .f32⟩
  | .hbm, ⟨54, _⟩ => ⟨S_, .f32⟩
  | .hbm, ⟨55, _⟩ => ⟨S2x2048x3088, .f32⟩
  | .hbm, ⟨56, _⟩ => ⟨S_, .f32⟩
  | .hbm, ⟨57, _⟩ => ⟨S2x2048x3088, .f32⟩
  | .hbm, ⟨58, _⟩ => ⟨S2x2048x3088, .f32⟩
  | .hbm, ⟨59, _⟩ => ⟨S_, .f32⟩
  | .hbm, ⟨60, _⟩ => ⟨S2x2048x3088, .f32⟩
  | .hbm, ⟨61, _⟩ => ⟨S2x2048x3088, .f32⟩
  | .hbm, ⟨62, _⟩ => ⟨S_, .f32⟩
  | .hbm, ⟨63, _⟩ => ⟨S2x2048x3088, .f32⟩
  | .hbm, ⟨64, _⟩ => ⟨S2x2048x3088, .f32⟩
  | .hbm, ⟨65, _⟩ => ⟨S2x2048x1024, .f32⟩
  | .hbm, ⟨66, _⟩ => ⟨S_, .f32⟩
  | .hbm, ⟨67, _⟩ => ⟨S2x1024, .f32⟩
  | .hbm, ⟨68, _⟩ => ⟨S2x1x1024, .f32⟩
  | .hbm, ⟨69, _⟩ => ⟨S2x2048x1024, .f32⟩
  | .hbm, ⟨70, _⟩ => ⟨S_, .f32⟩
  | .hbm, ⟨71, _⟩ => ⟨S2x1024, .f32⟩
  | .hbm, ⟨72, _⟩ => ⟨S2x1x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S_, .f32⟩
  | .hbm, ⟨77, _⟩ => ⟨S1024, .f32⟩
  | .hbm, ⟨78, _⟩ => ⟨S1x1x1024, .f32⟩
  | .hbm, ⟨79, _⟩ => ⟨S2x2048x1024, .f32⟩
  | .hbm, ⟨80, _⟩ => ⟨S2x2048x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S2x2048x1024, .f32⟩
  | .hbm, ⟨85, _⟩ => ⟨S_, .f32⟩
  | .hbm, ⟨86, _⟩ => ⟨S2x2048, .f32⟩
  | .hbm, ⟨87, _⟩ => ⟨S2x2048x1, .f32⟩
  | .hbm, ⟨88, _⟩ => ⟨S2x2048x1024, .f32⟩
  | .hbm, ⟨89, _⟩ => ⟨S2x2048x1024, .f32⟩
  | .hbm, ⟨90, _⟩ => ⟨S2x2048x1024, .f32⟩
  | .hbm, ⟨91, _⟩ => ⟨S2x2048x1, .f32⟩
  | .hbm, ⟨92, _⟩ => ⟨S_, .f32⟩
  | .hbm, ⟨93, _⟩ => ⟨S2x2048x1, .f32⟩
  | .hbm, ⟨94, _⟩ => ⟨S2x2048x1, .f32⟩
  | .hbm, ⟨95, _⟩ => ⟨S_, .f32⟩
  | .hbm, ⟨96, _⟩ => ⟨S2x2048, .f32⟩
  | .hbm, ⟨97, _⟩ => ⟨S2x2048x1024, .f32⟩
  | .hbm, ⟨98, _⟩ => ⟨S2x2048x1024, .f32⟩
  | .hbm, ⟨99, _⟩ => ⟨S2x2048x1024, .f32⟩
  | .hbm, ⟨100, _⟩ => ⟨S2x2048x1024, .f32⟩
  | .hbm, ⟨101, _⟩ => ⟨S2x2048x1024, .f32⟩
  | .hbm, ⟨102, _⟩ => ⟨S_, .f32⟩
  | .hbm, ⟨103, _⟩ => ⟨S2x6x1024, .f32⟩
  | .hbm, ⟨104, _⟩ => ⟨S2x8x1024, .f32⟩
  | .hbm, ⟨105, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_15 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== UpF.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4096, .bf16⟩
  | .hbm, ⟨3, _⟩ => ⟨S1024x4x1024, .bf16⟩
  | .hbm, ⟨4, _⟩ => ⟨S4x1024x1024, .bf16⟩
  | .hbm, ⟨5, _⟩ => ⟨S4096x1024, .bf16⟩
  | .hbm, ⟨6, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S4x1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v2 : Index := Scalar.indexCast arg1
  let c0_1 : Index := 0#32
  let c0_2 : Index := 0#32
  ![v2.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpFRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InF.lean ====
abbrev S4096x1024 : Shape := ⟨2, ![4096, 1024]⟩
abbrev S2x6144 : Shape := ⟨2, ![2, 6144]⟩
abbrev S1x1024 : Shape := ⟨2, ![1, 1024]⟩
abbrev S1024x3088 : Shape := ⟨2, ![1024, 3088]⟩
abbrev S2x6x1024 : Shape := ⟨3, ![2, 6, 1024]⟩
abbrev S3088x1024 : Shape := ⟨2, ![3088, 1024]⟩
abbrev S_ : Shape := ⟨0, ![]⟩
abbrev S8x128 : Shape := ⟨2, ![8, 128]⟩
abbrev S4096x3200 : Shape := ⟨2, ![4096, 3200]⟩
abbrev S512x1024 : Shape := ⟨2, ![512, 1024]⟩
abbrev S1x6x1024 : Shape := ⟨3, ![1, 6, 1024]⟩
abbrev S512x3200 : Shape := ⟨2, ![512, 3200]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S3072x1024 : Shape := ⟨2, ![3072, 1024]⟩
abbrev S256x3072 : Shape := ⟨2, ![256, 3072]⟩
abbrev S256x128 : Shape := ⟨2, ![256, 128]⟩
abbrev S16x1024 : Shape := ⟨2, ![16, 1024]⟩
abbrev S256x16 : Shape := ⟨2, ![256, 16]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S2x6144, .f32⟩
  | .hbm, ⟨2, _⟩ => ⟨S1x1024, .f32⟩
  | .hbm, ⟨3, _⟩ => ⟨S1024x3088, .f32⟩
  | .hbm, ⟨4, _⟩ => ⟨S2x6x1024, .f32⟩
  | .hbm, ⟨5, _⟩ => ⟨S3088x1024, .f32⟩
  | .hbm, ⟨6, _⟩ => ⟨S3088x1024, .bf16⟩
  | .hbm, ⟨7, _⟩ => ⟨S_, .f32⟩
  | .hbm, ⟨8, _⟩ => ⟨S8x128, .f32⟩
  | .hbm, ⟨9, _⟩ => ⟨S4096x3200, .f32⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S3088x1024, .bf16⟩
  | .local _ .vmem, ⟨6, _⟩ => ⟨S8x128, .f32⟩
  | .local _ .vmem, ⟨7, _⟩ => ⟨S512x3200, .f32⟩
  | .local _ .vmem, ⟨8, _⟩ => ⟨S512x3200, .f32⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3088x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InFRefIdeal.lean ====
abbrev S4096x1024 : Shape := ⟨2, ![4096, 1024]⟩
abbrev S2x6144 : Shape := ⟨2, ![2, 6144]⟩
abbrev S1x1024 : Shape := ⟨2, ![1, 1024]⟩
abbrev S1024x3088 : Shape := ⟨2, ![1024, 3088]⟩
abbrev S2x1x6144 : Shape := ⟨3, ![2, 1, 6144]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3088 : Shape := ⟨3, ![2, 2048, 3088]⟩
abbrev S4096x3088 : Shape := ⟨2, ![4096, 3088]⟩
abbrev S4096x112 : Shape := ⟨2, ![4096, 112]⟩
abbrev S4096x3200 : Shape := ⟨2, ![4096, 3200]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x6144, .f32⟩
  | .hbm, ⟨2, _⟩ => ⟨S1x1024, .f32⟩
  | .hbm, ⟨3, _⟩ => ⟨S1024x3088, .f32⟩
  | .hbm, ⟨4, _⟩ => ⟨S2x1x6144, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x3088, .f32⟩
  | .hbm, ⟨36, _⟩ => ⟨S4096x3088, .f32⟩
  | .hbm, ⟨37, _⟩ => ⟨S_, .f32⟩
  | .hbm, ⟨38, _⟩ => ⟨S4096x112, .f32⟩
  | .hbm, ⟨39, _⟩ => ⟨S4096x3200, .f32⟩
  | .hbm, ⟨40, _⟩ => ⟨S4096x1024, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== OutF.lean ====
abbrev S4096x512 : Shape := ⟨2, ![4096, 512]⟩
abbrev S4096x1024 : Shape := ⟨2, ![4096, 1024]⟩
abbrev S1536x1024 : Shape := ⟨2, ![1536, 1024]⟩
abbrev S2x6144 : Shape := ⟨2, ![2, 6144]⟩
abbrev S1x1024 : Shape := ⟨2, ![1, 1024]⟩
abbrev S2x6x1024 : Shape := ⟨3, ![2, 6, 1024]⟩
abbrev S512x512 : Shape := ⟨2, ![512, 512]⟩
abbrev S512x1024 : Shape := ⟨2, ![512, 1024]⟩
abbrev S1x6x1024 : Shape := ⟨3, ![1, 6, 1024]⟩
abbrev S256x512 : Shape := ⟨2, ![256, 512]⟩
abbrev S256x1024 : Shape := ⟨2, ![256, 1024]⟩
abbrev S256x1536 : Shape := ⟨2, ![256, 1536]⟩
abbrev S1x1x1024 : Shape := ⟨3, ![1, 1, 1024]⟩
abbrev S256 : Shape := ⟨1, ![256]⟩
abbrev S256x1 : Shape := ⟨2, ![256, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1536x1024, .f32⟩
  | .hbm, ⟨3, _⟩ => ⟨S4096x1024, .f32⟩
  | .hbm, ⟨4, _⟩ => ⟨S2x6144, .f32⟩
  | .hbm, ⟨5, _⟩ => ⟨S1x1024, .f32⟩
  | .hbm, ⟨6, _⟩ => ⟨S4096x512, .bf16⟩
  | .hbm, ⟨7, _⟩ => ⟨S4096x1024, .bf16⟩
  | .hbm, ⟨8, _⟩ => ⟨S1536x1024, .bf16⟩
  | .hbm, ⟨9, _⟩ => ⟨S2x6x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S1536x1024, .bf16⟩
  | .local _ .vmem, ⟨5, _⟩ => ⟨S512x1024, .f32⟩
  | .local _ .vmem, ⟨6, _⟩ => ⟨S512x1024, .f32⟩
  | .local _ .vmem, ⟨7, _⟩ => ⟨S1x6x1024, .f32⟩
  | .local _ .vmem, ⟨8, _⟩ => ⟨S1x6x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutFRefIdeal.lean ====
abbrev S4096x512 : Shape := ⟨2, ![4096, 512]⟩
abbrev S4096x1024 : Shape := ⟨2, ![4096, 1024]⟩
abbrev S1536x1024 : Shape := ⟨2, ![1536, 1024]⟩
abbrev S2x6144 : Shape := ⟨2, ![2, 6144]⟩
abbrev S1x1024 : Shape := ⟨2, ![1, 1024]⟩
abbrev S2x1x6144 : Shape := ⟨3, ![2, 1, 6144]⟩
abbrev S2x1x1024 : Shape := ⟨3, ![2, 1, 1024]⟩
abbrev S2x2048x512 : Shape := ⟨3, ![2, 2048, 512]⟩
abbrev S2x2048x1024 : Shape := ⟨3, ![2, 2048, 1024]⟩
abbrev S2x2048x1536 : Shape := ⟨3, ![2, 2048, 1536]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1536x1024, .f32⟩
  | .hbm, ⟨3, _⟩ => ⟨S4096x1024, .f32⟩
  | .hbm, ⟨4, _⟩ => ⟨S2x6144, .f32⟩
  | .hbm, ⟨5, _⟩ => ⟨S1x1024, .f32⟩
  | .hbm, ⟨6, _⟩ => ⟨S2x1x6144, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x2048x512, .f32⟩
  | .hbm, ⟨14, _⟩ => ⟨S2x2048x1024, .f32⟩
  | .hbm, ⟨15, _⟩ => ⟨S2x2048x1536, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S_, .f32⟩
  | .hbm, ⟨29, _⟩ => ⟨S2x2048x1, .f32⟩
  | .hbm, ⟨30, _⟩ => ⟨S2x2048x1, .f32⟩
  | .hbm, ⟨31, _⟩ => ⟨S2x2048x1, .f32⟩
  | .hbm, ⟨32, _⟩ => ⟨S2x2048x1024, .f32⟩
  | .hbm, ⟨33, _⟩ => ⟨S2x2048x1024, .f32⟩
  | .hbm, ⟨34, _⟩ => ⟨S1x1x1024, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | .hbm, ⟨47, _⟩ => ⟨S4096x1024, .f32⟩
  | .hbm, ⟨48, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== DownF.lean ====
abbrev S4096x4096 : Shape := ⟨2, ![4096, 4096]⟩
abbrev S4096x1024 : Shape := ⟨2, ![4096, 1024]⟩
abbrev S2x6144 : Shape := ⟨2, ![2, 6144]⟩
abbrev S1x1024 : Shape := ⟨2, ![1, 1024]⟩
abbrev S2x6x1024 : Shape := ⟨3, ![2, 6, 1024]⟩
abbrev S2x1x1024 : Shape := ⟨3, ![2, 1, 1024]⟩
abbrev S512x4096 : Shape := ⟨2, ![512, 4096]⟩
abbrev S512x1024 : Shape := ⟨2, ![512, 1024]⟩
abbrev S1x6x1024 : Shape := ⟨3, ![1, 6, 1024]⟩
abbrev S1x1x1024 : Shape := ⟨3, ![1, 1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S2x6144, .f32⟩
  | .hbm, ⟨4, _⟩ => ⟨S1x1024, .f32⟩
  | .hbm, ⟨5, _⟩ => ⟨S4096x1024, .f32⟩
  | .hbm, ⟨6, _⟩ => ⟨S4096x4096, .bf16⟩
  | .hbm, ⟨7, _⟩ => ⟨S4096x1024, .bf16⟩
  | .hbm, ⟨8, _⟩ => ⟨S2x6x1024, .f32⟩
  | .hbm, ⟨9, _⟩ => ⟨S4096x1024, .bf16⟩
  | .hbm, ⟨10, _⟩ => ⟨S4096x1024, .f32⟩
  | .hbm, ⟨11, _⟩ => ⟨S1x1024, .f32⟩
  | .hbm, ⟨12, _⟩ => ⟨S1x1024, .f32⟩
  | .hbm, ⟨13, _⟩ => ⟨S2x1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== DownFRefIdeal.lean ====
abbrev S4096x4096 : Shape := ⟨2, ![4096, 4096]⟩
abbrev S4096x1024 : Shape := ⟨2, ![4096, 1024]⟩
abbrev S2x6144 : Shape := ⟨2, ![2, 6144]⟩
abbrev S1x1024 : Shape := ⟨2, ![1, 1024]⟩
abbrev S2x1x6144 : Shape := ⟨3, ![2, 1, 6144]⟩
abbrev S2x1x1024 : Shape := ⟨3, ![2, 1, 1024]⟩
abbrev S2x2048x4096 : Shape := ⟨3, ![2, 2048, 4096]⟩
abbrev S_ : Shape := ⟨0, ![]⟩
abbrev S2x2048x1024 : Shape := ⟨3, ![2, 2048, 1024]⟩
abbrev S2x2048 : Shape := ⟨2, ![2, 2048]⟩
abbrev S2x2048x1 : Shape := ⟨3, ![2, 2048, 1]⟩
abbrev S1x1x1024 : Shape := ⟨3, ![1, 1, 1024]⟩
abbrev S1024 : Shape := ⟨1, ![1024]⟩
abbrev S2x1024 : Shape := ⟨2, ![2, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S2x6144, .f32⟩
  | .hbm, ⟨4, _⟩ => ⟨S1x1024, .f32⟩
  | .hbm, ⟨5, _⟩ => ⟨S4096x1024, .f32⟩
  | .hbm, ⟨6, _⟩ => ⟨S2x1x6144, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x2048x4096, .f32⟩
  | .hbm, ⟨14, _⟩ => ⟨S_, .f32⟩
  | .hbm, ⟨15, _⟩ => ⟨S2x2048x4096, .f32⟩
  | .hbm, ⟨16, _⟩ => ⟨S2x2048x4096, .f32⟩
  | .hbm, ⟨17, _⟩ => ⟨S2x2048x4096, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048, .f32⟩
  | .hbm, ⟨27, _⟩ => ⟨S2x2048x1, .f32⟩
  | .hbm, ⟨28, _⟩ => ⟨S_, .f32⟩
  | .hbm, ⟨29, _⟩ => ⟨S2x2048x1, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x1, .f32⟩
  | .hbm, ⟨35, _⟩ => ⟨S2x2048x1, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S1x1x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S_, .f32⟩
  | .hbm, ⟨47, _⟩ => ⟨S2x2048x1024, .f32⟩
  | .hbm, ⟨48, _⟩ => ⟨S2x2048x1024, .f32⟩
  | .hbm, ⟨49, _⟩ => ⟨S_, .f32⟩
  | .hbm, ⟨50, _⟩ => ⟨S2x2048, .f32⟩
  | .hbm, ⟨51, _⟩ => ⟨S_, .f32⟩
  | .hbm, ⟨52, _⟩ => ⟨S2x2048, .f32⟩
  | .hbm, ⟨53, _⟩ => ⟨S2x2048, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S2x2048, .f32⟩
  | .hbm, ⟨62, _⟩ => ⟨S_, .f32⟩
  | .hbm, ⟨63, _⟩ => ⟨S2x2048, .f32⟩
  | .hbm, ⟨64, _⟩ => ⟨S2x2048, .f32⟩
  | .hbm, ⟨65, _⟩ => ⟨S2x2048x1024, .f32⟩
  | .hbm, ⟨66, _⟩ => ⟨S2x2048x1024, .f32⟩
  | .hbm, ⟨67, _⟩ => ⟨S2x2048x1024, .f32⟩
  | .hbm, ⟨68, _⟩ => ⟨S_, .f32⟩
  | .hbm, ⟨69, _⟩ => ⟨S1024, .f32⟩
  | .hbm, ⟨70, _⟩ => ⟨S1x1x1024, .f32⟩
  | .hbm, ⟨71, _⟩ => ⟨S2x2048x1024, .f32⟩
  | .hbm, ⟨72, _⟩ => ⟨S2x2048x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S2x2048x1024, .f32⟩
  | .hbm, ⟨77, _⟩ => ⟨S_, .f32⟩
  | .hbm, ⟨78, _⟩ => ⟨S2x2048, .f32⟩
  | .hbm, ⟨79, _⟩ => ⟨S2x2048x1, .f32⟩
  | .hbm, ⟨80, _⟩ => ⟨S2x2048x1024, .f32⟩
  | .hbm, ⟨81, _⟩ => ⟨S2x2048x1024, .f32⟩
  | .hbm, ⟨82, _⟩ => ⟨S2x2048x1, .f32⟩
  | .hbm, ⟨83, _⟩ => ⟨S_, .f32⟩
  | .hbm, ⟨84, _⟩ => ⟨S2x2048x1, .f32⟩
  | .hbm, ⟨85, _⟩ => ⟨S2x2048x1, .f32⟩
  | .hbm, ⟨86, _⟩ => ⟨S_, .f32⟩
  | .hbm, ⟨87, _⟩ => ⟨S2x2048, .f32⟩
  | .hbm, ⟨88, _⟩ => ⟨S2x2048x1024, .f32⟩
  | .hbm, ⟨89, _⟩ => ⟨S2x2048x1024, .f32⟩
  | .hbm, ⟨90, _⟩ => ⟨S2x2048x1024, .f32⟩
  | .hbm, ⟨91, _⟩ => ⟨S2x2048x1024, .f32⟩
  | .hbm, ⟨92, _⟩ => ⟨S2x2048x1024, .f32⟩
  | .hbm, ⟨93, _⟩ => ⟨S2x2048x1024, .f32⟩
  | .hbm, ⟨94, _⟩ => ⟨S2x2048x1024, .f32⟩
  | .hbm, ⟨95, _⟩ => ⟨S2x2048x1024, .f32⟩
  | .hbm, ⟨96, _⟩ => ⟨S_, .f32⟩
  | .hbm, ⟨97, _⟩ => ⟨S2x1024, .f32⟩
  | .hbm, ⟨98, _⟩ => ⟨S2x1x1024, .f32⟩
  | .hbm, ⟨99, _⟩ => ⟨S4096x1024, .f32⟩
  | .hbm, ⟨100, _⟩ => ⟨S4096x1024, .bf16⟩
  | .hbm, ⟨101, _⟩ => ⟨S4096x1024, .f32⟩
  | .hbm, ⟨102, _⟩ => ⟨S_, .f32⟩
  | .hbm, ⟨103, _⟩ => ⟨S1024, .f32⟩
  | .hbm, ⟨104, _⟩ => ⟨S1x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_cst_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_17 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== InW.lean ====
abbrev S4096x1024 : Shape := ⟨2, ![4096, 1024]⟩
abbrev S1024x3088 : Shape := ⟨2, ![1024, 3088]⟩
abbrev S4096x512 : Shape := ⟨2, ![4096, 512]⟩
abbrev S4096x1536 : Shape := ⟨2, ![4096, 1536]⟩
abbrev S4096x16 : Shape := ⟨2, ![4096, 16]⟩
abbrev S_ : Shape := ⟨0, ![]⟩
abbrev S4096x112 : Shape := ⟨2, ![4096, 112]⟩
abbrev S4096x128 : Shape := ⟨2, ![4096, 128]⟩
abbrev S3200x1024 : Shape := ⟨2, ![3200, 1024]⟩
abbrev S512x1024 : Shape := ⟨2, ![512, 1024]⟩
abbrev S128x1024 : Shape := ⟨2, ![128, 1024]⟩

abbrev nBuf : Space → Nat
  | .hbm => 15
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S4096x512, .f32⟩
  | .hbm, ⟨3, _⟩ => ⟨S4096x1024, .f32⟩
  | .hbm, ⟨4, _⟩ => ⟨S4096x1536, .f32⟩
  | .hbm, ⟨5, _⟩ => ⟨S4096x16, .f32⟩
  | .hbm, ⟨6, _⟩ => ⟨S_, .f32⟩
  | .hbm, ⟨7, _⟩ => ⟨S4096x112, .f32⟩
  | .hbm, ⟨8, _⟩ => ⟨S4096x128, .f32⟩
  | .hbm, ⟨9, _⟩ => ⟨S4096x512, .bf16⟩
  | .hbm, ⟨10, _⟩ => ⟨S4096x1024, .bf16⟩
  | .hbm, ⟨11, _⟩ => ⟨S4096x1536, .bf16⟩
  | .hbm, ⟨12, _⟩ => ⟨S4096x128, .bf16⟩
  | .hbm, ⟨13, _⟩ => ⟨S4096x1024, .bf16⟩
  | .hbm, ⟨14, _⟩ => ⟨S3200x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x128, .bf16⟩
  | .local _ .vmem, ⟨6, _⟩ => ⟨S4096x1024, .bf16⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c3_i32 : BitVec 32 := 3#32
  let v4 : BitVec 1 := Scalar.cmpi .slt arg0 c3_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c3_i32_2 : BitVec 32 := 3#32
  let v8 : BitVec 1 := Scalar.cmpi .sge arg0 c3_i32_2
  let c6_i32 : BitVec 32 := 6#32
  let v9 : BitVec 1 := Scalar.cmpi .slt arg0 c6_i32
  let v10 : BitVec 1 := Scalar.andi v8 v9
  let v11 : BitVec 32 := Scalar.extui v10
  let c0_i32_3 : BitVec 32 := 0#32
  let v12 : BitVec 1 := Scalar.cmpi .ne v11 c0_i32_3
  v12

def k0_cond4 (i : grid0.Coords) : BitVec 1 :=
  let arg0 : BitVec 32 := BitVec.ofNat 32 (i 0).val
  let c6_i32_4 : BitVec 32 := 6#32
  let v13 : BitVec 1 := Scalar.cmpi .eq arg0 c6_i32_4
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c2_i32 : BitVec 32 := 2#32
  let v1 : BitVec 32 := Scalar.subi v0 c2_i32
  let c0_i32 : BitVec 32 := 0#32
  let c2_i32_0 : BitVec 32 := 2#32
  let v2 : BitVec 32 := Scalar.maxsi c0_i32 v1
  let v3 : BitVec 32 := Scalar.minsi c2_i32_0 v2
  let c0_i32_1 : BitVec 32 := 0#32
  let c0_i32_2 : BitVec 32 := 0#32
  ![c0_i32_1.toNat, v3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InWRefIdeal.lean ====
abbrev S4096x1024 : Shape := ⟨2, ![4096, 1024]⟩
abbrev S1024x3088 : Shape := ⟨2, ![1024, 3088]⟩
abbrev S4096x512 : Shape := ⟨2, ![4096, 512]⟩
abbrev S4096x1536 : Shape := ⟨2, ![4096, 1536]⟩
abbrev S4096x16 : Shape := ⟨2, ![4096, 16]⟩
abbrev S4096x3088 : Shape := ⟨2, ![4096, 3088]⟩
abbrev S_ : Shape := ⟨0, ![]⟩
abbrev S3088x1024 : Shape := ⟨2, ![3088, 1024]⟩
abbrev S112x1024 : Shape := ⟨2, ![112, 1024]⟩
abbrev S3200x1024 : Shape := ⟨2, ![3200, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S4096x512, .f32⟩
  | .hbm, ⟨3, _⟩ => ⟨S4096x1024, .f32⟩
  | .hbm, ⟨4, _⟩ => ⟨S4096x1536, .f32⟩
  | .hbm, ⟨5, _⟩ => ⟨S4096x16, .f32⟩
  | .hbm, ⟨6, _⟩ => ⟨S4096x3088, .f32⟩
  | .hbm, ⟨7, _⟩ => ⟨S4096x512, .f32⟩
  | .hbm, ⟨8, _⟩ => ⟨S4096x1024, .f32⟩
  | .hbm, ⟨9, _⟩ => ⟨S4096x1536, .f32⟩
  | .hbm, ⟨10, _⟩ => ⟨S4096x16, .f32⟩
  | .hbm, ⟨11, _⟩ => ⟨S_, .f32⟩
  | .hbm, ⟨12, _⟩ => ⟨S4096x3088, .f32⟩
  | .hbm, ⟨13, _⟩ => ⟨S_, .f32⟩
  | .hbm, ⟨14, _⟩ => ⟨S4096x3088, .f32⟩
  | .hbm, ⟨15, _⟩ => ⟨S4096x3088, .f32⟩
  | .hbm, ⟨16, _⟩ => ⟨S_, .f32⟩
  | .hbm, ⟨17, _⟩ => ⟨S4096x3088, .f32⟩
  | .hbm, ⟨18, _⟩ => ⟨S4096x3088, .f32⟩
  | .hbm, ⟨19, _⟩ => ⟨S_, .f32⟩
  | .hbm, ⟨20, _⟩ => ⟨S4096x3088, .f32⟩
  | .hbm, ⟨21, _⟩ => ⟨S4096x3088, .f32⟩
  | .hbm, ⟨22, _⟩ => ⟨S3088x1024, .f32⟩
  | .hbm, ⟨23, _⟩ => ⟨S1024x3088, .f32⟩
  | .hbm, ⟨24, _⟩ => ⟨S3088x1024, .f32⟩
  | .hbm, ⟨25, _⟩ => ⟨S_, .f32⟩
  | .hbm, ⟨26, _⟩ => ⟨S112x1024, .f32⟩
  | .hbm, ⟨27, _⟩ => ⟨S3200x1024, .f32⟩
  | .hbm, ⟨28, _⟩ => ⟨S3200x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Ada.lean ====
abbrev S16x1024 : Shape := ⟨2, ![16, 1024]⟩
abbrev S1024x1536 : Shape := ⟨2, ![1024, 1536]⟩
abbrev S1x1536 : Shape := ⟨2, ![1, 1536]⟩
abbrev S_ : Shape := ⟨0, ![]⟩
abbrev S8x128 : Shape := ⟨2, ![8, 128]⟩
abbrev S16x1536 : Shape := ⟨2, ![16, 1536]⟩
abbrev S1024x512 : Shape := ⟨2, ![1024, 512]⟩
abbrev S1x512 : Shape := ⟨2, ![1, 512]⟩
abbrev S16x512 : Shape := ⟨2, ![16, 512]⟩

abbrev nBuf : Space → Nat
  | .hbm => 7
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1x1536, .f32⟩
  | .hbm, ⟨3, _⟩ => ⟨S_, .f32⟩
  | .hbm, ⟨4, _⟩ => ⟨S8x128, .f32⟩
  | .hbm, ⟨5, _⟩ => ⟨S16x1536, .f32⟩
  | .hbm, ⟨6, _⟩ => ⟨S16x1024, .f32⟩
  | .local _ .vmem, ⟨0, _⟩ => ⟨S16x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S8x128, .f32⟩
  | .local _ .vmem, ⟨6, _⟩ => ⟨S16x512, .f32⟩
  | .local _ .vmem, ⟨7, _⟩ => ⟨S16x512, .f32⟩
  | .local _ .vmem, ⟨8, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== AdaRefIdeal.lean ====
abbrev S16x1024 : Shape := ⟨2, ![16, 1024]⟩
abbrev S1024x1536 : Shape := ⟨2, ![1024, 1536]⟩
abbrev S1x1536 : Shape := ⟨2, ![1, 1536]⟩
abbrev S_ : Shape := ⟨0, ![]⟩
abbrev S16x1536 : Shape := ⟨2, ![16, 1536]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1536, .f32⟩
  | .hbm, ⟨13, _⟩ => ⟨S16x1536, .f32⟩
  | .hbm, ⟨14, _⟩ => ⟨S16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== PoolF.lean ====
abbrev S4096x3200 : Shape := ⟨2, ![4096, 3200]⟩
abbrev S4x128x128 : Shape := ⟨3, ![4, 128, 128]⟩
abbrev S1x512 : Shape := ⟨2, ![1, 512]⟩
abbrev S_ : Shape := ⟨0, ![]⟩
abbrev S8x128 : Shape := ⟨2, ![8, 128]⟩
abbrev S4096x512 : Shape := ⟨2, ![4096, 512]⟩
abbrev S1024x512 : Shape := ⟨2, ![1024, 512]⟩
abbrev S16x512 : Shape := ⟨2, ![16, 512]⟩
abbrev S1040x512 : Shape := ⟨2, ![1040, 512]⟩
abbrev S1024x1 : Shape := ⟨2, ![1024, 1]⟩
abbrev S1040x128 : Shape := ⟨2, ![1040, 128]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 7
  | .vmem => 11
  | .smem => 0
  | _ => 0

abbrev bufTy : (tb : Table) → Fin (tcTables nBuf tb) → BufTy
  | .hbm, ⟨0, _⟩ => ⟨S4096x3200, .f32⟩
  | .hbm, ⟨1, _⟩ => ⟨S4x128x128, .f32⟩
  | .hbm, ⟨2, _⟩ => ⟨S1x512, .f32⟩
  | .hbm, ⟨3, _⟩ => ⟨S_, .f32⟩
  | .hbm, ⟨4, _⟩ => ⟨S8x128, .f32⟩
  | .hbm, ⟨5, _⟩ => ⟨S4096x512, .bf16⟩
  | .hbm, ⟨6, _⟩ => ⟨S4096x512, .bf16⟩
  | .local _ .vmem, ⟨0, _⟩ => ⟨S1024x512, .f32⟩
  | .local _ .vmem, ⟨1, _⟩ => ⟨S1024x512, .f32⟩
  | .local _ .vmem, ⟨2, _⟩ => ⟨S16x512, .f32⟩
  | .local _ .vmem, ⟨3, _⟩ => ⟨S16x512, .f32⟩
  | .local _ .vmem, ⟨4, _⟩ => ⟨S4x128x128, .f32⟩
  | .local _ .vmem, ⟨5, _⟩ => ⟨S1x512, .f32⟩
  | .local _ .vmem, ⟨6, _⟩ => ⟨S8x128, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PoolFRefIdeal.lean ====
abbrev S4096x3200 : Shape := ⟨2, ![4096, 3200]⟩
abbrev S4x128x128 : Shape := ⟨3, ![4, 128, 128]⟩
abbrev S1x512 : Shape := ⟨2, ![1, 512]⟩
abbrev S4096x512 : Shape := ⟨2, ![4096, 512]⟩
abbrev S2x2048x512 : Shape := ⟨3, ![2, 2048, 512]⟩
abbrev S_ : Shape := ⟨0, ![]⟩
abbrev S2048 : Shape := ⟨1, ![2048]⟩
abbrev S1x2048x1 : Shape := ⟨3, ![1, 2048, 1]⟩
abbrev S2x2048x128 : Shape := ⟨3, ![2, 2048, 128]⟩
abbrev S2x2x128 : Shape := ⟨3, ![2, 2, 128]⟩
abbrev S2x2046x128 : Shape := ⟨3, ![2, 2046, 128]⟩
abbrev S2x4x128 : Shape := ⟨3, ![2, 4, 128]⟩
abbrev S2x2044x128 : Shape := ⟨3, ![2, 2044, 128]⟩
abbrev S2x8x128 : Shape := ⟨3, ![2, 8, 128]⟩
abbrev S2x2040x128 : Shape := ⟨3, ![2, 2040, 128]⟩
abbrev S2x16x128 : Shape := ⟨3, ![2, 16, 128]⟩
abbrev S2x2032x128 : Shape := ⟨3, ![2, 2032, 128]⟩
abbrev S2x2048x1x128 : Shape := ⟨4, ![2, 2048, 1, 128]⟩
abbrev S2x2048x4x128 : Shape := ⟨4, ![2, 2048, 4, 128]⟩
abbrev S4x128x2x2048 : Shape := ⟨4, ![4, 128, 2, 2048]⟩
abbrev S1x1x512 : Shape := ⟨3, ![1, 1, 512]⟩

abbrev nBuf : Space → Nat
  | .hbm => 80
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S4x128x128, .f32⟩
  | .hbm, ⟨2, _⟩ => ⟨S1x512, .f32⟩
  | .hbm, ⟨3, _⟩ => ⟨S4096x512, .f32⟩
  | .hbm, ⟨4, _⟩ => ⟨S2x2048x512, .f32⟩
  | .hbm, ⟨5, _⟩ => ⟨S_, .f32⟩
  | .hbm, ⟨6, _⟩ => ⟨S_, .f32⟩
  | .hbm, ⟨7, _⟩ => ⟨S2x2048x512, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S1x2048x1, .f32⟩
  | .hbm, ⟨13, _⟩ => ⟨S2x2048x128, .f32⟩
  | .hbm, ⟨14, _⟩ => ⟨S_, .f32⟩
  | .hbm, ⟨15, _⟩ => ⟨S2x2x128, .f32⟩
  | .hbm, ⟨16, _⟩ => ⟨S2x2046x128, .f32⟩
  | .hbm, ⟨17, _⟩ => ⟨S2x2048x128, .f32⟩
  | .hbm, ⟨18, _⟩ => ⟨S2x2048x128, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S2x2048x128, .f32⟩
  | .hbm, ⟨23, _⟩ => ⟨S2x2048x128, .f32⟩
  | .hbm, ⟨24, _⟩ => ⟨S2x2048x128, .f32⟩
  | .hbm, ⟨25, _⟩ => ⟨S2x2048x128, .f32⟩
  | .hbm, ⟨26, _⟩ => ⟨S2x2048x128, .f32⟩
  | .hbm, ⟨27, _⟩ => ⟨S_, .f32⟩
  | .hbm, ⟨28, _⟩ => ⟨S2x4x128, .f32⟩
  | .hbm, ⟨29, _⟩ => ⟨S2x2044x128, .f32⟩
  | .hbm, ⟨30, _⟩ => ⟨S2x2048x128, .f32⟩
  | .hbm, ⟨31, _⟩ => ⟨S2x2048x128, .f32⟩
  | .hbm, ⟨32, _⟩ => ⟨S_, .f32⟩
  | .hbm, ⟨33, _⟩ => ⟨S1x2048x1, .f32⟩
  | .hbm, ⟨34, _⟩ => ⟨S1x2048x1, .f32⟩
  | .hbm, ⟨35, _⟩ => ⟨S2x2048x128, .f32⟩
  | .hbm, ⟨36, _⟩ => ⟨S2x2048x128, .f32⟩
  | .hbm, ⟨37, _⟩ => ⟨S2x2048x128, .f32⟩
  | .hbm, ⟨38, _⟩ => ⟨S2x2048x128, .f32⟩
  | .hbm, ⟨39, _⟩ => ⟨S2x2048x128, .f32⟩
  | .hbm, ⟨40, _⟩ => ⟨S_, .f32⟩
  | .hbm, ⟨41, _⟩ => ⟨S2x8x128, .f32⟩
  | .hbm, ⟨42, _⟩ => ⟨S2x2040x128, .f32⟩
  | .hbm, ⟨43, _⟩ => ⟨S2x2048x128, .f32⟩
  | .hbm, ⟨44, _⟩ => ⟨S2x2048x128, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S2x2048x128, .f32⟩
  | .hbm, ⟨49, _⟩ => ⟨S2x2048x128, .f32⟩
  | .hbm, ⟨50, _⟩ => ⟨S2x2048x128, .f32⟩
  | .hbm, ⟨51, _⟩ => ⟨S2x2048x128, .f32⟩
  | .hbm, ⟨52, _⟩ => ⟨S2x2048x128, .f32⟩
  | .hbm, ⟨53, _⟩ => ⟨S_, .f32⟩
  | .hbm, ⟨54, _⟩ => ⟨S2x16x128, .f32⟩
  | .hbm, ⟨55, _⟩ => ⟨S2x2032x128, .f32⟩
  | .hbm, ⟨56, _⟩ => ⟨S2x2048x128, .f32⟩
  | .hbm, ⟨57, _⟩ => ⟨S2x2048x128, .f32⟩
  | .hbm, ⟨58, _⟩ => ⟨S_, .f32⟩
  | .hbm, ⟨59, _⟩ => ⟨S1x2048x1, .f32⟩
  | .hbm, ⟨60, _⟩ => ⟨S1x2048x1, .f32⟩
  | .hbm, ⟨61, _⟩ => ⟨S2x2048x128, .f32⟩
  | .hbm, ⟨62, _⟩ => ⟨S2x2048x128, .f32⟩
  | .hbm, ⟨63, _⟩ => ⟨S2x2048x128, .f32⟩
  | .hbm, ⟨64, _⟩ => ⟨S2x2048x128, .f32⟩
  | .hbm, ⟨65, _⟩ => ⟨S2x2048x1x128, .f32⟩
  | .hbm, ⟨66, _⟩ => ⟨S2x2048x1x128, .f32⟩
  | .hbm, ⟨67, _⟩ => ⟨S2x2048x1x128, .f32⟩
  | .hbm, ⟨68, _⟩ => ⟨S2x2048x1x128, .f32⟩
  | .hbm, ⟨69, _⟩ => ⟨S2x2048x4x128, .f32⟩
  | .hbm, ⟨70, _⟩ => ⟨S4x128x2x2048, .f32⟩
  | .hbm, ⟨71, _⟩ => ⟨S2x2048x4x128, .f32⟩
  | .hbm, ⟨72, _⟩ => ⟨S2x2048x512, .f32⟩
  | .hbm, ⟨73, _⟩ => ⟨S1x1x512, .f32⟩
  | .hbm, ⟨74, _⟩ => ⟨S2x2048x512, .f32⟩
  | .hbm, ⟨75, _⟩ => ⟨S2x2048x512, .f32⟩
  | .hbm, ⟨76, _⟩ => ⟨S4096x512, .f32⟩
  | .hbm, ⟨77, _⟩ => ⟨S4096x512, .bf16⟩
  | .hbm, ⟨78, _⟩ => ⟨S4096x512, .f32⟩
  | .hbm, ⟨79, _⟩ => ⟨S4096x512, .bf16⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== Proof.DownXValue.lean ====
/- The value of `mlp_down_bwd`: the array the kernel leaves is the reference's gradient of the activations. -/
module

public import proofs.«01_k».proof.Proof.Gen.DownXIdeal.Frame
public import proofs.«01_k».proof.Proof.Gen.DownXRefIdeal
public import Idealize.ShloMosaic.Lib.Pipeline.ValueKit
public import Idealize.ShloMosaic.Lib.Claim
public import Idealize.ShloMosaic.Lib.Pointwise

@[expose] public section

set_option maxRecDepth 16384

noncomputable section

namespace Cert.DownXIdeal.Value

open Idealize.ShloMosaic Idealize.ShloMosaic.TcCoe Idealize.SL.Sem
open Idealize.ShloMosaic.Pipeline (Dat)
open scoped BigOperators
open Cert.DownXIdeal Cert.DownXIdeal.Gen

variable (m : (ℓ : Loc nD τ sig) → Buf (Elt Ideal) ℓ)

/-- The gradient of `relu(a)² @ w` with respect to `a`: the product of the cotangent with the weights, doubled
and multiplied by `relu(a)`, and zero where `a` is not positive. -/
abbrev gradA (a : FVec Ideal Cert.DownXRefIdeal.S4096x4096 .f32) (w g : FVec Ideal Cert.DownXRefIdeal.S4096x1024 .f32) :
    FVec Ideal Cert.DownXRefIdeal.S4096x4096 .bf16 :=
  truncf .bf16 (select
    (cmpf .ogt a (broadcastInDim Cert.DownXRefIdeal.S4096x4096 ![] Cert.DownXRefIdeal.Gen.bcast_S_S4096x4096 (constant Cert.DownXRefIdeal.S_ .f32 0x00000000#32)))
    (mulf (Host.dotGeneral Cert.DownXRefIdeal.dot_S4096x1024_S4096x1024_S4096x4096_1_1_0_0_n_n none g w)
      (mulf (broadcastInDim Cert.DownXRefIdeal.S4096x4096 ![] Cert.DownXRefIdeal.Gen.bcast_S_S4096x4096 (constant Cert.DownXRefIdeal.S_ .f32 0x40000000#32))
        (maximumf a (broadcastInDim Cert.DownXRefIdeal.S4096x4096 ![] Cert.DownXRefIdeal.Gen.bcast_S_S4096x4096 (constant Cert.DownXRefIdeal.S_ .f32 0x00000000#32)))))
    (broadcastInDim Cert.DownXRefIdeal.S4096x4096 ![] Cert.DownXRefIdeal.Gen.bcast_S_S4096x4096 (constant Cert.DownXRefIdeal.S_ .f32 0x00000000#32)))
    Cert.DownXRefIdeal.Gen.bitsLt_bf16_f32

theorem idx : ∀ t : Fin cfg0.N, win0_0.index t = ![t.val / 4, 0] ∧ win0_1.index t = ![0, 0, 0]
    ∧ win0_2.index t = ![t.val / 4, t.val % 4] ∧ win0_4.index t = ![t.val / 4, t.val % 4]
    ∧ k0_off1 (grid0.coords t) = ![t.val % 4, 0, 0] := (by decide +kernel : ∀ t : Fin grid0.N, _)

/-- The weights, read from four slabs of 1024 rows. -/
theorem weights (c : Dev nD) (t : Fin cfg0.N) (i : Fin 4) (j k : Fin 1024) : iblk m c 1 t (ix3 i j k)
    = m ((c : Thread nD τ).loc main_arg1) (ix2 ⟨i.val * 1024 + j.val, by omega⟩ k) := by
  have e : iblk m c 1 t (ix3 i j k) = V m c main_v1 (ix3 i j k) := by blk_ext [iblk, idx t]
  rw [e]
  entry_read
  pointwise

set_option maxHeartbeats 800000 in
theorem point (c : Dev nD) (t : Fin cfg0.N) (y) :
    k0_pay1 (iblk m c 0 t) (View.ld (iblk m c 1 t) (Rect.unit (s := S4x1024x1024) (k0_off1 (grid0.coords t)) S1x1024x1024.size (k0_off1_inb (grid0.coords t)))) (iblk m c 2 t) y
      = gradA (m ((c : Thread nD τ).loc main_arg0)) (m ((c : Thread nD τ).loc main_arg1)) (m ((c : Thread nD τ).loc main_arg2))
        (((cfg0.win 4).blk t).view.emb y) := by
  pointwise [k0_pay1, gradA]
  simp only [weights]
  have e : iblk m c 2 t y = m ((c : Thread nD τ).loc main_arg0) (((View.whole main_v5).slice ((win0 4).rect t)).emb y) := by
    blk_ext [iblk, V, idx t]
  rw [e]
  generalize m ((c : Thread nD τ).loc main_arg0) (((View.whole main_v5).slice ((win0 4).rect t)).emb y) = a
  split
  · blk_point [iblk, V, idx t]
  · rw [max_eq_right (not_lt.mp ‹_›)]
    exact (congrArg _ (mul_zero _)).trans (mul_zero _)

set_option maxHeartbeats 400000 in
theorem final (c : Dev nD) : (dats m 0 c).arrAt 4 (cfgs 0).N
    = gradA (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  simp only [outsAt0]
  frame_out
  exact point m c t y

end Cert.DownXIdeal.Value

end
-- ==== Proof.DownWValue.lean ====
/- The value of `grad_w_down`: the array the kernel leaves is the reference's gradient of the second weight matrix. -/
module

public import proofs.«01_k».proof.Proof.Gen.DownWIdeal.Frame
public import proofs.«01_k».proof.Proof.Gen.DownWRefIdeal
public import Idealize.ShloMosaic.Lib.Pipeline.ValueKit
public import Idealize.ShloMosaic.Lib.Claim
public import Idealize.ShloMosaic.Lib.Pointwise

@[expose] public section

set_option maxRecDepth 16384

noncomputable section

namespace Cert.DownWIdeal.Value

open Idealize.ShloMosaic Idealize.ShloMosaic.TcCoe Idealize.SL.Sem
open Idealize.ShloMosaic.Pipeline (Dat)
open scoped BigOperators
open Cert.DownWIdeal Cert.DownWIdeal.Gen

variable (m : (ℓ : Loc nD τ sig) → Buf (Elt Ideal) ℓ)

/-- The gradient of `relu(a)² @ w` with respect to `w`: the squares times the cotangent, summed over the tokens. -/
abbrev gradW (a : FVec Ideal Cert.DownWRefIdeal.S4096x4096 .f32) (g : FVec Ideal Cert.DownWRefIdeal.S4096x1024 .f32) :
    FVec Ideal Cert.DownWRefIdeal.S4096x1024 .bf16 :=
  truncf .bf16 (transpose Cert.DownWRefIdeal.S4096x1024 [1, 0]
    (Host.dotGeneral Cert.DownWRefIdeal.dot_S4096x1024_S4096x4096_S1024x4096_0_0_1_1_n_n none g
      (mulf (maximumf a (broadcastInDim Cert.DownWRefIdeal.S4096x4096 ![] Cert.DownWRefIdeal.Gen.bcast_S_S4096x4096 (constant Cert.DownWRefIdeal.S_ .f32 0x00000000#32)))
        (maximumf a (broadcastInDim Cert.DownWRefIdeal.S4096x4096 ![] Cert.DownWRefIdeal.Gen.bcast_S_S4096x4096 (constant Cert.DownWRefIdeal.S_ .f32 0x00000000#32)))))
    Cert.DownWRefIdeal.Gen.transposes_S1024x4096_S4096x1024_1_0) Cert.DownWRefIdeal.Gen.bitsLt_bf16_f32

theorem idx : ∀ t : Fin cfg0.N, win0_0.index t = ![0, t.val] ∧ win0_1.index t = ![0, 0] ∧ win0_2.index t = ![t.val, 0] :=
  (by decide +kernel : ∀ t : Fin grid0.N, _)

theorem point (c : Dev nD) (t : Fin cfg0.N) (y) :
    k0_pay1 (iblk m c 0 t) (iblk m c 1 t) y
      = gradW (m ((c : Thread nD τ).loc main_arg0)) (m ((c : Thread nD τ).loc main_arg2)) (((cfg0.win 2).blk t).view.emb y) := by
  pointwise [k0_pay1, gradW]
  refine (Finset.sum_congr rfl fun k _ => mul_comm _ _).trans ?_
  blk_point [iblk, V, idx t]

theorem final (c : Dev nD) : (dats m 0 c).arrAt 2 (cfgs 0).N
    = gradW (m ((c : Thread nD τ).loc main_arg0)) (m ((c : Thread nD τ).loc main_arg2)) := by
  refine (dats m 0 c).arrAt_eq_of_covers 2 _ (by decide +kernel) fun t hf y => ?_
  blk_simp
  rw [after0_2]
  frame_out
  exact point m c t y

end Cert.DownWIdeal.Value

end
-- ==== Proof.UpWValue.lean ====
/- The value of `grad_w_up`: the array the kernel leaves is the reference's gradient of the first weight matrix, in four slabs. -/
module

public import proofs.«01_k».proof.Proof.Gen.UpWIdeal.Frame
public import proofs.«01_k».proof.Proof.Gen.UpWRefIdeal
public import Idealize.ShloMosaic.Lib.Pipeline.ValueKit
public import Idealize.ShloMosaic.Lib.Claim
public import Idealize.ShloMosaic.Lib.Pointwise

@[expose] public section

set_option maxRecDepth 16384

noncomputable section

namespace Cert.UpWIdeal.Value

open Idealize.ShloMosaic Idealize.ShloMosaic.TcCoe Idealize.SL.Sem
open Idealize.ShloMosaic.Pipeline (Dat)
open scoped BigOperators
open Cert.UpWIdeal Cert.UpWIdeal.Gen

variable (m : (ℓ : Loc nD τ sig) → Buf (Elt Ideal) ℓ)

/-- The gradient of `u @ w` with respect to `w`, its columns in four slabs of 1024. -/
abbrev gradW (u : FVec Ideal Cert.UpWRefIdeal.S4096x1024 .f32) (g : FVec Ideal Cert.UpWRefIdeal.S4096x4096 .f32) :
    FVec Ideal Cert.UpWRefIdeal.S4x1024x1024 .bf16 :=
  truncf .bf16 (transpose Cert.UpWRefIdeal.S4x1024x1024 [1, 0, 2]
    (shapeCast Cert.UpWRefIdeal.S1024x4x1024 (transpose Cert.UpWRefIdeal.S1024x4096 [1, 0]
      (Host.dotGeneral Cert.UpWRefIdeal.dot_S4096x4096_S4096x1024_S4096x1024_0_0_1_1_n_n none g u)
      Cert.UpWRefIdeal.Gen.transposes_S4096x1024_S1024x4096_1_0) Cert.UpWRefIdeal.Gen.shapeCasts_S1024x4096_S1024x4x1024)
    Cert.UpWRefIdeal.Gen.transposes_S1024x4x1024_S4x1024x1024_1_0_2) Cert.UpWRefIdeal.Gen.bitsLt_bf16_f32

theorem idx : ∀ t : Fin cfg0.N, win0_0.index t = ![0, t.val % 2] ∧ win0_1.index t = ![0, t.val / 2]
    ∧ win0_2.index t = ![t.val / 2, t.val % 2, 0] := (by decide +kernel : ∀ t : Fin grid0.N, _)

theorem point (c : Dev nD) (t : Fin cfg0.N) (y) :
    k0_pay1 (iblk m c 0 t) (iblk m c 1 t) y
      = gradW (m ((c : Thread nD τ).loc main_arg0)) (m ((c : Thread nD τ).loc main_arg2)) (((cfg0.win 2).blk t).view.emb y) := by
  pointwise [k0_pay1, gradW]
  refine (Finset.sum_congr rfl fun k _ => mul_comm _ _).trans ?_
  blk_point [iblk, V, idx t]

theorem final (c : Dev nD) : (dats m 0 c).arrAt 2 (cfgs 0).N
    = gradW (m ((c : Thread nD τ).loc main_arg0)) (m ((c : Thread nD τ).loc main_arg2)) := by
  refine (dats m 0 c).arrAt_eq_of_covers 2 _ (by decide +kernel) fun t hf y => ?_
  blk_simp
  rw [after0_2]
  frame_out
  exact point m c t y

end Cert.UpWIdeal.Value

end
-- ==== Proof.OutXValue.lean ====
/- The values of `out_proj_bwd`: the two arrays the kernel leaves are the reference's gradients of the two halves of the input. -/
module

public import proofs.«01_k».proof.Proof.Gen.OutXIdeal.Frame
public import proofs.«01_k».proof.Proof.Gen.OutXRefIdeal
public import Idealize.ShloMosaic.Lib.Pipeline.ValueKit
public import Idealize.ShloMosaic.Lib.Claim
public import Idealize.ShloMosaic.Lib.Pointwise

@[expose] public section

set_option maxRecDepth 16384

noncomputable section

namespace Cert.OutXIdeal.Value

open Idealize.ShloMosaic Idealize.ShloMosaic.TcCoe Idealize.SL.Sem
open Idealize.ShloMosaic.Pipeline (Dat)
open scoped BigOperators
open Cert.OutXIdeal Cert.OutXIdeal.Gen

variable (m : (ℓ : Loc nD τ sig) → Buf (Elt Ideal) ℓ)

/-- The gradient of `concat(p, s) @ w` with respect to the concatenation. -/
abbrev gradY (w : FVec Ideal Cert.OutXRefIdeal.S1536x1024 .f32) (g : FVec Ideal Cert.OutXRefIdeal.S4096x1024 .f32) :
    FVec Ideal Cert.OutXRefIdeal.S4096x1536 .f32 :=
  Host.dotGeneral Cert.OutXRefIdeal.dot_S4096x1024_S1536x1024_S4096x1536_1_1_0_0_n_n none g w

/-- Its first 512 columns: the gradient of the pooled part. -/
abbrev gradP (w : FVec Ideal Cert.OutXRefIdeal.S1536x1024 .f32) (g : FVec Ideal Cert.OutXRefIdeal.S4096x1024 .f32) :
    FVec Ideal Cert.OutXRefIdeal.S4096x512 .f32 :=
  extractStridedSlice Cert.OutXRefIdeal.S4096x512 ![0, 0] (gradY w g) Cert.OutXRefIdeal.Gen.slices_S4096x1536_S4096x512_0_0

/-- Its other 1024 columns: the gradient of the state-space part. -/
abbrev gradS (w : FVec Ideal Cert.OutXRefIdeal.S1536x1024 .f32) (g : FVec Ideal Cert.OutXRefIdeal.S4096x1024 .f32) :
    FVec Ideal Cert.OutXRefIdeal.S4096x1024 .f32 :=
  extractStridedSlice Cert.OutXRefIdeal.S4096x1024 ![0, 512] (gradY w g) Cert.OutXRefIdeal.Gen.slices_S4096x1536_S4096x1024_0_512

theorem idx : ∀ t : Fin cfg0.N, win0_0.index t = ![t.val, 0] ∧ win0_1.index t = ![0, 0] ∧ win0_3.index t = ![t.val, 0]
    ∧ win0_4.index t = ![t.val, 0] := (by decide +kernel : ∀ t : Fin grid0.N, _)

theorem final_p (c : Dev nD) : (dats m 0 c).arrAt 3 (cfgs 0).N
    = gradP (m ((c : Thread nD τ).loc main_arg2)) (m ((c : Thread nD τ).loc main_arg3)) := by
  refine (dats m 0 c).arrAt_eq_of_covers 3 _ (by decide +kernel) fun t hf y => ?_
  blk_simp
  rw [after0_3]
  frame_out
  pointwise [k0_pay2, k0_pay1, gradP, gradY]
  blk_point [iblk, V, idx t]

theorem final_s (c : Dev nD) : (dats m 0 c).arrAt 4 (cfgs 0).N
    = gradS (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay3, k0_pay1, gradS, gradY]
  blk_point [iblk, V, idx t]

end Cert.OutXIdeal.Value

end
-- ==== Proof.OutWValue.lean ====
/- The value of `grad_w_out`: the array the kernel leaves is the reference's gradient of the output weights. -/
module

public import proofs.«01_k».proof.Proof.Gen.OutWIdeal.Frame
public import proofs.«01_k».proof.Proof.Gen.OutWRefIdeal
public import Idealize.ShloMosaic.Lib.Pipeline.ValueKit
public import Idealize.ShloMosaic.Lib.Claim
public import Idealize.ShloMosaic.Lib.Pointwise

@[expose] public section

set_option maxRecDepth 16384

noncomputable section

namespace Cert.OutWIdeal.Value

open Idealize.ShloMosaic Idealize.ShloMosaic.TcCoe Idealize.SL.Sem
open Idealize.ShloMosaic.Pipeline (Dat)
open scoped BigOperators
open Cert.OutWIdeal Cert.OutWIdeal.Gen

variable (m : (ℓ : Loc nD τ sig) → Buf (Elt Ideal) ℓ)

/-- The gradient of `concat(p, s) @ w` with respect to `w`. -/
abbrev gradW (p : FVec Ideal Cert.OutWRefIdeal.S4096x512 .f32) (s g : FVec Ideal Cert.OutWRefIdeal.S4096x1024 .f32) :
    FVec Ideal Cert.OutWRefIdeal.S1536x1024 .bf16 :=
  truncf .bf16 (transpose Cert.OutWRefIdeal.S1536x1024 [1, 0]
    (Host.dotGeneral Cert.OutWRefIdeal.dot_S4096x1024_S4096x1536_S1024x1536_0_0_1_1_n_n none g
      (concatenate Cert.OutWRefIdeal.S4096x1536 1 [⟨Cert.OutWRefIdeal.S4096x512, p⟩, ⟨Cert.OutWRefIdeal.S4096x1024, s⟩]
        Cert.OutWRefIdeal.Gen.concatenates_S4096x512_S4096x1024_S4096x1536_d1))
    Cert.OutWRefIdeal.Gen.transposes_S1024x1536_S1536x1024_1_0) Cert.OutWRefIdeal.Gen.bitsLt_bf16_f32

theorem idx : ∀ t : Fin cfg0.N, win0_0.index t = ![0, 0] ∧ win0_1.index t = ![0, t.val - 1] ∧ win0_2.index t = ![0, 0]
    ∧ win0_3.index t = ![t.val, 0] := (by decide +kernel : ∀ t : Fin grid0.N, _)

/-- The first block: the rows of the pooled half. -/
theorem point_p (c : Dev nD) (t : Fin cfg0.N) (h : t.val % 3 = 0) (y) :
    k0_pay1 (iblk m c 0 t) (iblk m c 2 t) y
      = gradW (m ((c : Thread nD τ).loc main_arg0)) (m ((c : Thread nD τ).loc main_arg1)) (m ((c : Thread nD τ).loc main_arg3)) (((cfg0.win 3).blk t).view.emb y) := by
  pointwise [k0_pay1, gradW]
  refine (Finset.sum_congr rfl fun k _ => mul_comm _ _).trans ?_
  blk_point [iblk, V, idx t]
  rename_i hn _ _
  blk_simp [idx t] at hn
  omega

/-- The other blocks: the rows of the state-space half. -/
theorem point_s (c : Dev nD) (t : Fin cfg0.N) (h : ¬t.val % 3 = 0) (y) :
    k0_pay2 (iblk m c 1 t) (iblk m c 2 t) y
      = gradW (m ((c : Thread nD τ).loc main_arg0)) (m ((c : Thread nD τ).loc main_arg1)) (m ((c : Thread nD τ).loc main_arg3)) (((cfg0.win 3).blk t).view.emb y) := by
  pointwise [k0_pay2, gradW]
  refine (Finset.sum_congr rfl fun k _ => mul_comm _ _).trans ?_
  blk_point [iblk, V, idx t]
  rename_i hn _ _
  blk_simp [idx t] at hn
  omega

theorem final (c : Dev nD) : (dats m 0 c).arrAt 3 (cfgs 0).N
    = gradW (m ((c : Thread nD τ).loc main_arg0)) (m ((c : Thread nD τ).loc main_arg1)) (m ((c : Thread nD τ).loc main_arg3)) := by
  refine (dats m 0 c).arrAt_eq_of_covers 3 _ (by decide +kernel) fun t hf y => ?_
  have hN : t.val < 3 := lt_of_lt_of_eq t.isLt (show cfg0.N = 3 from N_0)
  blk_simp
  rw [after0_3]
  by_cases h : t.val % 3 = 0
  · rw [outsAt0_A m c t h (by omega)]
    frame_out
    exact point_p m c t h y
  · rw [outsAt0_B m c t h (by omega)]
    frame_out
    exact point_s m c t h y

end Cert.OutWIdeal.Value

end
-- ==== Proof.Reals.lean ====
/- Sums and elements over the extended reals. -/
module

public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open scoped BigOperators

namespace Cert.Reals

/-- A sum over the first two axes. -/
theorem sum_two {n0 n1 n2 : ℕ} (h : (⟨3, ![n0, n1, n2]⟩ : Shape).ReducesTo [0, 1] ⟨1, ![n2]⟩)
    (v : (⟨3, ![n0, n1, n2]⟩ : Shape).Idx → EReal) (init : EReal) (c : Fin n2) :
    Ideal.hostReduceAdd h v init (ix1 c) = init + ∑ a : Fin n0, ∑ b : Fin n1, v (ix3 a b c) := by
  refine congrArg (init + ·) ((Finset.sum_filter_eq_sum_of_fiber _ (fun k : Fin n0 × Fin n1 => ix3 k.1 k.2 c)
    (fun a b e => Prod.ext (congrFun e 0) (congrFun e 1)) (fun i => ?_) v).trans (Fintype.sum_prod_type _))
  constructor
  · intro e
    refine ⟨(i 0, i 1), ?_⟩
    funext a
    apply Fin.ext
    match a with
    | ⟨0, _⟩ => rfl
    | ⟨1, _⟩ => rfl
    | ⟨2, _⟩ => exact congrArg Fin.val (congrFun e.symm 0)
  · rintro ⟨k, rfl⟩
    funext b
    match b with
    | ⟨0, _⟩ => rfl

/-- A sum of real terms is the real sum. -/
theorem sum_coe {ι : Type} (s : Finset ι) (f : ι → EReal) (h : ι → ℝ) (e : ∀ i, f i = (h i : EReal)) :
    ∑ i ∈ s, f i = ((∑ i ∈ s, h i : ℝ) : EReal) := by
  classical
  induction s using Finset.induction_on with
  | empty => simp
  | insert a s ha ih => rw [Finset.sum_insert ha, Finset.sum_insert ha, ih, e, EReal.coe_add]

/-- The quotient by a real other than zero. -/
theorem div_coe (a b : ℝ) (h : b ≠ 0) : Ideal.div (a : EReal) (b : EReal) = ((a / b : ℝ) : EReal) := by
  rw [Ideal.div, if_neg (by exact_mod_cast h), EReal.coe_div]; rfl

/-- The reciprocal square root of a positive real. -/
theorem rsqrt_coe (a : ℝ) (h : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr h.le), if_neg h.ne']

/-- The bound of a precondition is the infinity. -/
theorem bound_top : Ideal.ofBits .f32 0x7F800000#32 = ⊤ := by
  simp [Ideal.ofBits, Ideal.ieee]

/-- An element below the infinity in absolute value is real. -/
theorem real_of_bit {s : Shape} (v : FVec Ideal s .f32) (h : (⟨0, ![]⟩ : Shape).BroadcastsInDim s (![] : Fin 0 → Fin s.rank))
    (e : cmpf .olt (Host.absf v) (broadcastInDim s ![] h (constant ⟨0, ![]⟩ .f32 0x7F800000#32)) = fun _ => 1#1) (y : s.Idx) :
    ∃ r : ℝ, v y = (r : EReal) := by
  replace e := congrFun e y
  pointwise at e
  rw [bound_top] at e
  have hlt : max (v y) (-(v y)) < ⊤ := by
    by_contra hn
    rw [show decide (FloatOps.absf (v y) < (⊤ : EReal)) = false from decide_eq_false hn] at e
    exact absurd e (by decide)
  obtain ⟨h1, h2⟩ := max_lt_iff.mp hlt
  have hb : v y ≠ ⊥ := fun hv => by rw [hv] at h2; exact absurd h2 (by simp)
  exact ⟨(v y).toReal, (EReal.coe_toReal h1.ne hb).symm⟩

/-- The length of a row of the norm, the norm's small constant, and minus a half. -/
theorem word_1024 : Ideal.ofBits FTy.f32 0x44800000#32 = ((1024 : ℝ) : EReal) := by
  simp [Ideal.ofBits, Ideal.ieee, -EReal.coe_mul]; norm_num

theorem word_eps : ∃ e : ℝ, 0 < e ∧ Ideal.ofBits FTy.f32 0x3727C5AC#32 = (e : EReal) := by
  refine ⟨10995116 / 2 ^ 40, by norm_num, ?_⟩
  simp [Ideal.ofBits, Ideal.ieee, -EReal.coe_mul]; norm_num

theorem word_half : Ideal.ofBits FTy.f32 0xBF000000#32 = ((-(1 / 2) : ℝ) : EReal) := by
  simp [Ideal.ofBits, Ideal.ieee, -EReal.coe_mul]; norm_num

theorem one_coe : (1 : EReal) = ((1 : ℝ) : EReal) := rfl

end Cert.Reals
end
-- ==== Proof.PoolWindows.lean ====
module

public import proofs.«01_k».proof.Proof.Gen.PoolIdeal.Frame
public import proofs.«01_k».proof.Proof.Gen.PoolRefIdeal
public import Idealize.ShloMosaic.Lib.Pipeline.ValueKit
public import Idealize.ShloMosaic.Lib.Claim
public import Idealize.ShloMosaic.Lib.Pointwise
public import Idealize.ShloMosaic.Lib.WordArith

@[expose] public section

set_option maxRecDepth 16384

noncomputable section

open Idealize.ShloMosaic Idealize.ShloMosaic.TcCoe Idealize.SL.Sem
open Idealize.ShloMosaic.Pipeline (Dat)
open scoped BigOperators

namespace Cert.PoolIdeal.Pool
open Cert.PoolIdeal Cert.PoolIdeal.Gen
variable (m : (ℓ : Loc nD τ sig) → Buf (Elt Ideal) ℓ)

/-- `v` holds at row `a` the sum of `q` over the `n` rows from `a` on, wherever those rows are in the block. -/
def Runs (v : FVec Ideal S1040x128 .f32) (q : ℕ → Fin 128 → EReal) (n : ℕ) : Prop :=
  ∀ (a : Fin 1040) (b : Fin 128), a.val + n ≤ 1040 → v (ix2 a b) = ∑ j ∈ Finset.range n, q (a.val + j) b

theorem Runs.double {v : FVec Ideal S1040x128 .f32} {q : ℕ → Fin 128 → EReal} {n : ℕ} (hv : Runs v q n)
    {w : FVec Ideal S1040x128 .f32}
    (hw : ∀ (a : Fin 1040) (b : Fin 128) (h : a.val + n < 1040), w (ix2 a b) = v (ix2 a b) + v (ix2 ⟨a.val + n, h⟩ b)) (hn : 0 < n) :
    Runs w q (n + n) := fun a b h => by
  rw [hw a b (by omega), hv a b (by omega), hv _ b (by dsimp only; omega), Finset.sum_range_add]
  simp only [Nat.add_assoc]

/-- One stage of the kernel: the block and the block turned by `1040 - k` rows, that is the rows `n` further on. -/
def stage (k : BitVec 32) (v : FVec Ideal S1040x128 .f32) : FVec Ideal S1040x128 .f32 :=
  addf v (dynamicRotate 0 k none v rotates_S1040x128_d0)

theorem stage_1 (v : FVec Ideal S1040x128 .f32) (a : Fin 1040) (b : Fin 128) (h : a.val + 1 < 1040) :
    stage 1039#32 v (ix2 a b) = v (ix2 a b) + v (ix2 ⟨a.val + 1, h⟩ b) := by
  have e : (a.val + 1040 - 1039) % 1040 = a.val + 1 := by omega
  pointwise [stage]
  simp only [e]

theorem stage_2 (v : FVec Ideal S1040x128 .f32) (a : Fin 1040) (b : Fin 128) (h : a.val + 2 < 1040) :
    stage 1038#32 v (ix2 a b) = v (ix2 a b) + v (ix2 ⟨a.val + 2, h⟩ b) := by
  have e : (a.val + 1040 - 1038) % 1040 = a.val + 2 := by omega
  pointwise [stage]
  simp only [e]

theorem stage_4 (v : FVec Ideal S1040x128 .f32) (a : Fin 1040) (b : Fin 128) (h : a.val + 4 < 1040) :
    stage 1036#32 v (ix2 a b) = v (ix2 a b) + v (ix2 ⟨a.val + 4, h⟩ b) := by
  have e : (a.val + 1040 - 1036) % 1040 = a.val + 4 := by omega
  pointwise [stage]
  simp only [e]

theorem stage_8 (v : FVec Ideal S1040x128 .f32) (a : Fin 1040) (b : Fin 128) (h : a.val + 8 < 1040) :
    stage 1032#32 v (ix2 a b) = v (ix2 a b) + v (ix2 ⟨a.val + 8, h⟩ b) := by
  have e : (a.val + 1040 - 1032) % 1040 = a.val + 8 := by omega
  pointwise [stage]
  simp only [e]

/-- The rows a tile's result is formed from: its own 1024 and the 16 after them, or zeros at the end of a sequence. -/
def extAt (i : grid0.Coords) (x1 : Vec Ideal S16x512 .f32) (x0 : Vec Ideal S1024x512 .f32) (k : ℕ) (n : Fin 512) : EReal :=
  if h : k < 1024 then x0 (ix2 ⟨k, h⟩ n)
  else if h : k - 1024 < 16 then (if (i 1).val = 1 then 0 else x1 (ix2 ⟨k - 1024, h⟩ n)) else 0

/-- The count of rows a window of `w` rows has at row `k` of the block. -/
def cntAt (i : grid0.Coords) (w k : ℕ) : ℝ := ((min ((i 1).val * 1024 + k + 1) w : ℕ) : ℝ)

theorem ext_apply (i : grid0.Coords) (x1 : Vec Ideal S16x512 .f32) (x0 : Vec Ideal S1024x512 .f32) (k : Fin 1040)
    (n : Fin 512) : k0_pay5 i x1 x0 (ix2 k n) = extAt i x1 x0 k.val n := by
  have hi : (i 1).val < 2 := (i 1).isLt
  have e : Scalar.cmpi .eq (BitVec.ofNat 32 (i 1).val) 1#32 = BitVec.ofBool (decide ((i 1).val = 1)) := by
    generalize (i 1).val = z at hi ⊢
    interval_cases z <;> rfl
  pointwise [k0_pay5]
  rw [e]
  unfold extAt
  have hk := k.isLt
  by_cases h : k.val < 1024
  · simp only [h, dite_true]
  · have h' : k.val - 1024 < 16 := by omega
    simp only [h, h', dite_false, dite_true]
    by_cases hz : (i 1).val = 1 <;> simp [hz, Scalar.select]

theorem word_cnt (z k w : ℕ) (hz : z < 2) (hk : k < 1040) (hw : w < 32) :
    (FloatOps.sitofp (F := Ideal) .f32 (IntOp.minsi (IntOp.addi (IntOp.addi (Scalar.muli (BitVec.ofNat 32 z) 1024#32)
      (BitVec.ofNat 32 k)) 1#32) (BitVec.ofNat 32 w))) = (((min (z * 1024 + k + 1) w : ℕ) : ℝ) : EReal) := by
  have e : (IntOp.addi (IntOp.addi (Scalar.muli (BitVec.ofNat 32 z) 1024#32) (BitVec.ofNat 32 k)) 1#32).toNat
      = z * 1024 + k + 1 := by
    simp only [IntOp.addi, Scalar.muli, IntOp.muli, BitVec.toNat_add, BitVec.toNat_mul, BitVec.toNat_ofNat]
    omega
  have ew : (BitVec.ofNat 32 w).toNat = w := by
    rw [BitVec.toNat_ofNat]; omega
  have h : (IntOp.minsi (IntOp.addi (IntOp.addi (Scalar.muli (BitVec.ofNat 32 z) 1024#32) (BitVec.ofNat 32 k)) 1#32)
      (BitVec.ofNat 32 w)).toInt = ((min (z * 1024 + k + 1) w : ℕ) : ℤ) := by
    rw [BitVec.toInt_eq_toNat_of_lt, WordArith.toNat_minsi_of_lt _ _ (by omega) (by omega), e, ew]
    rw [WordArith.toNat_minsi_of_lt _ _ (by omega) (by omega), e, ew]
    omega
  show (((IntOp.minsi _ _).toInt : ℝ) : EReal) = _
  rw [h]
  push_cast
  rfl

/-- The counts of the rows of the block, down its rows. -/
def counts (i : grid0.Coords) (w : BitVec 32) : FVec Ideal S1040x1 .f32 :=
  sitofp .f32 (minsi (addi (k0_pay6 i) (broadcast S1040x1 1#32)) (broadcast S1040x1 w))

theorem counts_apply (i : grid0.Coords) (w : ℕ) (hw : w < 32) (k : Fin 1040) (z : Fin 1) :
    counts i (BitVec.ofNat 32 w) (ix2 k z) = ((cntAt i w k.val : ℝ) : EReal) := by
  have hi : (i 1).val < 2 := (i 1).isLt
  refine Eq.trans ?_ (word_cnt (i 1).val k.val w hi k.isLt hw)
  pointwise [counts, k0_pay6]

/-- The product of the scaled cotangent and a weight. -/
def prod (p : FVec Ideal S1040x128 .bf16) (w : FVec Ideal S128x128 .bf16) : FVec Ideal S1040x128 .f32 :=
  matmul dot_S1040x128_S128x128_S1040x128_1_1_0_0_n_n none p w (constant S1040x128 .f32 0x00000000#32)

/-- A block divided by the counts of its rows. -/
def quot (D : FVec Ideal S1040x128 .f32) (n : FVec Ideal S1040x1 .f32) : FVec Ideal S1040x128 .f32 :=
  divf D (broadcastTo S1040x128 n broadcasts_S1040x1_S1040x128)

theorem quot_apply (D : FVec Ideal S1040x128 .f32) (n : FVec Ideal S1040x1 .f32) (k : Fin 1040) (b : Fin 128) :
    quot D n (ix2 k b) = Ideal.div (D (ix2 k b)) (n (ix2 k 0)) := by
  pointwise [quot]

/-- The first 1024 rows of a difference, as stored. -/
def tail (s D : FVec Ideal S1040x128 .f32) : FVec Ideal S1024x128 .bf16 :=
  shapeCast S1024x128 (truncf .bf16 (subf (extractStridedSlice S1024x128 ![0, 0] s slices_S1040x128_o0_0_S1024x128)
    (extractStridedSlice S1024x128 ![0, 0] D slices_S1040x128_o0_0_S1024x128)) bitsLt_bf16_f32)
    shapeCasts_S1024x128_S1024x128

theorem tail_apply (s D : FVec Ideal S1040x128 .f32) (r : Fin 1024) (b : Fin 128) :
    tail s D (ix2 r b) = s (ix2 ⟨r.val, by omega⟩ b) - D (ix2 ⟨r.val, by omega⟩ b) := by
  pointwise [tail]

/-- The product at row `k` and channel `b` of group `g`, the weight and the scale of the group given. -/
def dpAt (i : grid0.Coords) (x1 : Vec Ideal S16x512 .f32) (x0 : Vec Ideal S1024x512 .f32) (wg : Vec Ideal S1x128x128 .f32)
    (ps : Vec Ideal S1x128 .f32) (g : Fin 4) (k : ℕ) (b : Fin 128) : EReal :=
  ∑ d : Fin 128, extAt i x1 x0 k ⟨128 * g.val + d.val, by omega⟩ * ps (ix2 0 d) * wg (ix3 0 b d)

theorem Runs.one (q : ℕ → Fin 128 → EReal) (v : FVec Ideal S1040x128 .f32)
    (h : ∀ (k : Fin 1040) (b : Fin 128), v (ix2 k b) = q k.val b) : Runs v q 1 := fun a b _ => by
  rw [h, Finset.sum_range_one, Nat.add_zero]

/-- What the kernel leaves at row `r` of a tile for a group with windows of `w` rows. -/
def duTile (i : grid0.Coords) (w : ℕ) (D : ℕ → Fin 128 → EReal) (r : ℕ) (b : Fin 128) : EReal :=
  ∑ j ∈ Finset.range w, Ideal.div (D (r + j) b) ((cntAt i w (r + j) : ℝ) : EReal) - D r b

theorem prod_0 (i : grid0.Coords) (x1 : Vec Ideal S16x512 .f32) (x0 : Vec Ideal S1024x512 .f32)
    (wg : Vec Ideal S1x128x128 .f32) (ps : Vec Ideal S1x128 .f32) (k : Fin 1040) (b : Fin 128) :
    prod (k0_pay12 (k0_pay10 i x1 x0) (k0_pay11 ps)) (k0_pay7 wg) (ix2 k b)
      = dpAt i x1 x0 wg ps 0 k.val b := by
  pointwise [prod, k0_pay12, k0_pay10, k0_pay11, k0_pay7]
  simp only [ext_apply]
  refine Finset.sum_congr rfl fun d _ => ?_
  congr 3
  exact Fin.ext (by simp)

theorem pay_0 (i : grid0.Coords) (x1 : Vec Ideal S16x512 .f32) (x0 : Vec Ideal S1024x512 .f32)
    (wg : Vec Ideal S1x128x128 .f32) (ps : Vec Ideal S1x128 .f32) (r : Fin 1024) (b : Fin 128) :
    k0_pay14 (k0_pay6 i) (k0_pay7 wg) (k0_pay10 i x1 x0) (k0_pay11 ps) (ix2 r b)
      = duTile i 2 (dpAt i x1 x0 wg ps 0) r.val b := by
  have e : k0_pay14 (k0_pay6 i) (k0_pay7 wg) (k0_pay10 i x1 x0) (k0_pay11 ps)
      = (fun D n => tail (stage 1039#32 (quot D n)) D)
        (prod (k0_pay12 (k0_pay10 i x1 x0) (k0_pay11 ps)) (k0_pay7 wg)) (counts i (BitVec.ofNat 32 2)) := rfl
  have hp := prod_0 i x1 x0 wg ps
  have hn := counts_apply i 2 (by omega)
  rw [e]
  generalize prod (k0_pay12 (k0_pay10 i x1 x0) (k0_pay11 ps)) (k0_pay7 wg) = D at hp ⊢
  generalize counts i (BitVec.ofNat 32 2) = n at hn ⊢
  have hq : Runs (quot D n) (fun k b => Ideal.div (dpAt i x1 x0 wg ps 0 k b) ((cntAt i 2 k : ℝ) : EReal)) 1 :=
    Runs.one _ _ fun k b => by rw [quot_apply, hp, hn]
  have hs := hq.double (fun a b h => stage_1 _ a b h) (by omega)
  refine (tail_apply _ D r b).trans ?_
  rw [hs _ b (by dsimp only; omega), hp]
  rfl

theorem prod_1 (i : grid0.Coords) (x1 : Vec Ideal S16x512 .f32) (x0 : Vec Ideal S1024x512 .f32)
    (wg : Vec Ideal S1x128x128 .f32) (ps : Vec Ideal S1x128 .f32) (k : Fin 1040) (b : Fin 128) :
    prod (k0_pay19 (k0_pay5 i x1 x0) ps) (k0_pay15 wg) (ix2 k b)
      = dpAt i x1 x0 wg ps 1 k.val b := by
  pointwise [prod, k0_pay19, k0_pay15]
  simp only [ext_apply]
  exact Finset.sum_congr rfl fun d _ => rfl

theorem pay_1 (i : grid0.Coords) (x1 : Vec Ideal S16x512 .f32) (x0 : Vec Ideal S1024x512 .f32)
    (wg : Vec Ideal S1x128x128 .f32) (ps : Vec Ideal S1x128 .f32) (r : Fin 1024) (b : Fin 128) :
    k0_pay21 (k0_pay5 i x1 x0) (k0_pay6 i) (k0_pay15 wg) ps (ix2 r b)
      = duTile i 4 (dpAt i x1 x0 wg ps 1) r.val b := by
  have e : k0_pay21 (k0_pay5 i x1 x0) (k0_pay6 i) (k0_pay15 wg) ps
      = (fun D n => tail (stage 1038#32 (stage 1039#32 (quot D n))) D)
        (prod (k0_pay19 (k0_pay5 i x1 x0) ps) (k0_pay15 wg)) (counts i (BitVec.ofNat 32 4)) := rfl
  have hp := prod_1 i x1 x0 wg ps
  have hn := counts_apply i 4 (by omega)
  rw [e]
  generalize prod (k0_pay19 (k0_pay5 i x1 x0) ps) (k0_pay15 wg) = D at hp ⊢
  generalize counts i (BitVec.ofNat 32 4) = n at hn ⊢
  have hq : Runs (quot D n) (fun k b => Ideal.div (dpAt i x1 x0 wg ps 1 k b) ((cntAt i 4 k : ℝ) : EReal)) 1 :=
    Runs.one _ _ fun k b => by rw [quot_apply, hp, hn]
  have hs := (hq.double (fun a b h => stage_1 _ a b h) (by omega)).double (fun a b h => stage_2 _ a b h) (by omega)
  refine (tail_apply _ D r b).trans ?_
  rw [hs _ b (by dsimp only; omega), hp]
  rfl

theorem prod_2 (i : grid0.Coords) (x1 : Vec Ideal S16x512 .f32) (x0 : Vec Ideal S1024x512 .f32)
    (wg : Vec Ideal S1x128x128 .f32) (ps : Vec Ideal S1x128 .f32) (k : Fin 1040) (b : Fin 128) :
    prod (k0_pay25 (k0_pay5 i x1 x0) ps) (k0_pay22 wg) (ix2 k b)
      = dpAt i x1 x0 wg ps 2 k.val b := by
  pointwise [prod, k0_pay25, k0_pay22]
  simp only [ext_apply]
  exact Finset.sum_congr rfl fun d _ => rfl

theorem pay_2 (i : grid0.Coords) (x1 : Vec Ideal S16x512 .f32) (x0 : Vec Ideal S1024x512 .f32)
    (wg : Vec Ideal S1x128x128 .f32) (ps : Vec Ideal S1x128 .f32) (r : Fin 1024) (b : Fin 128) :
    k0_pay29 (k0_pay27 (k0_pay5 i x1 x0) wg ps) (k0_pay28 (k0_pay5 i x1 x0) (k0_pay6 i) wg ps) (ix2 r b)
      = duTile i 8 (dpAt i x1 x0 wg ps 2) r.val b := by
  have e : k0_pay29 (k0_pay27 (k0_pay5 i x1 x0) wg ps) (k0_pay28 (k0_pay5 i x1 x0) (k0_pay6 i) wg ps)
      = (fun D n => tail (stage 1036#32 (stage 1038#32 (stage 1039#32 (quot D n)))) D)
        (prod (k0_pay25 (k0_pay5 i x1 x0) ps) (k0_pay22 wg)) (counts i (BitVec.ofNat 32 8)) := rfl
  have hp := prod_2 i x1 x0 wg ps
  have hn := counts_apply i 8 (by omega)
  rw [e]
  generalize prod (k0_pay25 (k0_pay5 i x1 x0) ps) (k0_pay22 wg) = D at hp ⊢
  generalize counts i (BitVec.ofNat 32 8) = n at hn ⊢
  have hq : Runs (quot D n) (fun k b => Ideal.div (dpAt i x1 x0 wg ps 2 k b) ((cntAt i 8 k : ℝ) : EReal)) 1 :=
    Runs.one _ _ fun k b => by rw [quot_apply, hp, hn]
  have hs := ((hq.double (fun a b h => stage_1 _ a b h) (by omega)).double (fun a b h => stage_2 _ a b h) (by omega)).double (fun a b h => stage_4 _ a b h) (by omega)
  refine (tail_apply _ D r b).trans ?_
  rw [hs _ b (by dsimp only; omega), hp]
  rfl

theorem prod_3 (i : grid0.Coords) (x1 : Vec Ideal S16x512 .f32) (x0 : Vec Ideal S1024x512 .f32)
    (wg : Vec Ideal S1x128x128 .f32) (ps : Vec Ideal S1x128 .f32) (k : Fin 1040) (b : Fin 128) :
    prod (k0_pay33 (k0_pay5 i x1 x0) ps) (k0_pay30 wg) (ix2 k b)
      = dpAt i x1 x0 wg ps 3 k.val b := by
  pointwise [prod, k0_pay33, k0_pay30]
  simp only [ext_apply]
  exact Finset.sum_congr rfl fun d _ => rfl

theorem pay_3 (i : grid0.Coords) (x1 : Vec Ideal S16x512 .f32) (x0 : Vec Ideal S1024x512 .f32)
    (wg : Vec Ideal S1x128x128 .f32) (ps : Vec Ideal S1x128 .f32) (r : Fin 1024) (b : Fin 128) :
    k0_pay2 (k0_pay6 i) (k0_pay30 wg) (k0_pay33 (k0_pay5 i x1 x0) ps) (ix2 r b)
      = duTile i 16 (dpAt i x1 x0 wg ps 3) r.val b := by
  have e : k0_pay2 (k0_pay6 i) (k0_pay30 wg) (k0_pay33 (k0_pay5 i x1 x0) ps)
      = (fun D n => tail (stage 1032#32 (stage 1036#32 (stage 1038#32 (stage 1039#32 (quot D n))))) D)
        (prod (k0_pay33 (k0_pay5 i x1 x0) ps) (k0_pay30 wg)) (counts i (BitVec.ofNat 32 16)) := rfl
  have hp := prod_3 i x1 x0 wg ps
  have hn := counts_apply i 16 (by omega)
  rw [e]
  generalize prod (k0_pay33 (k0_pay5 i x1 x0) ps) (k0_pay30 wg) = D at hp ⊢
  generalize counts i (BitVec.ofNat 32 16) = n at hn ⊢
  have hq : Runs (quot D n) (fun k b => Ideal.div (dpAt i x1 x0 wg ps 3 k b) ((cntAt i 16 k : ℝ) : EReal)) 1 :=
    Runs.one _ _ fun k b => by rw [quot_apply, hp, hn]
  have hs := (((hq.double (fun a b h => stage_1 _ a b h) (by omega)).double (fun a b h => stage_2 _ a b h) (by omega)).double (fun a b h => stage_4 _ a b h) (by omega)).double (fun a b h => stage_8 _ a b h) (by omega)
  refine (tail_apply _ D r b).trans ?_
  rw [hs _ b (by dsimp only; omega), hp]
  rfl

end Cert.PoolIdeal.Pool
end
-- ==== Proof.PoolDu.lean ====
module

public import proofs.«01_k».proof.Proof.Gen.PoolIdeal.Frame
public import proofs.«01_k».proof.Proof.Gen.PoolRefIdeal
public import Idealize.ShloMosaic.Lib.Pipeline.ValueKit
public import Idealize.ShloMosaic.Lib.Claim
public import Idealize.ShloMosaic.Lib.Pointwise
public import proofs.«01_k».proof.Proof.PoolWindows

@[expose] public section

set_option maxRecDepth 16384

noncomputable section

open Idealize.ShloMosaic Idealize.ShloMosaic.TcCoe Idealize.SL.Sem
open Idealize.ShloMosaic.Pipeline (Dat)
open scoped BigOperators

namespace Cert.PoolIdeal.Pool
open Cert.PoolIdeal Cert.PoolIdeal.Gen
variable (m : (ℓ : Loc nD τ sig) → Buf (Elt Ideal) ℓ)

/-- Row `r` of the cotangent, zero past its end. -/
def ctRow (CT : FVec Ideal S4096x512 .f32) (r : ℕ) (n : Fin 512) : EReal := if h : r < 4096 then CT (ix2 ⟨r, h⟩ n) else 0

/-- The product of the scaled cotangent and the weight of group `g`, at row `r` and channel `b`. -/
def dpRow (CT : FVec Ideal S4096x512 .f32) (W : FVec Ideal S4x128x128 .f32) (PS : FVec Ideal S1x512 .f32) (r : ℕ)
    (g : Fin 4) (b : Fin 128) : EReal :=
  ∑ d : Fin 128, ctRow CT r ⟨128 * g.val + d.val, by omega⟩
    * PS (ix2 0 ⟨128 * g.val + d.val, by omega⟩) * W (ix3 g b d)

/-- The gradient of the pooled rows: the sum over the windows of `w` rows that hold row `r`, less the product there. -/
def duRow (CT : FVec Ideal S4096x512 .f32) (W : FVec Ideal S4x128x128 .f32) (PS : FVec Ideal S1x512 .f32) (w r : ℕ)
    (g : Fin 4) (b : Fin 128) : EReal :=
  ∑ j ∈ Finset.range w, (if r % 2048 + j < 2048 then
      Ideal.div (dpRow CT W PS (r + j) g b) (((min (r % 2048 + j + 1) w : ℕ) : ℝ) : EReal) else 0)
    - dpRow CT W PS r g b

def duAt (CT : FVec Ideal S4096x512 .f32) (W : FVec Ideal S4x128x128 .f32) (PS : FVec Ideal S1x512 .f32) :
    FVec Ideal S4096x512 .bf16 := fun y =>
  duRow CT W PS (2 ^ ((y 1).val / 128 + 1)) (y 0).val ⟨(y 1).val / 128 % 4, by omega⟩ ⟨(y 1).val % 128, by omega⟩

theorem duAt_apply (CT : FVec Ideal S4096x512 .f32) (W : FVec Ideal S4x128x128 .f32) (PS : FVec Ideal S1x512 .f32)
    (y : S4096x512.Idx) (r : ℕ) (g : Fin 4) (b : Fin 128) (h0 : (y 0).val = r) (h1 : (y 1).val = 128 * g.val + b.val) :
    duAt CT W PS y = duRow CT W PS (2 ^ (g.val + 1)) r g b := by
  unfold duAt
  have e : (y 1).val / 128 = g.val := by omega
  have e1 : (⟨(y 1).val / 128 % 4, by omega⟩ : Fin 4) = g := Fin.ext (by dsimp only; omega)
  have e2 : (⟨(y 1).val % 128, by omega⟩ : Fin 128) = b := Fin.ext (by dsimp only; omega)
  rw [e1, e2, e, h0]

theorem idx : ∀ t : Fin cfg0.N, win0_0.index t = ![t.val, 0]
    ∧ win0_1.index t = ![min ((t.val + 1) * 64) 255, 0]
    ∧ win0_2.index t = ![t.val, 0]
    ∧ win0_3.index t = ![0, 0, 0]
    ∧ win0_4.index t = ![0, 0]
    ∧ win0_5.index t = ![t.val, 0]
    ∧ win0_6.index t = ![0, 0, 0]
    ∧ win0_7.index t = ![0, 0] ∧ (grid0.coords t 1).val = t.val % 2 :=
  (by decide +kernel : ∀ t : Fin grid0.N, _)

theorem ct_own (c : Dev nD) (t : Fin cfg0.N) (h : t.val < 4) (k : Fin 1024) (n : Fin 512) : iblk m c 0 t (ix2 k n)
    = m ((c : Thread nD τ).loc main_arg3) (ix2 ⟨t.val * 1024 + k.val, by omega⟩ n) := by
  blk_ext [iblk, V, idx t]

theorem ct_halo (c : Dev nD) (t : Fin cfg0.N) (h : t.val < 4) (ht : t.val % 2 = 0) (k : Fin 16) (n : Fin 512) :
    iblk m c 1 t (ix2 k n)
    = m ((c : Thread nD τ).loc main_arg3) (ix2 ⟨t.val * 1024 + 1024 + k.val, by omega⟩ n) := by
  blk_ext [iblk, V, idx t]

/-- The tile's rows are the cotangent's, and zeros past the end of a sequence. -/
theorem ext_rows (c : Dev nD) (t : Fin cfg0.N) (h : t.val < 4) (k : ℕ) (hk : k < 1040) (n : Fin 512) :
    extAt (grid0.coords t) (iblk m c 1 t) (iblk m c 0 t) k n
      = if t.val % 2 * 1024 + k < 2048 then ctRow (m ((c : Thread nD τ).loc main_arg3)) (t.val * 1024 + k) n else 0 := by
  unfold extAt ctRow
  rw [(idx t).2.2.2.2.2.2.2.2]
  by_cases h1 : k < 1024
  · rw [dif_pos h1, if_pos (by omega), dif_pos (by omega), ct_own m c t h]
  · rw [dif_neg h1, dif_pos (by omega)]
    by_cases h2 : t.val % 2 = 1
    · rw [if_pos h2, if_neg (by omega)]
    · rw [if_neg h2, if_pos (by omega), dif_pos (by omega), ct_halo m c t h (by omega)]
      congr 2
      exact Fin.ext (by dsimp only; omega)

theorem tile_rows (c : Dev nD) (t : Fin cfg0.N) (h : t.val < 4) (w : ℕ) (hw : w ≤ 16) (g : Fin 4) (wg : Vec Ideal S1x128x128 .f32)
    (ps : Vec Ideal S1x128 .f32)
    (W : FVec Ideal S4x128x128 .f32) (PS : FVec Ideal S1x512 .f32)
    (hW : ∀ b d : Fin 128, wg (ix3 0 b d) = W (ix3 g b d))
    (hP : ∀ d : Fin 128, ps (ix2 0 d) = PS (ix2 0 ⟨128 * g.val + d.val, by omega⟩))
    (r : Fin 1024) (b : Fin 128) :
    duTile (grid0.coords t) w (dpAt (grid0.coords t) (iblk m c 1 t) (iblk m c 0 t) wg ps g) r.val b
      = duRow (m ((c : Thread nD τ).loc main_arg3)) W PS w (t.val * 1024 + r.val) g b := by
  have hd (k : ℕ) (hk : k < 1040) : dpAt (grid0.coords t) (iblk m c 1 t) (iblk m c 0 t) wg ps g k b
      = if t.val % 2 * 1024 + k < 2048 then dpRow (m ((c : Thread nD τ).loc main_arg3)) W PS (t.val * 1024 + k) g b
        else 0 := by
    unfold dpAt dpRow
    simp only [ext_rows m c t h k hk, hW, hP]
    by_cases hk' : t.val % 2 * 1024 + k < 2048
    · simp only [if_pos hk']
    · simp only [if_neg hk', zero_mul, Finset.sum_const_zero]
  have hm (j : ℕ) : (t.val * 1024 + r.val) % 2048 + j = t.val % 2 * 1024 + (r.val + j) := by omega
  unfold duTile duRow
  rw [hd _ (by omega), if_pos (by omega)]
  congr 1
  refine Finset.sum_congr rfl fun j hj => ?_
  have hj' := Finset.mem_range.mp hj
  rw [hd _ (by omega), hm, cntAt, (idx t).2.2.2.2.2.2.2.2]
  by_cases hk' : t.val % 2 * 1024 + (r.val + j) < 2048
  · rw [if_pos hk', if_pos hk', Nat.add_assoc, Nat.add_assoc (t.val * 1024)]
  · rw [if_neg hk', if_neg hk']
    have hc : ((min (t.val % 2 * 1024 + (r.val + j) + 1) w : ℕ) : ℝ) ≠ 0 := by
      norm_cast; omega
    rw [Ideal.div, if_neg (by exact_mod_cast hc)]
    simp

theorem weight (c : Dev nD) (t : Fin cfg0.N) (g : Fin 4) (b d : Fin 128) :
    iblk m c 3 t (ix3 g b d) = m ((c : Thread nD τ).loc main_arg1) (ix3 g b d) := by
  blk_ext [iblk, V, idx t]

theorem scale (c : Dev nD) (t : Fin cfg0.N) (n : Fin 512) :
    iblk m c 4 t (ix2 0 n) = m ((c : Thread nD τ).loc main_arg2) (ix2 0 n) := by
  blk_ext [iblk, V, idx t]

/-- The gradient of the pooled rows, of this program's arguments. -/
@[irreducible] def du (c : Dev nD) : FVec Ideal S4096x512 .bf16 :=
  duAt (m ((c : Thread nD τ).loc main_arg3)) (m ((c : Thread nD τ).loc main_arg1)) (m ((c : Thread nD τ).loc main_arg2))

theorem piece (c : Dev nD) (t : Fin cfg0.N) (g : Fin 4) (wg : Vec Ideal S1x128x128 .f32)
    (ps : Vec Ideal S1x128 .f32) (x0 : Fin 1024) (x1 : Fin 128) (z : S4096x512.Idx) (w : ℕ) (hw : 2 ^ (g.val + 1) = w)
    (hW : ∀ b d : Fin 128, wg (ix3 0 b d) = (m ((c : Thread nD τ).loc main_arg1) : FVec Ideal S4x128x128 .f32) (ix3 g b d))
    (hP : ∀ d : Fin 128, ps (ix2 0 d) = (m ((c : Thread nD τ).loc main_arg2) : FVec Ideal S1x512 .f32)
      (ix2 0 ⟨128 * g.val + d.val, by omega⟩))
    (h0 : (z 0).val = t.val * 1024 + x0.val) (h1 : (z 1).val = 128 * g.val + x1.val) :
    duTile (grid0.coords t) w (dpAt (grid0.coords t) (iblk m c 1 t) (iblk m c 0 t) wg ps g) x0.val x1 = du m c z := by
  have hN : t.val < 4 := lt_of_lt_of_eq t.isLt (show cfg0.N = 4 from N_0)
  have hw16 : w ≤ 16 := by
    rw [← hw]
    exact Nat.pow_le_pow_right (n := 2) (by omega) (show g.val + 1 ≤ 4 by omega)
  rw [tile_rows m c t hN w hw16 g wg ps _ _ hW hP x0 x1, du, duAt_apply _ _ _ _ _ g x1 h0 h1, hw]

set_option maxHeartbeats 1600000 in
theorem point_A (c : Dev nD) (t : Fin cfg0.N) (h0 : t.val % 4 = 0) (y) :
    (out0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) ((hcond0_0 t).mpr h0) (iblk m c 0
      t) (iblk m c 1 t) (iblk m c 2 t) (iblk m c 3 t) (iblk m c 4 t)) y
      = du m c ((win0_5.blk t).view.emb y) := by
  frame_out
  canon_tiles x h
  · idx_vars x
    exact (pay_3 _ _ _ _ _ x0 x1).trans (piece m c t 3 _ _ x0 x1 _ 16 rfl
      (fun b d => by pointwise; exact weight m c t _ b d) (fun d => by pointwise; exact scale m c t _)
      (by blk_simp [idx t]; omega) (by blk_simp [idx t]; omega))
  · idx_vars x
    exact (pay_2 _ _ _ _ _ x0 x1).trans (piece m c t 2 _ _ x0 x1 _ 8 rfl
      (fun b d => by pointwise; exact weight m c t _ b d) (fun d => by pointwise; exact scale m c t _)
      (by blk_simp [idx t]; omega) (by blk_simp [idx t]; omega))
  · idx_vars x
    exact (pay_1 _ _ _ _ _ x0 x1).trans (piece m c t 1 _ _ x0 x1 _ 4 rfl
      (fun b d => by pointwise; exact weight m c t _ b d) (fun d => by pointwise; exact scale m c t _)
      (by blk_simp [idx t]; omega) (by blk_simp [idx t]; omega))
  · idx_vars x
    exact (pay_0 _ _ _ _ _ x0 x1).trans (piece m c t 0 _ _ x0 x1 _ 2 rfl
      (fun b d => by pointwise; exact weight m c t _ b d) (fun d => by pointwise; exact scale m c t _)
      (by blk_simp [idx t]; omega) (by blk_simp [idx t]; omega))

set_option maxHeartbeats 1600000 in
theorem point_B (c : Dev nD) (t : Fin cfg0.N) (h0 : ¬ t.val % 4 = 0) (p6) (p7) (y) :
    (out0_B_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (fun h => h0 ((hcond0_0 t).mp h)) (iblk m c 0
      t) (iblk m c 1 t) (iblk m c 2 t) (iblk m c 3 t) (iblk m c 4 t) p6 p7) y
      = du m c ((win0_5.blk t).view.emb y) := by
  frame_out
  canon_tiles x h
  · idx_vars x
    exact (pay_3 _ _ _ _ _ x0 x1).trans (piece m c t 3 _ _ x0 x1 _ 16 rfl
      (fun b d => by pointwise; exact weight m c t _ b d) (fun d => by pointwise; exact scale m c t _)
      (by blk_simp [idx t]; omega) (by blk_simp [idx t]; omega))
  · idx_vars x
    exact (pay_2 _ _ _ _ _ x0 x1).trans (piece m c t 2 _ _ x0 x1 _ 8 rfl
      (fun b d => by pointwise; exact weight m c t _ b d) (fun d => by pointwise; exact scale m c t _)
      (by blk_simp [idx t]; omega) (by blk_simp [idx t]; omega))
  · idx_vars x
    exact (pay_1 _ _ _ _ _ x0 x1).trans (piece m c t 1 _ _ x0 x1 _ 4 rfl
      (fun b d => by pointwise; exact weight m c t _ b d) (fun d => by pointwise; exact scale m c t _)
      (by blk_simp [idx t]; omega) (by blk_simp [idx t]; omega))
  · idx_vars x
    exact (pay_0 _ _ _ _ _ x0 x1).trans (piece m c t 0 _ _ x0 x1 _ 2 rfl
      (fun b d => by pointwise; exact weight m c t _ b d) (fun d => by pointwise; exact scale m c t _)
      (by blk_simp [idx t]; omega) (by blk_simp [idx t]; omega))

/-- The array of the gradient of the pooled rows. -/
theorem final_du (c : Dev nD) : (dats m 0 c).arrAt 5 cfg0.N = du m c := by
  refine (dats m 0 c).arrAt_eq_of_covers 5 _ (by decide +kernel) fun t hf y => ?_
  blk_simp
  rw [after0_5]
  by_cases h : t.val % 4 = 0
  · refine (congrFun (congrArg Prod.fst (outsAt0_A m c t h)) y).trans ?_
    dsimp only
    exact (point_A m c t h y).trans rfl
  · refine (congrFun (congrArg Prod.fst (outsAt0_B m c t h)) y).trans ?_
    dsimp only
    exact (point_B m c t h _ _ y).trans rfl

end Cert.PoolIdeal.Pool
end
-- ==== Proof.PoolGw.lean ====
module

public import proofs.«01_k».proof.Proof.Gen.PoolIdeal.Frame
public import proofs.«01_k».proof.Proof.Gen.PoolRefIdeal
public import Idealize.ShloMosaic.Lib.Pipeline.ValueKit
public import Idealize.ShloMosaic.Lib.Claim
public import Idealize.ShloMosaic.Lib.Pointwise
public import proofs.«01_k».proof.Proof.PoolDu

@[expose] public section

set_option maxRecDepth 16384

noncomputable section

open Idealize.ShloMosaic Idealize.ShloMosaic.TcCoe Idealize.SL.Sem
open Idealize.ShloMosaic.Pipeline (Dat)
open scoped BigOperators

namespace Cert.PoolIdeal.Pool
open Cert.PoolIdeal Cert.PoolIdeal.Gen
variable (m : (ℓ : Loc nD τ sig) → Buf (Elt Ideal) ℓ)

/-- Of writes of which the later four hold an element, the first does not matter there. -/
theorem canon_drop {S : Shape} {e : EltTy} (z : View.Piece (Elt Ideal) S e) (y : S.Idx) :
    ∀ L : List (View.Piece (Elt Ideal) S e), (∃ x ∈ L, y ∈ x.1.set) → View.canon (L ++ [z]) y = View.canon L y
  | [], h => by obtain ⟨_, hm, _⟩ := h; exact absurd hm List.not_mem_nil
  | p :: L, h => by
    rw [List.cons_append]
    by_cases hp : y ∈ p.1.set
    · obtain ⟨r, w⟩ := p
      obtain ⟨x, rfl⟩ := r.exists_idx_of_mem hp
      exact (View.canon_cons_emb r w _ x).trans (View.canon_cons_emb r w _ x).symm
    · rw [View.canon_cons_of_not_mem _ _ hp, View.canon_cons_of_not_mem _ _ hp]
      refine canon_drop z y L ?_
      obtain ⟨q, hq, hy⟩ := h
      rcases List.mem_cons.mp hq with rfl | hq
      · exact absurd hy hp
      · exact ⟨q, hq, hy⟩

theorem canon_drop4 {S : Shape} {e : EltTy} (p q r s z : View.Piece (Elt Ideal) S e) (y : S.Idx)
    (h : ∃ x ∈ [p, q, r, s], y ∈ x.1.set) : View.canon [p, q, r, s, z] y = View.canon [p, q, r, s] y :=
  canon_drop z y [p, q, r, s] h

/-- Two boxes that do not meet along one axis have no element in common. -/
theorem unit_disjoint {S : Shape} {off size off' size' : Fin S.rank → ℕ} {inb inb'} (a : Fin S.rank)
    (h : off a + size a ≤ off' a ∨ off' a + size' a ≤ off a) :
    Disjoint (Rect.unit (s := S) off size inb).set (Rect.unit (s := S) off' size' inb').set := by
  rw [Finset.disjoint_left]
  intro y hy hy'
  have h1 := (Rect.mem_set_unit.mp hy) a
  have h2 := (Rect.mem_set_unit.mp hy') a
  omega

/-- A load beside the last write reads what was there before. -/
theorem load_beside {κ : Kind} {sp : Space} {S : Shape} {e : EltTy} (v : View sig κ sp S e) {off size off' size' : Fin S.rank → ℕ} {inb inb'}
    (w : (Rect.unit (s := S) off size inb).shape.Idx → Elt Ideal e) (L : List (View.Piece (Elt Ideal) S e)) (a : Fin S.rank)
    (h : off a + size a ≤ off' a ∨ off' a + size' a ≤ off a) :
    v.readCov (⟨Rect.unit off size inb, w⟩ :: L) (Rect.unit off' size' inb').toLoadRect
      = v.readCov L (Rect.unit off' size' inb').toLoadRect :=
  View.readCov_cons_of_disjoint v _ L _ (unit_disjoint (inb := inb) (inb' := inb') a h)

theorem gw_pay_0 (i : grid0.Coords) (x1 : Vec Ideal S16x512 .f32) (x0 : Vec Ideal S1024x512 .f32)
    (p : Vec Ideal S1024x128 .bf16) (ps : Vec Ideal S1x128 .f32) (acc : Vec Ideal S1x128x128 .f32) (z : Fin 1) (a b : Fin 128) :
    k0_pay13 (k0_pay8 p) (k0_pay10 i x1 x0) (k0_pay11 ps) acc (ix3 z a b)
      = acc (ix3 0 a b) + ∑ r : Fin 1024, p (ix2 r a) * (x0 (ix2 r ⟨128 * 0 + b.val, by omega⟩) * ps (ix2 0 b)) := by
  have e (r : Fin 1024) (n : Fin 512) : k0_pay5 i x1 x0 (ix2 ⟨r.val, by omega⟩ n) = x0 (ix2 r n) :=
    (ext_apply i x1 x0 ⟨r.val, by omega⟩ n).trans (by unfold extAt; rw [dif_pos r.isLt])
  obtain rfl : z = 0 := Subsingleton.elim _ _
  pointwise [k0_pay13, k0_pay8, k0_pay12, k0_pay10, k0_pay11]
  simp only [e]
  try rfl

theorem gw_pay_1 (i : grid0.Coords) (x1 : Vec Ideal S16x512 .f32) (x0 : Vec Ideal S1024x512 .f32)
    (p : Vec Ideal S1024x128 .bf16) (ps : Vec Ideal S1x128 .f32) (acc : Vec Ideal S1x128x128 .f32) (z : Fin 1) (a b : Fin 128) :
    k0_pay20 (k0_pay5 i x1 x0) (k0_pay16 p) ps acc (ix3 z a b)
      = acc (ix3 0 a b) + ∑ r : Fin 1024, p (ix2 r a) * (x0 (ix2 r ⟨128 * 1 + b.val, by omega⟩) * ps (ix2 0 b)) := by
  have e (r : Fin 1024) (n : Fin 512) : k0_pay5 i x1 x0 (ix2 ⟨r.val, by omega⟩ n) = x0 (ix2 r n) :=
    (ext_apply i x1 x0 ⟨r.val, by omega⟩ n).trans (by unfold extAt; rw [dif_pos r.isLt])
  obtain rfl : z = 0 := Subsingleton.elim _ _
  pointwise [k0_pay20, k0_pay16, k0_pay19]
  simp only [e]
  try rfl

theorem gw_pay_2 (i : grid0.Coords) (x1 : Vec Ideal S16x512 .f32) (x0 : Vec Ideal S1024x512 .f32)
    (p : Vec Ideal S1024x128 .bf16) (ps : Vec Ideal S1x128 .f32) (acc : Vec Ideal S1x128x128 .f32) (z : Fin 1) (a b : Fin 128) :
    k0_pay26 (k0_pay5 i x1 x0) p ps acc (ix3 z a b)
      = acc (ix3 0 a b) + ∑ r : Fin 1024, p (ix2 r a) * (x0 (ix2 r ⟨128 * 2 + b.val, by omega⟩) * ps (ix2 0 b)) := by
  have e (r : Fin 1024) (n : Fin 512) : k0_pay5 i x1 x0 (ix2 ⟨r.val, by omega⟩ n) = x0 (ix2 r n) :=
    (ext_apply i x1 x0 ⟨r.val, by omega⟩ n).trans (by unfold extAt; rw [dif_pos r.isLt])
  obtain rfl : z = 0 := Subsingleton.elim _ _
  pointwise [k0_pay26, k0_pay23, k0_pay25]
  simp only [e]
  try rfl

theorem gw_pay_3 (i : grid0.Coords) (x1 : Vec Ideal S16x512 .f32) (x0 : Vec Ideal S1024x512 .f32)
    (p : Vec Ideal S1024x128 .bf16) (ps : Vec Ideal S1x128 .f32) (acc : Vec Ideal S1x128x128 .f32) (z : Fin 1) (a b : Fin 128) :
    k0_pay1 (k0_pay31 p) (k0_pay34 acc) (k0_pay35 (k0_pay5 i x1 x0) ps) (constant S128x128 .f32 0x00000000#32) (ix3 z a b)
      = acc (ix3 0 a b) + ∑ r : Fin 1024, p (ix2 r a) * (x0 (ix2 r ⟨128 * 3 + b.val, by omega⟩) * ps (ix2 0 b)) := by
  have e (r : Fin 1024) (n : Fin 512) : k0_pay5 i x1 x0 (ix2 ⟨r.val, by omega⟩ n) = x0 (ix2 r n) :=
    (ext_apply i x1 x0 ⟨r.val, by omega⟩ n).trans (by unfold extAt; rw [dif_pos r.isLt])
  obtain rfl : z = 0 := Subsingleton.elim _ _
  pointwise [k0_pay1, k0_pay31, k0_pay34, k0_pay35, k0_pay33]
  simp only [e]
  try rfl

theorem fill_gw {κ : Kind} {sp : Space} (v : View sig κ sp S4x128x128 .f32) (B : LoadRect S4x128x128) (j : B.shape.Idx) :
    View.readCov (Val := Elt Ideal) v [⟨Rect.unit (s := S4x128x128) ![0, 0, 0] S4x128x128.size inb_S4x128x128_S4x128x128_0_0_0, (k0_pay3 : FVec Ideal S4x128x128 .f32)⟩] B j = (0 : EReal) := by
  rw [View.readCov_eq_canon']
  canon_tiles x h
  pointwise [k0_pay3]

/-- What one tile adds to the weights' gradient. -/
def gwTile (P : FVec Ideal S1024x512 .bf16) (C : FVec Ideal S1024x512 .f32) (S : FVec Ideal S1x512 .f32) :
    FVec Ideal S4x128x128 .f32 := fun y =>
  ∑ r : Fin 1024, P (ix2 r ⟨128 * (y 0).val + (y 1).val, by have := (y 0).isLt; have := (y 1).isLt; simp at *; omega⟩)
    * (C (ix2 r ⟨128 * (y 0).val + (y 2).val, by have := (y 0).isLt; have := (y 2).isLt; simp at *; omega⟩)
      * S (ix2 0 ⟨128 * (y 0).val + (y 2).val, by have := (y 0).isLt; have := (y 2).isLt; simp at *; omega⟩))

theorem gw_piece (P : FVec Ideal S1024x512 .bf16) (C : FVec Ideal S1024x512 .f32) (S : FVec Ideal S1x512 .f32) (g : Fin 4)
    (p : Vec Ideal S1024x128 .bf16) (ps : Vec Ideal S1x128 .f32)
    (hp : ∀ (r : Fin 1024) (a : Fin 128), p (ix2 r a) = P (ix2 r ⟨128 * g.val + a.val, by omega⟩))
    (hs : ∀ b : Fin 128, ps (ix2 0 b) = S (ix2 0 ⟨128 * g.val + b.val, by omega⟩))
    (y : S4x128x128.Idx) (a b : Fin 128)
    (h0 : (y 0).val = g.val) (h1 : (y 1).val = a.val) (h2 : (y 2).val = b.val) (acc acc' : EReal) (ha : acc = acc') :
    acc + ∑ r : Fin 1024, p (ix2 r a) * (C (ix2 r ⟨128 * g.val + b.val, by omega⟩) * ps (ix2 0 b))
      = acc' + gwTile P C S y := by
  obtain rfl : y 0 = g := Fin.ext h0
  obtain rfl : y 1 = a := Fin.ext h1
  obtain rfl : y 2 = b := Fin.ext h2
  rw [ha]
  exact congrArg (acc' + ·) (Finset.sum_congr rfl fun r _ => congrArg₂ (· * ·) (hp r _) (congrArg (_ * ·) (hs _)))

theorem gw_A (c : Dev nD) (t : Fin cfg0.N) (h0 : t.val % 4 = 0) (y) :
    (out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) ((hcond0_0 t).mpr h0) (iblk m c 0
      t) (iblk m c 1 t) (iblk m c 2 t) (iblk m c 3 t) (iblk m c 4 t)) y
      = 0 + gwTile (iblk m c 2 t) (iblk m c 0 t) (iblk m c 4 t) y := by
  frame_out
  refine (canon_drop4 _ _ _ _ _ y (View.cover_of_tiled_head _ _ _ (by rfl) y)).trans ?_
  canon_tiles x h
  · idx_vars x
    refine (gw_pay_3 _ _ _ _ _ _ _ _ _).trans (gw_piece (iblk m c 2 t) (iblk m c 0 t) (iblk m c 4 t) 3 _ _ (fun r a => ?_) (fun b => ?_) y x1 x2
      ?_ h1 h2 _ _ ?_)
    · pointwise; blk_ext
    · pointwise; blk_ext
    · simpa using h0
    rw [load_beside _ _ _ 0 (by decide)]
    rw [load_beside _ _ _ 0 (by decide)]
    rw [load_beside _ _ _ 0 (by decide)]
    exact fill_gw _ _ _
  · idx_vars x
    refine (gw_pay_2 _ _ _ _ _ _ _ _ _).trans (gw_piece (iblk m c 2 t) (iblk m c 0 t) (iblk m c 4 t) 2 _ _ (fun r a => ?_) (fun b => ?_) y x1 x2
      ?_ h1 h2 _ _ ?_)
    · pointwise; blk_ext
    · pointwise; blk_ext
    · simpa using h0
    rw [load_beside _ _ _ 0 (by decide)]
    rw [load_beside _ _ _ 0 (by decide)]
    exact fill_gw _ _ _
  · idx_vars x
    refine (gw_pay_1 _ _ _ _ _ _ _ _ _).trans (gw_piece (iblk m c 2 t) (iblk m c 0 t) (iblk m c 4 t) 1 _ _ (fun r a => ?_) (fun b => ?_) y x1 x2
      ?_ h1 h2 _ _ ?_)
    · pointwise; blk_ext
    · pointwise; blk_ext
    · simpa using h0
    rw [load_beside _ _ _ 0 (by decide)]
    exact fill_gw _ _ _
  · idx_vars x
    refine (gw_pay_0 _ _ _ _ _ _ _ _ _).trans (gw_piece (iblk m c 2 t) (iblk m c 0 t) (iblk m c 4 t) 0 _ _ (fun r a => ?_) (fun b => ?_) y x1 x2
      ?_ h1 h2 _ _ ?_)
    · pointwise; blk_ext
    · pointwise; blk_ext
    · simpa using h0
    exact fill_gw _ _ _

theorem gw_B (c : Dev nD) (t : Fin cfg0.N) (h0 : ¬ t.val % 4 = 0) (p6) (p7) (y) :
    (out0_B_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (fun h => h0 ((hcond0_0 t).mp h)) (iblk m c 0
      t) (iblk m c 1 t) (iblk m c 2 t) (iblk m c 3 t) (iblk m c 4 t) p6 p7) y
      = p6 y + gwTile (iblk m c 2 t) (iblk m c 0 t) (iblk m c 4 t) y := by
  frame_out
  canon_tiles x h
  · idx_vars x
    refine (gw_pay_3 _ _ _ _ _ _ _ _ _).trans (gw_piece (iblk m c 2 t) (iblk m c 0 t) (iblk m c 4 t) 3 _ _ (fun r a => ?_) (fun b => ?_) y x1 x2
      ?_ h1 h2 _ _ ?_)
    · pointwise; blk_ext
    · pointwise; blk_ext
    · simpa using h0
    idx_vars y
    pointwise
    blk_ext
  · idx_vars x
    refine (gw_pay_2 _ _ _ _ _ _ _ _ _).trans (gw_piece (iblk m c 2 t) (iblk m c 0 t) (iblk m c 4 t) 2 _ _ (fun r a => ?_) (fun b => ?_) y x1 x2
      ?_ h1 h2 _ _ ?_)
    · pointwise; blk_ext
    · pointwise; blk_ext
    · simpa using h0
    idx_vars y
    pointwise
    blk_ext
  · idx_vars x
    refine (gw_pay_1 _ _ _ _ _ _ _ _ _).trans (gw_piece (iblk m c 2 t) (iblk m c 0 t) (iblk m c 4 t) 1 _ _ (fun r a => ?_) (fun b => ?_) y x1 x2
      ?_ h1 h2 _ _ ?_)
    · pointwise; blk_ext
    · pointwise; blk_ext
    · simpa using h0
    idx_vars y
    pointwise
    blk_ext
  · idx_vars x
    refine (gw_pay_0 _ _ _ _ _ _ _ _ _).trans (gw_piece (iblk m c 2 t) (iblk m c 0 t) (iblk m c 4 t) 0 _ _ (fun r a => ?_) (fun b => ?_) y x1 x2
      ?_ h1 h2 _ _ ?_)
    · pointwise; blk_ext
    · pointwise; blk_ext
    · simpa using h0
    idx_vars y
    pointwise
    blk_ext
end Cert.PoolIdeal.Pool
end
-- ==== Proof.PoolSums.lean ====
module

public import proofs.«01_k».proof.Proof.Gen.PoolIdeal.Frame
public import proofs.«01_k».proof.Proof.Gen.PoolRefIdeal
public import Idealize.ShloMosaic.Lib.Pipeline.ValueKit
public import Idealize.ShloMosaic.Lib.Claim
public import Idealize.ShloMosaic.Lib.Pointwise
public import proofs.«01_k».proof.Proof.PoolGw

@[expose] public section

set_option maxRecDepth 16384

noncomputable section

open Idealize.ShloMosaic Idealize.ShloMosaic.TcCoe Idealize.SL.Sem
open Idealize.ShloMosaic.Pipeline (Dat)
open scoped BigOperators

namespace Cert.PoolIdeal.Pool
open Cert.PoolIdeal Cert.PoolIdeal.Gen
variable (m : (ℓ : Loc nD τ sig) → Buf (Elt Ideal) ℓ)

/-- The gradient of the weights: at group `g`, the pooled rows' channel `a` against the scaled cotangent's channel `b`. -/
def gwAll (P : FVec Ideal S4096x512 .bf16) (C : FVec Ideal S4096x512 .f32) (S : FVec Ideal S1x512 .f32) :
    FVec Ideal S4x128x128 .f32 := fun y =>
  ∑ r : Fin 4096, P (ix2 r ⟨128 * (y 0).val + (y 1).val, by have := (y 0).isLt; have := (y 1).isLt; simp at *; omega⟩)
    * (C (ix2 r ⟨128 * (y 0).val + (y 2).val, by have := (y 0).isLt; have := (y 2).isLt; simp at *; omega⟩)
      * S (ix2 0 ⟨128 * (y 0).val + (y 2).val, by have := (y 0).isLt; have := (y 2).isLt; simp at *; omega⟩))

theorem means (c : Dev nD) (t : Fin cfg0.N) (h : t.val < 4) (k : Fin 1024) (n : Fin 512) : iblk m c 2 t (ix2 k n)
    = V m c main_v56 (ix2 ⟨t.val * 1024 + k.val, by omega⟩ n) := by
  blk_ext [iblk, idx t]

theorem final_gw (c : Dev nD) : (dats m 0 c).arrAt 6 cfg0.N
    = gwAll (V m c main_v56) (m ((c : Thread nD τ).loc main_arg3)) (m ((c : Thread nD τ).loc main_arg2)) := by
  refine (dats m 0 c).arrAt_eq_of_after_last 6 t0_3 (by decide +kernel) _ fun j => ?_
  blk_simp
  rw [after0_6, Pipeline.eq_sum_fin_of_reset_step_apply_last (fun n h => (outsAt0 m c n h).2.1) 4 (fun _ => 0)
    (fun t j => gwTile (iblk m c 2 t) (iblk m c 0 t) (iblk m c 4 t) j)
    (fun t h j => ?_) (fun t h j => ?_) (le_of_eq N_0) t0_3 rfl j, zero_add]
  · exact Fin.sum_mul_add_congr fun s k hl => by
      rw [means m c s (lt_of_lt_of_eq s.isLt N_0), ct_own m c s (lt_of_lt_of_eq s.isLt N_0), scale m c s]
  · refine (congrFun (congrArg (·.2.1) (outsAt0_A m c t h)) j).trans ?_
    dsimp only
    exact gw_A m c t h j
  · refine (congrFun (congrArg (·.2.1) (outsAt0_B m c t h)) j).trans ?_
    dsimp only
    exact gw_B m c t h _ _ j

/-- The gradient of the scale: the cotangent against the product of the pooled rows and the weights. -/
def gsAll (P : FVec Ideal S4096x512 .bf16) (C : FVec Ideal S4096x512 .f32) (W : FVec Ideal S4x128x128 .f32) :
    FVec Ideal S1x512 .f32 := fun y =>
  ∑ r : Fin 4096, C (ix2 r ⟨(y 1).val, (y 1).isLt⟩) * ∑ d : Fin 128,
    P (ix2 r ⟨128 * ((y 1).val / 128 % 4) + d.val, by omega⟩)
      * W (ix3 ⟨(y 1).val / 128 % 4, by omega⟩ d ⟨(y 1).val % 128, by omega⟩)

def gsTile (P : FVec Ideal S1024x512 .bf16) (C : FVec Ideal S1024x512 .f32) (W : FVec Ideal S4x128x128 .f32) :
    FVec Ideal S1x512 .f32 := fun y =>
  ∑ r : Fin 1024, C (ix2 r ⟨(y 1).val, (y 1).isLt⟩) * ∑ d : Fin 128,
    P (ix2 r ⟨128 * ((y 1).val / 128 % 4) + d.val, by omega⟩)
      * W (ix3 ⟨(y 1).val / 128 % 4, by omega⟩ d ⟨(y 1).val % 128, by omega⟩)

theorem gs_piece (P : FVec Ideal S1024x512 .bf16) (C : FVec Ideal S1024x512 .f32) (W : FVec Ideal S4x128x128 .f32) (g : Fin 4)
    (p : Vec Ideal S1024x128 .bf16) (wg : Vec Ideal S1x128x128 .f32)
    (hp : ∀ (r : Fin 1024) (a : Fin 128), p (ix2 r a) = P (ix2 r ⟨128 * g.val + a.val, by omega⟩))
    (hw : ∀ d b : Fin 128, wg (ix3 0 d b) = W (ix3 g d b))
    (y : S1x512.Idx) (b : Fin 128) (h1 : (y 1).val = 128 * g.val + b.val) (acc acc' : EReal) (ha : acc = acc') :
    acc + ∑ r : Fin 1024, C (ix2 r ⟨128 * g.val + b.val, by omega⟩) * ∑ d : Fin 128, p (ix2 r d) * wg (ix3 0 d b)
      = acc' + gsTile P C W y := by
  have eg : (⟨(y 1).val / 128 % 4, by omega⟩ : Fin 4) = g := Fin.ext (by dsimp only; omega)
  have eb : (⟨(y 1).val % 128, by omega⟩ : Fin 128) = b := Fin.ext (by dsimp only; omega)
  have ec : (⟨(y 1).val, (y 1).isLt⟩ : Fin 512) = ⟨128 * g.val + b.val, by omega⟩ := Fin.ext h1
  have en (d : Fin 128) : (⟨128 * ((y 1).val / 128 % 4) + d.val, by omega⟩ : Fin 512) = ⟨128 * g.val + d.val, by omega⟩ :=
    Fin.ext (by dsimp only; omega)
  unfold gsTile
  simp only [ha, hp, hw, eg, eb, ec, en]

theorem fill_gs {κ : Kind} {sp : Space} (v : View sig κ sp S1x512 .f32) (B : LoadRect S1x512) (j : B.shape.Idx) :
    View.readCov (Val := Elt Ideal) v [⟨Rect.unit (s := S1x512) ![0, 0] S1x512.size inb_S1x512_S1x512_0_0, (k0_pay4 : FVec Ideal S1x512 .f32)⟩] B j = (0 : EReal) := by
  rw [View.readCov_eq_canon']
  canon_tiles x h
  pointwise [k0_pay4]

theorem gs_pay_0 (x0 : Vec Ideal S1024x512 .f32) (wg : Vec Ideal S1x128x128 .f32)
    (p : Vec Ideal S1024x128 .bf16) (acc : Vec Ideal S1x128 .f32) (z : Fin 1) (b : Fin 128) :
    k0_pay9 x0 wg p acc (ix2 z b)
      = acc (ix2 0 b) + ∑ r : Fin 1024, x0 (ix2 r ⟨128 * 0 + b.val, by omega⟩) * ∑ d : Fin 128, p (ix2 r d) * wg (ix3 0 d b) := by
  obtain rfl : z = 0 := Subsingleton.elim _ _
  pointwise [k0_pay9, k0_pay8, k0_pay7]
  try rfl

theorem gs_pay_1 (x0 : Vec Ideal S1024x512 .f32) (wg : Vec Ideal S1x128x128 .f32)
    (p : Vec Ideal S1024x128 .bf16) (acc : Vec Ideal S1x128 .f32) (z : Fin 1) (b : Fin 128) :
    k0_pay18 acc (k0_pay17 x0 wg p) (ix2 z b)
      = acc (ix2 0 b) + ∑ r : Fin 1024, x0 (ix2 r ⟨128 * 1 + b.val, by omega⟩) * ∑ d : Fin 128, p (ix2 r d) * wg (ix3 0 d b) := by
  obtain rfl : z = 0 := Subsingleton.elim _ _
  pointwise [k0_pay18, k0_pay17, k0_pay16, k0_pay15]
  try rfl

theorem gs_pay_2 (x0 : Vec Ideal S1024x512 .f32) (wg : Vec Ideal S1x128x128 .f32)
    (p : Vec Ideal S1024x128 .bf16) (acc : Vec Ideal S1x128 .f32) (z : Fin 1) (b : Fin 128) :
    k0_pay24 x0 wg p acc (ix2 z b)
      = acc (ix2 0 b) + ∑ r : Fin 1024, x0 (ix2 r ⟨128 * 2 + b.val, by omega⟩) * ∑ d : Fin 128, p (ix2 r d) * wg (ix3 0 d b) := by
  obtain rfl : z = 0 := Subsingleton.elim _ _
  pointwise [k0_pay24, k0_pay23, k0_pay22]
  try rfl

theorem gs_pay_3 (x0 : Vec Ideal S1024x512 .f32) (wg : Vec Ideal S1x128x128 .f32)
    (p : Vec Ideal S1024x128 .bf16) (acc : Vec Ideal S1x128 .f32) (z : Fin 1) (b : Fin 128) :
    k0_pay32 x0 wg p acc (ix2 z b)
      = acc (ix2 0 b) + ∑ r : Fin 1024, x0 (ix2 r ⟨128 * 3 + b.val, by omega⟩) * ∑ d : Fin 128, p (ix2 r d) * wg (ix3 0 d b) := by
  obtain rfl : z = 0 := Subsingleton.elim _ _
  pointwise [k0_pay32, k0_pay31, k0_pay30]
  try rfl

theorem gs_A (c : Dev nD) (t : Fin cfg0.N) (h0 : t.val % 4 = 0) (y) :
    (out0_A_7 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) ((hcond0_0 t).mpr h0) (iblk m c 0
      t) (iblk m c 1 t) (iblk m c 2 t) (iblk m c 3 t) (iblk m c 4 t)) y
      = 0 + gsTile (iblk m c 2 t) (iblk m c 0 t) (iblk m c 3 t) y := by
  frame_out
  refine (canon_drop4 _ _ _ _ _ y (View.cover_of_tiled_head _ _ _ (by rfl) y)).trans ?_
  canon_tiles x h
  · idx_vars x
    refine (gs_pay_3 _ _ _ _ _ _).trans (gs_piece (iblk m c 2 t) (iblk m c 0 t) (iblk m c 3 t) 3 _ _ (fun r a => ?_) (fun d b => ?_) y x1
      ?_ _ _ ?_)
    · pointwise; blk_ext
    · pointwise; blk_ext
    · simpa using h1
    rw [load_beside _ _ _ 1 (by decide)]
    rw [load_beside _ _ _ 1 (by decide)]
    rw [load_beside _ _ _ 1 (by decide)]
    exact fill_gs _ _ _
  · idx_vars x
    refine (gs_pay_2 _ _ _ _ _ _).trans (gs_piece (iblk m c 2 t) (iblk m c 0 t) (iblk m c 3 t) 2 _ _ (fun r a => ?_) (fun d b => ?_) y x1
      ?_ _ _ ?_)
    · pointwise; blk_ext
    · pointwise; blk_ext
    · simpa using h1
    rw [load_beside _ _ _ 1 (by decide)]
    rw [load_beside _ _ _ 1 (by decide)]
    exact fill_gs _ _ _
  · idx_vars x
    refine (gs_pay_1 _ _ _ _ _ _).trans (gs_piece (iblk m c 2 t) (iblk m c 0 t) (iblk m c 3 t) 1 _ _ (fun r a => ?_) (fun d b => ?_) y x1
      ?_ _ _ ?_)
    · pointwise; blk_ext
    · pointwise; blk_ext
    · simpa using h1
    rw [load_beside _ _ _ 1 (by decide)]
    exact fill_gs _ _ _
  · idx_vars x
    refine (gs_pay_0 _ _ _ _ _ _).trans (gs_piece (iblk m c 2 t) (iblk m c 0 t) (iblk m c 3 t) 0 _ _ (fun r a => ?_) (fun d b => ?_) y x1
      ?_ _ _ ?_)
    · pointwise; blk_ext
    · pointwise; blk_ext
    · simpa using h1
    exact fill_gs _ _ _

theorem gs_B (c : Dev nD) (t : Fin cfg0.N) (h0 : ¬ t.val % 4 = 0) (p6) (p7) (y) :
    (out0_B_7 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (fun h => h0 ((hcond0_0 t).mp h)) (iblk m c 0
      t) (iblk m c 1 t) (iblk m c 2 t) (iblk m c 3 t) (iblk m c 4 t) p6 p7) y
      = p7 y + gsTile (iblk m c 2 t) (iblk m c 0 t) (iblk m c 3 t) y := by
  frame_out
  canon_tiles x h
  · idx_vars x
    refine (gs_pay_3 _ _ _ _ _ _).trans (gs_piece (iblk m c 2 t) (iblk m c 0 t) (iblk m c 3 t) 3 _ _ (fun r a => ?_) (fun d b => ?_) y x1
      ?_ _ _ ?_)
    · pointwise; blk_ext
    · pointwise; blk_ext
    · simpa using h1
    idx_vars y
    pointwise
    blk_ext
  · idx_vars x
    refine (gs_pay_2 _ _ _ _ _ _).trans (gs_piece (iblk m c 2 t) (iblk m c 0 t) (iblk m c 3 t) 2 _ _ (fun r a => ?_) (fun d b => ?_) y x1
      ?_ _ _ ?_)
    · pointwise; blk_ext
    · pointwise; blk_ext
    · simpa using h1
    idx_vars y
    pointwise
    blk_ext
  · idx_vars x
    refine (gs_pay_1 _ _ _ _ _ _).trans (gs_piece (iblk m c 2 t) (iblk m c 0 t) (iblk m c 3 t) 1 _ _ (fun r a => ?_) (fun d b => ?_) y x1
      ?_ _ _ ?_)
    · pointwise; blk_ext
    · pointwise; blk_ext
    · simpa using h1
    idx_vars y
    pointwise
    blk_ext
  · idx_vars x
    refine (gs_pay_0 _ _ _ _ _ _).trans (gs_piece (iblk m c 2 t) (iblk m c 0 t) (iblk m c 3 t) 0 _ _ (fun r a => ?_) (fun d b => ?_) y x1
      ?_ _ _ ?_)
    · pointwise; blk_ext
    · pointwise; blk_ext
    · simpa using h1
    idx_vars y
    pointwise
    blk_ext

theorem whole_weight (c : Dev nD) (t : Fin cfg0.N) : iblk m c 3 t = m ((c : Thread nD τ).loc main_arg1) := by
  funext y
  blk_ext [iblk, V, idx t]

theorem final_gs (c : Dev nD) : (dats m 0 c).arrAt 7 cfg0.N
    = gsAll (V m c main_v56) (m ((c : Thread nD τ).loc main_arg3)) (m ((c : Thread nD τ).loc main_arg1)) := by
  refine (dats m 0 c).arrAt_eq_of_after_last 7 t0_3 (by decide +kernel) _ fun j => ?_
  blk_simp
  rw [after0_7, Pipeline.eq_sum_fin_of_reset_step_apply_last (fun n h => (outsAt0 m c n h).2.2) 4 (fun _ => 0)
    (fun t j => gsTile (iblk m c 2 t) (iblk m c 0 t) (iblk m c 3 t) j)
    (fun t h j => ?_) (fun t h j => ?_) (le_of_eq N_0) t0_3 rfl j, zero_add]
  · simp only [whole_weight]
    exact Fin.sum_mul_add_congr fun s k hl => by
      rw [ct_own m c s (lt_of_lt_of_eq s.isLt N_0)]
      simp only [means m c s (lt_of_lt_of_eq s.isLt N_0)]
  · refine (congrFun (congrArg (·.2.2) (outsAt0_A m c t h)) j).trans ?_
    dsimp only
    exact gs_A m c t h j
  · refine (congrFun (congrArg (·.2.2) (outsAt0_B m c t h)) j).trans ?_
    dsimp only
    exact gs_B m c t h _ _ j

end Cert.PoolIdeal.Pool
end
-- ==== Proof.PoolGrad.lean ====
module

public import proofs.«01_k».proof.Proof.Gen.PoolIdeal.Frame
public import proofs.«01_k».proof.Proof.Gen.PoolRefIdeal
public import Idealize.ShloMosaic.Lib.Pipeline.ValueKit
public import Idealize.ShloMosaic.Lib.Claim
public import Idealize.ShloMosaic.Lib.Pointwise
public import proofs.«01_k».proof.Proof.Reals
public import proofs.«01_k».proof.Proof.PoolDu
public import proofs.«01_k».proof.Proof.PoolSums

@[expose] public section

set_option maxRecDepth 16384

noncomputable section

open Idealize.ShloMosaic Idealize.ShloMosaic.TcCoe Idealize.SL.Sem
open scoped BigOperators

namespace Cert.PoolRefIdeal.Pool
open Cert.PoolRefIdeal Cert.PoolRefIdeal.Gen
open Cert.Reals
open Cert.PoolIdeal.Pool (ctRow dpRow duRow duAt duAt_apply gwAll gsAll)

/-- A sequence of rows, read as one. -/
theorem rows_apply (PM : FVec Ideal S2x2048x4x128 .f32) (h : S2x2048x4x128.ShapeCasts S4096x512) (hb : FTy.bits .bf16 < FTy.bits .f32)
    (b : Fin 2) (t : Fin 2048) (g : Fin 4) (d : Fin 128) :
    (truncf .bf16 (shapeCast S4096x512 PM h) hb : FVec Ideal S4096x512 .bf16)
      (ix2 ⟨b.val * 2048 + t.val, by omega⟩ ⟨128 * g.val + d.val, by omega⟩) = PM (ix4 b t g d) := by
  pointwise

theorem weight_sum (PM : FVec Ideal S2x2048x4x128 .f32) (CT : FVec Ideal S4096x512 .f32) (PS : FVec Ideal S1x512 .f32)
    (P : FVec Ideal S4096x512 .bf16)
    (hP : ∀ (b : Fin 2) (t : Fin 2048) (g : Fin 4) (d : Fin 128),
      P (ix2 ⟨b.val * 2048 + t.val, by omega⟩ ⟨128 * g.val + d.val, by omega⟩) = PM (ix4 b t g d)) :
    transpose S4x128x128 [0, 2, 1] (Host.dotGeneral (F := Ideal) dot_S4x128x2x2048_S2x2048x4x128_S4x128x128_23_01_1_3_0_2 none
      (transpose S4x128x2x2048 [2, 3, 0, 1] (shapeCast S2x2048x4x128 (mulf (shapeCast S2x2048x512 CT shapeCasts_S4096x512_S2x2048x512)
        (broadcastInDim S2x2048x512 ![0, 1, 2] bcast_S1x1x512_S2x2048x512_0_1_2 (broadcastInDim S1x1x512 ![1, 2] bcast_S1x512_S1x1x512_1_2 PS)))
        shapeCasts_S2x2048x512_S2x2048x4x128) transposes_S2x2048x4x128_S4x128x2x2048_2_3_0_1) PM) transposes_S4x128x128_S4x128x128_0_2_1
      = gwAll P CT PS := by
  funext y
  idx_vars y
  pointwise
  refine Fin.sum_mul_add_congr fun b t hl => ?_
  rw [← hP b t y0 y1, mul_comm]
  have hm (k : Fin 128) : y0.val * 128 + k.val = 128 * y0.val + k.val := by omega
  congr 2 <;> congr 3 <;> (simp only [hm]; first | rfl | omega)

theorem scale_sum (PM : FVec Ideal S2x2048x4x128 .f32) (CT : FVec Ideal S4096x512 .f32) (W : FVec Ideal S4x128x128 .f32)
    (P : FVec Ideal S4096x512 .bf16)
    (hP : ∀ (b : Fin 2) (t : Fin 2048) (g : Fin 4) (d : Fin 128),
      P (ix2 ⟨b.val * 2048 + t.val, by omega⟩ ⟨128 * g.val + d.val, by omega⟩) = PM (ix4 b t g d)) :
    broadcastInDim S1x512 ![1] bcast_S512_S1x512_1 (Host.reduceAdd (F := Ideal) (shapeCast S1x1x512 (Host.reduceAdd (mulf
      (shapeCast S2x2048x512 (transpose S2x2048x4x128 [2, 3, 0, 1]
        (Host.dotGeneral dot_S4x128x128_S2x2048x4x128_S4x128x2x2048_1_3_2_01_0_2 none W PM)
        transposes_S4x128x2x2048_S2x2048x4x128_2_3_0_1) shapeCasts_S2x2048x4x128_S2x2048x512)
      (shapeCast S2x2048x512 CT shapeCasts_S4096x512_S2x2048x512)) (constant S_ .f32 0x00000000#32)
      reducesTo_S2x2048x512_S512_d0_1 h_S_) shapeCasts_S512_S1x1x512) (constant S_ .f32 0x00000000#32) reducesTo_S1x1x512_S512_d0_1 h_S_)
      = gsAll P CT W := by
  funext y
  idx_vars y
  obtain rfl : y0 = 0 := Subsingleton.elim _ _
  pointwise
  rw [sum_two]
  simp only [Fin.sum_univ_one, zero_add]
  pointwise
  rw [sum_two]
  simp only [zero_add]
  refine Fin.sum_mul_add_congr fun b t hl => ?_
  pointwise
  have e1 : y1.val / 128 % 4 = y1.val / 128 := by omega
  simp only [e1]
  rw [mul_comm]
  refine congrArg _ (Finset.sum_congr rfl fun d _ => ?_)
  rw [mul_comm, ← hP b t ⟨y1.val / 128, by omega⟩ d]

/-- A fold that adds is a sum. -/
theorem fold_add {n : ℕ} (f : Fin n → EReal) (v : EReal) :
    (List.finRange n).foldl (fun r k => r + f k) v = v + ∑ k, f k := by
  have fold (l : List (Fin n)) : ∀ v : EReal, l.foldl (fun r k => r + f k) v = v + (l.map f).sum := by
    induction l with
    | nil => intro v; simp
    | cons a l ih => intro v; rw [List.foldl_cons, ih, List.map_cons, List.sum_cons, add_assoc]
  rw [Fin.sum_univ_def, fold]

/-- The place of a window's element `k`. -/
abbrev place (k : Fin (Shape.numel ⟨3, ![1, 2048, 1]⟩)) : (⟨3, ![1, 2048, 1]⟩ : Shape).Idx := (Shape.rowMajor ⟨3, ![1, 2048, 1]⟩).symm k

/-- The sum over every later row of the sequence. -/
theorem suffix_apply (x : FVec Ideal S2x2048x512 .f32) (b : Fin 2) (t : Fin 2048) (n : Fin 512) :
    Host.reduceWindowAdd (F := Ideal) ![1, 2048, 1] ![1, 1, 1] ![0, 0, 0] ![0, 2047, 0] x
      (broadcastInDim S_ ![] bcast_S_S_ (constant S_ .f32 0x00000000#32))
      reduceWindows_S2x2048x512_S2x2048x512_w1s1p0_0_w2048s1p0_2047_w1s1p0_0 h_S_ (ix3 b t n)
      = ∑ j : Fin 2048, if h : t.val + j.val < 2048 then x (ix3 b ⟨t.val + j.val, h⟩ n) else 0 := by
  unfold Host.reduceWindowAdd
  rw [Ideal.hostReduceWindowAdd_def]
  unfold Ideal.hostReduceWindowAdd Host.reduceWindow
  dsimp only
  refine (fold_add _ _).trans ?_
  have hz : (broadcastInDim S_ ![] bcast_S_S_ (constant S_ FTy.f32 0#32) (Shape.Idx.first h_S_) : Ideal .f32) = (0 : EReal) := by
    pointwise
  rw [hz]
  refine (zero_add _).trans ((Equiv.sum_comp (Shape.rowMajor ⟨3, ![1, 2048, 1]⟩).symm (fun i : (⟨3, ![1, 2048, 1]⟩ : Shape).Idx =>
    if h : t.val + (i 1).val < 2048 then x (ix3 b ⟨t.val + (i 1).val, h⟩ n) else 0)).symm.trans ?_).symm |>.trans ?_
  · refine Finset.sum_congr rfl fun k _ => ?_
    have i0 : (place k 0).val = 0 := Nat.lt_one_iff.mp (place k 0).isLt
    have i2 : (place k 2).val = 0 := Nat.lt_one_iff.mp (place k 2).isLt
    by_cases hj : t.val + (place k 1).val < 2048
    · rw [dif_pos hj, dif_pos (fun a => by
        match a with
        | ⟨0, _⟩ => exact ⟨Nat.zero_le _, by show b.val * 1 + (place k 0).val - 0 < 2; omega⟩
        | ⟨1, _⟩ => exact ⟨Nat.zero_le _, by show t.val * 1 + (place k 1).val - 0 < 2048; omega⟩
        | ⟨2, _⟩ => exact ⟨Nat.zero_le _, by show n.val * 1 + (place k 2).val - 0 < 512; omega⟩)]
      refine congrArg x (funext fun a => Fin.ext ?_)
      match a with
      | ⟨0, _⟩ => show b.val = b.val * 1 + (place k 0).val - 0; omega
      | ⟨1, _⟩ => show t.val + (place k 1).val = t.val * 1 + (place k 1).val - 0; omega
      | ⟨2, _⟩ => show n.val = n.val * 1 + (place k 2).val - 0; omega
    · rw [dif_neg hj, dif_neg fun h => hj (by
        have := (h 1).2
        change t.val * 1 + (place k 1).val - 0 < 2048 at this
        omega)]
  · refine (Fintype.sum_bijective (fun j : Fin 2048 => (ix3 (0 : Fin 1) j (0 : Fin 1) : (⟨3, ![1, 2048, 1]⟩ : Shape).Idx))
      ⟨fun p q e => congrFun e 1, fun i => ⟨i 1, ?_⟩⟩ _ _ (fun _ => rfl)).symm
    funext a
    apply Fin.ext
    match a with
    | ⟨0, _⟩ => exact (Nat.lt_one_iff.mp (i 0).isLt).symm
    | ⟨1, _⟩ => rfl
    | ⟨2, _⟩ => exact (Nat.lt_one_iff.mp (i 2).isLt).symm

/-- How many rows the window of `w` rows at each row holds. -/
def cnts (k : BitVec 32) : FVec Ideal S2x2048x128 .f32 :=
  broadcastInDim S2x2048x128 ![0, 1, 2] bcast_S1x2048x1_S2x2048x128_0_1_2 (minimumf (broadcastInDim S1x2048x1 ![1] bcast_S2048_S1x2048x1_1
    (addf (broadcastInDim S2048 ![] bcast_S_S2048 (constant S_ .f32 0x3F800000#32)) (sitofp .f32 (iotaInDim S2048 32 0))))
    (broadcastInDim S1x2048x1 ![] bcast_S_S1x2048x1 (constant S_ .f32 k)))

theorem min_cast (n w : ℕ) : min ((n : ℝ) : EReal) ((w : ℝ) : EReal) = (((min n w : ℕ) : ℝ) : EReal) := by
  rcases le_total n w with h | h
  · rw [min_eq_left (by exact_mod_cast h), Nat.min_eq_left h]
  · rw [min_eq_right (by exact_mod_cast h), Nat.min_eq_right h]

theorem cnts_apply (k : BitVec 32) (w : ℕ) (hk : Ideal.ofBits FTy.f32 k = ((w : ℝ) : EReal)) (b : Fin 2) (s : Fin 2048) (a : Fin 128) :
    cnts k (ix3 b s a) = (((min (s.val + 1) w : ℕ) : ℝ) : EReal) := by
  have hs : (1 : EReal) + FloatOps.sitofp (F := Ideal) .f32 (BitVec.ofNat 32 s.val) = (((s.val + 1 : ℕ) : ℝ) : EReal) := by
    show (1 : EReal) + ((((BitVec.ofNat 32 s.val).toInt : ℤ) : ℝ) : EReal) = _
    rw [BitVec.toInt_eq_toNat_of_lt (by rw [BitVec.toNat_ofNat]; omega), BitVec.toNat_ofNat, Nat.mod_eq_of_lt (by omega)]
    push_cast
    rw [add_comm]
  pointwise [cnts]
  rw [hk, hs, min_cast]

def back2 (Q : FVec Ideal S2x2048x128 .f32) : FVec Ideal S2x2048x128 .f32 :=
  addf Q (pad S2x2048x128 ![0, 0, 0] ![0, 2, 0] ![0, 0, 0] (extractStridedSlice S2x2046x128 ![0, 2, 0] (Host.negf Q)
    slices_S2x2048x128_S2x2046x128_0_2_0) (constant S_ .f32 0x00000000#32) pads_S2x2046x128_S2x2048x128_000_020_000 h_S_)

def back4 (Q : FVec Ideal S2x2048x128 .f32) : FVec Ideal S2x2048x128 .f32 :=
  addf Q (pad S2x2048x128 ![0, 0, 0] ![0, 4, 0] ![0, 0, 0] (extractStridedSlice S2x2044x128 ![0, 4, 0] (Host.negf Q)
    slices_S2x2048x128_S2x2044x128_0_4_0) (constant S_ .f32 0x00000000#32) pads_S2x2044x128_S2x2048x128_000_040_000 h_S_)

def back8 (Q : FVec Ideal S2x2048x128 .f32) : FVec Ideal S2x2048x128 .f32 :=
  addf Q (pad S2x2048x128 ![0, 0, 0] ![0, 8, 0] ![0, 0, 0] (extractStridedSlice S2x2040x128 ![0, 8, 0] (Host.negf Q)
    slices_S2x2048x128_S2x2040x128_0_8_0) (constant S_ .f32 0x00000000#32) pads_S2x2040x128_S2x2048x128_000_080_000 h_S_)

def back16 (Q : FVec Ideal S2x2048x128 .f32) : FVec Ideal S2x2048x128 .f32 :=
  addf Q (pad S2x2048x128 ![0, 0, 0] ![0, 16, 0] ![0, 0, 0] (extractStridedSlice S2x2032x128 ![0, 16, 0] (Host.negf Q)
    slices_S2x2048x128_S2x2032x128_0_16_0) (constant S_ .f32 0x00000000#32) pads_S2x2032x128_S2x2048x128_000_0160_000 h_S_)

/-- Each array less itself, the width of the group's window earlier. -/
def back (Q : Fin 4 → FVec Ideal S2x2048x128 .f32) : Fin 4 → FVec Ideal S2x2048x128 .f32
  | 0 => back2 (Q 0)
  | 1 => back4 (Q 1)
  | 2 => back8 (Q 2)
  | 3 => back16 (Q 3)

theorem back_apply (Q : Fin 4 → FVec Ideal S2x2048x128 .f32) (g : Fin 4) (b : Fin 2) (s : Fin 2048) (a : Fin 128) :
    back Q g (ix3 b s a) = Q g (ix3 b s a)
      + if h : s.val + 2 ^ (g.val + 1) < 2048 then -Q g (ix3 b ⟨s.val + 2 ^ (g.val + 1), h⟩ a) else 0 := by
  fin_cases g <;> pointwise [back, back2, back4, back8, back16] <;> refine congrArg _ ?_ <;> split <;> rename_i h
  all_goals first
    | rw [dif_pos (by omega)]; exact congrArg (fun z => -Q _ (ix3 b z a)) (Fin.ext (by dsimp only; omega))
    | rw [dif_neg (by omega)]

def at0 (Q : FVec Ideal S2x2048x128 .f32) : FVec Ideal S2x2048x512 .f32 :=
  pad S2x2048x512 ![0, 0, 0] ![0, 0, 384] ![0, 0, 0] Q (constant S_ .f32 0x00000000#32) pads_S2x2048x128_S2x2048x512_000_000_03840 h_S_

def at128 (Q : FVec Ideal S2x2048x128 .f32) : FVec Ideal S2x2048x512 .f32 :=
  pad S2x2048x512 ![0, 0, 128] ![0, 0, 256] ![0, 0, 0] Q (constant S_ .f32 0x00000000#32) pads_S2x2048x128_S2x2048x512_000_000_1282560 h_S_

def at256 (Q : FVec Ideal S2x2048x128 .f32) : FVec Ideal S2x2048x512 .f32 :=
  pad S2x2048x512 ![0, 0, 256] ![0, 0, 128] ![0, 0, 0] Q (constant S_ .f32 0x00000000#32) pads_S2x2048x128_S2x2048x512_000_000_2561280 h_S_

def at384 (Q : FVec Ideal S2x2048x128 .f32) : FVec Ideal S2x2048x512 .f32 :=
  pad S2x2048x512 ![0, 0, 384] ![0, 0, 0] ![0, 0, 0] Q (constant S_ .f32 0x00000000#32) pads_S2x2048x128_S2x2048x512_000_000_38400 h_S_

/-- Four groups of channels, side by side. -/
def beside (Q : Fin 4 → FVec Ideal S2x2048x128 .f32) : FVec Ideal S2x2048x512 .f32 :=
  addf (addf (addf (at384 (Q 3)) (at256 (Q 2))) (at128 (Q 1))) (at0 (Q 0))

theorem beside_apply (Q : Fin 4 → FVec Ideal S2x2048x128 .f32) (b : Fin 2) (s : Fin 2048) (g : Fin 4) (a : Fin 128) :
    beside Q (ix3 b s ⟨128 * g.val + a.val, by omega⟩) = Q g (ix3 b s a) := by
  fin_cases g <;> pointwise [beside, at384, at256, at128, at0]
  · rw [dif_neg (by omega), dif_neg (by omega), dif_neg (fun h => h.1)]; simp
  · rw [dif_neg (by omega), dif_neg (by omega)]; simp
  · rw [dif_neg (by omega), dif_neg (by omega), dif_neg (by omega)]; simp
  · rw [dif_neg (by omega), dif_neg (by omega), dif_neg (by omega)]; simp

/-- The product of the scaled cotangent and the weights. -/
def dp (CT : FVec Ideal S4096x512 .f32) (W : FVec Ideal S4x128x128 .f32) (PS : FVec Ideal S1x512 .f32) : FVec Ideal S2x2048x4x128 .f32 :=
  transpose S2x2048x4x128 [1, 2, 0, 3] (Host.dotGeneral dot_S4x128x2x2048_S4x128x128_S4x2x2048x128_1_2_23_1_0_0 none
    (transpose S4x128x2x2048 [2, 3, 0, 1] (shapeCast S2x2048x4x128 (mulf (shapeCast S2x2048x512 CT shapeCasts_S4096x512_S2x2048x512)
      (broadcastInDim S2x2048x512 ![0, 1, 2] bcast_S1x1x512_S2x2048x512_0_1_2 (broadcastInDim S1x1x512 ![1, 2] bcast_S1x512_S1x1x512_1_2 PS)))
      shapeCasts_S2x2048x512_S2x2048x4x128) transposes_S2x2048x4x128_S4x128x2x2048_2_3_0_1) W) transposes_S4x2x2048x128_S2x2048x4x128_1_2_0_3

theorem dp_apply (CT : FVec Ideal S4096x512 .f32) (W : FVec Ideal S4x128x128 .f32) (PS : FVec Ideal S1x512 .f32)
    (b : Fin 2) (s : Fin 2048) (g : Fin 4) (a : Fin 128) :
    dp CT W PS (ix4 b s g a) = dpRow CT W PS (b.val * 2048 + s.val) g a := by
  have hm (k : Fin 128) : g.val * 128 + k.val = 128 * g.val + k.val := by omega
  unfold dpRow ctRow
  pointwise [dp]
  refine Finset.sum_congr rfl fun d _ => ?_
  rw [dif_pos (by omega)]
  simp only [hm]

/-- The channels of group `g`. -/
def part (D : FVec Ideal S2x2048x4x128 .f32) : Fin 4 → FVec Ideal S2x2048x128 .f32
  | 0 => shapeCast S2x2048x128 (extractStridedSlice S2x2048x1x128 ![0, 0, 0, 0] D slices_S2x2048x4x128_S2x2048x1x128_0_0_0_0) shapeCasts_S2x2048x1x128_S2x2048x128
  | 1 => shapeCast S2x2048x128 (extractStridedSlice S2x2048x1x128 ![0, 0, 1, 0] D slices_S2x2048x4x128_S2x2048x1x128_0_0_1_0) shapeCasts_S2x2048x1x128_S2x2048x128
  | 2 => shapeCast S2x2048x128 (extractStridedSlice S2x2048x1x128 ![0, 0, 2, 0] D slices_S2x2048x4x128_S2x2048x1x128_0_0_2_0) shapeCasts_S2x2048x1x128_S2x2048x128
  | 3 => shapeCast S2x2048x128 (extractStridedSlice S2x2048x1x128 ![0, 0, 3, 0] D slices_S2x2048x4x128_S2x2048x1x128_0_0_3_0) shapeCasts_S2x2048x1x128_S2x2048x128

theorem part_apply (D : FVec Ideal S2x2048x4x128 .f32) (g : Fin 4) (b : Fin 2) (s : Fin 2048) (a : Fin 128) :
    part D g (ix3 b s a) = D (ix4 b s g a) := by
  fin_cases g <;> pointwise [part]

theorem word_2 : Ideal.ofBits FTy.f32 0x40000000#32 = ((((2 : ℕ) : ℝ)) : EReal) := by
  rw [show ((2 : ℕ) : ℝ) = 2 by norm_num]
  simp [Ideal.ofBits, Ideal.ieee, -EReal.coe_mul]; norm_num

theorem word_4 : Ideal.ofBits FTy.f32 0x40800000#32 = ((((4 : ℕ) : ℝ)) : EReal) := by
  rw [show ((4 : ℕ) : ℝ) = 4 by norm_num]
  simp [Ideal.ofBits, Ideal.ieee, -EReal.coe_mul]; norm_num

theorem word_8 : Ideal.ofBits FTy.f32 0x41000000#32 = ((((8 : ℕ) : ℝ)) : EReal) := by
  rw [show ((8 : ℕ) : ℝ) = 8 by norm_num]
  simp [Ideal.ofBits, Ideal.ieee, -EReal.coe_mul]; norm_num

theorem word_16 : Ideal.ofBits FTy.f32 0x41800000#32 = ((((16 : ℕ) : ℝ)) : EReal) := by
  rw [show ((16 : ℕ) : ℝ) = 16 by norm_num]
  simp [Ideal.ofBits, Ideal.ieee, -EReal.coe_mul]; norm_num

/-- Each group over the counts of its window. -/
def over (D : Fin 4 → FVec Ideal S2x2048x128 .f32) : Fin 4 → FVec Ideal S2x2048x128 .f32
  | 0 => Host.divf (D 0) (cnts 0x40000000#32)
  | 1 => Host.divf (D 1) (cnts 0x40800000#32)
  | 2 => Host.divf (D 2) (cnts 0x41000000#32)
  | 3 => Host.divf (D 3) (cnts 0x41800000#32)

theorem over_apply (D : Fin 4 → FVec Ideal S2x2048x128 .f32) (g : Fin 4) (b : Fin 2) (s : Fin 2048) (a : Fin 128) :
    over D g (ix3 b s a) = Ideal.div (D g (ix3 b s a)) (((min (s.val + 1) (2 ^ (g.val + 1)) : ℕ) : ℝ) : EReal) := by
  fin_cases g
  · exact congrArg (Ideal.div _) (cnts_apply _ 2 word_2 b s a)
  · exact congrArg (Ideal.div _) (cnts_apply _ 4 word_4 b s a)
  · exact congrArg (Ideal.div _) (cnts_apply _ 8 word_8 b s a)
  · exact congrArg (Ideal.div _) (cnts_apply _ 16 word_16 b s a)

/-- The sums over the later rows of each array less itself, `w` rows earlier: the sums over the next `w` rows. -/
theorem telescope (q : ℕ → ℝ) (t w : ℕ) :
    ∑ j : Fin 2048, (if t + j.val < 2048 then q (t + j.val) + (if t + j.val + w < 2048 then -q (t + j.val + w) else 0) else 0)
      = ∑ j ∈ Finset.range w, if t + j < 2048 then q (t + j) else 0 := by
  let f : ℕ → ℝ := fun s => if s < 2048 then q s else 0
  have hf (s : ℕ) (h : 2048 ≤ s) : f s = 0 := if_neg (by omega)
  have h1 (j : ℕ) : (if t + j < 2048 then q (t + j) + (if t + j + w < 2048 then -q (t + j + w) else 0) else 0)
      = f (t + j) - f (t + (w + j)) := by
    have e : t + (w + j) = t + j + w := by omega
    simp only [f, e]
    split_ifs <;> first | omega | ring
  have h2 := Finset.sum_range_add (fun j => f (t + j)) w 2048
  have h3 := Finset.sum_range_add (fun j => f (t + j)) 2048 w
  rw [Finset.sum_eq_zero (s := Finset.range w) (fun j _ => hf _ (by omega)), add_comm 2048 w] at h3
  refine (Fin.sum_univ_eq_sum_range (fun j => if t + j < 2048 then q (t + j) + (if t + j + w < 2048 then -q (t + j + w) else 0) else 0)
    2048).trans ?_
  simp only [h1]
  rw [Finset.sum_sub_distrib]
  show _ = ∑ j ∈ Finset.range w, f (t + j)
  linarith

/-- The gradient of the pooled rows. -/
def grad (CT : FVec Ideal S4096x512 .f32) (W : FVec Ideal S4x128x128 .f32) (PS : FVec Ideal S1x512 .f32) : FVec Ideal S4096x512 .bf16 :=
  truncf .bf16 (shapeCast S4096x512 (addf (beside fun g => Host.negf (part (dp CT W PS) g))
    (Host.reduceWindowAdd ![1, 2048, 1] ![1, 1, 1] ![0, 0, 0] ![0, 2047, 0] (beside (back (over (part (dp CT W PS)))))
      (broadcastInDim S_ ![] bcast_S_S_ (constant S_ .f32 0x00000000#32))
      reduceWindows_S2x2048x512_S2x2048x512_w1s1p0_0_w2048s1p0_2047_w1s1p0_0 h_S_)) shapeCasts_S2x2048x512_S4096x512) bitsLt_bf16_f32

theorem dp_real (CT : FVec Ideal S4096x512 .f32) (W : FVec Ideal S4x128x128 .f32) (PS : FVec Ideal S1x512 .f32)
    (hC : ∀ y, ∃ r : ℝ, CT y = (r : EReal)) (hW : ∀ y, ∃ r : ℝ, W y = (r : EReal)) (hP : ∀ y, ∃ r : ℝ, PS y = (r : EReal))
    (r : ℕ) (g : Fin 4) (a : Fin 128) : ∃ d : ℝ, dpRow CT W PS r g a = (d : EReal) := by
  choose C hC using hC
  choose V hV using hW
  choose S hS using hP
  refine ⟨∑ d : Fin 128, (if h : r < 4096 then C (ix2 ⟨r, h⟩ ⟨128 * g.val + d.val, by omega⟩) else 0)
    * S (ix2 0 ⟨128 * g.val + d.val, by omega⟩) * V (ix3 g a d), ?_⟩
  unfold dpRow ctRow
  by_cases h : r < 4096
  · simp only [dif_pos h, hC, hV, hS]
    norm_cast
  · simp only [dif_neg h, zero_mul, Finset.sum_const_zero]
    rfl

theorem grad_eq (CT : FVec Ideal S4096x512 .f32) (W : FVec Ideal S4x128x128 .f32) (PS : FVec Ideal S1x512 .f32)
    (hC : ∀ y, ∃ r : ℝ, CT y = (r : EReal)) (hW : ∀ y, ∃ r : ℝ, W y = (r : EReal)) (hP : ∀ y, ∃ r : ℝ, PS y = (r : EReal)) :
    grad CT W PS = duAt CT W PS := by
  funext y
  idx_vars y
  have hb : ∃ (b : Fin 2) (t : Fin 2048), y0 = ⟨b.val * 2048 + t.val, by omega⟩ :=
    ⟨⟨y0.val / 2048, by omega⟩, ⟨y0.val % 2048, by omega⟩, Fin.ext (by dsimp only; omega)⟩
  have hg : ∃ (g : Fin 4) (a : Fin 128), y1 = ⟨128 * g.val + a.val, by omega⟩ :=
    ⟨⟨y1.val / 128, by omega⟩, ⟨y1.val % 128, by omega⟩, Fin.ext (by dsimp only; omega)⟩
  obtain ⟨b, t, rfl⟩ := hb
  obtain ⟨g, a, rfl⟩ := hg
  rw [duAt_apply CT W PS _ (b.val * 2048 + t.val) g a rfl rfl]
  choose d hd using dp_real CT W PS hC hW hP
  have hcast : grad CT W PS (ix2 ⟨b.val * 2048 + t.val, by omega⟩ ⟨128 * g.val + a.val, by omega⟩)
      = (beside fun g => Host.negf (part (dp CT W PS) g)) (ix3 b t ⟨128 * g.val + a.val, by omega⟩)
        + ∑ j : Fin 2048, if h : t.val + j.val < 2048 then (beside (back (over (part (dp CT W PS)))))
          (ix3 b ⟨t.val + j.val, h⟩ ⟨128 * g.val + a.val, by omega⟩) else 0 := by
    refine Eq.trans ?_ (congrArg _ (suffix_apply (beside (back (over (part (dp CT W PS))))) b t ⟨128 * g.val + a.val, by omega⟩))
    unfold grad
    generalize Host.reduceWindowAdd ![1, 2048, 1] ![1, 1, 1] ![0, 0, 0] ![0, 2047, 0] (beside (back (over (part (dp CT W PS)))))
      (broadcastInDim S_ ![] bcast_S_S_ (constant S_ .f32 0x00000000#32)) _ _ = Z
    generalize (beside fun g => Host.negf (part (dp CT W PS) g)) = Y
    pointwise
  have hn : (Host.negf (part (dp CT W PS) g) : FVec Ideal S2x2048x128 .f32) (ix3 b t a) = -(part (dp CT W PS) g (ix3 b t a)) := rfl
  rw [hcast]
  simp only [beside_apply, back_apply, over_apply, hn, part_apply, dp_apply, hd]
  have hdiv (r : ℝ) (n : ℕ) (h : n ≠ 0) : Ideal.div (r : EReal) ((n : ℝ) : EReal) = ((r / n : ℝ) : EReal) := by
    rw [Ideal.div, if_neg (by exact_mod_cast h), EReal.coe_div]
    rfl
  have hmin (n : ℕ) : min (n + 1) (2 ^ (g.val + 1)) ≠ 0 := by positivity
  unfold duRow
  simp only [hd, hdiv _ _ (hmin _)]
  let q : ℕ → ℝ := fun s => d (b.val * 2048 + s) g a / (min (s + 1) (2 ^ (g.val + 1)) : ℕ)
  have ht : (b.val * 2048 + t.val) % 2048 = t.val := by omega
  have hs (j : ℕ) : b.val * 2048 + t.val + j = b.val * 2048 + (t.val + j) := by omega
  have key := congrArg (fun r : ℝ => ((r - d (b.val * 2048 + t.val) g a : ℝ) : EReal)) (telescope q t.val (2 ^ (g.val + 1)))
  simp only [ht, hs]
  refine Eq.trans ?_ (key.trans ?_)
  · rw [sum_coe _ _ (fun x : Fin 2048 => if t.val + x.val < 2048 then q (t.val + x.val)
      + (if t.val + x.val + 2 ^ (g.val + 1) < 2048 then -q (t.val + x.val + 2 ^ (g.val + 1)) else 0) else 0) (fun x => ?_),
      ← EReal.coe_neg, ← EReal.coe_add]
    · congr 1
      ring
    · simp only [dite_eq_ite, q, Nat.add_assoc]
      split_ifs <;> push_cast <;> rfl
  · rw [sum_coe _ _ (fun x => if t.val + x < 2048 then q (t.val + x) else 0) (fun x => ?_), ← EReal.coe_sub]
    simp only [q]
    split_ifs <;> rfl

end Cert.PoolRefIdeal.Pool
end
-- ==== Proof.PoolValue.lean ====
module

public import proofs.«01_k».proof.Proof.Gen.PoolIdeal.Frame
public import proofs.«01_k».proof.Proof.Gen.PoolRefIdeal
public import proofs.«01_k».proof.Proof.Gen.PoolRefIdeal.Run
public import proofs.«01_k».proof.Proof.Gen.Pre_finite_weights_and_cotangent
public import proofs.«01_k».proof.Defs
public import Idealize.ShloMosaic.Lib.Pipeline.ValueKit
public import Idealize.ShloMosaic.Lib.Claim
public import Idealize.ShloMosaic.Lib.Pointwise
public import proofs.«01_k».proof.Proof.PoolGrad
public import proofs.«01_k».proof.Proof.PoolDu
public import proofs.«01_k».proof.Proof.PoolSums

@[expose] public section

set_option maxRecDepth 16384

noncomputable section

open Idealize.ShloMosaic Idealize.ShloMosaic.TcCoe Idealize.SL.Sem
open Idealize.ShloMosaic.Pipeline (Dat)
open scoped BigOperators

namespace Cert.PoolRefIdeal.Pool
open Cert.PoolRefIdeal Cert.PoolRefIdeal.Gen

/-- The stream by example. -/
def rows (U : FVec Ideal S4096x512 .f32) : FVec Ideal S2x2048x512 .f32 := shapeCast S2x2048x512 U shapeCasts_S4096x512_S2x2048x512

/-- The running sums over the positions. -/
def sums (U : FVec Ideal S4096x512 .f32) : FVec Ideal S2x2048x512 .f32 :=
  Host.reduceWindowAdd ![1, 2048, 1] ![1, 1, 1] ![0, 2047, 0] ![0, 0, 0] (rows U) (broadcastInDim S_ ![] bcast_S_S_ (constant S_ .f32 0x00000000#32))
    reduceWindows_S2x2048x512_S2x2048x512_w1s1p0_0_w2048s1p2047_0_w1s1p0_0 h_S_

/-- A group's means: its running sums, those of the positions before its window, its bound of the count, its stream. -/
def mean (s z : FVec Ideal S2x2048x128 .f32) (w : BitVec 32) (u : FVec Ideal S2x2048x128 .f32) : FVec Ideal S2x2048x1x128 .f32 :=
  broadcastInDim S2x2048x1x128 ![0, 1, 3] bcast_S2x2048x128_S2x2048x1x128_0_1_3 (subf (Host.divf (subf s z)
    (broadcastInDim S2x2048x128 ![0, 1, 2] bcast_S1x2048x1_S2x2048x128_0_1_2 (minimumf
      (broadcastInDim S1x2048x1 ![1] bcast_S2048_S1x2048x1_1 (addf (broadcastInDim S2048 ![] bcast_S_S2048 (constant S_ .f32 0x3F800000#32))
        (sitofp .f32 (iotaInDim S2048 32 0))))
      (broadcastInDim S1x2048x1 ![] bcast_S_S1x2048x1 (constant S_ .f32 w))))) u)

/-- The means of the four groups. -/
def means (U : FVec Ideal S4096x512 .f32) : FVec Ideal S2x2048x4x128 .f32 :=
  concatenate S2x2048x4x128 2 [
    ⟨S2x2048x1x128, mean (extractStridedSlice S2x2048x128 ![0, 0, 0] (sums U) slices_S2x2048x512_S2x2048x128_0_0_0)
      (concatenate S2x2048x128 1 [⟨S2x2x128, (broadcastInDim S2x2x128 ![] bcast_S_S2x2x128 (constant S_ .f32 0x00000000#32))⟩,
        ⟨S2x2046x128, (extractStridedSlice S2x2046x128 ![0, 0, 0] (extractStridedSlice S2x2048x128 ![0, 0, 0] (sums U) slices_S2x2048x512_S2x2048x128_0_0_0)
          slices_S2x2048x128_S2x2046x128_0_0_0)⟩] concatenates_S2x2x128_S2x2046x128_S2x2048x128_d1)
      0x40000000#32 (extractStridedSlice S2x2048x128 ![0, 0, 0] (rows U) slices_S2x2048x512_S2x2048x128_0_0_0)⟩,
    ⟨S2x2048x1x128, mean (extractStridedSlice S2x2048x128 ![0, 0, 128] (sums U) slices_S2x2048x512_S2x2048x128_0_0_128)
      (concatenate S2x2048x128 1 [⟨S2x4x128, (broadcastInDim S2x4x128 ![] bcast_S_S2x4x128 (constant S_ .f32 0x00000000#32))⟩,
        ⟨S2x2044x128, (extractStridedSlice S2x2044x128 ![0, 0, 0] (extractStridedSlice S2x2048x128 ![0, 0, 128] (sums U) slices_S2x2048x512_S2x2048x128_0_0_128)
          slices_S2x2048x128_S2x2044x128_0_0_0)⟩] concatenates_S2x4x128_S2x2044x128_S2x2048x128_d1)
      0x40800000#32 (extractStridedSlice S2x2048x128 ![0, 0, 128] (rows U) slices_S2x2048x512_S2x2048x128_0_0_128)⟩,
    ⟨S2x2048x1x128, mean (extractStridedSlice S2x2048x128 ![0, 0, 256] (sums U) slices_S2x2048x512_S2x2048x128_0_0_256)
      (concatenate S2x2048x128 1 [⟨S2x8x128, (broadcastInDim S2x8x128 ![] bcast_S_S2x8x128 (constant S_ .f32 0x00000000#32))⟩,
        ⟨S2x2040x128, (extractStridedSlice S2x2040x128 ![0, 0, 0] (extractStridedSlice S2x2048x128 ![0, 0, 256] (sums U) slices_S2x2048x512_S2x2048x128_0_0_256)
          slices_S2x2048x128_S2x2040x128_0_0_0)⟩] concatenates_S2x8x128_S2x2040x128_S2x2048x128_d1)
      0x41000000#32 (extractStridedSlice S2x2048x128 ![0, 0, 256] (rows U) slices_S2x2048x512_S2x2048x128_0_0_256)⟩,
    ⟨S2x2048x1x128, mean (extractStridedSlice S2x2048x128 ![0, 0, 384] (sums U) slices_S2x2048x512_S2x2048x128_0_0_384)
      (concatenate S2x2048x128 1 [⟨S2x16x128, (broadcastInDim S2x16x128 ![] bcast_S_S2x16x128 (constant S_ .f32 0x00000000#32))⟩,
        ⟨S2x2032x128, (extractStridedSlice S2x2032x128 ![0, 0, 0] (extractStridedSlice S2x2048x128 ![0, 0, 384] (sums U) slices_S2x2048x512_S2x2048x128_0_0_384)
          slices_S2x2048x128_S2x2032x128_0_0_0)⟩] concatenates_S2x16x128_S2x2032x128_S2x2048x128_d1)
      0x41800000#32 (extractStridedSlice S2x2048x128 ![0, 0, 384] (rows U) slices_S2x2048x512_S2x2048x128_0_0_384)⟩] concatenates_S2x2048x1x128_S2x2048x1x128_S2x2048x1x128_S2x2048x1x128_S2x2048x4x128_d2

end Cert.PoolRefIdeal.Pool

namespace Cert.PoolIdeal.Pool
open Cert.PoolIdeal Cert.PoolIdeal.Gen

variable (m : (ℓ : Loc nD τ sig) → Buf (Elt Ideal) ℓ)
  (m' : (ℓ : Loc PoolRefIdeal.nD PoolRefIdeal.τ PoolRefIdeal.sig) → Buf (Elt Ideal) ℓ)

/-- The gradient of the stream: the kernel's is the reference's where the weights, the scale and the cotangent are real. -/
theorem out_du (c : Dev nD) (hpre : Cert.Pre_PoolIdeal_finite_weights_and_cotangent m)
    (h1 : m' ((c.tc : Thread PoolRefIdeal.nD PoolRefIdeal.τ).loc PoolRefIdeal.main_arg1) = m ((c.tc : Thread nD τ).loc main_arg1))
    (h2 : m' ((c.tc : Thread PoolRefIdeal.nD PoolRefIdeal.τ).loc PoolRefIdeal.main_arg2) = m ((c.tc : Thread nD τ).loc main_arg2))
    (h3 : m' ((c.tc : Thread PoolRefIdeal.nD PoolRefIdeal.τ).loc PoolRefIdeal.main_arg3) = m ((c.tc : Thread nD τ).loc main_arg3)) :
    PoolRefIdeal.Value.res_out0 m' c = (dats m 0 c).arrAt 5 cfg0.N := by
  obtain ⟨e1, e2, e3⟩ := hpre c
  refine Eq.trans (b := PoolRefIdeal.Pool.grad (m' ((c.tc : Thread PoolRefIdeal.nD PoolRefIdeal.τ).loc PoolRefIdeal.main_arg3))
    (m' ((c.tc : Thread PoolRefIdeal.nD PoolRefIdeal.τ).loc PoolRefIdeal.main_arg1))
    (m' ((c.tc : Thread PoolRefIdeal.nD PoolRefIdeal.τ).loc PoolRefIdeal.main_arg2))) rfl ?_
  rw [h1, h2, h3, final_du]
  unfold du
  exact PoolRefIdeal.Pool.grad_eq _ _ _ (Cert.Reals.real_of_bit _ _ e3) (Cert.Reals.real_of_bit _ _ e1)
    (Cert.Reals.real_of_bit _ _ e2)

/-- The kernel reads the means that its host part computed. -/
theorem entry (c : Dev nD) : V m c main_v56 =
    truncf .bf16 (shapeCast S4096x512 (PoolRefIdeal.Pool.means (m ((c.tc : Thread nD τ).loc main_arg0))) shapeCasts_S2x2048x4x128_S4096x512)
      bitsLt_bf16_f32 := by
  simp only [V, List.flatten_cons, List.flatten_nil, List.append_nil, List.cons_append, List.nil_append, StableHlo.TRef.binary,
    StableHlo.TRef.nullary, StableHlo.TRef.unary, StableHlo.TRef.toBuf, StableHlo.TRef.ofBuf, cast_eq]
  after_results_simp
  dsimp only [Matrix.cons_val]
  rfl

/-- The gradient of the weights of the groups. -/
theorem out_dw (c : Dev nD)
    (h0 : m' ((c.tc : Thread PoolRefIdeal.nD PoolRefIdeal.τ).loc PoolRefIdeal.main_arg0) = m ((c.tc : Thread nD τ).loc main_arg0))
    (h2 : m' ((c.tc : Thread PoolRefIdeal.nD PoolRefIdeal.τ).loc PoolRefIdeal.main_arg2) = m ((c.tc : Thread nD τ).loc main_arg2))
    (h3 : m' ((c.tc : Thread PoolRefIdeal.nD PoolRefIdeal.τ).loc PoolRefIdeal.main_arg3) = m ((c.tc : Thread nD τ).loc main_arg3)) :
    PoolRefIdeal.Value.res_out1 m' c = (dats m 0 c).arrAt 6 cfg0.N := by
  refine (PoolRefIdeal.Pool.weight_sum (PoolRefIdeal.Pool.means (m' ((c.tc : Thread PoolRefIdeal.nD PoolRefIdeal.τ).loc PoolRefIdeal.main_arg0)))
    (m' ((c.tc : Thread PoolRefIdeal.nD PoolRefIdeal.τ).loc PoolRefIdeal.main_arg3))
    (m' ((c.tc : Thread PoolRefIdeal.nD PoolRefIdeal.τ).loc PoolRefIdeal.main_arg2)) (V m c main_v56) fun b t g d => ?_).trans ?_
  · rw [entry, h0]
    exact PoolRefIdeal.Pool.rows_apply _ _ _ b t g d
  · rw [h2, h3, final_gw]

/-- The gradient of the scale. -/
theorem out_ds (c : Dev nD)
    (h0 : m' ((c.tc : Thread PoolRefIdeal.nD PoolRefIdeal.τ).loc PoolRefIdeal.main_arg0) = m ((c.tc : Thread nD τ).loc main_arg0))
    (h1 : m' ((c.tc : Thread PoolRefIdeal.nD PoolRefIdeal.τ).loc PoolRefIdeal.main_arg1) = m ((c.tc : Thread nD τ).loc main_arg1))
    (h3 : m' ((c.tc : Thread PoolRefIdeal.nD PoolRefIdeal.τ).loc PoolRefIdeal.main_arg3) = m ((c.tc : Thread nD τ).loc main_arg3)) :
    PoolRefIdeal.Value.res_out2 m' c = (dats m 0 c).arrAt 7 cfg0.N := by
  refine (PoolRefIdeal.Pool.scale_sum (PoolRefIdeal.Pool.means (m' ((c.tc : Thread PoolRefIdeal.nD PoolRefIdeal.τ).loc PoolRefIdeal.main_arg0)))
    (m' ((c.tc : Thread PoolRefIdeal.nD PoolRefIdeal.τ).loc PoolRefIdeal.main_arg3))
    (m' ((c.tc : Thread PoolRefIdeal.nD PoolRefIdeal.τ).loc PoolRefIdeal.main_arg1)) (V m c main_v56) fun b t g d => ?_).trans ?_
  · rw [entry, h0]
    exact PoolRefIdeal.Pool.rows_apply _ _ _ b t g d
  · rw [h1, h3, final_gs]

end Cert.PoolIdeal.Pool
end
-- ==== Proof.Norm.lean ====
/- One row of the norm and of its gradient, over the extended reals. -/
module

public import proofs.«01_k».proof.Proof.Reals

@[expose] public section

set_option maxRecDepth 16384

noncomputable section

open Idealize.ShloMosaic Idealize.ShloMosaic.TcCoe Idealize.SL.Sem
open scoped BigOperators

namespace Cert.Norm
open Cert.Reals

/-- The reciprocal root mean square of a row. -/
def rowR (h : Fin 1024 → EReal) : EReal :=
  Ideal.rsqrt (Ideal.div (∑ k, h k * h k) (Ideal.ofBits .f32 0x44800000#32) + Ideal.ofBits .f32 0x3727C5AC#32)

/-- What reaches the norm's output, of a row `d` of the product's gradient. -/
def rowN (d s : Fin 1024 → EReal) (j : Fin 1024) : EReal := d j * (1 + s j)

/-- One row of the gradient below the norm, as the kernel computes it. -/
def rowX (d h g s e : Fin 1024 → EReal) (j : Fin 1024) : EReal :=
  e j + rowR h * (rowN d s j * g j
    - h j * rowR h * Ideal.div (∑ k, rowN d s k * g k * (h k * rowR h)) (Ideal.ofBits .f32 0x44800000#32))

/-- The mean square of a row with the norm's constant. -/
def rowV (h : Fin 1024 → EReal) : EReal :=
  Ideal.div (∑ k, h k * h k) (Ideal.ofBits .f32 0x44800000#32) + Ideal.ofBits .f32 0x3727C5AC#32

/-- What a row's gradient `n` before the gain carries through the norm's factor. -/
def rowQ (n h : Fin 1024 → EReal) : EReal :=
  Ideal.div ((∑ k, h k * n k) * (Ideal.ofBits .f32 0xBF000000#32 * Ideal.div (rowR h) (rowV h))) (Ideal.ofBits .f32 0x44800000#32)

theorem rowX_congr {d d' h h' g g' s s' e e' : Fin 1024 → EReal} {j j' : Fin 1024} (hd : ∀ k, d k = d' k) (hh : ∀ k, h k = h' k)
    (hg : ∀ k, g k = g' k) (hs : ∀ k, s k = s' k) (he : ∀ k, e k = e' k) (hj : j = j') :
    rowX d h g s e j = rowX d' h' g' s' e' j' := by
  obtain rfl := funext hd; obtain rfl := funext hh; obtain rfl := funext hg
  obtain rfl := funext hs; obtain rfl := funext he; rw [hj]

/-- A quotient by a real other than zero is a product. -/
theorem div_mul (a : EReal) (b : ℝ) (h : b ≠ 0) : Ideal.div a (b : EReal) = a * ((b⁻¹ : ℝ) : EReal) := by
  rw [Ideal.div, if_neg (by exact_mod_cast h), EReal.coe_inv]

/-- A nonnegative real factor passes through a sum. -/
theorem sum_factor (r : ℝ) (hr : 0 ≤ r) (f : Fin 1024 → EReal) : ∑ k, f k * (r : EReal) = (∑ k, f k) * (r : EReal) := by
  classical
  induction (Finset.univ : Finset (Fin 1024)) using Finset.induction_on with
  | empty => simp
  | insert a s ha ih =>
    rw [Finset.sum_insert ha, Finset.sum_insert ha, ih, EReal.right_distrib_of_nonneg_of_ne_top (by exact_mod_cast hr) (EReal.coe_ne_top r)]

/-- The squares of a row of which one element is infinite add up to the infinity. -/
theorem squares_top (h : Fin 1024 → EReal) (k : Fin 1024) (hk : h k = ⊤ ∨ h k = ⊥) : ∑ k, h k * h k = ⊤ := by
  have h0 : ∀ k, 0 ≤ h k * h k := fun k => by
    rcases le_total 0 (h k) with e | e
    · exact mul_nonneg e e
    · rw [← neg_mul_neg]
      have := EReal.neg_nonneg.mpr e
      exact mul_nonneg this this
  refine top_le_iff.mp ((le_of_eq ?_).trans (Finset.single_le_sum (fun k _ => h0 k) (Finset.mem_univ k)))
  rcases hk with e | e <;> rw [e] <;> rfl

/-- The two equal shares through the norm's factor are one projection. -/
theorem share (S n e : EReal) (h r v : ℝ) (hr : 0 ≤ r) (hv : v ≠ 0) (hq : r * r = v⁻¹) :
    e + n * r + h * Ideal.div (S * (((-(1 / 2) : ℝ) : EReal) * Ideal.div r v)) (1024 : ℝ)
      + Ideal.div (S * (((-(1 / 2) : ℝ) : EReal) * Ideal.div r v)) (1024 : ℝ) * h
      = e + r * (n - h * r * Ideal.div (S * r) (1024 : ℝ)) := by
  have h1 : (h : EReal) * Ideal.div (S * (((-(1 / 2) : ℝ) : EReal) * Ideal.div r v)) (1024 : ℝ)
      = S * ((h * r * r * r / 2048 * (-1) : ℝ) : EReal) := by
    rw [div_mul _ _ (by norm_num), div_coe r v hv, mul_comm, mul_assoc, mul_assoc]
    refine congrArg (S * ·) ?_
    simp only [← EReal.coe_mul]
    refine congrArg _ ?_
    rw [div_eq_mul_inv r v, ← hq]
    ring
  have h2 (a : EReal) : a + a = a * ((2 : ℝ) : EReal) := by
    have := EReal.left_distrib_of_nonneg (a := 1) (b := 1) (c := a) zero_le_one zero_le_one
    rw [mul_one] at this
    rw [← this, show ((2 : ℝ) : EReal) = 1 + 1 by rw [one_coe, ← EReal.coe_add]; norm_num]
  have h3 : (r : EReal) * (n - h * r * Ideal.div (S * r) (1024 : ℝ)) = n * r + S * ((h * r * r * r / 2048 * (-1) * 2 : ℝ) : EReal) := by
    rw [sub_eq_add_neg, EReal.left_distrib_of_nonneg_of_ne_top (by exact_mod_cast hr) (EReal.coe_ne_top r), mul_comm (r : EReal) n]
    refine congrArg (n * (r : EReal) + ·) ?_
    rw [div_mul _ _ (by norm_num), mul_neg, show (r : EReal) * (h * r * (S * r * ((1024⁻¹ : ℝ) : EReal)))
      = S * (r * (h * r * (r * ((1024⁻¹ : ℝ) : EReal)))) by ac_rfl, ← mul_neg]
    refine congrArg (S * ·) ?_
    simp only [← EReal.coe_mul, ← EReal.coe_neg]
    refine congrArg _ ?_
    ring
  rw [mul_comm _ (h : EReal), h1, h3, add_assoc, add_assoc, h2, mul_assoc S, ← EReal.coe_mul]

/-- The norm's gradient of one row: the reference's form is the kernel's. -/
theorem row_eq (d h g s e : Fin 1024 → EReal) (j : Fin 1024) :
    e j + rowN d s j * g j * rowR h + h j * rowQ (fun k => rowN d s k * g k) h + rowQ (fun k => rowN d s k * g k) h * h j
      = rowX d h g s e j := by
  obtain ⟨eps, he, hw⟩ := word_eps
  by_cases hi : ∃ k, h k = ⊤ ∨ h k = ⊥
  · obtain ⟨k, hk⟩ := hi
    have hV : rowV h = ⊤ := by
      unfold rowV
      rw [squares_top h k hk, word_1024, hw, div_mul _ _ (by norm_num), EReal.top_mul_coe_of_pos (by norm_num)]
      rfl
    have hR : rowR h = 0 := congrArg Ideal.rsqrt hV
    have hQ (n : Fin 1024 → EReal) : rowQ n h = 0 := by
      unfold rowQ
      rw [hR, hV, show Ideal.div 0 ⊤ = 0 by simp [Ideal.div], mul_zero, mul_zero, word_1024, div_mul _ _ (by norm_num), zero_mul]
    unfold rowX
    rw [hQ, hR, mul_zero, mul_zero, zero_mul, zero_mul, add_zero, add_zero]
  · have hc : ∀ k, ∃ r : ℝ, h k = (r : EReal) := fun k =>
      ⟨(h k).toReal, (EReal.coe_toReal (fun e => hi ⟨k, Or.inl e⟩) (fun e => hi ⟨k, Or.inr e⟩)).symm⟩
    choose h' hc using hc
    have hS : ∑ k, h k * h k = ((∑ k, h' k * h' k : ℝ) : EReal) := sum_coe _ _ _ fun k => by rw [hc, EReal.coe_mul]
    have hV : rowV h = (((∑ k, h' k * h' k) / 1024 + eps : ℝ) : EReal) := by
      unfold rowV
      rw [hS, word_1024, hw, div_coe _ _ (by norm_num), ← EReal.coe_add]
    have hv : 0 < (∑ k, h' k * h' k) / 1024 + eps := by
      have : 0 ≤ ∑ k, h' k * h' k := Finset.sum_nonneg fun k _ => mul_self_nonneg _
      positivity
    generalize (∑ k, h' k * h' k) / 1024 + eps = v at hV hv
    have hR : rowR h = (((Real.sqrt v)⁻¹ : ℝ) : EReal) := (congrArg Ideal.rsqrt hV).trans (rsqrt_coe v hv)
    have hq : (Real.sqrt v)⁻¹ * (Real.sqrt v)⁻¹ = v⁻¹ := by
      rw [← mul_inv, Real.mul_self_sqrt hv.le]
    have hr : 0 ≤ (Real.sqrt v)⁻¹ := inv_nonneg.mpr (Real.sqrt_nonneg v)
    generalize (Real.sqrt v)⁻¹ = r at hR hq hr
    have h2 : ∑ k, rowN d s k * g k * (h k * (r : EReal)) = (∑ k, h k * (rowN d s k * g k)) * (r : EReal) := by
      rw [← sum_factor r hr]
      exact Finset.sum_congr rfl fun k _ => by rw [← mul_assoc, mul_comm (h k)]
    unfold rowQ rowX
    rw [hR, hV, h2, word_half, word_1024, hc j]
    exact share _ _ _ _ _ _ hr hv.ne' hq

end Cert.Norm
end
-- ==== Proof.NormRef.lean ====
/- The backward pass of the norm and its modulation, as both references spell it: what its stages hold at an index. -/
module

public import proofs.«01_k».proof.Proof.Gen.UpXRefIdeal
public import proofs.«01_k».proof.Proof.Norm

@[expose] public section

set_option maxRecDepth 16384

noncomputable section

open Idealize.ShloMosaic Idealize.ShloMosaic.TcCoe Idealize.SL.Sem
open scoped BigOperators

namespace Cert.NormRef
open Cert.UpXRefIdeal Cert.UpXRefIdeal.Gen
open Cert.Reals Cert.Norm

def zero : FVec Ideal S_ .f32 := constant S_ .f32 0x00000000#32

/-- The modulation by sequence, its scale with the one of the residual form, and a row of the gain. -/
def mod3 (md : FVec Ideal S2x6144 .f32) : FVec Ideal S2x1x6144 .f32 := broadcastInDim S2x1x6144 ![0, 2] bcast_S2x6144_S2x1x6144_0_2 md

def scale (v : FVec Ideal S2x1x1024 .f32) : FVec Ideal S2x2048x1024 .f32 :=
  broadcastInDim S2x2048x1024 ![0, 1, 2] bcast_S2x1x1024_S2x2048x1024_0_1_2
    (addf (broadcastInDim S2x1x1024 ![] bcast_S_S2x1x1024 (constant S_ .f32 0x3F800000#32)) v)

def gain (g : FVec Ideal S1x1024 .f32) : FVec Ideal S2x2048x1024 .f32 :=
  broadcastInDim S2x2048x1024 ![0, 1, 2] bcast_S1x1x1024_S2x2048x1024_0_1_2 (broadcastInDim S1x1x1024 ![1, 2] bcast_S1x1024_S1x1x1024_1_2 g)

/-- The rows by sequence. -/
def seqs (v : FVec Ideal S4096x1024 .f32) : FVec Ideal S2x2048x1024 .f32 := shapeCast _ v shapeCasts_S4096x1024_S2x2048x1024

/-- A sum over the rows of each sequence. -/
def rowsum (v : FVec Ideal S2x2048x1024 .f32) : FVec Ideal S2x1x1024 .f32 :=
  shapeCast S2x1x1024 (Host.reduceAdd v zero reducesTo_S2x2048x1024_S2x1024_d1 h_S_) shapeCasts_S2x1024_S2x1x1024

section
variable (h d sc e : FVec Ideal S2x2048x1024 .f32) (g : FVec Ideal S1x1024 .f32)

/-- The mean square of the rows with the norm's constant, and the factor of the norm. -/
def len : FVec Ideal S2x2048x1 .f32 := broadcastInDim S2x2048x1 ![] bcast_S_S2x2048x1 (constant S_ .f32 0x44800000#32)

def ms : FVec Ideal S2x2048x1 .f32 :=
  addf (Host.divf (broadcastInDim S2x2048x1 ![0, 1] bcast_S2x2048_S2x2048x1_0_1
    (Host.reduceAdd (mulf h h) zero reducesTo_S2x2048x1024_S2x2048_d2 h_S_)) len)
    (broadcastInDim S2x2048x1 ![] bcast_S_S2x2048x1 (constant S_ .f32 0x3727C5AC#32))

def rs : FVec Ideal S2x2048x1024 .f32 :=
  broadcastInDim S2x2048x1024 ![0, 1, 2] bcast_S2x2048x1_S2x2048x1024_0_1_2 (Host.rsqrt (ms h))

/-- The gradient at the norm's output before the gain, and its share through the norm's factor. -/
def dn : FVec Ideal S2x2048x1024 .f32 := mulf (mulf d sc) (gain g)

def through : FVec Ideal S2x2048 .f32 :=
  Host.reduceAdd (Host.divf (mulf (shapeCast S2x2048x1 (Host.reduceAdd (mulf h (dn d sc g)) zero reducesTo_S2x2048x1024_S2x2048_d2 h_S_)
    shapeCasts_S2x2048_S2x2048x1)
    (mulf (broadcastInDim S2x2048x1 ![] bcast_S_S2x2048x1 (constant S_ .f32 0xBF000000#32)) (Host.divf (Host.rsqrt (ms h)) (ms h)))) len)
    zero reducesTo_S2x2048x1_S2x2048_d2 h_S_

def q : FVec Ideal S2x2048x1024 .f32 := broadcastInDim S2x2048x1024 ![0, 1] bcast_S2x2048_S2x2048x1024_0_1 (through h d sc g)

/-- The gradient below the norm. -/
def dx : FVec Ideal S2x2048x1024 .f32 :=
  addf (addf (addf e (mulf (dn d sc g) (rs h))) (mulf h (q h d sc g))) (mulf (q h d sc g) h)

/-- The gradient of the gain. -/
def dg : FVec Ideal S1x1024 .f32 :=
  broadcastInDim S1x1024 ![1] bcast_S1024_S1x1024_1 (Host.reduceAdd (shapeCast S1x1x1024 (Host.reduceAdd
    (mulf (mulf h (rs h)) (mulf d sc)) zero reducesTo_S2x2048x1024_S1024_d0_1 h_S_) shapeCasts_S1024_S1x1x1024)
    zero reducesTo_S1x1x1024_S1024_d0_1 h_S_)

theorem scale_apply (v : FVec Ideal S2x1x1024 .f32) (b : Fin 2) (s : Fin 2048) (j : Fin 1024) :
    scale v (ix3 b s j) = 1 + v (ix3 b 0 j) := by
  pointwise [scale]

theorem gain_apply (b : Fin 2) (s : Fin 2048) (j : Fin 1024) : gain g (ix3 b s j) = g (ix2 0 j) := by
  pointwise [gain]

theorem seqs_apply (v : FVec Ideal S4096x1024 .f32) (b : Fin 2) (s : Fin 2048) (j : Fin 1024) :
    seqs v (ix3 b s j) = v (ix2 ⟨b.val * 2048 + s.val, by omega⟩ j) := by
  pointwise [seqs]

theorem ms_apply (b : Fin 2) (s : Fin 2048) : ms h (ix3 b s 0) = rowV fun k => h (ix3 b s k) := by
  unfold rowV
  pointwise [ms, len, zero]

theorem rs_apply (b : Fin 2) (s : Fin 2048) (j : Fin 1024) : rs h (ix3 b s j) = rowR fun k => h (ix3 b s k) := by
  pointwise [rs]
  rw [ms_apply]
  rfl

theorem dn_apply (b : Fin 2) (s : Fin 2048) (j : Fin 1024) (c : Fin 1024 → EReal) (hc : ∀ k, sc (ix3 b s k) = 1 + c k) :
    dn d sc g (ix3 b s j) = rowN (fun k => d (ix3 b s k)) c j * g (ix2 0 j) := by
  pointwise [dn]
  rw [hc, gain_apply]
  rfl

theorem q_apply (b : Fin 2) (s : Fin 2048) (j : Fin 1024) (c : Fin 1024 → EReal) (hc : ∀ k, sc (ix3 b s k) = 1 + c k) :
    q h d sc g (ix3 b s j) = rowQ (fun k => rowN (fun k => d (ix3 b s k)) c k * g (ix2 0 k)) fun k => h (ix3 b s k) := by
  unfold rowQ
  pointwise [q, through, len, zero]
  rw [Fin.sum_univ_one, ms_apply]
  simp only [dn_apply d sc g b s _ c hc]
  rfl

/-- The reference's gradient below the norm is the kernel's, row by row. -/
theorem dx_apply (b : Fin 2) (s : Fin 2048) (j : Fin 1024) (c : Fin 1024 → EReal) (hc : ∀ k, sc (ix3 b s k) = 1 + c k) :
    dx h d sc e g (ix3 b s j)
      = rowX (fun k => d (ix3 b s k)) (fun k => h (ix3 b s k)) (fun k => g (ix2 0 k)) c (fun k => e (ix3 b s k)) j := by
  pointwise [dx]
  rw [dn_apply d sc g b s j c hc, rs_apply, q_apply h d sc g b s j c hc]
  exact row_eq (fun k => d (ix3 b s k)) (fun k => h (ix3 b s k)) (fun k => g (ix2 0 k)) c (fun k => e (ix3 b s k)) j

theorem dg_apply (j : Fin 1024) : dg h d sc (ix2 0 j)
    = ∑ b : Fin 2, ∑ s : Fin 2048, h (ix3 b s j) * rs h (ix3 b s j) * (d (ix3 b s j) * sc (ix3 b s j)) := by
  pointwise [dg, zero]
  refine (sum_two _ _ _ _).trans ?_
  rw [zero_add, Fin.sum_univ_one, Fin.sum_univ_one]
  pointwise
  refine (sum_two _ _ _ _).trans ?_
  pointwise

end

end Cert.NormRef
end
-- ==== Proof.UpXPoint.lean ====
module

public import proofs.«01_k».proof.Proof.Gen.UpXIdeal.Frame
public import proofs.«01_k».proof.Proof.Gen.UpXRefIdeal
public import Idealize.ShloMosaic.Lib.Pipeline.ValueKit
public import Idealize.ShloMosaic.Lib.Claim
public import Idealize.ShloMosaic.Lib.Pointwise
public import Idealize.ShloMosaic.Lib.WritesUnit
public import proofs.«01_k».proof.Proof.Norm

@[expose] public section

set_option maxRecDepth 16384

noncomputable section

open Idealize.ShloMosaic Idealize.ShloMosaic.TcCoe Idealize.SL.Sem
open Idealize.ShloMosaic.Pipeline (Dat)
open scoped BigOperators

namespace Cert.UpXIdeal.UpX
open Cert.UpXIdeal Cert.UpXIdeal.Gen
open Cert.Norm
variable (m : (ℓ : Loc nD τ sig) → Buf (Elt Ideal) ℓ)

theorem dh1_pay_0 (v26 : FVec Ideal S256x1024 .f32) (v28 : FVec Ideal S256x1024 .bf16) (v29 : Vec Ideal S1x1024x1024 .bf16)
    (v33 : Vec Ideal S256x1024 .bf16) (v35 : Vec Ideal S1x1024x1024 .bf16) (v39 : Vec Ideal S256x1024 .f32)
    (v54 : Vec Ideal S1x1x1024 .f32) (v60 : Vec Ideal S1x1024 .f32) (v63 : Vec Ideal S256x1024 .f32) (a : Fin 256) (b : Fin 1024) :
    k0_pay14 (k0_pay8 v39) (k0_pay9 v39) (k0_pay12 v26 v28 v29 v33 v35 v54 v60) v63
        (k0_pay13 v26 v28 v29 v33 v35 v39 v54 v60) (ix2 a b)
      = rowX (fun k => k0_pay6 v26 v28 v29 v33 v35 (ix2 a k)) (fun k => v39 (ix2 a k)) (fun k => v60 (ix2 0 k))
          (fun k => v54 (ix3 0 0 k)) (fun k => v63 (ix2 a k)) b := by
  pointwise [k0_pay14, k0_pay8, k0_pay7, k0_pay9, k0_pay12, k0_pay13, k0_pay11]
  rfl

theorem dh1_pay_1 (v130 : FVec Ideal S256x1024 .f32) (v131 : Vec Ideal S256x1024 .f32)
    (v146 : Vec Ideal S1x1x1024 .f32) (v152 : Vec Ideal S1x1024 .f32) (v155 : Vec Ideal S256x1024 .f32) (a : Fin 256) (b : Fin 1024) :
    k0_pay30 v130 (k0_pay24 v131) (k0_pay25 v131) (Scalar.ofBits .f32 0x3727C5AC#32) v146 v152 v155 (ix2 a b)
      = rowX (fun k => v130 (ix2 a k)) (fun k => v131 (ix2 a k)) (fun k => v152 (ix2 0 k))
          (fun k => v146 (ix3 0 0 k)) (fun k => v155 (ix2 a k)) b := by
  pointwise [k0_pay30, k0_pay24, k0_pay25, k0_pay26, k0_pay27, k0_pay29]
  rfl

theorem du_pay_0 (p0 p1 p2 p3 : Vec Ideal S256x1024 .bf16) (w0 w1 w2 w3 : Vec Ideal S1x1024x1024 .bf16) (a : Fin 256) (b : Fin 1024) :
    k0_pay6 (k0_pay4 p0 w0 p1 w1) (k0_pay5 p2) w2 p3 w3 (ix2 a b)
      = (∑ l, p0 (ix2 a l) * w0 (ix3 0 b l)) + (∑ l, p1 (ix2 a l) * w1 (ix3 0 b l))
        + (∑ l, p2 (ix2 a l) * w2 (ix3 0 b l)) + ∑ l, p3 (ix2 a l) * w3 (ix3 0 b l) := by
  pointwise [k0_pay6, k0_pay4, k0_pay5]

theorem du_pay_1 (p0 p1 p2 p3 : Vec Ideal S256x1024 .bf16) (w0 w1 w2 w3 : Vec Ideal S1x1024x1024 .bf16) (a : Fin 256) (b : Fin 1024) :
    k0_pay23 p0 w0 p1 w1 p2 w2 p3 w3 (ix2 a b)
      = (∑ l, p0 (ix2 a l) * w0 (ix3 0 b l)) + (∑ l, p1 (ix2 a l) * w1 (ix3 0 b l))
        + (∑ l, p2 (ix2 a l) * w2 (ix3 0 b l)) + ∑ l, p3 (ix2 a l) * w3 (ix3 0 b l) := by
  pointwise [k0_pay23]

/-- One row of the product's gradient: the columns of the weights in four chunks. -/
def rowD (a : Fin 4096 → EReal) (W : FVec Ideal S4x1024x1024 .bf16) (j : Fin 1024) : EReal :=
  (∑ l : Fin 1024, a ⟨l.val, by omega⟩ * W (ix3 0 j l)) + (∑ l : Fin 1024, a ⟨1024 + l.val, by omega⟩ * W (ix3 1 j l))
    + (∑ l : Fin 1024, a ⟨2048 + l.val, by omega⟩ * W (ix3 2 j l)) + ∑ l : Fin 1024, a ⟨3072 + l.val, by omega⟩ * W (ix3 3 j l)

/-- The upper half's chunks as the payloads take them. -/
abbrev q0 (A : FVec Ideal S512x4096 .bf16) (W : FVec Ideal S4x1024x1024 .bf16) : FVec Ideal S256x1024 .f32 :=
  k0_pay4 (View.ld (Val := Elt Ideal) (e' := .bf16) A (Rect.unit (s := S512x4096) ![0, 0] S256x1024.size inb_S512x4096_S256x1024_0_0))
    (View.ld (Val := Elt Ideal) (e' := .bf16) W (Rect.unit (s := S4x1024x1024) ![0, 0, 0] S1x1024x1024.size inb_S4x1024x1024_S1x1024x1024_0_0_0))
    (View.ld (Val := Elt Ideal) (e' := .bf16) A (Rect.unit (s := S512x4096) ![0, 1024] S256x1024.size inb_S512x4096_S256x1024_0_1024))
    (View.ld (Val := Elt Ideal) (e' := .bf16) W (Rect.unit (s := S4x1024x1024) ![1, 0, 0] S1x1024x1024.size inb_S4x1024x1024_S1x1024x1024_1_0_0))

abbrev q1 (A : FVec Ideal S512x4096 .bf16) : FVec Ideal S256x1024 .bf16 :=
  k0_pay5 (View.ld (Val := Elt Ideal) (e' := .bf16) A (Rect.unit (s := S512x4096) ![0, 2048] S256x1024.size inb_S512x4096_S256x1024_0_2048))

abbrev q2 (W : FVec Ideal S4x1024x1024 .bf16) : FVec Ideal S1x1024x1024 .bf16 :=
  View.ld (Val := Elt Ideal) (e' := .bf16) W (Rect.unit (s := S4x1024x1024) ![2, 0, 0] S1x1024x1024.size inb_S4x1024x1024_S1x1024x1024_2_0_0)

abbrev q3 (A : FVec Ideal S512x4096 .bf16) : FVec Ideal S256x1024 .bf16 :=
  View.ld (Val := Elt Ideal) (e' := .bf16) A (Rect.unit (s := S512x4096) ![0, 3072] S256x1024.size inb_S512x4096_S256x1024_0_3072)

abbrev q4 (W : FVec Ideal S4x1024x1024 .bf16) : FVec Ideal S1x1024x1024 .bf16 :=
  View.ld (Val := Elt Ideal) (e' := .bf16) W (Rect.unit (s := S4x1024x1024) ![3, 0, 0] S1x1024x1024.size inb_S4x1024x1024_S1x1024x1024_3_0_0)

/-- The product's gradient over the upper half of a tile. -/
abbrev du0 (A : FVec Ideal S512x4096 .bf16) (W : FVec Ideal S4x1024x1024 .bf16) : FVec Ideal S256x1024 .f32 :=
  k0_pay6 (q0 A W) (q1 A) (q2 W) (q3 A) (q4 W)

/-- The product's gradient over the lower half of a tile. -/
abbrev du1 (A : FVec Ideal S512x4096 .bf16) (W : FVec Ideal S4x1024x1024 .bf16) : FVec Ideal S256x1024 .f32 :=
  k0_pay23 (View.ld (Val := Elt Ideal) (e' := .bf16) A (Rect.unit (s := S512x4096) ![256, 0] S256x1024.size inb_S512x4096_S256x1024_256_0))
    (View.ld (Val := Elt Ideal) (e' := .bf16) W (Rect.unit (s := S4x1024x1024) ![0, 0, 0] S1x1024x1024.size inb_S4x1024x1024_S1x1024x1024_0_0_0))
    (View.ld (Val := Elt Ideal) (e' := .bf16) A (Rect.unit (s := S512x4096) ![256, 1024] S256x1024.size inb_S512x4096_S256x1024_256_1024))
    (View.ld (Val := Elt Ideal) (e' := .bf16) W (Rect.unit (s := S4x1024x1024) ![1, 0, 0] S1x1024x1024.size inb_S4x1024x1024_S1x1024x1024_1_0_0))
    (View.ld (Val := Elt Ideal) (e' := .bf16) A (Rect.unit (s := S512x4096) ![256, 2048] S256x1024.size inb_S512x4096_S256x1024_256_2048))
    (View.ld (Val := Elt Ideal) (e' := .bf16) W (Rect.unit (s := S4x1024x1024) ![2, 0, 0] S1x1024x1024.size inb_S4x1024x1024_S1x1024x1024_2_0_0))
    (View.ld (Val := Elt Ideal) (e' := .bf16) A (Rect.unit (s := S512x4096) ![256, 3072] S256x1024.size inb_S512x4096_S256x1024_256_3072))
    (View.ld (Val := Elt Ideal) (e' := .bf16) W (Rect.unit (s := S4x1024x1024) ![3, 0, 0] S1x1024x1024.size inb_S4x1024x1024_S1x1024x1024_3_0_0))

theorem du0_apply (A : FVec Ideal S512x4096 .bf16) (W : FVec Ideal S4x1024x1024 .bf16) (a : Fin 256) (j : Fin 1024) :
    du0 A W (ix2 a j) = rowD (fun f => A (ix2 ⟨a.val, by omega⟩ f)) W j := by
  refine (du_pay_0 _ _ _ _ _ _ _ _ a j).trans ?_
  unfold q2 q3 q4
  pointwise [rowD]
  blk_ext

theorem du1_apply (A : FVec Ideal S512x4096 .bf16) (W : FVec Ideal S4x1024x1024 .bf16) (a : Fin 256) (j : Fin 1024) :
    du1 A W (ix2 a j) = rowD (fun f => A (ix2 ⟨256 + a.val, by omega⟩ f)) W j := by
  refine (du_pay_1 _ _ _ _ _ _ _ _ a j).trans ?_
  pointwise [rowD]
  blk_ext

/-- Row `r` of a tile of the gradient below the norm. -/
def tileX (A : FVec Ideal S512x4096 .bf16) (W : FVec Ideal S4x1024x1024 .bf16) (H D : FVec Ideal S512x1024 .f32)
    (M : FVec Ideal S1x6x1024 .f32) (G : FVec Ideal S1x1024 .f32) (r : Fin 512) : Fin 1024 → EReal :=
  rowX (rowD (fun f => A (ix2 r f)) W) (fun k => H (ix2 r k)) (fun k => G (ix2 0 k)) (fun k => M (ix3 0 4 k)) (fun k => D (ix2 r k))

theorem x_pay_0 (v26 : FVec Ideal S256x1024 .f32) (v28 : FVec Ideal S256x1024 .bf16) (v29 : Vec Ideal S1x1024x1024 .bf16)
    (v33 : Vec Ideal S256x1024 .bf16) (v35 : Vec Ideal S1x1024x1024 .bf16) (v39 : Vec Ideal S256x1024 .f32)
    (v54 : Vec Ideal S1x1x1024 .f32) (v60 : Vec Ideal S1x1024 .f32) (v63 : Vec Ideal S256x1024 .f32) (a : Fin 256) (b : Fin 1024) :
    k0_pay15 (k0_pay8 v39) (k0_pay9 v39) (k0_pay12 v26 v28 v29 v33 v35 v54 v60) v63
        (k0_pay13 v26 v28 v29 v33 v35 v39 v54 v60) (ix2 a b)
      = rowX (fun k => k0_pay6 v26 v28 v29 v33 v35 (ix2 a k)) (fun k => v39 (ix2 a k)) (fun k => v60 (ix2 0 k))
          (fun k => v54 (ix3 0 0 k)) (fun k => v63 (ix2 a k)) b := by
  refine Eq.trans ?_ (dh1_pay_0 v26 v28 v29 v33 v35 v39 v54 v60 v63 a b)
  pointwise [k0_pay15]

theorem x_pay_1 (v130 : FVec Ideal S256x1024 .f32) (v131 : Vec Ideal S256x1024 .f32)
    (v146 : Vec Ideal S1x1x1024 .f32) (v152 : Vec Ideal S1x1024 .f32) (v155 : Vec Ideal S256x1024 .f32) (a : Fin 256) (b : Fin 1024) :
    k0_pay31 v130 (k0_pay24 v131) (k0_pay25 v131) (Scalar.ofBits .f32 0x3727C5AC#32) v146 v152 v155 (ix2 a b)
      = rowX (fun k => v130 (ix2 a k)) (fun k => v131 (ix2 a k)) (fun k => v152 (ix2 0 k))
          (fun k => v146 (ix3 0 0 k)) (fun k => v155 (ix2 a k)) b := by
  refine Eq.trans ?_ (dh1_pay_1 v130 v131 v146 v152 v155 a b)
  pointwise [k0_pay31]

theorem o_pay_0 (v26 : FVec Ideal S256x1024 .f32) (v28 : FVec Ideal S256x1024 .bf16) (v29 : Vec Ideal S1x1024x1024 .bf16)
    (v33 : Vec Ideal S256x1024 .bf16) (v35 : Vec Ideal S1x1024x1024 .bf16) (v39 : Vec Ideal S256x1024 .f32)
    (v54 : Vec Ideal S1x1x1024 .f32) (v60 : Vec Ideal S1x1024 .f32) (v63 : Vec Ideal S256x1024 .f32)
    (v78 : Vec Ideal S1x1x1024 .f32) (a : Fin 256) (b : Fin 1024) :
    k0_pay16 (k0_pay8 v39) (k0_pay9 v39) (k0_pay12 v26 v28 v29 v33 v35 v54 v60) v63
        (k0_pay13 v26 v28 v29 v33 v35 v39 v54 v60) v78 (ix2 a b)
      = rowX (fun k => k0_pay6 v26 v28 v29 v33 v35 (ix2 a k)) (fun k => v39 (ix2 a k)) (fun k => v60 (ix2 0 k))
          (fun k => v54 (ix3 0 0 k)) (fun k => v63 (ix2 a k)) b * v78 (ix3 0 0 b) := by
  rw [← dh1_pay_0 v26 v28 v29 v33 v35 v39 v54 v60 v63 a b]
  pointwise [k0_pay16]

theorem o_pay_1 (v130 : FVec Ideal S256x1024 .f32) (v131 : Vec Ideal S256x1024 .f32)
    (v146 : Vec Ideal S1x1x1024 .f32) (v152 : Vec Ideal S1x1024 .f32) (v155 : Vec Ideal S256x1024 .f32)
    (v170 : Vec Ideal S1x1x1024 .f32) (a : Fin 256) (b : Fin 1024) :
    k0_pay32 v130 (k0_pay24 v131) (k0_pay25 v131) (Scalar.ofBits .f32 0x3727C5AC#32) v146 v152 v155 v170 (ix2 a b)
      = rowX (fun k => v130 (ix2 a k)) (fun k => v131 (ix2 a k)) (fun k => v152 (ix2 0 k))
          (fun k => v146 (ix3 0 0 k)) (fun k => v155 (ix2 a k)) b * v170 (ix3 0 0 b) := by
  rw [← dh1_pay_1 v130 v131 v146 v152 v155 a b]
  pointwise [k0_pay32]

/-- The upper and the lower half of a tile's rows, and two rows of the modulation. -/
abbrev up (X : FVec Ideal S512x1024 .f32) : FVec Ideal S256x1024 .f32 :=
  View.ld (Val := Elt Ideal) (e' := .f32) X (Rect.unit (s := S512x1024) ![0, 0] S256x1024.size inb_S512x1024_S256x1024_0_0)

abbrev lo (X : FVec Ideal S512x1024 .f32) : FVec Ideal S256x1024 .f32 :=
  View.ld (Val := Elt Ideal) (e' := .f32) X (Rect.unit (s := S512x1024) ![256, 0] S256x1024.size inb_S512x1024_S256x1024_256_0)

abbrev upB (X : FVec Ideal S512x1024 .bf16) : FVec Ideal S256x1024 .bf16 :=
  View.ld (Val := Elt Ideal) (e' := .bf16) X (Rect.unit (s := S512x1024) ![0, 0] S256x1024.size inb_S512x1024_S256x1024_0_0)

abbrev loB (X : FVec Ideal S512x1024 .bf16) : FVec Ideal S256x1024 .bf16 :=
  View.ld (Val := Elt Ideal) (e' := .bf16) X (Rect.unit (s := S512x1024) ![256, 0] S256x1024.size inb_S512x1024_S256x1024_256_0)

abbrev mod4 (M : FVec Ideal S1x6x1024 .f32) : FVec Ideal S1x1x1024 .f32 :=
  View.ld (Val := Elt Ideal) (e' := .f32) M (Rect.unit (s := S1x6x1024) ![0, 4, 0] S1x1x1024.size inb_S1x6x1024_S1x1x1024_0_4_0)

abbrev mod2 (M : FVec Ideal S1x6x1024 .f32) : FVec Ideal S1x1x1024 .f32 :=
  View.ld (Val := Elt Ideal) (e' := .f32) M (Rect.unit (s := S1x6x1024) ![0, 2, 0] S1x1x1024.size inb_S1x6x1024_S1x1x1024_0_2_0)

section
variable (A : FVec Ideal S512x4096 .bf16) (W : FVec Ideal S4x1024x1024 .bf16) (H D : FVec Ideal S512x1024 .f32)
  (O : FVec Ideal S512x1024 .bf16) (M : FVec Ideal S1x6x1024 .f32) (G : FVec Ideal S1x1024 .f32)

theorem up_apply (X : FVec Ideal S512x1024 .f32) (a : Fin 256) (b : Fin 1024) : up X (ix2 a b) = X (ix2 ⟨a.val, by omega⟩ b) := by
  unfold up; pointwise; blk_ext

theorem lo_apply (X : FVec Ideal S512x1024 .f32) (a : Fin 256) (b : Fin 1024) : lo X (ix2 a b) = X (ix2 ⟨256 + a.val, by omega⟩ b) := by
  unfold lo; pointwise; blk_ext

theorem upB_apply (X : FVec Ideal S512x1024 .bf16) (a : Fin 256) (b : Fin 1024) : upB X (ix2 a b) = X (ix2 ⟨a.val, by omega⟩ b) := by
  unfold upB; pointwise; blk_ext

theorem loB_apply (X : FVec Ideal S512x1024 .bf16) (a : Fin 256) (b : Fin 1024) : loB X (ix2 a b) = X (ix2 ⟨256 + a.val, by omega⟩ b) := by
  unfold loB; pointwise; blk_ext

theorem up_row (X : FVec Ideal S512x1024 .f32) (a : Fin 256) : (fun k => up X (ix2 a k)) = fun k => X (ix2 ⟨a.val, by omega⟩ k) :=
  funext fun k => up_apply X a k

theorem lo_row (X : FVec Ideal S512x1024 .f32) (a : Fin 256) : (fun k => lo X (ix2 a k)) = fun k => X (ix2 ⟨256 + a.val, by omega⟩ k) :=
  funext fun k => lo_apply X a k

theorem mod4_apply (k : Fin 1024) : mod4 M (ix3 0 0 k) = M (ix3 0 4 k) := by
  unfold mod4; pointwise; blk_ext

theorem up_half (a : Fin 256) (b : Fin 1024) :
    rowX (fun k => du0 A W (ix2 a k)) (fun k => up H (ix2 a k)) (fun k => G (ix2 0 k))
        (fun k => mod4 M (ix3 0 0 k)) (fun k => up D (ix2 a k)) b
      = tileX A W H D M G ⟨a.val, by omega⟩ b := by
  unfold tileX
  refine rowX_congr (fun k => du0_apply _ _ _ _) (fun k => up_apply H a k) (fun k => rfl) (mod4_apply M) (fun k => up_apply D a k) rfl

theorem lo_half (a : Fin 256) (b : Fin 1024) :
    rowX (fun k => du1 A W (ix2 a k)) (fun k => lo H (ix2 a k)) (fun k => G (ix2 0 k))
        (fun k => mod4 M (ix3 0 0 k)) (fun k => lo D (ix2 a k)) b
      = tileX A W H D M G ⟨256 + a.val, by omega⟩ b := by
  unfold tileX
  refine rowX_congr (fun k => du1_apply _ _ _ _) (fun k => lo_apply H a k) (fun k => rfl) (mod4_apply M) (fun k => lo_apply D a k) rfl

/-- What the two halves of a tile leave in the first result. -/
theorem x_pieces (y : S512x1024.Idx) :
    View.canon (Val := Elt Ideal) (s := S512x1024) (e := .f32)
      [⟨Rect.unit (s := S512x1024) ![256, 0] S256x1024.size inb_S512x1024_S256x1024_256_0,
        k0_pay31 (F := Ideal) (du1 A W) (k0_pay24 (lo H)) (k0_pay25 (lo H)) (FloatOps.ofBits .f32 0x3727C5AC#32) (mod4 M) G (lo D)⟩,
       ⟨Rect.unit (s := S512x1024) ![0, 0] S256x1024.size inb_S512x1024_S256x1024_0_0,
        k0_pay15 (F := Ideal) (k0_pay8 (up H)) (k0_pay9 (up H)) (k0_pay12 (q0 A W) (q1 A) (q2 W) (q3 A) (q4 W) (mod4 M) G) (up D)
          (k0_pay13 (q0 A W) (q1 A) (q2 W) (q3 A) (q4 W) (up H) (mod4 M) G)⟩] y
      = tileX A W H D M G (y 0) (y 1) := by
  canon_tiles x h
  · idx_vars x
    refine (x_pay_1 _ _ _ _ _ _ _).trans ((lo_half A W H D M G x0 x1).trans ?_)
    exact congrArg₂ (tileX A W H D M G) (Fin.ext h0.symm) (Fin.ext h1.symm)
  · idx_vars x
    refine (x_pay_0 _ _ _ _ _ _ _ _ _ _ _).trans ((up_half A W H D M G x0 x1).trans ?_)
    exact congrArg₂ (tileX A W H D M G) (Fin.ext (by simpa using h0.symm)) (Fin.ext h1.symm)

/-- The sums of one tile over its rows: of the product's gradient, of it against the norm, of the gradient below the norm
    against the layer's addend, and of what reaches the norm against the normalized rows. -/
def tileShift (j : Fin 1024) : EReal := ∑ r : Fin 512, rowD (fun f => A (ix2 r f)) W j

def tileScale (j : Fin 1024) : EReal :=
  ∑ r : Fin 512, rowD (fun f => A (ix2 r f)) W j * (H (ix2 r j) * rowR (fun k => H (ix2 r k)) * G (ix2 0 j))

def tileGate (j : Fin 1024) : EReal := ∑ r : Fin 512, tileX A W H D M G r j * O (ix2 r j)

def tileG (j : Fin 1024) : EReal :=
  ∑ r : Fin 512, rowN (rowD (fun f => A (ix2 r f)) W) (fun k => M (ix3 0 4 k)) j * (H (ix2 r j) * rowR (fun k => H (ix2 r k)))

end

theorem sum_halves (f : Fin 512 → EReal) :
    (∑ a : Fin 256, f ⟨a.val, by omega⟩) + ∑ a : Fin 256, f ⟨256 + a.val, by omega⟩ = ∑ r, f r :=
  (Fin.sum_univ_add (a := 256) (b := 256) f).symm

theorem shift_pay (d0 d1 : FVec Ideal S256x1024 .f32) (acc : Vec Ideal S1x1x1024 .f32) (p q : Fin 1) (b : Fin 1024) :
    k0_pay35 (k0_pay18 d0) d1 acc (ix3 p q b) = acc (ix3 0 0 b) + ((∑ a, d0 (ix2 a b)) + ∑ a, d1 (ix2 a b)) := by
  obtain rfl : p = 0 := Subsingleton.elim _ _
  obtain rfl : q = 0 := Subsingleton.elim _ _
  pointwise [k0_pay35, k0_pay18]

theorem scale_pay (d0 d1 : FVec Ideal S256x1024 .f32) (h0 h1 : FVec Ideal S256x1024 .f32) (g : Vec Ideal S1x1024 .f32)
    (acc : Vec Ideal S1x1x1024 .f32) (p q : Fin 1) (b : Fin 1024) :
    k0_pay36 (k0_pay19 d0 (k0_pay10 h0 g)) d1 (k0_pay28 (k0_pay24 h1) (k0_pay25 h1) (Scalar.ofBits .f32 0x3727C5AC#32) g) acc (ix3 p q b)
      = acc (ix3 0 0 b) + ((∑ a, d0 (ix2 a b) * (h0 (ix2 a b) * rowR (fun k => h0 (ix2 a k)) * g (ix2 0 b)))
        + ∑ a, d1 (ix2 a b) * (h1 (ix2 a b) * rowR (fun k => h1 (ix2 a k)) * g (ix2 0 b))) := by
  obtain rfl : p = 0 := Subsingleton.elim _ _
  obtain rfl : q = 0 := Subsingleton.elim _ _
  pointwise [k0_pay36, k0_pay19, k0_pay10, k0_pay9, k0_pay8, k0_pay7, k0_pay28, k0_pay27, k0_pay26, k0_pay25, k0_pay24]
  rfl

theorem gate_pay (v48 : FVec Ideal S256x1 .f32) (v50 v62 v63 : FVec Ideal S256x1024 .f32) (v66 : FVec Ideal S256x1 .f32) (x1 : FVec Ideal S256x1024 .f32)
    (o0 o1 : Vec Ideal S256x1024 .bf16) (acc : Vec Ideal S1x1x1024 .f32) (p q : Fin 1) (b : Fin 1024) :
    k0_pay1 (k0_pay33 (k0_pay22 (k0_pay20 v48 v50 v62 v63 v66 o0) k0_pay21) x1 o1) acc (ix3 p q b)
      = acc (ix3 0 0 b) + ((∑ a, k0_pay14 v48 v50 v62 v63 v66 (ix2 a b) * o0 (ix2 a b)) + ∑ a, x1 (ix2 a b) * o1 (ix2 a b)) := by
  obtain rfl : p = 0 := Subsingleton.elim _ _
  obtain rfl : q = 0 := Subsingleton.elim _ _
  pointwise [k0_pay1, k0_pay33, k0_pay22, k0_pay21, k0_pay20]

theorem g_pay (v26 : FVec Ideal S256x1024 .f32) (v28 : FVec Ideal S256x1024 .bf16) (v29 : Vec Ideal S1x1024x1024 .bf16)
    (v33 : Vec Ideal S256x1024 .bf16) (v35 : Vec Ideal S1x1024x1024 .bf16) (d1 : FVec Ideal S256x1024 .f32)
    (h0 h1 : FVec Ideal S256x1024 .f32) (s : Vec Ideal S1x1x1024 .f32)
    (acc : Vec Ideal S1x1024 .f32) (p : Fin 1) (b : Fin 1024) :
    k0_pay34 (k0_pay17 (k0_pay9 h0) (k0_pay11 v26 v28 v29 v33 v35 s))
        (k0_pay27 (k0_pay24 h1) (k0_pay25 h1) (Scalar.ofBits .f32 0x3727C5AC#32)) (k0_pay29 d1 s) acc (ix2 p b)
      = acc (ix2 0 b) + ((∑ a, rowN (fun k => k0_pay6 v26 v28 v29 v33 v35 (ix2 a k)) (fun k => s (ix3 0 0 k)) b
            * (h0 (ix2 a b) * rowR (fun k => h0 (ix2 a k))))
        + ∑ a, rowN (fun k => d1 (ix2 a k)) (fun k => s (ix3 0 0 k)) b * (h1 (ix2 a b) * rowR (fun k => h1 (ix2 a k)))) := by
  obtain rfl : p = 0 := Subsingleton.elim _ _
  pointwise [k0_pay34, k0_pay17, k0_pay11, k0_pay9, k0_pay8, k0_pay7, k0_pay29, k0_pay27, k0_pay26, k0_pay25, k0_pay24]
  rfl

/-- The first three rows of a block hold what was last stored there, the others what was there before. -/
theorem acc_rows {κ : Kind} {sp : Space} (v : View sig κ sp S1x8x1024 .f32) (f : v.ty.Contents (Elt Ideal))
    (w0 w1 w2 : S1x1x1024.Idx → Elt Ideal .f32) (L : List (View.Piece (Elt Ideal) S1x8x1024 .f32)) (y : S1x8x1024.Idx) (R : EReal)
    (h0 : (y 1).val = 0 → w0 (ix3 0 0 (y 2)) = R) (h1 : (y 1).val = 1 → w1 (ix3 0 0 (y 2)) = R)
    (h2 : (y 1).val = 2 → w2 (ix3 0 0 (y 2)) = R) (h3 : 3 ≤ (y 1).val → v.read (Elt Ideal) (v.writes (Elt Ideal) f L) y = R) :
    v.read (Elt Ideal) (v.writes (Elt Ideal) f
      (⟨Rect.unit (s := S1x8x1024) ![0, 2, 0] S1x1x1024.size inb_S1x8x1024_S1x1x1024_0_2_0, w2⟩
        :: ⟨Rect.unit (s := S1x8x1024) ![0, 1, 0] S1x1x1024.size inb_S1x8x1024_S1x1x1024_0_1_0, w1⟩
        :: ⟨Rect.unit (s := S1x8x1024) ![0, 0, 0] S1x1x1024.size inb_S1x8x1024_S1x1x1024_0_0_0, w0⟩ :: L)) y = R := by
  have hz : (y 0).val = 0 := Nat.lt_one_iff.mp (y 0).isLt
  have hx (o : ℕ) (h : (y 1).val = o) : ∀ a : Fin 3, (y a).val = (![0, o, 0] : Fin 3 → ℕ) a + ((ix3 0 0 (y 2) : S1x1x1024.Idx) a).val := by
    intro a; fin_cases a
    · simpa using hz
    · simpa using h
    · simp
  have off (o : ℕ) (h : (y 1).val ≠ o) : (y 1).val < (![0, o, 0] : Fin 3 → ℕ) 1 ∨ (![0, o, 0] : Fin 3 → ℕ) 1 + S1x1x1024.size 1 ≤ (y 1).val := by
    simp; omega
  by_cases e2 : (y 1).val = 2
  · exact (View.read_writes_cons_unit_of_mem v f _ w2 _ y (ix3 0 0 (y 2)) rfl (hx 2 e2)).trans (h2 e2)
  refine (View.read_writes_cons_unit_of_not_mem v f _ w2 _ y rfl 1 (off 2 e2)).trans ?_
  by_cases e1 : (y 1).val = 1
  · exact (View.read_writes_cons_unit_of_mem v f _ w1 _ y (ix3 0 0 (y 2)) rfl (hx 1 e1)).trans (h1 e1)
  refine (View.read_writes_cons_unit_of_not_mem v f _ w1 _ y rfl 1 (off 1 e1)).trans ?_
  by_cases e0 : (y 1).val = 0
  · exact (View.read_writes_cons_unit_of_mem v f _ w0 _ y (ix3 0 0 (y 2)) rfl (hx 0 e0)).trans (h0 e0)
  refine (View.read_writes_cons_unit_of_not_mem v f _ w0 _ y rfl 1 (off 0 e0)).trans ?_
  exact h3 (by omega)

/-- What one tile adds to the modulation's gradient. -/
def tileAcc (A : FVec Ideal S512x4096 .bf16) (W : FVec Ideal S4x1024x1024 .bf16) (H D : FVec Ideal S512x1024 .f32)
    (O : FVec Ideal S512x1024 .bf16) (M : FVec Ideal S1x6x1024 .f32) (G : FVec Ideal S1x1024 .f32) (y : S1x8x1024.Idx) : EReal :=
  if (y 1).val = 0 then tileShift A W (y 2) else if (y 1).val = 1 then tileScale A W H G (y 2)
  else if (y 1).val = 2 then tileGate A W H D O M G (y 2) else 0

section
variable (A : FVec Ideal S512x4096 .bf16) (W : FVec Ideal S4x1024x1024 .bf16) (H D : FVec Ideal S512x1024 .f32)
  (O : FVec Ideal S512x1024 .bf16) (M : FVec Ideal S1x6x1024 .f32) (G : FVec Ideal S1x1024 .f32)

theorem shift_tile (j : Fin 1024) : (∑ a, du0 A W (ix2 a j)) + ∑ a, du1 A W (ix2 a j) = tileShift A W j := by
  refine Eq.trans ?_ (sum_halves _)
  exact congrArg₂ (· + ·) (Finset.sum_congr rfl fun a _ => du0_apply A W a j) (Finset.sum_congr rfl fun a _ => du1_apply A W a j)

theorem scale_tile (j : Fin 1024) :
    (∑ a, du0 A W (ix2 a j) * (up H (ix2 a j) * rowR (fun k => up H (ix2 a k)) * G (ix2 0 j)))
      + (∑ a, du1 A W (ix2 a j) * (lo H (ix2 a j) * rowR (fun k => lo H (ix2 a k)) * G (ix2 0 j))) = tileScale A W H G j := by
  refine Eq.trans ?_ (sum_halves _)
  exact congrArg₂ (· + ·)
    (Finset.sum_congr rfl fun a _ => by rw [du0_apply, up_apply, up_row])
    (Finset.sum_congr rfl fun a _ => by rw [du1_apply, lo_apply, lo_row])

theorem g_tile (j : Fin 1024) :
    (∑ a, rowN (fun k => du0 A W (ix2 a k)) (fun k => mod4 M (ix3 0 0 k)) j * (up H (ix2 a j) * rowR (fun k => up H (ix2 a k))))
      + (∑ a, rowN (fun k => du1 A W (ix2 a k)) (fun k => mod4 M (ix3 0 0 k)) j * (lo H (ix2 a j) * rowR (fun k => lo H (ix2 a k))))
      = tileG A W H M j := by
  refine Eq.trans ?_ (sum_halves _)
  refine congrArg₂ (· + ·) (Finset.sum_congr rfl fun a _ => ?_) (Finset.sum_congr rfl fun a _ => ?_)
  · rw [up_apply, up_row]
    exact congrArg (· * _) (congrArg₂ (· * ·) (du0_apply A W a j) (congrArg (1 + ·) (mod4_apply M j)))
  · rw [lo_apply, lo_row]
    exact congrArg (· * _) (congrArg₂ (· * ·) (du1_apply A W a j) (congrArg (1 + ·) (mod4_apply M j)))

theorem gate_tile (j : Fin 1024) :
    (∑ a, k0_pay14 (F := Ideal) (k0_pay8 (up H)) (k0_pay9 (up H)) (k0_pay12 (q0 A W) (q1 A) (q2 W) (q3 A) (q4 W) (mod4 M) G) (up D)
          (k0_pay13 (q0 A W) (q1 A) (q2 W) (q3 A) (q4 W) (up H) (mod4 M) G) (ix2 a j) * upB O (ix2 a j))
      + (∑ a, k0_pay30 (F := Ideal) (du1 A W) (k0_pay24 (lo H)) (k0_pay25 (lo H)) (Scalar.ofBits .f32 0x3727C5AC#32) (mod4 M) G (lo D) (ix2 a j)
          * loB O (ix2 a j))
      = tileGate A W H D O M G j := by
  refine Eq.trans ?_ (sum_halves _)
  refine congrArg₂ (· + ·) (Finset.sum_congr rfl fun a _ => ?_) (Finset.sum_congr rfl fun a _ => ?_)
  · exact congrArg₂ (· * ·) ((dh1_pay_0 _ _ _ _ _ _ _ _ _ a j).trans (up_half A W H D M G a j)) (upB_apply O a j)
  · exact congrArg₂ (· * ·) ((dh1_pay_1 _ _ _ _ _ a j).trans (lo_half A W H D M G a j)) (loB_apply O a j)

theorem acc_pieces {κ : Kind} {sp : Space} (v : View sig κ sp S1x8x1024 .f32) (f : v.ty.Contents (Elt Ideal))
    (a0 a1 a2 : FVec Ideal S1x1x1024 .f32) (L : List (View.Piece (Elt Ideal) S1x8x1024 .f32)) (y : S1x8x1024.Idx) (p : EReal)
    (h0 : (y 1).val = 0 → a0 (ix3 0 0 (y 2)) = p) (h1 : (y 1).val = 1 → a1 (ix3 0 0 (y 2)) = p)
    (h2 : (y 1).val = 2 → a2 (ix3 0 0 (y 2)) = p) (h3 : 3 ≤ (y 1).val → v.read (Elt Ideal) (v.writes (Elt Ideal) f L) y = p) :
    v.read (Elt Ideal) (v.writes (Elt Ideal) f
      (⟨Rect.unit (s := S1x8x1024) ![0, 2, 0] S1x1x1024.size inb_S1x8x1024_S1x1x1024_0_2_0,
          k0_pay1 (F := Ideal) (k0_pay33 (k0_pay22 (k0_pay20 (k0_pay8 (up H)) (k0_pay9 (up H))
            (k0_pay12 (q0 A W) (q1 A) (q2 W) (q3 A) (q4 W) (mod4 M) G) (up D)
            (k0_pay13 (q0 A W) (q1 A) (q2 W) (q3 A) (q4 W) (up H) (mod4 M) G) (upB O)) k0_pay21)
            (k0_pay30 (du1 A W) (k0_pay24 (lo H)) (k0_pay25 (lo H)) (FloatOps.ofBits .f32 0x3727C5AC#32) (mod4 M) G (lo D)) (loB O)) a2⟩
        :: ⟨Rect.unit (s := S1x8x1024) ![0, 1, 0] S1x1x1024.size inb_S1x8x1024_S1x1x1024_0_1_0,
          k0_pay36 (F := Ideal) (k0_pay19 (du0 A W) (k0_pay10 (up H) G)) (du1 A W)
            (k0_pay28 (k0_pay24 (lo H)) (k0_pay25 (lo H)) (FloatOps.ofBits .f32 0x3727C5AC#32) G) a1⟩
        :: ⟨Rect.unit (s := S1x8x1024) ![0, 0, 0] S1x1x1024.size inb_S1x8x1024_S1x1x1024_0_0_0,
          k0_pay35 (F := Ideal) (k0_pay18 (du0 A W)) (du1 A W) a0⟩ :: L)) y
      = p + tileAcc A W H D O M G y := by
  unfold tileAcc
  refine acc_rows v f _ _ _ L y _ (fun h => ?_) (fun h => ?_) (fun h => ?_) (fun h => ?_)
  · rw [if_pos h, ← h0 h]
    exact (shift_pay _ _ _ _ _ _).trans (congrArg _ (shift_tile A W (y 2)))
  · rw [if_neg (by omega), if_pos h, ← h1 h]
    exact (scale_pay _ _ _ _ _ _ _ _ _).trans (congrArg _ (scale_tile A W H G (y 2)))
  · rw [if_neg (by omega), if_neg (by omega), if_pos h, ← h2 h]
    exact (gate_pay _ _ _ _ _ _ _ _ _ _ _ _).trans (congrArg _ (gate_tile A W H D O M G (y 2)))
  · rw [if_neg (by omega), if_neg (by omega), if_neg (by omega), add_zero]
    exact h3 h

/-- What the two halves of a tile leave in the second result. -/
theorem o_pieces (y : S512x1024.Idx) :
    View.canon (Val := Elt Ideal) (s := S512x1024) (e := .bf16)
      [⟨Rect.unit (s := S512x1024) ![256, 0] S256x1024.size inb_S512x1024_S256x1024_256_0,
        k0_pay32 (F := Ideal) (du1 A W) (k0_pay24 (lo H)) (k0_pay25 (lo H)) (FloatOps.ofBits .f32 0x3727C5AC#32) (mod4 M) G (lo D) (mod2 M)⟩,
       ⟨Rect.unit (s := S512x1024) ![0, 0] S256x1024.size inb_S512x1024_S256x1024_0_0,
        k0_pay16 (F := Ideal) (k0_pay8 (up H)) (k0_pay9 (up H)) (k0_pay12 (q0 A W) (q1 A) (q2 W) (q3 A) (q4 W) (mod4 M) G) (up D)
          (k0_pay13 (q0 A W) (q1 A) (q2 W) (q3 A) (q4 W) (up H) (mod4 M) G) (mod2 M)⟩] y
      = tileX A W H D M G (y 0) (y 1) * M (ix3 0 2 (y 1)) := by
  have e (k : Fin 1024) : mod2 M (ix3 0 0 k) = M (ix3 0 2 k) := by unfold mod2; pointwise; blk_ext
  canon_tiles x h
  · idx_vars x
    refine (o_pay_1 _ _ _ _ _ _ _ _).trans (congrArg₂ (· * ·) ((lo_half A W H D M G x0 x1).trans ?_) ((e x1).trans ?_))
    · exact congrArg₂ (tileX A W H D M G) (Fin.ext h0.symm) (Fin.ext h1.symm)
    · exact congrArg (fun k => M (ix3 0 2 k)) (Fin.ext h1.symm)
  · idx_vars x
    refine (o_pay_0 _ _ _ _ _ _ _ _ _ _ _ _).trans (congrArg₂ (· * ·) ((up_half A W H D M G x0 x1).trans ?_) ((e x1).trans ?_))
    · exact congrArg₂ (tileX A W H D M G) (Fin.ext (by simpa using h0.symm)) (Fin.ext h1.symm)
    · exact congrArg (fun k => M (ix3 0 2 k)) (Fin.ext h1.symm)

/-- What one point leaves in the norm's gain. -/
theorem g_point (acc : FVec Ideal S1x1024 .f32) (y : S1x1024.Idx) :
    k0_pay34 (F := Ideal) (k0_pay17 (k0_pay9 (up H)) (k0_pay11 (q0 A W) (q1 A) (q2 W) (q3 A) (q4 W) (mod4 M)))
        (k0_pay27 (k0_pay24 (lo H)) (k0_pay25 (lo H)) (FloatOps.ofBits .f32 0x3727C5AC#32)) (k0_pay29 (du1 A W) (mod4 M)) acc y
      = acc y + tileG A W H M (y 1) := by
  idx_vars y
  obtain rfl : y0 = 0 := Subsingleton.elim _ _
  exact (g_pay _ _ _ _ _ _ _ _ _ _ _ _).trans (congrArg _ (g_tile A W H M y1))

end

end Cert.UpXIdeal.UpX
end
-- ==== Proof.UpXCases.lean ====
module

public import proofs.«01_k».proof.Proof.Gen.UpXIdeal.Frame
public import proofs.«01_k».proof.Proof.Gen.UpXRefIdeal
public import Idealize.ShloMosaic.Lib.Pipeline.ValueKit
public import Idealize.ShloMosaic.Lib.Claim
public import Idealize.ShloMosaic.Lib.Pointwise
public import Idealize.ShloMosaic.Lib.WritesUnit
public import proofs.«01_k».proof.Proof.UpXPoint

@[expose] public section

set_option maxRecDepth 16384

noncomputable section

open Idealize.ShloMosaic Idealize.ShloMosaic.TcCoe Idealize.SL.Sem
open Idealize.ShloMosaic.Pipeline (Dat)
open scoped BigOperators

namespace Cert.UpXIdeal.UpX
open Cert.UpXIdeal Cert.UpXIdeal.Gen
open Cert.Norm
variable (m : (ℓ : Loc nD τ sig) → Buf (Elt Ideal) ℓ)

/-- Two boxes that do not meet along one axis have no element in common. -/
theorem unit_disjoint {S : Shape} {off size off' size' : Fin S.rank → ℕ} {inb inb'} (a : Fin S.rank)
    (h : off a + size a ≤ off' a ∨ off' a + size' a ≤ off a) :
    Disjoint (Rect.unit (s := S) off size inb).set (Rect.unit (s := S) off' size' inb').set := by
  rw [Finset.disjoint_left]
  intro y hy hy'
  have h1 := (Rect.mem_set_unit.mp hy) a
  have h2 := (Rect.mem_set_unit.mp hy') a
  omega

/-- A load beside the last write reads what was there before. -/
theorem load_beside {κ : Kind} {sp : Space} {S : Shape} {e : EltTy} (v : View sig κ sp S e) {off size off' size' : Fin S.rank → ℕ} {inb inb'}
    (w : (Rect.unit (s := S) off size inb).shape.Idx → Elt Ideal e) (L : List (View.Piece (Elt Ideal) S e)) (a : Fin S.rank)
    (h : off a + size a ≤ off' a ∨ off' a + size' a ≤ off a) :
    v.readCov (⟨Rect.unit off size inb, w⟩ :: L) (Rect.unit off' size' inb').toLoadRect
      = v.readCov L (Rect.unit off' size' inb').toLoadRect :=
  View.readCov_cons_of_disjoint v _ L _ (unit_disjoint (inb := inb) (inb' := inb') a h)

theorem fill_acc {κ : Kind} {sp : Space} (v : View sig κ sp S1x8x1024 .f32) (B : LoadRect S1x8x1024) (j : B.shape.Idx) :
    View.readCov (Val := Elt Ideal) v [⟨Rect.unit (s := S1x8x1024) ![0, 0, 0] S1x8x1024.size inb_S1x8x1024_S1x8x1024_0_0_0, (k0_pay3 : FVec Ideal S1x8x1024 .f32)⟩] B j = (0 : EReal) := by
  rw [View.readCov_eq_canon']
  canon_tiles x h
  pointwise [k0_pay3]

/-- What one point adds: its rows of the gradient below the norm, its sums for the modulation and for the gain. -/
abbrev ptX (c : Dev nD) (t : Fin cfg0.N) : Fin 512 → Fin 1024 → EReal :=
  tileX (iblk m c 0 t) (iblk m c 1 t) (iblk m c 2 t) (iblk m c 3 t) (iblk m c 5 t) (iblk m c 6 t)

abbrev ptAcc (c : Dev nD) (t : Fin cfg0.N) : S1x8x1024.Idx → EReal :=
  tileAcc (iblk m c 0 t) (iblk m c 1 t) (iblk m c 2 t) (iblk m c 3 t) (iblk m c 4 t) (iblk m c 5 t) (iblk m c 6 t)

abbrev ptG (c : Dev nD) (t : Fin cfg0.N) : Fin 1024 → EReal :=
  tileG (iblk m c 0 t) (iblk m c 1 t) (iblk m c 2 t) (iblk m c 5 t)

abbrev ptMod (c : Dev nD) (t : Fin cfg0.N) : FVec Ideal S1x6x1024 .f32 := iblk m c 5 t

theorem x_A (c : Dev nD) (t : Fin cfg0.N) (h0 : t.val % 8 = 0) (h1 : t.val % 4 = 0) (y : S512x1024.Idx) :
    (outsAt0 m c t.val t.isLt).1 y = ptX m c t (y 0) (y 1) := by
  rw [outsAt0_A m c t h0 h1]
  dsimp only
  frame_out
  exact x_pieces (iblk m c 0 t) (iblk m c 1 t) (iblk m c 2 t) (iblk m c 3 t) (iblk m c 5 t) (iblk m c 6 t) y

theorem o_A (c : Dev nD) (t : Fin cfg0.N) (h0 : t.val % 8 = 0) (h1 : t.val % 4 = 0) (y : S512x1024.Idx) :
    (outsAt0 m c t.val t.isLt).2.1 y = ptX m c t (y 0) (y 1) * ptMod m c t (ix3 0 2 (y 1)) := by
  rw [outsAt0_A m c t h0 h1]
  dsimp only
  frame_out
  exact o_pieces (iblk m c 0 t) (iblk m c 1 t) (iblk m c 2 t) (iblk m c 3 t) (iblk m c 5 t) (iblk m c 6 t) y

theorem acc_A (c : Dev nD) (t : Fin cfg0.N) (h0 : t.val % 8 = 0) (h1 : t.val % 4 = 0) (y : S1x8x1024.Idx) :
    (outsAt0 m c t.val t.isLt).2.2.1 y = 0 + ptAcc m c t y := by
  rw [outsAt0_A m c t h0 h1]
  dsimp only
  frame_out
  rw [← View.read_writes_junk_eq_canon (ms0_10 t).view]
  refine acc_pieces (iblk m c 0 t) (iblk m c 1 t) (iblk m c 2 t) (iblk m c 3 t) (iblk m c 4 t) (iblk m c 5 t) (iblk m c 6 t) _ _ _ _ _ _ y _
    (fun h => ?_) (fun h => ?_) (fun h => ?_) (fun h => ?_)
  · exact fill_acc _ _ _
  · rw [load_beside _ _ _ 1 (by decide)]
    exact fill_acc _ _ _
  · rw [load_beside _ _ _ 1 (by decide), load_beside _ _ _ 1 (by decide)]
    exact fill_acc _ _ _
  · rw [View.read_writes_junk_eq_canon]
    canon_tiles x h
    pointwise [k0_pay3]

theorem g_A (c : Dev nD) (t : Fin cfg0.N) (h0 : t.val % 8 = 0) (h1 : t.val % 4 = 0) (y : S1x1024.Idx) :
    (outsAt0 m c t.val t.isLt).2.2.2 y = 0 + ptG m c t (y 1) := by
  rw [outsAt0_A m c t h0 h1]
  dsimp only
  frame_out
  refine (g_point (iblk m c 0 t) (iblk m c 1 t) (iblk m c 2 t) (iblk m c 5 t) _ y).trans (congrArg (· + _) ?_)
  idx_vars y
  pointwise [k0_pay2]

theorem x_B (c : Dev nD) (t : Fin cfg0.N) (h0 : ¬t.val % 8 = 0) (h1 : ¬t.val % 4 = 0) (y : S512x1024.Idx) :
    (outsAt0 m c t.val t.isLt).1 y = ptX m c t (y 0) (y 1) := by
  rw [outsAt0_B m c t h0 h1]
  dsimp only
  frame_out
  exact x_pieces (iblk m c 0 t) (iblk m c 1 t) (iblk m c 2 t) (iblk m c 3 t) (iblk m c 5 t) (iblk m c 6 t) y

theorem o_B (c : Dev nD) (t : Fin cfg0.N) (h0 : ¬t.val % 8 = 0) (h1 : ¬t.val % 4 = 0) (y : S512x1024.Idx) :
    (outsAt0 m c t.val t.isLt).2.1 y = ptX m c t (y 0) (y 1) * ptMod m c t (ix3 0 2 (y 1)) := by
  rw [outsAt0_B m c t h0 h1]
  dsimp only
  frame_out
  exact o_pieces (iblk m c 0 t) (iblk m c 1 t) (iblk m c 2 t) (iblk m c 3 t) (iblk m c 5 t) (iblk m c 6 t) y

theorem acc_B (c : Dev nD) (t : Fin cfg0.N) (h0 : ¬t.val % 8 = 0) (h1 : ¬t.val % 4 = 0) (y : S1x8x1024.Idx) :
    (outsAt0 m c t.val t.isLt).2.2.1 y = (outsAt0 m c (t.val - 1) (by omega)).2.2.1 y + ptAcc m c t y := by
  rw [outsAt0_B m c t h0 h1]
  dsimp only
  generalize outsAt0 m c (t.val - 1) _ = prev
  frame_out
  refine acc_pieces (iblk m c 0 t) (iblk m c 1 t) (iblk m c 2 t) (iblk m c 3 t) (iblk m c 4 t) (iblk m c 5 t) (iblk m c 6 t) _ _ _ _ _ _ y _
    (fun h => ?_) (fun h => ?_) (fun h => ?_) (fun h => ?_)
  · idx_vars y
    pointwise
    blk_ext
  · idx_vars y
    pointwise
    blk_ext
  · idx_vars y
    pointwise
    blk_ext
  · rw [View.writes_nil, (hs0_10 t).read_unread]

theorem g_B (c : Dev nD) (t : Fin cfg0.N) (h0 : ¬t.val % 8 = 0) (h1 : ¬t.val % 4 = 0) (y : S1x1024.Idx) :
    (outsAt0 m c t.val t.isLt).2.2.2 y = (outsAt0 m c (t.val - 1) (by omega)).2.2.2 y + ptG m c t (y 1) := by
  rw [outsAt0_B m c t h0 h1]
  dsimp only
  generalize outsAt0 m c (t.val - 1) _ = prev
  frame_out
  exact g_point (iblk m c 0 t) (iblk m c 1 t) (iblk m c 2 t) (iblk m c 5 t) _ y

theorem x_C (c : Dev nD) (t : Fin cfg0.N) (h0 : ¬t.val % 8 = 0) (h1 : t.val % 4 = 0) (y : S512x1024.Idx) :
    (outsAt0 m c t.val t.isLt).1 y = ptX m c t (y 0) (y 1) := by
  rw [outsAt0_C m c t h0 h1]
  dsimp only
  frame_out
  exact x_pieces (iblk m c 0 t) (iblk m c 1 t) (iblk m c 2 t) (iblk m c 3 t) (iblk m c 5 t) (iblk m c 6 t) y

theorem o_C (c : Dev nD) (t : Fin cfg0.N) (h0 : ¬t.val % 8 = 0) (h1 : t.val % 4 = 0) (y : S512x1024.Idx) :
    (outsAt0 m c t.val t.isLt).2.1 y = ptX m c t (y 0) (y 1) * ptMod m c t (ix3 0 2 (y 1)) := by
  rw [outsAt0_C m c t h0 h1]
  dsimp only
  frame_out
  exact o_pieces (iblk m c 0 t) (iblk m c 1 t) (iblk m c 2 t) (iblk m c 3 t) (iblk m c 5 t) (iblk m c 6 t) y

theorem acc_C (c : Dev nD) (t : Fin cfg0.N) (h0 : ¬t.val % 8 = 0) (h1 : t.val % 4 = 0) (y : S1x8x1024.Idx) :
    (outsAt0 m c t.val t.isLt).2.2.1 y = 0 + ptAcc m c t y := by
  rw [outsAt0_C m c t h0 h1]
  dsimp only
  frame_out
  rw [← View.read_writes_junk_eq_canon (ms0_10 t).view]
  refine acc_pieces (iblk m c 0 t) (iblk m c 1 t) (iblk m c 2 t) (iblk m c 3 t) (iblk m c 4 t) (iblk m c 5 t) (iblk m c 6 t) _ _ _ _ _ _ y _
    (fun h => ?_) (fun h => ?_) (fun h => ?_) (fun h => ?_)
  · exact fill_acc _ _ _
  · rw [load_beside _ _ _ 1 (by decide)]
    exact fill_acc _ _ _
  · rw [load_beside _ _ _ 1 (by decide), load_beside _ _ _ 1 (by decide)]
    exact fill_acc _ _ _
  · rw [View.read_writes_junk_eq_canon]
    canon_tiles x h
    pointwise [k0_pay3]

theorem g_C (c : Dev nD) (t : Fin cfg0.N) (h0 : ¬t.val % 8 = 0) (h1 : t.val % 4 = 0) (y : S1x1024.Idx) :
    (outsAt0 m c t.val t.isLt).2.2.2 y = (outsAt0 m c (t.val - 1) (by omega)).2.2.2 y + ptG m c t (y 1) := by
  rw [outsAt0_C m c t h0 h1]
  dsimp only
  generalize outsAt0 m c (t.val - 1) _ = prev
  frame_out
  exact g_point (iblk m c 0 t) (iblk m c 1 t) (iblk m c 2 t) (iblk m c 5 t) _ y

end Cert.UpXIdeal.UpX
end
-- ==== Proof.UpXFinal.lean ====
module

public import proofs.«01_k».proof.Proof.Gen.UpXIdeal.Frame
public import proofs.«01_k».proof.Proof.Gen.UpXRefIdeal
public import Idealize.ShloMosaic.Lib.Pipeline.ValueKit
public import Idealize.ShloMosaic.Lib.Claim
public import Idealize.ShloMosaic.Lib.Pointwise
public import Idealize.ShloMosaic.Lib.WritesUnit
public import proofs.«01_k».proof.Proof.UpXCases

@[expose] public section

set_option maxRecDepth 16384

noncomputable section

open Idealize.ShloMosaic Idealize.ShloMosaic.TcCoe Idealize.SL.Sem
open Idealize.ShloMosaic.Pipeline (Dat)
open scoped BigOperators

namespace Cert.UpXIdeal.UpX
open Cert.UpXIdeal Cert.UpXIdeal.Gen
open Cert.Norm
variable (m : (ℓ : Loc nD τ sig) → Buf (Elt Ideal) ℓ)

section
variable (x o : FVec Ideal S4096x1024 .f32) (md : FVec Ideal S2x6144 .f32) (g : FVec Ideal S1x1024 .f32)
  (w : FVec Ideal S1024x4096 .f32) (dh : FVec Ideal S4096x1024 .f32) (da : FVec Ideal S4096x4096 .f32)

/-- Row `R` of the product's gradient, of the residual stream, of the scale, and of the gradient below the norm. -/
def gD (R : Fin 4096) (j : Fin 1024) : EReal := ∑ f : Fin 4096, da (ix2 R f) * w (ix2 j f)

def gH (R : Fin 4096) (j : Fin 1024) : EReal :=
  x (ix2 R j) + md (ix2 ⟨R.val / 2048, by omega⟩ ⟨2048 + j.val, by omega⟩) * o (ix2 R j)

def gS (R : Fin 4096) (j : Fin 1024) : EReal := md (ix2 ⟨R.val / 2048, by omega⟩ ⟨4096 + j.val, by omega⟩)

def gX (R : Fin 4096) : Fin 1024 → EReal :=
  rowX (gD w da R) (gH x o md R) (fun k => g (ix2 0 k)) (gS md R) (fun k => dh (ix2 R k))

end

theorem sum_chunks (f : Fin 4096 → EReal) :
    (∑ l : Fin 1024, f ⟨l.val, by omega⟩) + (∑ l : Fin 1024, f ⟨1024 + l.val, by omega⟩) + (∑ l : Fin 1024, f ⟨2048 + l.val, by omega⟩)
      + ∑ l : Fin 1024, f ⟨3072 + l.val, by omega⟩ = ∑ k, f k := by
  rw [Fin.sum_univ_add (a := 3072) (b := 1024) f, Fin.sum_univ_add (a := 2048) (b := 1024), Fin.sum_univ_add (a := 1024) (b := 1024)]
  rfl

theorem rowD_eq (a : Fin 4096 → EReal) (W : FVec Ideal S4x1024x1024 .bf16) (v : Fin 1024 → Fin 4096 → EReal)
    (h : ∀ (i : Fin 4) (j k : Fin 1024), W (ix3 i j k) = v j ⟨i.val * 1024 + k.val, by omega⟩) (j : Fin 1024) :
    rowD a W j = ∑ f, a f * v j f := by
  unfold rowD
  simp only [h]
  refine Eq.trans ?_ (sum_chunks fun f => a f * v j f)
  refine congrArg₂ (· + ·) (congrArg₂ (· + ·) (congrArg₂ (· + ·) ?_ ?_) ?_) ?_ <;>
    exact Finset.sum_congr rfl fun l _ => congrArg (a _ * v j ·) (Fin.ext (by simp))

theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0] ∧ win0_5.index t = ![t.val / 4, 0, 0] ∧ win0_6.index t = ![0, 0]
    ∧ win0_8.index t = ![t.val, 0] ∧ win0_9.index t = ![t.val, 0] ∧ win0_10.index t = ![t.val / 4, 0, 0]
    ∧ win0_11.index t = ![0, 0] := (by decide +kernel : ∀ t : Fin grid0.N, _)

theorem blk_A (c : Dev nD) (t : Fin cfg0.N) (ht : t.val < 8) (r : Fin 512) (f : Fin 4096) : iblk m c 0 t (ix2 r f)
    = m ((c : Thread nD τ).loc main_arg6) (ix2 ⟨t.val * 512 + r.val, by omega⟩ f) := by
  have e : iblk m c 0 t (ix2 r f) = V m c main_v9 (ix2 ⟨t.val * 512 + r.val, by omega⟩ f) := by blk_ext [iblk, idx t]
  rw [e]
  entry_read
  pointwise

theorem blk_W (c : Dev nD) (t : Fin cfg0.N) (i : Fin 4) (j k : Fin 1024) : iblk m c 1 t (ix3 i j k)
    = m ((c : Thread nD τ).loc main_arg4) (ix2 j ⟨i.val * 1024 + k.val, by omega⟩) := by
  have e : iblk m c 1 t (ix3 i j k) = V m c main_v8 (ix3 i j k) := by blk_ext [iblk, idx t]
  rw [e]
  entry_read
  pointwise

theorem blk_H (c : Dev nD) (t : Fin cfg0.N) (ht : t.val < 8) (r : Fin 512) (j : Fin 1024) : iblk m c 2 t (ix2 r j)
    = gH (m ((c : Thread nD τ).loc main_arg0)) (m ((c : Thread nD τ).loc main_arg1)) (m ((c : Thread nD τ).loc main_arg2)) ⟨t.val * 512 + r.val, by omega⟩ j := by
  have e : iblk m c 2 t (ix2 r j) = V m c main_v5 (ix2 ⟨t.val * 512 + r.val, by omega⟩ j) := by blk_ext [iblk, idx t]
  rw [e]
  entry_read
  pointwise [gH]

theorem blk_D (c : Dev nD) (t : Fin cfg0.N) (ht : t.val < 8) (r : Fin 512) (j : Fin 1024) : iblk m c 3 t (ix2 r j)
    = m ((c : Thread nD τ).loc main_arg5) (ix2 ⟨t.val * 512 + r.val, by omega⟩ j) := by
  blk_ext [iblk, V, idx t]

theorem blk_O (c : Dev nD) (t : Fin cfg0.N) (ht : t.val < 8) (r : Fin 512) (j : Fin 1024) : iblk m c 4 t (ix2 r j)
    = m ((c : Thread nD τ).loc main_arg1) (ix2 ⟨t.val * 512 + r.val, by omega⟩ j) := by
  have e : iblk m c 4 t (ix2 r j) = V m c main_v10 (ix2 ⟨t.val * 512 + r.val, by omega⟩ j) := by blk_ext [iblk, idx t]
  rw [e]
  entry_read
  pointwise

theorem blk_M (c : Dev nD) (t : Fin cfg0.N) (ht : t.val < 8) (i : Fin 6) (j : Fin 1024) : iblk m c 5 t (ix3 0 i j)
    = m ((c : Thread nD τ).loc main_arg2) (ix2 ⟨t.val / 4, by omega⟩ ⟨i.val * 1024 + j.val, by omega⟩) := by
  have e : iblk m c 5 t (ix3 0 i j) = V m c main_v0 (ix3 ⟨t.val / 4, by omega⟩ i j) := by blk_ext [iblk, idx t]
  rw [e]
  entry_read
  pointwise

theorem blk_G (c : Dev nD) (t : Fin cfg0.N) (j : Fin 1024) : iblk m c 6 t (ix2 0 j)
    = m ((c : Thread nD τ).loc main_arg3) (ix2 0 j) := by
  blk_ext [iblk, V, idx t]

/-- Row `r` of point `t` is row `512 t + r` of the whole. -/
theorem blk_gD (c : Dev nD) (t : Fin cfg0.N) (ht : t.val < 8) (r : Fin 512) :
    rowD (fun f => iblk m c 0 t (ix2 r f)) (iblk m c 1 t)
      = gD (m ((c : Thread nD τ).loc main_arg4)) (m ((c : Thread nD τ).loc main_arg6)) ⟨t.val * 512 + r.val, by omega⟩ := by
  funext j
  refine (rowD_eq _ _ (fun j f => m ((c : Thread nD τ).loc main_arg4) (ix2 j f)) (fun i j k => blk_W m c t i j k) j).trans ?_
  exact Finset.sum_congr rfl fun f _ => congrArg₂ (fun (u v : EReal) => u * v) (blk_A m c t ht r f) rfl

theorem blk_gS (c : Dev nD) (t : Fin cfg0.N) (ht : t.val < 8) (r : Fin 512) :
    (fun k : Fin 1024 => iblk m c 5 t (ix3 0 4 k)) = gS (m ((c : Thread nD τ).loc main_arg2)) ⟨t.val * 512 + r.val, by omega⟩ := by
  funext k
  rw [blk_M m c t ht]
  exact congrArg (m ((c : Thread nD τ).loc main_arg2)) (congrArg₂ ix2 (Fin.ext (by dsimp only; omega)) (Fin.ext (by rfl)))

theorem blk_gH (c : Dev nD) (t : Fin cfg0.N) (ht : t.val < 8) (r : Fin 512) :
    (fun k : Fin 1024 => iblk m c 2 t (ix2 r k)) = gH (m ((c : Thread nD τ).loc main_arg0)) (m ((c : Thread nD τ).loc main_arg1)) (m ((c : Thread nD τ).loc main_arg2)) ⟨t.val * 512 + r.val, by omega⟩ :=
  funext fun k => blk_H m c t ht r k

theorem pt_X (c : Dev nD) (t : Fin cfg0.N) (ht : t.val < 8) (r : Fin 512) : ptX m c t r
    = gX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val * 512 + r.val, by omega⟩ := by
  unfold ptX tileX gX
  rw [blk_gD m c t ht r, blk_gH m c t ht r, blk_gS m c t ht r]
  simp only [blk_G m c t, blk_D m c t ht]

theorem x_t (c : Dev nD) (t : Fin cfg0.N) (y : S512x1024.Idx) : (outsAt0 m c t.val t.isLt).1 y = ptX m c t (y 0) (y 1) := by
  by_cases h0 : t.val % 8 = 0
  · exact x_A m c t h0 (by omega) y
  · by_cases h1 : t.val % 4 = 0
    · exact x_C m c t h0 h1 y
    · exact x_B m c t h0 h1 y

theorem o_t (c : Dev nD) (t : Fin cfg0.N) (y : S512x1024.Idx) :
    (outsAt0 m c t.val t.isLt).2.1 y = ptX m c t (y 0) (y 1) * ptMod m c t (ix3 0 2 (y 1)) := by
  by_cases h0 : t.val % 8 = 0
  · exact o_A m c t h0 (by omega) y
  · by_cases h1 : t.val % 4 = 0
    · exact o_C m c t h0 h1 y
    · exact o_B m c t h0 h1 y

theorem x_g (c : Dev nD) (t : Fin cfg0.N) (y : S512x1024.Idx) (R : Fin 4096) (j : Fin 1024) (hR : R.val = t.val * 512 + (y 0).val)
    (hj : j.val = (y 1).val) : (outsAt0 m c t.val t.isLt).1 y = gX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R j := by
  obtain rfl : y 1 = j := Fin.ext hj.symm
  refine (x_t m c t y).trans ((congrFun (pt_X m c t (lt_of_lt_of_eq t.isLt N_0) (y 0)) (y 1)).trans ?_)
  exact congrArg (gX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) · (y 1)) (Fin.ext hR.symm)

/-- The gradient of the mixer's output: the gradient below the norm times the gate. -/
def gO (x o : FVec Ideal S4096x1024 .f32) (md : FVec Ideal S2x6144 .f32) (g : FVec Ideal S1x1024 .f32)
    (w : FVec Ideal S1024x4096 .f32) (dh : FVec Ideal S4096x1024 .f32) (da : FVec Ideal S4096x4096 .f32) (R : Fin 4096) (j : Fin 1024) : EReal :=
  gX x o md g w dh da R j * md (ix2 ⟨R.val / 2048, by omega⟩ ⟨2048 + j.val, by omega⟩)

theorem o_g (c : Dev nD) (t : Fin cfg0.N) (y : S512x1024.Idx) (R : Fin 4096) (j : Fin 1024) (hR : R.val = t.val * 512 + (y 0).val)
    (hj : j.val = (y 1).val) : (outsAt0 m c t.val t.isLt).2.1 y = gO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R j := by
  have ht : t.val < 8 := lt_of_lt_of_eq t.isLt N_0
  obtain rfl : y 1 = j := Fin.ext hj.symm
  have h512 : (y 0).val < 512 := (y 0).isLt
  obtain ⟨R, hlt⟩ := R
  obtain rfl : R = t.val * 512 + (y 0).val := hR
  refine (o_t m c t y).trans (congrArg₂ (fun (u v : EReal) => u * v) (congrFun (pt_X m c t ht (y 0)) (y 1)) ((blk_M m c t ht 2 (y 1)).trans
    (congrArg (m ((c : Thread nD τ).loc main_arg2)) (congrArg₂ ix2 (Fin.ext ?_) (Fin.ext rfl)))))
  dsimp only
  omega

theorem final_x (c : Dev nD) : (dats m 0 c).arrAt 8 cfg0.N = fun y : S4096x1024.Idx =>
    gX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1) := by
  refine (dats m 0 c).arrAt_eq_of_covers 8 _ (by decide +kernel) fun t hf y => ?_
  blk_simp
  rw [after0_8]
  refine x_g m c t y _ _ ?_ ?_ <;> blk_simp <;> simp [idx t]

theorem final_o (c : Dev nD) : (dats m 0 c).arrAt 9 cfg0.N = fun y : S4096x1024.Idx =>
    gO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1) := by
  refine (dats m 0 c).arrAt_eq_of_covers 9 _ (by decide +kernel) fun t hf y => ?_
  blk_simp
  rw [after0_9]
  refine o_g m c t y _ _ ?_ ?_ <;> blk_simp <;> simp [idx t]

/-- The sums over the 2048 rows of one sequence. -/
def gAcc (x o : FVec Ideal S4096x1024 .f32) (md : FVec Ideal S2x6144 .f32) (g : FVec Ideal S1x1024 .f32)
    (w : FVec Ideal S1024x4096 .f32) (dh : FVec Ideal S4096x1024 .f32) (da : FVec Ideal S4096x4096 .f32) (b : Fin 2) (i : Fin 8) (j : Fin 1024) : EReal :=
  if i.val = 0 then ∑ r : Fin 2048, gD w da ⟨b.val * 2048 + r.val, by omega⟩ j
  else if i.val = 1 then ∑ r : Fin 2048, gD w da ⟨b.val * 2048 + r.val, by omega⟩ j
    * (gH x o md ⟨b.val * 2048 + r.val, by omega⟩ j * rowR (gH x o md ⟨b.val * 2048 + r.val, by omega⟩) * g (ix2 0 j))
  else if i.val = 2 then ∑ r : Fin 2048, gX x o md g w dh da ⟨b.val * 2048 + r.val, by omega⟩ j * o (ix2 ⟨b.val * 2048 + r.val, by omega⟩ j)
  else 0

def gG (x o : FVec Ideal S4096x1024 .f32) (md : FVec Ideal S2x6144 .f32)
    (w : FVec Ideal S1024x4096 .f32) (da : FVec Ideal S4096x4096 .f32) (j : Fin 1024) : EReal :=
  ∑ R : Fin 4096, rowN (gD w da R) (gS md R) j * (gH x o md R j * rowR (gH x o md R))

theorem sum_G (c : Dev nD) (j : Fin 1024) : ∑ t : Fin cfg0.N, ptG m c t j = gG (m ((c : Thread nD τ).loc main_arg0)) (m ((c : Thread nD τ).loc main_arg1)) (m ((c : Thread nD τ).loc main_arg2)) (m ((c : Thread nD τ).loc main_arg4)) (m ((c : Thread nD τ).loc main_arg6)) j := by
  unfold gG ptG tileG
  exact Fin.sum_mul_add_congr (n := 512) fun s k hl => by
    have ht : s.val < 8 := lt_of_lt_of_eq s.isLt N_0
    rw [blk_gD m c s ht k, blk_gS m c s ht k, blk_gH m c s ht k, blk_H m c s ht k]

theorem final_g (c : Dev nD) : (dats m 0 c).arrAt 11 cfg0.N = fun y : S1x1024.Idx => gG (m ((c : Thread nD τ).loc main_arg0)) (m ((c : Thread nD τ).loc main_arg1)) (m ((c : Thread nD τ).loc main_arg2)) (m ((c : Thread nD τ).loc main_arg4)) (m ((c : Thread nD τ).loc main_arg6)) (y 1) := by
  refine (dats m 0 c).arrAt_eq_of_after_last 11 t0_7 (by decide +kernel) _ fun j => ?_
  blk_simp
  rw [after0_11, Pipeline.eq_sum_fin_of_reset_step_apply_last (fun n h => (outsAt0 m c n h).2.2.2) 8 (fun _ => 0)
    (fun t j => ptG m c t (j 1)) (fun t h j => ?_) (fun t h j => ?_) (le_of_eq N_0) t0_7 rfl j, zero_add]
  · exact sum_G m c (j 1)
  · exact g_A m c t h (by omega) j
  · by_cases h1 : t.val % 4 = 0
    · exact g_C m c t h h1 j
    · exact g_B m c t h h1 j

theorem acc_run (c : Dev nD) (b : Fin 2) (i : Fin 8) (j : Fin 1024) (h : ∀ s : Fin 4, 4 * b.val + s.val < cfg0.N) :
    ∑ s : Fin 4, ptAcc m c ⟨4 * b.val + s.val, h s⟩ (ix3 0 i j) = gAcc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b i j := by
  have ht : ∀ s : Fin 4, 4 * b.val + s.val < 8 := fun s => by omega
  have hr : ∀ (s : Fin 4) (k : Fin 512) (hl : s.val * 512 + k.val < 2048), (⟨(4 * b.val + s.val) * 512 + k.val, by omega⟩ : Fin 4096)
      = ⟨b.val * 2048 + (s.val * 512 + k.val), by omega⟩ := fun s k hl => Fin.ext (by dsimp only; omega)
  unfold gAcc ptAcc tileAcc
  simp only [ix3_1, ix3_2]
  by_cases h0 : i.val = 0
  · simp only [h0, if_true]
    unfold tileShift
    exact Fin.sum_mul_add_congr (n := 512) fun s k hl => by
      rw [blk_gD m c _ (ht s) k, hr s k hl]
  by_cases h1 : i.val = 1
  · simp only [h0, h1, if_true, if_false, one_ne_zero]
    unfold tileScale
    exact Fin.sum_mul_add_congr (n := 512) fun s k hl => by
      rw [blk_gD m c _ (ht s) k, blk_gH m c _ (ht s) k, blk_H m c _ (ht s) k, blk_G, hr s k hl]
  by_cases h2 : i.val = 2
  · simp only [h2, if_true, if_false, OfNat.ofNat_ne_zero, OfNat.ofNat_ne_one]
    unfold tileGate
    exact Fin.sum_mul_add_congr (n := 512) fun s k hl => by
      rw [← hr s k hl]
      exact congrArg₂ (fun (u v : EReal) => u * v) (congrFun (pt_X m c ⟨_, h s⟩ (ht s) k) j) (blk_O m c ⟨_, h s⟩ (ht s) k j)
  · simp only [h0, h1, h2, if_false]
    exact Finset.sum_const_zero

theorem acc_g (c : Dev nD) (t : Fin 8) (y : S1x8x1024.Idx) (b : Fin 2) (i : Fin 8) (j : Fin 1024) (hb : b.val = t.val / 4)
    (hi : i.val = (y 1).val) (hj : j.val = (y 2).val) (h : ∀ s : Fin 4, 4 * (t.val / 4) + s.val < cfg0.N) :
    ∑ s : Fin 4, ptAcc m c ⟨4 * (t.val / 4) + s.val, h s⟩ y = gAcc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b i j := by
  obtain rfl : y = ix3 0 i j := by
    idx_vars y
    exact (ix3_inj _ _ _ _ _ _).mpr ⟨Subsingleton.elim _ _, Fin.ext hi.symm, Fin.ext hj.symm⟩
  simp only [← hb] at h ⊢
  exact acc_run m c b i j h

theorem final_acc (c : Dev nD) : (dats m 0 c).arrAt 10 cfg0.N = fun y : S2x8x1024.Idx =>
    gAcc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1) (y 2) := by
  refine (dats m 0 c).arrAt_eq_of_covers 10 _ (by decide +kernel) fun t hf y => ?_
  blk_simp
  rw [after0_10, Pipeline.eq_sum_fin_of_reset_step_apply_of_flush (fun n h => (outsAt0 m c n h).2.2.1) 4 (fun _ => 0)
    (fun t y => ptAcc m c t y) (fun t h j => ?_) (fun t h j => ?_) t ((flush0_10 t).mp hf) _, zero_add]
  · refine acc_g m c t y _ _ _ ?_ ?_ ?_ _ <;> blk_simp <;> simp [idx t]
  · by_cases h0 : t.val % 8 = 0
    · exact acc_A m c t h0 h j
    · exact acc_C m c t h0 h j
  · exact acc_B m c t (by omega) h j

end Cert.UpXIdeal.UpX
end
-- ==== Proof.UpXRef.lean ====
/- The reference of `mlp_up_bwd`, by rows. -/
module

public import proofs.«01_k».proof.Proof.Gen.UpXRefIdeal
public import proofs.«01_k».proof.Proof.NormRef
public import proofs.«01_k».proof.Proof.UpXFinal

@[expose] public section

set_option maxRecDepth 16384

noncomputable section

open Idealize.ShloMosaic Idealize.ShloMosaic.TcCoe Idealize.SL.Sem
open scoped BigOperators

namespace Cert.UpXRefIdeal.UpX
open Cert.UpXRefIdeal Cert.UpXRefIdeal.Gen
open Cert.Reals Cert.Norm Cert.NormRef
open Cert.UpXIdeal.UpX (gD gH gS gX gO gAcc gG)

section
variable (x o : FVec Ideal S4096x1024 .f32) (md : FVec Ideal S2x6144 .f32) (g : FVec Ideal S1x1024 .f32)
  (w : FVec Ideal S1024x4096 .f32) (dh : FVec Ideal S4096x1024 .f32) (da : FVec Ideal S4096x4096 .f32)

def gate : FVec Ideal S2x2048x1024 .f32 :=
  broadcastInDim S2x2048x1024 ![0, 1, 2] bcast_S2x1x1024_S2x2048x1024_0_1_2
    (extractStridedSlice S2x1x1024 ![0, 0, 2048] (mod3 md) slices_S2x1x6144_S2x1x1024_0_0_2048)

def sc : FVec Ideal S2x2048x1024 .f32 := scale (extractStridedSlice S2x1x1024 ![0, 0, 4096] (mod3 md) slices_S2x1x6144_S2x1x1024_0_0_4096)

/-- The product's gradient, and the residual stream. -/
def du : FVec Ideal S2x2048x1024 .f32 :=
  Host.dotGeneral dot_S2x2048x4096_S1024x4096_S2x2048x1024_2_1_01_0_n_n none (shapeCast _ da shapeCasts_S4096x4096_S2x2048x4096) w

def hs : FVec Ideal S2x2048x1024 .f32 := addf (seqs x) (mulf (gate md) (seqs o))

/-- The gradient below the norm, and the four results. -/
def below : FVec Ideal S2x2048x1024 .f32 := dx (hs x o md) (du w da) (sc md) (seqs dh) g

def outX : FVec Ideal S4096x1024 .f32 := shapeCast _ (below x o md g w dh da) shapeCasts_S2x2048x1024_S4096x1024

def outO : FVec Ideal S4096x1024 .bf16 :=
  truncf .bf16 (shapeCast S4096x1024 (mulf (gate md) (below x o md g w dh da)) shapeCasts_S2x2048x1024_S4096x1024) bitsLt_bf16_f32

def outM : FVec Ideal S2x8x1024 .f32 :=
  concatenate S2x8x1024 1 [⟨S2x1x1024, rowsum (du w da)⟩,
    ⟨S2x1x1024, rowsum (mulf (mulf (mulf (hs x o md) (rs (hs x o md))) (gain g)) (du w da))⟩,
    ⟨S2x1x1024, rowsum (mulf (below x o md g w dh da) (seqs o))⟩,
    ⟨S2x5x1024, broadcastInDim S2x5x1024 ![] bcast_S_S2x5x1024 zero⟩] concatenates_S2x1x1024_S2x1x1024_S2x1x1024_S2x5x1024_S2x8x1024_d1

def outG : FVec Ideal S1x1024 .f32 := dg (hs x o md) (du w da) (sc md)

theorem gate_apply (b : Fin 2) (s : Fin 2048) (j : Fin 1024) : gate md (ix3 b s j) = md (ix2 b ⟨2048 + j.val, by omega⟩) := by
  pointwise [gate, mod3]

theorem sc_apply (b : Fin 2) (s : Fin 2048) (j : Fin 1024) : sc md (ix3 b s j) = 1 + gS md ⟨b.val * 2048 + s.val, by omega⟩ j := by
  have e : (b.val * 2048 + s.val) / 2048 = b.val := by omega
  unfold gS sc
  simp only [e]
  rw [scale_apply]
  pointwise [mod3]

theorem du_apply (b : Fin 2) (s : Fin 2048) (j : Fin 1024) : du w da (ix3 b s j) = gD w da ⟨b.val * 2048 + s.val, by omega⟩ j := by
  unfold gD
  pointwise [du]

theorem hs_apply (b : Fin 2) (s : Fin 2048) (j : Fin 1024) : hs x o md (ix3 b s j) = gH x o md ⟨b.val * 2048 + s.val, by omega⟩ j := by
  have e : (b.val * 2048 + s.val) / 2048 = b.val := by omega
  unfold gH
  simp only [e]
  pointwise [hs]
  rw [gate_apply, seqs_apply, seqs_apply]

theorem factor_apply (b : Fin 2) (s : Fin 2048) (j : Fin 1024) :
    rs (hs x o md) (ix3 b s j) = rowR (gH x o md ⟨b.val * 2048 + s.val, by omega⟩) := by
  rw [rs_apply]
  simp only [hs_apply]

theorem below_apply (b : Fin 2) (s : Fin 2048) (j : Fin 1024) :
    below x o md g w dh da (ix3 b s j) = gX x o md g w dh da ⟨b.val * 2048 + s.val, by omega⟩ j := by
  unfold below
  rw [dx_apply _ _ _ _ _ b s j _ (fun k => sc_apply md b s k)]
  simp only [hs_apply, du_apply, seqs_apply]
  rfl

theorem outX_eq : outX x o md g w dh da = fun y => gX x o md g w dh da (y 0) (y 1) := by
  funext y
  idx_vars y
  pointwise [outX]
  rw [below_apply]
  exact congrArg (gX x o md g w dh da · y1) (Fin.ext (by dsimp only; omega))

theorem outO_eq : outO x o md g w dh da = fun y => gO x o md g w dh da (y 0) (y 1) := by
  funext y
  idx_vars y
  pointwise [outO]
  rw [below_apply, gate_apply, mul_comm]
  exact congrArg₂ (fun (u v : EReal) => u * v) (congrArg (gX x o md g w dh da · y1) (Fin.ext (by dsimp only; omega))) rfl

theorem outM_eq : outM x o md g w dh da = fun y => gAcc x o md g w dh da (y 0) (y 1) (y 2) := by
  funext y
  idx_vars y
  unfold gAcc
  pointwise [outM, rowsum, zero]
  simp only [du_apply, hs_apply, factor_apply, gain_apply, seqs_apply, below_apply]
  by_cases h0 : y1.val = 0
  · rw [dif_pos (by omega), if_pos h0]
  rw [dif_neg (by omega), if_neg h0]
  by_cases h1 : y1.val = 1
  · rw [dif_pos (by omega), if_pos h1]
    exact Finset.sum_congr rfl fun r _ => mul_comm _ _
  rw [dif_neg (by omega), if_neg h1]
  by_cases h2 : y1.val = 2
  · rw [dif_pos (by omega), if_pos h2]
  · rw [dif_neg (by omega), if_neg h2]

theorem outG_eq : outG x o md w da = fun y => gG x o md w da (y 1) := by
  funext y
  idx_vars y
  obtain rfl : y0 = 0 := Subsingleton.elim _ _
  refine (dg_apply _ _ _ y1).trans ?_
  exact Fin.sum_mul_add_congr (n := 2048) fun b s hl => by
    rw [hs_apply, factor_apply, du_apply, sc_apply, mul_comm]
    rfl

end

end Cert.UpXRefIdeal.UpX
end
-- ==== Proof.UpXValue.lean ====
/- The values of `mlp_up_bwd`: each array the kernel leaves is the reference's. -/
module

public import proofs.«01_k».proof.Proof.Gen.UpXRefIdeal
public import proofs.«01_k».proof.Proof.Gen.UpXRefIdeal.Run
public import proofs.«01_k».proof.Proof.Reals
public import proofs.«01_k».proof.Proof.UpXRef

@[expose] public section

set_option maxRecDepth 16384

noncomputable section

open Idealize.ShloMosaic Idealize.ShloMosaic.TcCoe Idealize.SL.Sem
open Idealize.ShloMosaic.Pipeline (Dat)
open scoped BigOperators

namespace Cert.UpXIdeal.UpX
open Cert.UpXIdeal Cert.UpXIdeal.Gen

variable (m : (ℓ : Loc nD τ sig) → Buf (Elt Ideal) ℓ)
  (m' : (ℓ : Loc UpXRefIdeal.nD UpXRefIdeal.τ UpXRefIdeal.sig) → Buf (Elt Ideal) ℓ)

/-- The gradient below the norm. -/
theorem out_x (c : Dev nD) (h0 : m' ((c.tc : Thread UpXRefIdeal.nD UpXRefIdeal.τ).loc UpXRefIdeal.main_arg0) = m ((c.tc : Thread nD τ).loc main_arg0))
    (h1 : m' ((c.tc : Thread UpXRefIdeal.nD UpXRefIdeal.τ).loc UpXRefIdeal.main_arg1) = m ((c.tc : Thread nD τ).loc main_arg1))
    (h2 : m' ((c.tc : Thread UpXRefIdeal.nD UpXRefIdeal.τ).loc UpXRefIdeal.main_arg2) = m ((c.tc : Thread nD τ).loc main_arg2))
    (h3 : m' ((c.tc : Thread UpXRefIdeal.nD UpXRefIdeal.τ).loc UpXRefIdeal.main_arg3) = m ((c.tc : Thread nD τ).loc main_arg3))
    (h4 : m' ((c.tc : Thread UpXRefIdeal.nD UpXRefIdeal.τ).loc UpXRefIdeal.main_arg4) = m ((c.tc : Thread nD τ).loc main_arg4))
    (h5 : m' ((c.tc : Thread UpXRefIdeal.nD UpXRefIdeal.τ).loc UpXRefIdeal.main_arg5) = m ((c.tc : Thread nD τ).loc main_arg5))
    (h6 : m' ((c.tc : Thread UpXRefIdeal.nD UpXRefIdeal.τ).loc UpXRefIdeal.main_arg6) = m ((c.tc : Thread nD τ).loc main_arg6)) :
    UpXRefIdeal.Value.res_out0 m' c = (dats m 0 c).arrAt 8 cfg0.N := by
  refine Eq.trans (b := UpXRefIdeal.UpX.outX (m' ((c.tc : Thread UpXRefIdeal.nD UpXRefIdeal.τ).loc UpXRefIdeal.main_arg0)) (m' ((c.tc : Thread UpXRefIdeal.nD UpXRefIdeal.τ).loc UpXRefIdeal.main_arg1)) (m' ((c.tc : Thread UpXRefIdeal.nD UpXRefIdeal.τ).loc UpXRefIdeal.main_arg2)) (m' ((c.tc : Thread UpXRefIdeal.nD UpXRefIdeal.τ).loc UpXRefIdeal.main_arg3)) (m' ((c.tc : Thread UpXRefIdeal.nD UpXRefIdeal.τ).loc UpXRefIdeal.main_arg4)) (m' ((c.tc : Thread UpXRefIdeal.nD UpXRefIdeal.τ).loc UpXRefIdeal.main_arg5)) (m' ((c.tc : Thread UpXRefIdeal.nD UpXRefIdeal.τ).loc UpXRefIdeal.main_arg6))) rfl ?_
  rw [h0, h1, h2, h3, h4, h5, h6, final_x]
  exact UpXRefIdeal.UpX.outX_eq _ _ _ _ _ _ _

/-- The gradient of the mixer's output. -/
theorem out_o (c : Dev nD) (h0 : m' ((c.tc : Thread UpXRefIdeal.nD UpXRefIdeal.τ).loc UpXRefIdeal.main_arg0) = m ((c.tc : Thread nD τ).loc main_arg0))
    (h1 : m' ((c.tc : Thread UpXRefIdeal.nD UpXRefIdeal.τ).loc UpXRefIdeal.main_arg1) = m ((c.tc : Thread nD τ).loc main_arg1))
    (h2 : m' ((c.tc : Thread UpXRefIdeal.nD UpXRefIdeal.τ).loc UpXRefIdeal.main_arg2) = m ((c.tc : Thread nD τ).loc main_arg2))
    (h3 : m' ((c.tc : Thread UpXRefIdeal.nD UpXRefIdeal.τ).loc UpXRefIdeal.main_arg3) = m ((c.tc : Thread nD τ).loc main_arg3))
    (h4 : m' ((c.tc : Thread UpXRefIdeal.nD UpXRefIdeal.τ).loc UpXRefIdeal.main_arg4) = m ((c.tc : Thread nD τ).loc main_arg4))
    (h5 : m' ((c.tc : Thread UpXRefIdeal.nD UpXRefIdeal.τ).loc UpXRefIdeal.main_arg5) = m ((c.tc : Thread nD τ).loc main_arg5))
    (h6 : m' ((c.tc : Thread UpXRefIdeal.nD UpXRefIdeal.τ).loc UpXRefIdeal.main_arg6) = m ((c.tc : Thread nD τ).loc main_arg6)) :
    UpXRefIdeal.Value.res_out1 m' c = (dats m 0 c).arrAt 9 cfg0.N := by
  refine Eq.trans (b := UpXRefIdeal.UpX.outO (m' ((c.tc : Thread UpXRefIdeal.nD UpXRefIdeal.τ).loc UpXRefIdeal.main_arg0)) (m' ((c.tc : Thread UpXRefIdeal.nD UpXRefIdeal.τ).loc UpXRefIdeal.main_arg1)) (m' ((c.tc : Thread UpXRefIdeal.nD UpXRefIdeal.τ).loc UpXRefIdeal.main_arg2)) (m' ((c.tc : Thread UpXRefIdeal.nD UpXRefIdeal.τ).loc UpXRefIdeal.main_arg3)) (m' ((c.tc : Thread UpXRefIdeal.nD UpXRefIdeal.τ).loc UpXRefIdeal.main_arg4)) (m' ((c.tc : Thread UpXRefIdeal.nD UpXRefIdeal.τ).loc UpXRefIdeal.main_arg5)) (m' ((c.tc : Thread UpXRefIdeal.nD UpXRefIdeal.τ).loc UpXRefIdeal.main_arg6))) rfl ?_
  rw [h0, h1, h2, h3, h4, h5, h6, final_o]
  exact UpXRefIdeal.UpX.outO_eq _ _ _ _ _ _ _

/-- The gradients of the modulation. -/
theorem out_m (c : Dev nD) (h0 : m' ((c.tc : Thread UpXRefIdeal.nD UpXRefIdeal.τ).loc UpXRefIdeal.main_arg0) = m ((c.tc : Thread nD τ).loc main_arg0))
    (h1 : m' ((c.tc : Thread UpXRefIdeal.nD UpXRefIdeal.τ).loc UpXRefIdeal.main_arg1) = m ((c.tc : Thread nD τ).loc main_arg1))
    (h2 : m' ((c.tc : Thread UpXRefIdeal.nD UpXRefIdeal.τ).loc UpXRefIdeal.main_arg2) = m ((c.tc : Thread nD τ).loc main_arg2))
    (h3 : m' ((c.tc : Thread UpXRefIdeal.nD UpXRefIdeal.τ).loc UpXRefIdeal.main_arg3) = m ((c.tc : Thread nD τ).loc main_arg3))
    (h4 : m' ((c.tc : Thread UpXRefIdeal.nD UpXRefIdeal.τ).loc UpXRefIdeal.main_arg4) = m ((c.tc : Thread nD τ).loc main_arg4))
    (h5 : m' ((c.tc : Thread UpXRefIdeal.nD UpXRefIdeal.τ).loc UpXRefIdeal.main_arg5) = m ((c.tc : Thread nD τ).loc main_arg5))
    (h6 : m' ((c.tc : Thread UpXRefIdeal.nD UpXRefIdeal.τ).loc UpXRefIdeal.main_arg6) = m ((c.tc : Thread nD τ).loc main_arg6)) :
    UpXRefIdeal.Value.res_out2 m' c = (dats m 0 c).arrAt 10 cfg0.N := by
  refine Eq.trans (b := UpXRefIdeal.UpX.outM (m' ((c.tc : Thread UpXRefIdeal.nD UpXRefIdeal.τ).loc UpXRefIdeal.main_arg0)) (m' ((c.tc : Thread UpXRefIdeal.nD UpXRefIdeal.τ).loc UpXRefIdeal.main_arg1)) (m' ((c.tc : Thread UpXRefIdeal.nD UpXRefIdeal.τ).loc UpXRefIdeal.main_arg2)) (m' ((c.tc : Thread UpXRefIdeal.nD UpXRefIdeal.τ).loc UpXRefIdeal.main_arg3)) (m' ((c.tc : Thread UpXRefIdeal.nD UpXRefIdeal.τ).loc UpXRefIdeal.main_arg4)) (m' ((c.tc : Thread UpXRefIdeal.nD UpXRefIdeal.τ).loc UpXRefIdeal.main_arg5)) (m' ((c.tc : Thread UpXRefIdeal.nD UpXRefIdeal.τ).loc UpXRefIdeal.main_arg6))) rfl ?_
  rw [h0, h1, h2, h3, h4, h5, h6, final_acc]
  exact UpXRefIdeal.UpX.outM_eq _ _ _ _ _ _ _

/-- The gradient of the gain. -/
theorem out_g (c : Dev nD) :
    UpXRefIdeal.UpX.outG (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6))
      = (dats m 0 c).arrAt 11 cfg0.N := by
  rw [final_g]
  exact UpXRefIdeal.UpX.outG_eq _ _ _ _ _

end Cert.UpXIdeal.UpX
end
-- ==== Proof.InXPoint.lean ====
module

public import proofs.«01_k».proof.Proof.Gen.InXIdeal.Frame
public import proofs.«01_k».proof.Proof.Gen.InXRefIdeal
public import Idealize.ShloMosaic.Lib.Pipeline.ValueKit
public import Idealize.ShloMosaic.Lib.Claim
public import Idealize.ShloMosaic.Lib.Pointwise
public import Idealize.ShloMosaic.Lib.WritesUnit
public import proofs.«01_k».proof.Proof.Norm

@[expose] public section

set_option maxRecDepth 16384

noncomputable section

open Idealize.ShloMosaic Idealize.ShloMosaic.TcCoe Idealize.SL.Sem
open Idealize.ShloMosaic.Pipeline (Dat)
open scoped BigOperators

namespace Cert.InXIdeal.InX
open Cert.InXIdeal Cert.InXIdeal.Gen
open Cert.Norm
variable (m : (ℓ : Loc nD τ sig) → Buf (Elt Ideal) ℓ)

/-- The four gradients side by side: one row of the product's gradient. -/
def rowC (a : Fin 512 → EReal) (b : Fin 1024 → EReal) (c : Fin 1536 → EReal) (e : Fin 16 → EReal) (l : Fin 3088) : EReal :=
  if h : l.val < 512 then a ⟨l.val, h⟩ else if h : l.val < 1536 then b ⟨l.val - 512, by omega⟩
  else if h : l.val < 3072 then c ⟨l.val - 1536, by omega⟩ else e ⟨l.val - 3072, by omega⟩

/-- One row of the product's gradient against the weights. -/
def rowD (a : Fin 3088 → EReal) (W : FVec Ideal S3088x1024 .bf16) (j : Fin 1024) : EReal := ∑ l : Fin 3088, a l * W (ix2 l j)

theorem du_pay_0 (a : Vec Ideal S256x512 .bf16) (b : Vec Ideal S256x1024 .bf16) (c : Vec Ideal S256x1536 .bf16) (w : Vec Ideal S3072x1024 .bf16)
    (e : Vec Ideal S256x16 .bf16) (w' : Vec Ideal S16x1024 .bf16) (r : Fin 256) (j : Fin 1024) :
    k0_pay6 a b c w e w' (ix2 r j)
      = (∑ l : Fin 3072, rowC (fun k => a (ix2 r k)) (fun k => b (ix2 r k)) (fun k => c (ix2 r k)) (fun k => e (ix2 r k)) ⟨l.val, by omega⟩ * w (ix2 l j))
        + ∑ l : Fin 16, e (ix2 r l) * w' (ix2 l j) := by
  pointwise [k0_pay6]
  refine congrArg (· + _) (Finset.sum_congr rfl fun l _ => congrArg (fun u : EReal => u * w (ix2 l j)) ?_)
  unfold rowC
  dsimp only
  by_cases h1 : l.val < 512
  · rw [dif_pos h1, dif_pos h1]
  rw [dif_neg h1, dif_neg h1]
  by_cases h2 : l.val < 1536
  · rw [dif_pos (by omega), dif_pos h2]
  · rw [dif_neg (by omega), dif_neg h2, dif_pos l.isLt]
    exact congrArg (fun k => c (ix2 r k)) (Fin.ext (by dsimp only; omega))

theorem pay16_eq : @k0_pay16 Ideal _ = k0_pay6 := rfl

/-- The upper and the lower half of a tile's rows, and the two blocks of the weights. -/
abbrev upA (X : FVec Ideal S512x512 .bf16) : FVec Ideal S256x512 .bf16 :=
  View.ld (Val := Elt Ideal) (e' := .bf16) X (Rect.unit (s := S512x512) ![0, 0] S256x512.size inb_S512x512_S256x512_0_0)

abbrev loA (X : FVec Ideal S512x512 .bf16) : FVec Ideal S256x512 .bf16 :=
  View.ld (Val := Elt Ideal) (e' := .bf16) X (Rect.unit (s := S512x512) ![256, 0] S256x512.size inb_S512x512_S256x512_256_0)

abbrev upB (X : FVec Ideal S512x1024 .bf16) : FVec Ideal S256x1024 .bf16 :=
  View.ld (Val := Elt Ideal) (e' := .bf16) X (Rect.unit (s := S512x1024) ![0, 0] S256x1024.size inb_S512x1024_S256x1024_0_0)

abbrev loB (X : FVec Ideal S512x1024 .bf16) : FVec Ideal S256x1024 .bf16 :=
  View.ld (Val := Elt Ideal) (e' := .bf16) X (Rect.unit (s := S512x1024) ![256, 0] S256x1024.size inb_S512x1024_S256x1024_256_0)

abbrev upC (X : FVec Ideal S512x1536 .bf16) : FVec Ideal S256x1536 .bf16 :=
  View.ld (Val := Elt Ideal) (e' := .bf16) X (Rect.unit (s := S512x1536) ![0, 0] S256x1536.size inb_S512x1536_S256x1536_0_0)

abbrev loC (X : FVec Ideal S512x1536 .bf16) : FVec Ideal S256x1536 .bf16 :=
  View.ld (Val := Elt Ideal) (e' := .bf16) X (Rect.unit (s := S512x1536) ![256, 0] S256x1536.size inb_S512x1536_S256x1536_256_0)

abbrev upE (X : FVec Ideal S512x128 .bf16) : FVec Ideal S256x16 .bf16 :=
  View.ld (Val := Elt Ideal) (e' := .bf16) X (Rect.unit (s := S512x128) ![0, 0] S256x16.size inb_S512x128_S256x16_0_0)

abbrev loE (X : FVec Ideal S512x128 .bf16) : FVec Ideal S256x16 .bf16 :=
  View.ld (Val := Elt Ideal) (e' := .bf16) X (Rect.unit (s := S512x128) ![256, 0] S256x16.size inb_S512x128_S256x16_256_0)

abbrev wHead (W : FVec Ideal S3088x1024 .bf16) : FVec Ideal S3072x1024 .bf16 :=
  View.ld (Val := Elt Ideal) (e' := .bf16) W (Rect.unit (s := S3088x1024) ![0, 0] S3072x1024.size inb_S3088x1024_S3072x1024_0_0)

abbrev wTail (W : FVec Ideal S3088x1024 .bf16) : FVec Ideal S16x1024 .bf16 :=
  View.ld (Val := Elt Ideal) (e' := .bf16) W (Rect.unit (s := S3088x1024) ![3072, 0] S16x1024.size inb_S3088x1024_S16x1024_3072_0)

abbrev up (X : FVec Ideal S512x1024 .f32) : FVec Ideal S256x1024 .f32 :=
  View.ld (Val := Elt Ideal) (e' := .f32) X (Rect.unit (s := S512x1024) ![0, 0] S256x1024.size inb_S512x1024_S256x1024_0_0)

abbrev lo (X : FVec Ideal S512x1024 .f32) : FVec Ideal S256x1024 .f32 :=
  View.ld (Val := Elt Ideal) (e' := .f32) X (Rect.unit (s := S512x1024) ![256, 0] S256x1024.size inb_S512x1024_S256x1024_256_0)

abbrev mod1 (M : FVec Ideal S1x6x1024 .f32) : FVec Ideal S1x1x1024 .f32 :=
  View.ld (Val := Elt Ideal) (e' := .f32) M (Rect.unit (s := S1x6x1024) ![0, 1, 0] S1x1x1024.size inb_S1x6x1024_S1x1x1024_0_1_0)

section
variable (A : FVec Ideal S512x512 .bf16) (B : FVec Ideal S512x1024 .bf16) (C : FVec Ideal S512x1536 .bf16) (E : FVec Ideal S512x128 .bf16)
  (W : FVec Ideal S3088x1024 .bf16) (H D : FVec Ideal S512x1024 .f32) (M : FVec Ideal S1x6x1024 .f32) (G : FVec Ideal S1x1024 .f32)

/-- Row `r` of a tile of the product's gradient. -/
def tileC (r : Fin 512) : Fin 3088 → EReal :=
  rowC (fun k => A (ix2 r k)) (fun k => B (ix2 r k)) (fun k => C (ix2 r k)) (fun k => E (ix2 r ⟨k.val, by omega⟩))

/-- The product's gradient over the halves of a tile. -/
abbrev du0 : FVec Ideal S256x1024 .f32 := k0_pay6 (upA A) (upB B) (upC C) (wHead W) (upE E) (wTail W)

abbrev du1 : FVec Ideal S256x1024 .f32 := k0_pay16 (loA A) (loB B) (loC C) (wHead W) (loE E) (wTail W)

theorem rowC_head (a : Fin 512 → EReal) (b : Fin 1024 → EReal) (c : Fin 1536 → EReal) (e : Fin 16 → EReal) (l : Fin 16) :
    rowC a b c e ⟨3072 + l.val, by omega⟩ = e l := by
  unfold rowC
  rw [dif_neg (by dsimp only; omega), dif_neg (by dsimp only; omega), dif_neg (by dsimp only; omega)]
  exact congrArg e (Fin.ext (by simp))

theorem rowD_split (a : Fin 3088 → EReal) (j : Fin 1024) :
    (∑ l : Fin 3072, a ⟨l.val, by omega⟩ * W (ix2 ⟨l.val, by omega⟩ j)) + (∑ l : Fin 16, a ⟨3072 + l.val, by omega⟩ * W (ix2 ⟨3072 + l.val, by omega⟩ j))
      = rowD a W j :=
  (Fin.sum_univ_add (a := 3072) (b := 16) fun l => a l * W (ix2 l j)).symm

theorem up_apply (X : FVec Ideal S512x1024 .f32) (a : Fin 256) (b : Fin 1024) : up X (ix2 a b) = X (ix2 ⟨a.val, by omega⟩ b) := by
  unfold up; pointwise; blk_ext

theorem lo_apply (X : FVec Ideal S512x1024 .f32) (a : Fin 256) (b : Fin 1024) : lo X (ix2 a b) = X (ix2 ⟨256 + a.val, by omega⟩ b) := by
  unfold lo; pointwise; blk_ext

theorem up_row (X : FVec Ideal S512x1024 .f32) (a : Fin 256) : (fun k => up X (ix2 a k)) = fun k => X (ix2 ⟨a.val, by omega⟩ k) :=
  funext fun k => up_apply X a k

theorem lo_row (X : FVec Ideal S512x1024 .f32) (a : Fin 256) : (fun k => lo X (ix2 a k)) = fun k => X (ix2 ⟨256 + a.val, by omega⟩ k) :=
  funext fun k => lo_apply X a k

theorem wHead_apply (l : Fin 3072) (j : Fin 1024) : wHead W (ix2 l j) = W (ix2 ⟨l.val, by omega⟩ j) := by
  unfold wHead; pointwise; blk_ext

theorem wTail_apply (l : Fin 16) (j : Fin 1024) : wTail W (ix2 l j) = W (ix2 ⟨3072 + l.val, by omega⟩ j) := by
  unfold wTail; pointwise; blk_ext

theorem upC_row (a : Fin 256) :
    rowC (fun k => upA A (ix2 a k)) (fun k => upB B (ix2 a k)) (fun k => upC C (ix2 a k)) (fun k => upE E (ix2 a k))
      = tileC A B C E ⟨a.val, by omega⟩ := by
  unfold tileC
  congr 1 <;> funext k
  · unfold upA; pointwise; blk_ext
  · unfold upB; pointwise; blk_ext
  · unfold upC; pointwise; blk_ext
  · unfold upE; pointwise; blk_ext

theorem loC_row (a : Fin 256) :
    rowC (fun k => loA A (ix2 a k)) (fun k => loB B (ix2 a k)) (fun k => loC C (ix2 a k)) (fun k => loE E (ix2 a k))
      = tileC A B C E ⟨256 + a.val, by omega⟩ := by
  unfold tileC
  congr 1 <;> funext k
  · unfold loA; pointwise; blk_ext
  · unfold loB; pointwise; blk_ext
  · unfold loC; pointwise; blk_ext
  · unfold loE; pointwise; blk_ext

theorem du0_apply (a : Fin 256) (j : Fin 1024) : du0 A B C E W (ix2 a j) = rowD (tileC A B C E ⟨a.val, by omega⟩) W j := by
  refine (du_pay_0 _ _ _ _ _ _ a j).trans ?_
  rw [← rowD_split, ← upC_row]
  refine congrArg₂ (· + ·) (Finset.sum_congr rfl fun l _ => ?_) (Finset.sum_congr rfl fun l _ => ?_)
  · exact congrArg (fun u : EReal => _ * u) (wHead_apply W l j)
  · rw [rowC_head]
    exact congrArg (fun u : EReal => _ * u) (wTail_apply W l j)

theorem du1_apply (a : Fin 256) (j : Fin 1024) : du1 A B C E W (ix2 a j) = rowD (tileC A B C E ⟨256 + a.val, by omega⟩) W j := by
  unfold du1
  rw [pay16_eq]
  refine (du_pay_0 _ _ _ _ _ _ a j).trans ?_
  rw [← rowD_split, ← loC_row]
  refine congrArg₂ (· + ·) (Finset.sum_congr rfl fun l _ => ?_) (Finset.sum_congr rfl fun l _ => ?_)
  · exact congrArg (fun u : EReal => _ * u) (wHead_apply W l j)
  · rw [rowC_head]
    exact congrArg (fun u : EReal => _ * u) (wTail_apply W l j)

/-- Row `r` of a tile of the gradient below the norm. -/
def tileX (r : Fin 512) : Fin 1024 → EReal :=
  rowX (rowD (tileC A B C E r) W) (fun k => H (ix2 r k)) (fun k => G (ix2 0 k)) (fun k => M (ix3 0 1 k)) (fun k => D (ix2 r k))

theorem x_pay_0 (d h : FVec Ideal S256x1024 .f32) (s : Vec Ideal S1x1x1024 .f32) (g : Vec Ideal S1x1024 .f32) (e : Vec Ideal S256x1024 .f32)
    (a : Fin 256) (b : Fin 1024) :
    k0_pay11 d h s g e (ix2 a b)
      = rowX (fun k => d (ix2 a k)) (fun k => h (ix2 a k)) (fun k => g (ix2 0 k)) (fun k => s (ix3 0 0 k)) (fun k => e (ix2 a k)) b := by
  pointwise [k0_pay11, k0_pay10, k0_pay8, k0_pay7]
  rfl

theorem x_pay_1 (d h : FVec Ideal S256x1024 .f32) (s : Vec Ideal S1x1x1024 .f32) (g : Vec Ideal S1x1024 .f32) (e : Vec Ideal S256x1024 .f32)
    (a : Fin 256) (b : Fin 1024) :
    k0_pay21 d h (k0_pay17 h) s g e (ix2 a b)
      = rowX (fun k => d (ix2 a k)) (fun k => h (ix2 a k)) (fun k => g (ix2 0 k)) (fun k => s (ix3 0 0 k)) (fun k => e (ix2 a k)) b := by
  pointwise [k0_pay21, k0_pay20, k0_pay19, k0_pay18, k0_pay17]
  rfl

theorem mod1_apply (k : Fin 1024) : mod1 M (ix3 0 0 k) = M (ix3 0 1 k) := by
  unfold mod1; pointwise; blk_ext

theorem up_half (a : Fin 256) (b : Fin 1024) :
    rowX (fun k => du0 A B C E W (ix2 a k)) (fun k => up H (ix2 a k)) (fun k => G (ix2 0 k))
        (fun k => mod1 M (ix3 0 0 k)) (fun k => up D (ix2 a k)) b
      = tileX A B C E W H D M G ⟨a.val, by omega⟩ b := by
  unfold tileX
  exact rowX_congr (fun k => du0_apply _ _ _ _ _ _ _) (fun k => up_apply H a k) (fun k => rfl) (mod1_apply M) (fun k => up_apply D a k) rfl

theorem lo_half (a : Fin 256) (b : Fin 1024) :
    rowX (fun k => du1 A B C E W (ix2 a k)) (fun k => lo H (ix2 a k)) (fun k => G (ix2 0 k))
        (fun k => mod1 M (ix3 0 0 k)) (fun k => lo D (ix2 a k)) b
      = tileX A B C E W H D M G ⟨256 + a.val, by omega⟩ b := by
  unfold tileX
  exact rowX_congr (fun k => du1_apply _ _ _ _ _ _ _) (fun k => lo_apply H a k) (fun k => rfl) (mod1_apply M) (fun k => lo_apply D a k) rfl

/-- What the two halves of a tile leave in the first result. -/
theorem x_pieces (y : S512x1024.Idx) :
    View.canon (Val := Elt Ideal) (s := S512x1024) (e := .f32)
      [⟨Rect.unit (s := S512x1024) ![256, 0] S256x1024.size inb_S512x1024_S256x1024_256_0,
        k0_pay21 (F := Ideal) (du1 A B C E W) (lo H) (k0_pay17 (lo H)) (mod1 M) G (lo D)⟩,
       ⟨Rect.unit (s := S512x1024) ![0, 0] S256x1024.size inb_S512x1024_S256x1024_0_0,
        k0_pay11 (F := Ideal) (du0 A B C E W) (up H) (mod1 M) G (up D)⟩] y
      = tileX A B C E W H D M G (y 0) (y 1) := by
  canon_tiles x h
  · idx_vars x
    refine (x_pay_1 _ _ _ _ _ _ _).trans ((lo_half A B C E W H D M G x0 x1).trans ?_)
    exact congrArg₂ (tileX A B C E W H D M G) (Fin.ext h0.symm) (Fin.ext h1.symm)
  · idx_vars x
    refine (x_pay_0 _ _ _ _ _ _ _).trans ((up_half A B C E W H D M G x0 x1).trans ?_)
    exact congrArg₂ (tileX A B C E W H D M G) (Fin.ext (by simpa using h0.symm)) (Fin.ext h1.symm)

/-- The sums of one tile over its rows: of the product's gradient, of it against the norm, and of what reaches the norm
    against the normalized rows. -/
def tileShift (j : Fin 1024) : EReal := ∑ r : Fin 512, rowD (tileC A B C E r) W j

def tileScale (j : Fin 1024) : EReal :=
  ∑ r : Fin 512, rowD (tileC A B C E r) W j * (H (ix2 r j) * rowR (fun k => H (ix2 r k)) * G (ix2 0 j))

def tileG (j : Fin 1024) : EReal :=
  ∑ r : Fin 512, rowN (rowD (tileC A B C E r) W) (fun k => M (ix3 0 1 k)) j * (H (ix2 r j) * rowR (fun k => H (ix2 r k)))

end

theorem sum_halves (f : Fin 512 → EReal) :
    (∑ a : Fin 256, f ⟨a.val, by omega⟩) + ∑ a : Fin 256, f ⟨256 + a.val, by omega⟩ = ∑ r, f r :=
  (Fin.sum_univ_add (a := 256) (b := 256) f).symm

theorem shift_pay (d0 d1 : FVec Ideal S256x1024 .f32) (acc : Vec Ideal S1x1x1024 .f32) (p q : Fin 1) (b : Fin 1024) :
    k0_pay2 (k0_pay23 (k0_pay14 d0) d1) acc (ix3 p q b) = acc (ix3 0 0 b) + ((∑ a, d0 (ix2 a b)) + ∑ a, d1 (ix2 a b)) := by
  obtain rfl : p = 0 := Subsingleton.elim _ _
  obtain rfl : q = 0 := Subsingleton.elim _ _
  pointwise [k0_pay2, k0_pay23, k0_pay14]

theorem scale_pay (d0 d1 : FVec Ideal S256x1024 .f32) (h0 h1 : FVec Ideal S256x1024 .f32) (g : Vec Ideal S1x1024 .f32)
    (acc : Vec Ideal S1x1x1024 .f32) (p q : Fin 1) (b : Fin 1024) :
    k0_pay3 (k0_pay24 (k0_pay15 d0 (k0_pay9 h0 g)) d1 h1 (k0_pay17 h1) g) acc (ix3 p q b)
      = acc (ix3 0 0 b) + ((∑ a, d0 (ix2 a b) * (h0 (ix2 a b) * rowR (fun k => h0 (ix2 a k)) * g (ix2 0 b)))
        + ∑ a, d1 (ix2 a b) * (h1 (ix2 a b) * rowR (fun k => h1 (ix2 a k)) * g (ix2 0 b))) := by
  obtain rfl : p = 0 := Subsingleton.elim _ _
  obtain rfl : q = 0 := Subsingleton.elim _ _
  pointwise [k0_pay3, k0_pay24, k0_pay15, k0_pay9, k0_pay8, k0_pay7, k0_pay19, k0_pay18, k0_pay17]
  rfl

theorem g_pay (d0 d1 h0 h1 : FVec Ideal S256x1024 .f32) (s : Vec Ideal S1x1x1024 .f32) (acc : Vec Ideal S1x1024 .f32) (p : Fin 1) (b : Fin 1024) :
    k0_pay1 (k0_pay22 (k0_pay13 (k0_pay12 d0 h0 s)) d1 h1 (k0_pay17 h1) s) acc (ix2 p b)
      = acc (ix2 0 b) + ((∑ a, rowN (fun k => d0 (ix2 a k)) (fun k => s (ix3 0 0 k)) b * (h0 (ix2 a b) * rowR (fun k => h0 (ix2 a k))))
        + ∑ a, rowN (fun k => d1 (ix2 a k)) (fun k => s (ix3 0 0 k)) b * (h1 (ix2 a b) * rowR (fun k => h1 (ix2 a k)))) := by
  obtain rfl : p = 0 := Subsingleton.elim _ _
  pointwise [k0_pay1, k0_pay22, k0_pay13, k0_pay12, k0_pay10, k0_pay8, k0_pay7, k0_pay20, k0_pay19, k0_pay18, k0_pay17]
  rfl

/-- The first two rows of a block hold what was last stored there, the others what was there before. -/
theorem acc_rows {κ : Kind} {sp : Space} (v : View sig κ sp S1x8x1024 .f32) (f : v.ty.Contents (Elt Ideal))
    (w0 w1 : S1x1x1024.Idx → Elt Ideal .f32) (L : List (View.Piece (Elt Ideal) S1x8x1024 .f32)) (y : S1x8x1024.Idx) (R : EReal)
    (h0 : (y 1).val = 0 → w0 (ix3 0 0 (y 2)) = R) (h1 : (y 1).val = 1 → w1 (ix3 0 0 (y 2)) = R)
    (h2 : 2 ≤ (y 1).val → v.read (Elt Ideal) (v.writes (Elt Ideal) f L) y = R) :
    v.read (Elt Ideal) (v.writes (Elt Ideal) f
      (⟨Rect.unit (s := S1x8x1024) ![0, 1, 0] S1x1x1024.size inb_S1x8x1024_S1x1x1024_0_1_0, w1⟩
        :: ⟨Rect.unit (s := S1x8x1024) ![0, 0, 0] S1x1x1024.size inb_S1x8x1024_S1x1x1024_0_0_0, w0⟩ :: L)) y = R := by
  have hz : (y 0).val = 0 := Nat.lt_one_iff.mp (y 0).isLt
  have hx (o : ℕ) (h : (y 1).val = o) : ∀ a : Fin 3, (y a).val = (![0, o, 0] : Fin 3 → ℕ) a + ((ix3 0 0 (y 2) : S1x1x1024.Idx) a).val := by
    intro a; fin_cases a
    · simpa using hz
    · simpa using h
    · simp
  have off (o : ℕ) (h : (y 1).val ≠ o) : (y 1).val < (![0, o, 0] : Fin 3 → ℕ) 1 ∨ (![0, o, 0] : Fin 3 → ℕ) 1 + S1x1x1024.size 1 ≤ (y 1).val := by
    simp; omega
  by_cases e1 : (y 1).val = 1
  · exact (View.read_writes_cons_unit_of_mem v f _ w1 _ y (ix3 0 0 (y 2)) rfl (hx 1 e1)).trans (h1 e1)
  refine (View.read_writes_cons_unit_of_not_mem v f _ w1 _ y rfl 1 (off 1 e1)).trans ?_
  by_cases e0 : (y 1).val = 0
  · exact (View.read_writes_cons_unit_of_mem v f _ w0 _ y (ix3 0 0 (y 2)) rfl (hx 0 e0)).trans (h0 e0)
  refine (View.read_writes_cons_unit_of_not_mem v f _ w0 _ y rfl 1 (off 0 e0)).trans ?_
  exact h2 (by omega)

section
variable (A : FVec Ideal S512x512 .bf16) (B : FVec Ideal S512x1024 .bf16) (C : FVec Ideal S512x1536 .bf16) (E : FVec Ideal S512x128 .bf16)
  (W : FVec Ideal S3088x1024 .bf16) (H D : FVec Ideal S512x1024 .f32) (M : FVec Ideal S1x6x1024 .f32) (G : FVec Ideal S1x1024 .f32)

/-- What one tile adds to the modulation's gradient. -/
def tileAcc (y : S1x8x1024.Idx) : EReal :=
  if (y 1).val = 0 then tileShift A B C E W (y 2) else if (y 1).val = 1 then tileScale A B C E W H G (y 2) else 0

theorem shift_tile (j : Fin 1024) : (∑ a, du0 A B C E W (ix2 a j)) + ∑ a, du1 A B C E W (ix2 a j) = tileShift A B C E W j := by
  refine Eq.trans ?_ (sum_halves _)
  exact congrArg₂ (· + ·) (Finset.sum_congr rfl fun a _ => du0_apply A B C E W a j) (Finset.sum_congr rfl fun a _ => du1_apply A B C E W a j)

theorem scale_tile (j : Fin 1024) :
    (∑ a, du0 A B C E W (ix2 a j) * (up H (ix2 a j) * rowR (fun k => up H (ix2 a k)) * G (ix2 0 j)))
      + (∑ a, du1 A B C E W (ix2 a j) * (lo H (ix2 a j) * rowR (fun k => lo H (ix2 a k)) * G (ix2 0 j))) = tileScale A B C E W H G j := by
  refine Eq.trans ?_ (sum_halves _)
  exact congrArg₂ (· + ·)
    (Finset.sum_congr rfl fun a _ => by rw [du0_apply, up_apply, up_row])
    (Finset.sum_congr rfl fun a _ => by rw [du1_apply, lo_apply, lo_row])

theorem g_tile (j : Fin 1024) :
    (∑ a, rowN (fun k => du0 A B C E W (ix2 a k)) (fun k => mod1 M (ix3 0 0 k)) j * (up H (ix2 a j) * rowR (fun k => up H (ix2 a k))))
      + (∑ a, rowN (fun k => du1 A B C E W (ix2 a k)) (fun k => mod1 M (ix3 0 0 k)) j * (lo H (ix2 a j) * rowR (fun k => lo H (ix2 a k))))
      = tileG A B C E W H M j := by
  refine Eq.trans ?_ (sum_halves _)
  refine congrArg₂ (· + ·) (Finset.sum_congr rfl fun a _ => ?_) (Finset.sum_congr rfl fun a _ => ?_)
  · rw [up_apply, up_row]
    exact congrArg (· * _) (congrArg₂ (· * ·) (du0_apply A B C E W a j) (congrArg (1 + ·) (mod1_apply M j)))
  · rw [lo_apply, lo_row]
    exact congrArg (· * _) (congrArg₂ (· * ·) (du1_apply A B C E W a j) (congrArg (1 + ·) (mod1_apply M j)))

theorem acc_pieces {κ : Kind} {sp : Space} (v : View sig κ sp S1x8x1024 .f32) (f : v.ty.Contents (Elt Ideal))
    (a0 a1 : FVec Ideal S1x1x1024 .f32) (L : List (View.Piece (Elt Ideal) S1x8x1024 .f32)) (y : S1x8x1024.Idx) (p : EReal)
    (h0 : (y 1).val = 0 → a0 (ix3 0 0 (y 2)) = p) (h1 : (y 1).val = 1 → a1 (ix3 0 0 (y 2)) = p)
    (h2 : 2 ≤ (y 1).val → v.read (Elt Ideal) (v.writes (Elt Ideal) f L) y = p) :
    v.read (Elt Ideal) (v.writes (Elt Ideal) f
      (⟨Rect.unit (s := S1x8x1024) ![0, 1, 0] S1x1x1024.size inb_S1x8x1024_S1x1x1024_0_1_0,
          k0_pay3 (F := Ideal) (k0_pay24 (k0_pay15 (du0 A B C E W) (k0_pay9 (up H) G)) (du1 A B C E W) (lo H) (k0_pay17 (lo H)) G) a1⟩
        :: ⟨Rect.unit (s := S1x8x1024) ![0, 0, 0] S1x1x1024.size inb_S1x8x1024_S1x1x1024_0_0_0,
          k0_pay2 (F := Ideal) (k0_pay23 (k0_pay14 (du0 A B C E W)) (du1 A B C E W)) a0⟩ :: L)) y
      = p + tileAcc A B C E W H G y := by
  unfold tileAcc
  refine acc_rows v f _ _ L y _ (fun h => ?_) (fun h => ?_) (fun h => ?_)
  · rw [if_pos h, ← h0 h]
    exact (shift_pay _ _ _ _ _ _).trans (congrArg _ (shift_tile A B C E W (y 2)))
  · rw [if_neg (by omega), if_pos h, ← h1 h]
    exact (scale_pay _ _ _ _ _ _ _ _ _).trans (congrArg _ (scale_tile A B C E W H G (y 2)))
  · rw [if_neg (by omega), if_neg (by omega), add_zero]
    exact h2 h

/-- What one point leaves in the norm's gain. -/
theorem g_point (acc : FVec Ideal S1x1024 .f32) (y : S1x1024.Idx) :
    k0_pay1 (F := Ideal) (k0_pay22 (k0_pay13 (k0_pay12 (du0 A B C E W) (up H) (mod1 M))) (du1 A B C E W) (lo H) (k0_pay17 (lo H)) (mod1 M)) acc y
      = acc y + tileG A B C E W H M (y 1) := by
  idx_vars y
  obtain rfl : y0 = 0 := Subsingleton.elim _ _
  exact (g_pay _ _ _ _ _ _ _ _).trans (congrArg _ (g_tile A B C E W H M y1))

end

end Cert.InXIdeal.InX
end
-- ==== Proof.InXCases.lean ====
module

public import proofs.«01_k».proof.Proof.Gen.InXIdeal.Frame
public import proofs.«01_k».proof.Proof.Gen.InXRefIdeal
public import Idealize.ShloMosaic.Lib.Pipeline.ValueKit
public import Idealize.ShloMosaic.Lib.Claim
public import Idealize.ShloMosaic.Lib.Pointwise
public import Idealize.ShloMosaic.Lib.WritesUnit
public import proofs.«01_k».proof.Proof.InXPoint

@[expose] public section

set_option maxRecDepth 16384

noncomputable section

open Idealize.ShloMosaic Idealize.ShloMosaic.TcCoe Idealize.SL.Sem
open Idealize.ShloMosaic.Pipeline (Dat)
open scoped BigOperators

namespace Cert.InXIdeal.InX
open Cert.InXIdeal Cert.InXIdeal.Gen
open Cert.Norm
variable (m : (ℓ : Loc nD τ sig) → Buf (Elt Ideal) ℓ)

/-- Two boxes that do not meet along one axis have no element in common. -/
theorem unit_disjoint {S : Shape} {off size off' size' : Fin S.rank → ℕ} {inb inb'} (a : Fin S.rank)
    (h : off a + size a ≤ off' a ∨ off' a + size' a ≤ off a) :
    Disjoint (Rect.unit (s := S) off size inb).set (Rect.unit (s := S) off' size' inb').set := by
  rw [Finset.disjoint_left]
  intro y hy hy'
  have h1 := (Rect.mem_set_unit.mp hy) a
  have h2 := (Rect.mem_set_unit.mp hy') a
  omega

/-- A load beside the last write reads what was there before. -/
theorem load_beside {κ : Kind} {sp : Space} {S : Shape} {e : EltTy} (v : View sig κ sp S e) {off size off' size' : Fin S.rank → ℕ} {inb inb'}
    (w : (Rect.unit (s := S) off size inb).shape.Idx → Elt Ideal e) (L : List (View.Piece (Elt Ideal) S e)) (a : Fin S.rank)
    (h : off a + size a ≤ off' a ∨ off' a + size' a ≤ off a) :
    v.readCov (⟨Rect.unit off size inb, w⟩ :: L) (Rect.unit off' size' inb').toLoadRect
      = v.readCov L (Rect.unit off' size' inb').toLoadRect :=
  View.readCov_cons_of_disjoint v _ L _ (unit_disjoint (inb := inb) (inb' := inb') a h)

theorem fill_acc {κ : Kind} {sp : Space} (v : View sig κ sp S1x8x1024 .f32) (B : LoadRect S1x8x1024) (j : B.shape.Idx) :
    View.readCov (Val := Elt Ideal) v [⟨Rect.unit (s := S1x8x1024) ![0, 0, 0] S1x8x1024.size inb_S1x8x1024_S1x8x1024_0_0_0, (k0_pay5 : FVec Ideal S1x8x1024 .f32)⟩] B j = (0 : EReal) := by
  rw [View.readCov_eq_canon']
  canon_tiles x h
  pointwise [k0_pay5]

/-- What one point adds: its rows of the gradient below the norm, its sums for the modulation and for the gain. -/
abbrev ptX (c : Dev nD) (t : Fin cfg0.N) : Fin 512 → Fin 1024 → EReal :=
  tileX (iblk m c 0 t) (iblk m c 1 t) (iblk m c 2 t) (iblk m c 3 t) (iblk m c 4 t) (iblk m c 5 t) (iblk m c 6 t) (iblk m c 7 t) (iblk m c 8 t)

abbrev ptAcc (c : Dev nD) (t : Fin cfg0.N) : S1x8x1024.Idx → EReal :=
  tileAcc (iblk m c 0 t) (iblk m c 1 t) (iblk m c 2 t) (iblk m c 3 t) (iblk m c 4 t) (iblk m c 5 t) (iblk m c 8 t)

abbrev ptG (c : Dev nD) (t : Fin cfg0.N) : Fin 1024 → EReal :=
  tileG (iblk m c 0 t) (iblk m c 1 t) (iblk m c 2 t) (iblk m c 3 t) (iblk m c 4 t) (iblk m c 5 t) (iblk m c 7 t)

theorem x_A (c : Dev nD) (t : Fin cfg0.N) (h0 : t.val % 8 = 0) (h1 : t.val % 4 = 0) (y : S512x1024.Idx) :
    (outsAt0 m c t.val t.isLt).1 y = ptX m c t (y 0) (y 1) := by
  rw [outsAt0_A m c t h0 h1]
  dsimp only
  frame_out
  exact x_pieces (iblk m c 0 t) (iblk m c 1 t) (iblk m c 2 t) (iblk m c 3 t) (iblk m c 4 t) (iblk m c 5 t) (iblk m c 6 t) (iblk m c 7 t) (iblk m c 8 t) y

theorem acc_A (c : Dev nD) (t : Fin cfg0.N) (h0 : t.val % 8 = 0) (h1 : t.val % 4 = 0) (y : S1x8x1024.Idx) :
    (outsAt0 m c t.val t.isLt).2.1 y = 0 + ptAcc m c t y := by
  rw [outsAt0_A m c t h0 h1]
  dsimp only
  frame_out
  rw [← View.read_writes_junk_eq_canon (ms0_11 t).view]
  refine acc_pieces (iblk m c 0 t) (iblk m c 1 t) (iblk m c 2 t) (iblk m c 3 t) (iblk m c 4 t) (iblk m c 5 t) (iblk m c 8 t) _ _ _ _ _ y _
    (fun h => ?_) (fun h => ?_) (fun h => ?_)
  · exact fill_acc _ _ _
  · rw [load_beside _ _ _ 1 (by decide)]
    exact fill_acc _ _ _
  · rw [View.read_writes_junk_eq_canon]
    canon_tiles x h
    pointwise [k0_pay5]

theorem g_A (c : Dev nD) (t : Fin cfg0.N) (h0 : t.val % 8 = 0) (h1 : t.val % 4 = 0) (y : S1x1024.Idx) :
    (outsAt0 m c t.val t.isLt).2.2 y = 0 + ptG m c t (y 1) := by
  rw [outsAt0_A m c t h0 h1]
  dsimp only
  frame_out
  refine (g_point (iblk m c 0 t) (iblk m c 1 t) (iblk m c 2 t) (iblk m c 3 t) (iblk m c 4 t) (iblk m c 5 t) (iblk m c 7 t) _ y).trans (congrArg (· + _) ?_)
  idx_vars y
  pointwise [k0_pay4]

theorem x_B (c : Dev nD) (t : Fin cfg0.N) (h0 : ¬t.val % 8 = 0) (h1 : ¬t.val % 4 = 0) (y : S512x1024.Idx) :
    (outsAt0 m c t.val t.isLt).1 y = ptX m c t (y 0) (y 1) := by
  rw [outsAt0_B m c t h0 h1]
  dsimp only
  frame_out
  exact x_pieces (iblk m c 0 t) (iblk m c 1 t) (iblk m c 2 t) (iblk m c 3 t) (iblk m c 4 t) (iblk m c 5 t) (iblk m c 6 t) (iblk m c 7 t) (iblk m c 8 t) y

theorem acc_B (c : Dev nD) (t : Fin cfg0.N) (h0 : ¬t.val % 8 = 0) (h1 : ¬t.val % 4 = 0) (y : S1x8x1024.Idx) :
    (outsAt0 m c t.val t.isLt).2.1 y = (outsAt0 m c (t.val - 1) (by omega)).2.1 y + ptAcc m c t y := by
  rw [outsAt0_B m c t h0 h1]
  dsimp only
  generalize outsAt0 m c (t.val - 1) _ = prev
  frame_out
  refine acc_pieces (iblk m c 0 t) (iblk m c 1 t) (iblk m c 2 t) (iblk m c 3 t) (iblk m c 4 t) (iblk m c 5 t) (iblk m c 8 t) _ _ _ _ _ y _
    (fun h => ?_) (fun h => ?_) (fun h => ?_)
  · idx_vars y
    pointwise
    blk_ext
  · idx_vars y
    pointwise
    blk_ext
  · rw [View.writes_nil, (hs0_11 t).read_unread]

theorem g_B (c : Dev nD) (t : Fin cfg0.N) (h0 : ¬t.val % 8 = 0) (h1 : ¬t.val % 4 = 0) (y : S1x1024.Idx) :
    (outsAt0 m c t.val t.isLt).2.2 y = (outsAt0 m c (t.val - 1) (by omega)).2.2 y + ptG m c t (y 1) := by
  rw [outsAt0_B m c t h0 h1]
  dsimp only
  generalize outsAt0 m c (t.val - 1) _ = prev
  frame_out
  exact g_point (iblk m c 0 t) (iblk m c 1 t) (iblk m c 2 t) (iblk m c 3 t) (iblk m c 4 t) (iblk m c 5 t) (iblk m c 7 t) _ y

theorem x_C (c : Dev nD) (t : Fin cfg0.N) (h0 : ¬t.val % 8 = 0) (h1 : t.val % 4 = 0) (y : S512x1024.Idx) :
    (outsAt0 m c t.val t.isLt).1 y = ptX m c t (y 0) (y 1) := by
  rw [outsAt0_C m c t h0 h1]
  dsimp only
  frame_out
  exact x_pieces (iblk m c 0 t) (iblk m c 1 t) (iblk m c 2 t) (iblk m c 3 t) (iblk m c 4 t) (iblk m c 5 t) (iblk m c 6 t) (iblk m c 7 t) (iblk m c 8 t) y

theorem acc_C (c : Dev nD) (t : Fin cfg0.N) (h0 : ¬t.val % 8 = 0) (h1 : t.val % 4 = 0) (y : S1x8x1024.Idx) :
    (outsAt0 m c t.val t.isLt).2.1 y = 0 + ptAcc m c t y := by
  rw [outsAt0_C m c t h0 h1]
  dsimp only
  frame_out
  rw [← View.read_writes_junk_eq_canon (ms0_11 t).view]
  refine acc_pieces (iblk m c 0 t) (iblk m c 1 t) (iblk m c 2 t) (iblk m c 3 t) (iblk m c 4 t) (iblk m c 5 t) (iblk m c 8 t) _ _ _ _ _ y _
    (fun h => ?_) (fun h => ?_) (fun h => ?_)
  · exact fill_acc _ _ _
  · rw [load_beside _ _ _ 1 (by decide)]
    exact fill_acc _ _ _
  · rw [View.read_writes_junk_eq_canon]
    canon_tiles x h
    pointwise [k0_pay5]

theorem g_C (c : Dev nD) (t : Fin cfg0.N) (h0 : ¬t.val % 8 = 0) (h1 : t.val % 4 = 0) (y : S1x1024.Idx) :
    (outsAt0 m c t.val t.isLt).2.2 y = (outsAt0 m c (t.val - 1) (by omega)).2.2 y + ptG m c t (y 1) := by
  rw [outsAt0_C m c t h0 h1]
  dsimp only
  generalize outsAt0 m c (t.val - 1) _ = prev
  frame_out
  exact g_point (iblk m c 0 t) (iblk m c 1 t) (iblk m c 2 t) (iblk m c 3 t) (iblk m c 4 t) (iblk m c 5 t) (iblk m c 7 t) _ y

end Cert.InXIdeal.InX
end
-- ==== Proof.InXFinal.lean ====
module

public import proofs.«01_k».proof.Proof.Gen.InXIdeal.Frame
public import proofs.«01_k».proof.Proof.Gen.InXRefIdeal
public import Idealize.ShloMosaic.Lib.Pipeline.ValueKit
public import Idealize.ShloMosaic.Lib.Claim
public import Idealize.ShloMosaic.Lib.Pointwise
public import Idealize.ShloMosaic.Lib.WritesUnit
public import proofs.«01_k».proof.Proof.InXCases

@[expose] public section

set_option maxRecDepth 16384

noncomputable section

open Idealize.ShloMosaic Idealize.ShloMosaic.TcCoe Idealize.SL.Sem
open Idealize.ShloMosaic.Pipeline (Dat)
open scoped BigOperators

namespace Cert.InXIdeal.InX
open Cert.InXIdeal Cert.InXIdeal.Gen
open Cert.Norm
variable (m : (ℓ : Loc nD τ sig) → Buf (Elt Ideal) ℓ)

section
variable (x : FVec Ideal S4096x1024 .f32) (md : FVec Ideal S2x6144 .f32) (g : FVec Ideal S1x1024 .f32) (dh : FVec Ideal S4096x1024 .f32)
  (w : FVec Ideal S1024x3088 .f32) (da : FVec Ideal S4096x512 .f32) (db : FVec Ideal S4096x1024 .f32) (dc : FVec Ideal S4096x1536 .f32)
  (de : FVec Ideal S4096x16 .f32)

/-- Row `R` of the four gradients side by side, of the product's gradient, of the scale, and of the gradient below the norm. -/
def gC (R : Fin 4096) : Fin 3088 → EReal :=
  rowC (fun k => da (ix2 R k)) (fun k => db (ix2 R k)) (fun k => dc (ix2 R k)) (fun k => de (ix2 R k))

def gD (R : Fin 4096) (j : Fin 1024) : EReal := ∑ l : Fin 3088, gC da db dc de R l * w (ix2 j l)

def gS (R : Fin 4096) (j : Fin 1024) : EReal := md (ix2 ⟨R.val / 2048, by omega⟩ ⟨1024 + j.val, by omega⟩)

def gX (R : Fin 4096) : Fin 1024 → EReal :=
  rowX (gD w da db dc de R) (fun k => x (ix2 R k)) (fun k => g (ix2 0 k)) (gS md R) (fun k => dh (ix2 R k))

/-- The sums over the 2048 rows of one sequence, and over all rows. -/
def gAcc (b : Fin 2) (i : Fin 8) (j : Fin 1024) : EReal :=
  if i.val = 0 then ∑ r : Fin 2048, gD w da db dc de ⟨b.val * 2048 + r.val, by omega⟩ j
  else if i.val = 1 then ∑ r : Fin 2048, gD w da db dc de ⟨b.val * 2048 + r.val, by omega⟩ j
    * (x (ix2 ⟨b.val * 2048 + r.val, by omega⟩ j) * rowR (fun k => x (ix2 ⟨b.val * 2048 + r.val, by omega⟩ k)) * g (ix2 0 j))
  else 0

def gG (j : Fin 1024) : EReal :=
  ∑ R : Fin 4096, rowN (gD w da db dc de R) (gS md R) j * (x (ix2 R j) * rowR (fun k => x (ix2 R k)))

end

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val / 4, 0, 0] ∧ win0_8.index t = ![0, 0]
    ∧ win0_10.index t = ![t.val, 0] ∧ win0_11.index t = ![t.val / 4, 0, 0]
    ∧ win0_12.index t = ![0, 0] := (by decide +kernel : ∀ t : Fin grid0.N, _)

theorem blk_A (c : Dev nD) (t : Fin cfg0.N) (ht : t.val < 8) (r : Fin 512) (k : Fin 512) : iblk m c 0 t (ix2 r k)
    = m ((c : Thread nD τ).loc main_arg5) (ix2 ⟨t.val * 512 + r.val, by omega⟩ k) := by
  have e : iblk m c 0 t (ix2 r k) = V m c main_v2 (ix2 ⟨t.val * 512 + r.val, by omega⟩ k) := by blk_ext [iblk, idx t]
  rw [e]
  entry_read
  pointwise

theorem blk_B (c : Dev nD) (t : Fin cfg0.N) (ht : t.val < 8) (r : Fin 512) (k : Fin 1024) : iblk m c 1 t (ix2 r k)
    = m ((c : Thread nD τ).loc main_arg6) (ix2 ⟨t.val * 512 + r.val, by omega⟩ k) := by
  have e : iblk m c 1 t (ix2 r k) = V m c main_v3 (ix2 ⟨t.val * 512 + r.val, by omega⟩ k) := by blk_ext [iblk, idx t]
  rw [e]
  entry_read
  pointwise

theorem blk_C (c : Dev nD) (t : Fin cfg0.N) (ht : t.val < 8) (r : Fin 512) (k : Fin 1536) : iblk m c 2 t (ix2 r k)
    = m ((c : Thread nD τ).loc main_arg7) (ix2 ⟨t.val * 512 + r.val, by omega⟩ k) := by
  have e : iblk m c 2 t (ix2 r k) = V m c main_v4 (ix2 ⟨t.val * 512 + r.val, by omega⟩ k) := by blk_ext [iblk, idx t]
  rw [e]
  entry_read
  pointwise

theorem blk_E (c : Dev nD) (t : Fin cfg0.N) (ht : t.val < 8) (r : Fin 512) (k : Fin 16) : iblk m c 3 t (ix2 r ⟨k.val, by omega⟩)
    = m ((c : Thread nD τ).loc main_arg8) (ix2 ⟨t.val * 512 + r.val, by omega⟩ k) := by
  have e : iblk m c 3 t (ix2 r ⟨k.val, by omega⟩) = V m c main_v5 (ix2 ⟨t.val * 512 + r.val, by omega⟩ ⟨k.val, by omega⟩) := by blk_ext [iblk, idx t]
  rw [e]
  entry_read
  pointwise

theorem blk_W (c : Dev nD) (t : Fin cfg0.N) (l : Fin 3088) (j : Fin 1024) : iblk m c 4 t (ix2 l j)
    = m ((c : Thread nD τ).loc main_arg3) (ix2 j l) := by
  have e : iblk m c 4 t (ix2 l j) = V m c main_v7 (ix2 l j) := by blk_ext [iblk, idx t]
  rw [e]
  entry_read
  pointwise

theorem blk_H (c : Dev nD) (t : Fin cfg0.N) (ht : t.val < 8) (r : Fin 512) (j : Fin 1024) : iblk m c 5 t (ix2 r j)
    = m ((c : Thread nD τ).loc main_arg0) (ix2 ⟨t.val * 512 + r.val, by omega⟩ j) := by
  blk_ext [iblk, V, idx t]

theorem blk_D (c : Dev nD) (t : Fin cfg0.N) (ht : t.val < 8) (r : Fin 512) (j : Fin 1024) : iblk m c 6 t (ix2 r j)
    = m ((c : Thread nD τ).loc main_arg4) (ix2 ⟨t.val * 512 + r.val, by omega⟩ j) := by
  blk_ext [iblk, V, idx t]

theorem blk_M (c : Dev nD) (t : Fin cfg0.N) (ht : t.val < 8) (i : Fin 6) (j : Fin 1024) : iblk m c 7 t (ix3 0 i j)
    = m ((c : Thread nD τ).loc main_arg1) (ix2 ⟨t.val / 4, by omega⟩ ⟨i.val * 1024 + j.val, by omega⟩) := by
  have e : iblk m c 7 t (ix3 0 i j) = V m c main_v8 (ix3 ⟨t.val / 4, by omega⟩ i j) := by blk_ext [iblk, idx t]
  rw [e]
  entry_read
  pointwise

theorem blk_G (c : Dev nD) (t : Fin cfg0.N) (j : Fin 1024) : iblk m c 8 t (ix2 0 j)
    = m ((c : Thread nD τ).loc main_arg2) (ix2 0 j) := by
  blk_ext [iblk, V, idx t]

/-- Row `r` of point `t` is row `512 t + r` of the whole. -/
theorem blk_gC (c : Dev nD) (t : Fin cfg0.N) (ht : t.val < 8) (r : Fin 512) :
    tileC (iblk m c 0 t) (iblk m c 1 t) (iblk m c 2 t) (iblk m c 3 t) r
      = gC (m ((c : Thread nD τ).loc main_arg5)) (m ((c : Thread nD τ).loc main_arg6)) (m ((c : Thread nD τ).loc main_arg7)) (m ((c : Thread nD τ).loc main_arg8)) ⟨t.val * 512 + r.val, by omega⟩ := by
  unfold tileC gC
  congr 1 <;> funext k
  · exact blk_A m c t ht r k
  · exact blk_B m c t ht r k
  · exact blk_C m c t ht r k
  · exact blk_E m c t ht r k

theorem blk_gD (c : Dev nD) (t : Fin cfg0.N) (ht : t.val < 8) (r : Fin 512) :
    rowD (tileC (iblk m c 0 t) (iblk m c 1 t) (iblk m c 2 t) (iblk m c 3 t) r) (iblk m c 4 t)
      = gD (m ((c : Thread nD τ).loc main_arg3)) (m ((c : Thread nD τ).loc main_arg5)) (m ((c : Thread nD τ).loc main_arg6)) (m ((c : Thread nD τ).loc main_arg7)) (m ((c : Thread nD τ).loc main_arg8)) ⟨t.val * 512 + r.val, by omega⟩ := by
  funext j
  unfold rowD gD
  rw [blk_gC m c t ht r]
  exact Finset.sum_congr rfl fun l _ => congrArg (fun u : EReal => _ * u) (blk_W m c t l j)

theorem blk_gS (c : Dev nD) (t : Fin cfg0.N) (ht : t.val < 8) (r : Fin 512) :
    (fun k : Fin 1024 => iblk m c 7 t (ix3 0 1 k)) = gS (m ((c : Thread nD τ).loc main_arg1)) ⟨t.val * 512 + r.val, by omega⟩ := by
  funext k
  rw [blk_M m c t ht]
  exact congrArg (m ((c : Thread nD τ).loc main_arg1)) (congrArg₂ ix2 (Fin.ext (by dsimp only; omega)) (Fin.ext (by rfl)))

theorem blk_gH (c : Dev nD) (t : Fin cfg0.N) (ht : t.val < 8) (r : Fin 512) :
    (fun k : Fin 1024 => iblk m c 5 t (ix2 r k)) = fun k => m ((c : Thread nD τ).loc main_arg0) (ix2 ⟨t.val * 512 + r.val, by omega⟩ k) :=
  funext fun k => blk_H m c t ht r k

theorem pt_X (c : Dev nD) (t : Fin cfg0.N) (ht : t.val < 8) (r : Fin 512) : ptX m c t r
    = gX (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) (m ((c : Thread nD τ).loc main_arg8)) ⟨t.val * 512 + r.val, by omega⟩ := by
  unfold ptX tileX gX
  rw [blk_gD m c t ht r, blk_gH m c t ht r, blk_gS m c t ht r]
  simp only [blk_G m c t, blk_D m c t ht]

theorem x_t (c : Dev nD) (t : Fin cfg0.N) (y : S512x1024.Idx) : (outsAt0 m c t.val t.isLt).1 y = ptX m c t (y 0) (y 1) := by
  by_cases h0 : t.val % 8 = 0
  · exact x_A m c t h0 (by omega) y
  · by_cases h1 : t.val % 4 = 0
    · exact x_C m c t h0 h1 y
    · exact x_B m c t h0 h1 y

theorem x_g (c : Dev nD) (t : Fin cfg0.N) (y : S512x1024.Idx) (R : Fin 4096) (j : Fin 1024) (hR : R.val = t.val * 512 + (y 0).val)
    (hj : j.val = (y 1).val) : (outsAt0 m c t.val t.isLt).1 y = gX (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) (m ((c : Thread nD τ).loc main_arg8)) R j := by
  obtain rfl : y 1 = j := Fin.ext hj.symm
  refine (x_t m c t y).trans ((congrFun (pt_X m c t (lt_of_lt_of_eq t.isLt N_0) (y 0)) (y 1)).trans ?_)
  exact congrArg (gX (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) (m ((c : Thread nD τ).loc main_arg8)) · (y 1)) (Fin.ext hR.symm)

theorem final_x (c : Dev nD) : (dats m 0 c).arrAt 10 cfg0.N = fun y : S4096x1024.Idx =>
    gX (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) (m ((c : Thread nD τ).loc main_arg8)) (y 0) (y 1) := by
  refine (dats m 0 c).arrAt_eq_of_covers 10 _ (by decide +kernel) fun t hf y => ?_
  blk_simp
  rw [after0_10]
  refine x_g m c t y _ _ ?_ ?_ <;> blk_simp <;> simp [idx t]

theorem sum_G (c : Dev nD) (j : Fin 1024) : ∑ t : Fin cfg0.N, ptG m c t j = gG (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) j := by
  unfold gG ptG tileG
  exact Fin.sum_mul_add_congr (n := 512) fun s k hl => by
    have ht : s.val < 8 := lt_of_lt_of_eq s.isLt N_0
    rw [blk_gD m c s ht k, blk_gS m c s ht k, blk_gH m c s ht k, blk_H m c s ht k]

theorem final_g (c : Dev nD) : (dats m 0 c).arrAt 12 cfg0.N = fun y : S1x1024.Idx => gG (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (y 1) := by
  refine (dats m 0 c).arrAt_eq_of_after_last 12 t0_7 (by decide +kernel) _ fun j => ?_
  blk_simp
  rw [after0_12, Pipeline.eq_sum_fin_of_reset_step_apply_last (fun n h => (outsAt0 m c n h).2.2) 8 (fun _ => 0)
    (fun t j => ptG m c t (j 1)) (fun t h j => ?_) (fun t h j => ?_) (le_of_eq N_0) t0_7 rfl j, zero_add]
  · exact sum_G m c (j 1)
  · exact g_A m c t h (by omega) j
  · by_cases h1 : t.val % 4 = 0
    · exact g_C m c t h h1 j
    · exact g_B m c t h h1 j

theorem acc_run (c : Dev nD) (b : Fin 2) (i : Fin 8) (j : Fin 1024) (h : ∀ s : Fin 4, 4 * b.val + s.val < cfg0.N) :
    ∑ s : Fin 4, ptAcc m c ⟨4 * b.val + s.val, h s⟩ (ix3 0 i j) = gAcc (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) b i j := by
  have ht : ∀ s : Fin 4, 4 * b.val + s.val < 8 := fun s => by omega
  have hr : ∀ (s : Fin 4) (k : Fin 512) (hl : s.val * 512 + k.val < 2048), (⟨(4 * b.val + s.val) * 512 + k.val, by omega⟩ : Fin 4096)
      = ⟨b.val * 2048 + (s.val * 512 + k.val), by omega⟩ := fun s k hl => Fin.ext (by dsimp only; omega)
  unfold gAcc ptAcc tileAcc
  simp only [ix3_1, ix3_2]
  by_cases h0 : i.val = 0
  · simp only [h0, if_true]
    unfold tileShift
    exact Fin.sum_mul_add_congr (n := 512) fun s k hl => by
      rw [blk_gD m c _ (ht s) k, hr s k hl]
  by_cases h1 : i.val = 1
  · simp only [h0, h1, if_true, if_false, one_ne_zero]
    unfold tileScale
    exact Fin.sum_mul_add_congr (n := 512) fun s k hl => by
      rw [blk_gD m c _ (ht s) k, blk_gH m c _ (ht s) k, blk_H m c _ (ht s) k, blk_G, hr s k hl]
  · simp only [h0, h1, if_false]
    exact Finset.sum_const_zero

theorem acc_g (c : Dev nD) (t : Fin 8) (y : S1x8x1024.Idx) (b : Fin 2) (i : Fin 8) (j : Fin 1024) (hb : b.val = t.val / 4)
    (hi : i.val = (y 1).val) (hj : j.val = (y 2).val) (h : ∀ s : Fin 4, 4 * (t.val / 4) + s.val < cfg0.N) :
    ∑ s : Fin 4, ptAcc m c ⟨4 * (t.val / 4) + s.val, h s⟩ y = gAcc (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) b i j := by
  obtain rfl : y = ix3 0 i j := by
    idx_vars y
    exact (ix3_inj _ _ _ _ _ _).mpr ⟨Subsingleton.elim _ _, Fin.ext hi.symm, Fin.ext hj.symm⟩
  simp only [← hb] at h ⊢
  exact acc_run m c b i j h

theorem final_acc (c : Dev nD) : (dats m 0 c).arrAt 11 cfg0.N = fun y : S2x8x1024.Idx =>
    gAcc (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (y 0) (y 1) (y 2) := by
  refine (dats m 0 c).arrAt_eq_of_covers 11 _ (by decide +kernel) fun t hf y => ?_
  blk_simp
  rw [after0_11, Pipeline.eq_sum_fin_of_reset_step_apply_of_flush (fun n h => (outsAt0 m c n h).2.1) 4 (fun _ => 0)
    (fun t y => ptAcc m c t y) (fun t h j => ?_) (fun t h j => ?_) t ((flush0_11 t).mp hf) _, zero_add]
  · refine acc_g m c t y _ _ _ ?_ ?_ ?_ _ <;> blk_simp <;> simp [idx t]
  · by_cases h0 : t.val % 8 = 0
    · exact acc_A m c t h0 h j
    · exact acc_C m c t h0 h j
  · exact acc_B m c t (by omega) h j

end Cert.InXIdeal.InX
end
-- ==== Proof.InXRef.lean ====
/- The reference of `in_proj_bwd`, by rows. -/
module

public import proofs.«01_k».proof.Proof.Gen.InXRefIdeal
public import proofs.«01_k».proof.Proof.NormRef
public import proofs.«01_k».proof.Proof.InXFinal

@[expose] public section

set_option maxRecDepth 16384

noncomputable section

open Idealize.ShloMosaic Idealize.ShloMosaic.TcCoe Idealize.SL.Sem
open scoped BigOperators

namespace Cert.InXRefIdeal.InX
open Cert.InXRefIdeal Cert.InXRefIdeal.Gen
open Cert.Reals Cert.Norm Cert.NormRef
open Cert.InXIdeal.InX (rowC gC gD gS gX gAcc gG)

section
variable (x : FVec Ideal S4096x1024 .f32) (md : FVec Ideal S2x6144 .f32) (g : FVec Ideal S1x1024 .f32) (dh : FVec Ideal S4096x1024 .f32)
  (w : FVec Ideal S1024x3088 .f32) (da : FVec Ideal S4096x512 .f32) (db : FVec Ideal S4096x1024 .f32) (dc : FVec Ideal S4096x1536 .f32)
  (de : FVec Ideal S4096x16 .f32)

def sc : FVec Ideal S2x2048x1024 .f32 := scale (extractStridedSlice S2x1x1024 ![0, 0, 1024] (mod3 md) slices_S2x1x6144_S2x1x1024_0_0_1024)

/-- The four gradients side by side, and the product's gradient. -/
def cat : FVec Ideal S2x2048x3088 .f32 :=
  addf (addf (addf
    (pad S2x2048x3088 ![0, 0, 3072] ![0, 0, 0] ![0, 0, 0] (shapeCast S2x2048x16 de shapeCasts_S4096x16_S2x2048x16)
      (constant S_ .f32 0x00000000#32) pads_S2x2048x16_S2x2048x3088_000_000_307200 h_S_)
    (pad S2x2048x3088 ![0, 0, 1536] ![0, 0, 16] ![0, 0, 0] (shapeCast S2x2048x1536 dc shapeCasts_S4096x1536_S2x2048x1536)
      (constant S_ .f32 0x00000000#32) pads_S2x2048x1536_S2x2048x3088_000_000_1536160 h_S_))
    (pad S2x2048x3088 ![0, 0, 512] ![0, 0, 1552] ![0, 0, 0] (shapeCast S2x2048x1024 db shapeCasts_S4096x1024_S2x2048x1024)
      (constant S_ .f32 0x00000000#32) pads_S2x2048x1024_S2x2048x3088_000_000_51215520 h_S_))
    (pad S2x2048x3088 ![0, 0, 0] ![0, 0, 2576] ![0, 0, 0] (shapeCast S2x2048x512 da shapeCasts_S4096x512_S2x2048x512)
      (constant S_ .f32 0x00000000#32) pads_S2x2048x512_S2x2048x3088_000_000_025760 h_S_)

def du : FVec Ideal S2x2048x1024 .f32 :=
  Host.dotGeneral dot_S2x2048x3088_S1024x3088_S2x2048x1024_2_1_01_0_n_n none (cat da db dc de) w

/-- The three results. -/
def below : FVec Ideal S2x2048x1024 .f32 := dx (seqs x) (du w da db dc de) (sc md) (seqs dh) g

def outX : FVec Ideal S4096x1024 .f32 := shapeCast _ (below x md g dh w da db dc de) shapeCasts_S2x2048x1024_S4096x1024

def outM : FVec Ideal S2x8x1024 .f32 :=
  concatenate S2x8x1024 1 [⟨S2x1x1024, rowsum (du w da db dc de)⟩,
    ⟨S2x1x1024, rowsum (mulf (mulf (mulf (seqs x) (rs (seqs x))) (gain g)) (du w da db dc de))⟩,
    ⟨S2x6x1024, broadcastInDim S2x6x1024 ![] bcast_S_S2x6x1024 zero⟩] concatenates_S2x1x1024_S2x1x1024_S2x6x1024_S2x8x1024_d1

def outG : FVec Ideal S1x1024 .f32 := dg (seqs x) (du w da db dc de) (sc md)

theorem sc_apply (b : Fin 2) (s : Fin 2048) (j : Fin 1024) : sc md (ix3 b s j) = 1 + gS md ⟨b.val * 2048 + s.val, by omega⟩ j := by
  have e : (b.val * 2048 + s.val) / 2048 = b.val := by omega
  unfold gS sc
  simp only [e]
  rw [scale_apply]
  pointwise [mod3]

theorem cat_apply (b : Fin 2) (s : Fin 2048) (l : Fin 3088) :
    cat da db dc de (ix3 b s l) = gC da db dc de ⟨b.val * 2048 + s.val, by omega⟩ l := by
  unfold gC rowC
  pointwise [cat]
  by_cases h1 : l.val < 512
  · rw [dif_neg (by omega), dif_neg (by omega), dif_neg (by omega), dif_pos h1, dif_pos h1, zero_add, zero_add, zero_add]
  by_cases h2 : l.val < 1536
  · rw [dif_neg (by omega), dif_neg (by omega), dif_pos (by omega), dif_neg h1, dif_neg h1, dif_pos h2, zero_add, zero_add, add_zero]
  by_cases h3 : l.val < 3072
  · rw [dif_neg (by omega), dif_pos (by omega), dif_neg (by omega), dif_neg h1, dif_neg h1, dif_neg h2, dif_pos h3, zero_add, add_zero, add_zero]
  · rw [dif_pos (by omega), dif_neg (by omega), dif_neg (by omega), dif_neg h1, dif_neg h1, dif_neg h2, dif_neg h3, add_zero, add_zero, add_zero]

theorem du_apply (b : Fin 2) (s : Fin 2048) (j : Fin 1024) : du w da db dc de (ix3 b s j) = gD w da db dc de ⟨b.val * 2048 + s.val, by omega⟩ j := by
  unfold gD
  pointwise [du]
  simp only [cat_apply]

theorem factor_apply (b : Fin 2) (s : Fin 2048) (j : Fin 1024) :
    rs (seqs x) (ix3 b s j) = rowR (fun k => x (ix2 ⟨b.val * 2048 + s.val, by omega⟩ k)) := by
  rw [rs_apply]
  simp only [seqs_apply]

theorem below_apply (b : Fin 2) (s : Fin 2048) (j : Fin 1024) :
    below x md g dh w da db dc de (ix3 b s j) = gX x md g dh w da db dc de ⟨b.val * 2048 + s.val, by omega⟩ j := by
  unfold below
  rw [dx_apply _ _ _ _ _ b s j _ (fun k => sc_apply md b s k)]
  simp only [du_apply, seqs_apply]
  rfl

theorem outX_eq : outX x md g dh w da db dc de = fun y => gX x md g dh w da db dc de (y 0) (y 1) := by
  funext y
  idx_vars y
  pointwise [outX]
  rw [below_apply]
  exact congrArg (gX x md g dh w da db dc de · y1) (Fin.ext (by dsimp only; omega))

theorem outM_eq : outM x g w da db dc de = fun y => gAcc x g w da db dc de (y 0) (y 1) (y 2) := by
  funext y
  idx_vars y
  unfold gAcc
  pointwise [outM, rowsum, zero]
  simp only [du_apply, factor_apply, gain_apply, seqs_apply]
  by_cases h0 : y1.val = 0
  · rw [dif_pos (by omega), if_pos h0]
  rw [dif_neg (by omega), if_neg h0]
  by_cases h1 : y1.val = 1
  · rw [dif_pos (by omega), if_pos h1]
    exact Finset.sum_congr rfl fun r _ => mul_comm _ _
  · rw [dif_neg (by omega), if_neg h1]

theorem outG_eq : outG x md w da db dc de = fun y => gG x md w da db dc de (y 1) := by
  funext y
  idx_vars y
  obtain rfl : y0 = 0 := Subsingleton.elim _ _
  refine (dg_apply _ _ _ y1).trans ?_
  exact Fin.sum_mul_add_congr (n := 2048) fun b s hl => by
    rw [seqs_apply, factor_apply, du_apply, sc_apply, mul_comm]
    rfl

end

end Cert.InXRefIdeal.InX
end
-- ==== Proof.InXValue.lean ====
/- The values of `in_proj_bwd`: each array the kernel leaves is the reference's. -/
module

public import proofs.«01_k».proof.Proof.Gen.InXRefIdeal
public import proofs.«01_k».proof.Proof.Gen.InXRefIdeal.Run
public import proofs.«01_k».proof.Proof.Reals
public import proofs.«01_k».proof.Proof.InXRef

@[expose] public section

set_option maxRecDepth 16384

noncomputable section

open Idealize.ShloMosaic Idealize.ShloMosaic.TcCoe Idealize.SL.Sem
open Idealize.ShloMosaic.Pipeline (Dat)
open scoped BigOperators

namespace Cert.InXIdeal.InX
open Cert.InXIdeal Cert.InXIdeal.Gen

variable (m : (ℓ : Loc nD τ sig) → Buf (Elt Ideal) ℓ)
  (m' : (ℓ : Loc InXRefIdeal.nD InXRefIdeal.τ InXRefIdeal.sig) → Buf (Elt Ideal) ℓ)

/-- The gradient below the norm. -/
theorem out_x (c : Dev nD) (h0 : m' ((c.tc : Thread InXRefIdeal.nD InXRefIdeal.τ).loc InXRefIdeal.main_arg0) = m ((c.tc : Thread nD τ).loc main_arg0))
    (h1 : m' ((c.tc : Thread InXRefIdeal.nD InXRefIdeal.τ).loc InXRefIdeal.main_arg1) = m ((c.tc : Thread nD τ).loc main_arg1))
    (h2 : m' ((c.tc : Thread InXRefIdeal.nD InXRefIdeal.τ).loc InXRefIdeal.main_arg2) = m ((c.tc : Thread nD τ).loc main_arg2))
    (h3 : m' ((c.tc : Thread InXRefIdeal.nD InXRefIdeal.τ).loc InXRefIdeal.main_arg3) = m ((c.tc : Thread nD τ).loc main_arg3))
    (h4 : m' ((c.tc : Thread InXRefIdeal.nD InXRefIdeal.τ).loc InXRefIdeal.main_arg4) = m ((c.tc : Thread nD τ).loc main_arg4))
    (h5 : m' ((c.tc : Thread InXRefIdeal.nD InXRefIdeal.τ).loc InXRefIdeal.main_arg5) = m ((c.tc : Thread nD τ).loc main_arg5))
    (h6 : m' ((c.tc : Thread InXRefIdeal.nD InXRefIdeal.τ).loc InXRefIdeal.main_arg6) = m ((c.tc : Thread nD τ).loc main_arg6))
    (h7 : m' ((c.tc : Thread InXRefIdeal.nD InXRefIdeal.τ).loc InXRefIdeal.main_arg7) = m ((c.tc : Thread nD τ).loc main_arg7))
    (h8 : m' ((c.tc : Thread InXRefIdeal.nD InXRefIdeal.τ).loc InXRefIdeal.main_arg8) = m ((c.tc : Thread nD τ).loc main_arg8)) :
    InXRefIdeal.Value.res_out0 m' c = (dats m 0 c).arrAt 10 cfg0.N := by
  refine Eq.trans (b := InXRefIdeal.InX.outX (m' ((c.tc : Thread InXRefIdeal.nD InXRefIdeal.τ).loc InXRefIdeal.main_arg0)) (m' ((c.tc : Thread InXRefIdeal.nD InXRefIdeal.τ).loc InXRefIdeal.main_arg1)) (m' ((c.tc : Thread InXRefIdeal.nD InXRefIdeal.τ).loc InXRefIdeal.main_arg2)) (m' ((c.tc : Thread InXRefIdeal.nD InXRefIdeal.τ).loc InXRefIdeal.main_arg4)) (m' ((c.tc : Thread InXRefIdeal.nD InXRefIdeal.τ).loc InXRefIdeal.main_arg3)) (m' ((c.tc : Thread InXRefIdeal.nD InXRefIdeal.τ).loc InXRefIdeal.main_arg5)) (m' ((c.tc : Thread InXRefIdeal.nD InXRefIdeal.τ).loc InXRefIdeal.main_arg6)) (m' ((c.tc : Thread InXRefIdeal.nD InXRefIdeal.τ).loc InXRefIdeal.main_arg7)) (m' ((c.tc : Thread InXRefIdeal.nD InXRefIdeal.τ).loc InXRefIdeal.main_arg8))) rfl ?_
  rw [h0, h1, h2, h3, h4, h5, h6, h7, h8, final_x]
  exact InXRefIdeal.InX.outX_eq _ _ _ _ _ _ _ _ _

/-- The gradients of the modulation. -/
theorem out_m (c : Dev nD) :
    InXRefIdeal.InX.outM (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8))
      = (dats m 0 c).arrAt 11 cfg0.N := by
  rw [final_acc]
  exact InXRefIdeal.InX.outM_eq _ _ _ _ _ _ _

/-- The gradient of the gain. -/
theorem out_g (c : Dev nD) :
    InXRefIdeal.InX.outG (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8))
      = (dats m 0 c).arrAt 12 cfg0.N := by
  rw [final_g]
  exact InXRefIdeal.InX.outG_eq _ _ _ _ _ _ _

end Cert.InXIdeal.InX
end
-- ==== Proof.UpFValue.lean ====
/- The value of `mlp_up`: the array the kernel leaves is the product of the activations with the weights. -/
module

public import proofs.«01_k».proof.Proof.Gen.UpFIdeal.Frame
public import proofs.«01_k».proof.Proof.Gen.UpFRefIdeal
public import Idealize.ShloMosaic.Lib.Pipeline.ValueKit
public import Idealize.ShloMosaic.Lib.Claim
public import Idealize.ShloMosaic.Lib.Pointwise

@[expose] public section

set_option maxRecDepth 16384

noncomputable section

namespace Cert.UpFIdeal.Value

open Idealize.ShloMosaic Idealize.ShloMosaic.TcCoe Idealize.SL.Sem
open Idealize.ShloMosaic.Pipeline (Dat)
open scoped BigOperators
open Cert.UpFIdeal Cert.UpFIdeal.Gen

variable (m : (ℓ : Loc nD τ sig) → Buf (Elt Ideal) ℓ)

/-- The product of the activations with the weights. -/
abbrev prod (u : FVec Ideal Cert.UpFRefIdeal.S4096x1024 .f32) (w : FVec Ideal Cert.UpFRefIdeal.S1024x4096 .f32) :
    FVec Ideal Cert.UpFRefIdeal.S4096x4096 .bf16 :=
  truncf .bf16 (Host.dotGeneral Cert.UpFRefIdeal.dot_S4096x1024_S1024x4096_S4096x4096_1_0_0_1_n_n none u w)
    Cert.UpFRefIdeal.Gen.bitsLt_bf16_f32

theorem idx : ∀ t : Fin cfg0.N, win0_0.index t = ![t.val / 4, 0] ∧ win0_1.index t = ![0, 0, 0]
    ∧ win0_2.index t = ![t.val / 4, t.val % 4]
    ∧ k0_off1 (grid0.coords t) = ![t.val % 4, 0, 0] := (by decide +kernel : ∀ t : Fin grid0.N, _)

/-- The weights, kept in four slabs of 1024 columns. -/
theorem weights (c : Dev nD) (t : Fin cfg0.N) (i : Fin 4) (j k : Fin 1024) : iblk m c 1 t (ix3 i j k)
    = m ((c : Thread nD τ).loc main_arg1) (ix2 j ⟨i.val * 1024 + k.val, by omega⟩) := by
  have e : iblk m c 1 t (ix3 i j k) = V m c main_v2 (ix3 i j k) := by blk_ext [iblk, idx t]
  rw [e]
  entry_read
  pointwise

set_option maxHeartbeats 800000 in
theorem point (c : Dev nD) (t : Fin cfg0.N) (y) :
    k0_pay1 (iblk m c 0 t) (View.ld (iblk m c 1 t) (Rect.unit (s := S4x1024x1024) (k0_off1 (grid0.coords t)) S1x1024x1024.size (k0_off1_inb (grid0.coords t)))) y
      = prod (m ((c : Thread nD τ).loc main_arg0)) (m ((c : Thread nD τ).loc main_arg1))
        (((cfg0.win 2).blk t).view.emb y) := by
  pointwise [k0_pay1, prod]
  simp only [weights]
  blk_point [iblk, V, idx t]

set_option maxHeartbeats 400000 in
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  simp only [outsAt0]
  frame_out
  exact point m c t y

end Cert.UpFIdeal.Value

end
-- ==== Proof.NormFwd.lean ====
/- The norm with its modulation, forward: a row of it, and the stage of the references that holds it. -/
module

public import proofs.«01_k».proof.Proof.NormRef

@[expose] public section

set_option maxRecDepth 16384

noncomputable section

open Idealize.ShloMosaic Idealize.ShloMosaic.TcCoe Idealize.SL.Sem
open Idealize.ShloMosaic.Pipeline (Dat)
open scoped BigOperators

namespace Cert.NormRef
open Cert.UpXRefIdeal Cert.UpXRefIdeal.Gen
open Cert.Reals Cert.Norm

/-- A row of the norm of `h` with gain `g`, scaled by `1 + s` and shifted by `e`. -/
def rowU (h g s e : Fin 1024 → EReal) (j : Fin 1024) : EReal := h j * rowR h * g j * (1 + s j) + e j

theorem rowU_congr {h h' g g' s s' e e' : Fin 1024 → EReal} {j j' : Fin 1024} (hh : ∀ k, h k = h' k) (hg : ∀ k, g k = g' k)
    (hs : ∀ k, s k = s' k) (he : ∀ k, e k = e' k) (hj : j = j') : rowU h g s e j = rowU h' g' s' e' j' := by
  obtain rfl := funext hh; obtain rfl := funext hg; obtain rfl := funext hs; obtain rfl := funext he; rw [hj]

/-- A row of the modulation over the rows of its sequence. -/
def spread (v : FVec Ideal S2x1x1024 .f32) : FVec Ideal S2x2048x1024 .f32 :=
  broadcastInDim S2x2048x1024 ![0, 1, 2] bcast_S2x1x1024_S2x2048x1024_0_1_2 v

theorem spread_apply (v : FVec Ideal S2x1x1024 .f32) (b : Fin 2) (s : Fin 2048) (j : Fin 1024) : spread v (ix3 b s j) = v (ix3 b 0 j) := by
  pointwise [spread]

def normed (h : FVec Ideal S2x2048x1024 .f32) (g : FVec Ideal S1x1024 .f32) (s e : FVec Ideal S2x1x1024 .f32) : FVec Ideal S2x2048x1024 .f32 :=
  addf (mulf (mulf (mulf h (rs h)) (gain g)) (scale s)) (spread e)

theorem normed_apply (h : FVec Ideal S2x2048x1024 .f32) (g : FVec Ideal S1x1024 .f32) (s e : FVec Ideal S2x1x1024 .f32)
    (b : Fin 2) (r : Fin 2048) (j : Fin 1024) :
    normed h g s e (ix3 b r j) = rowU (fun k => h (ix3 b r k)) (fun k => g (ix2 0 k)) (fun k => s (ix3 b 0 k)) (fun k => e (ix3 b 0 k)) j := by
  pointwise [normed]
  rw [rs_apply, gain_apply, scale_apply, spread_apply]
  rfl

end Cert.NormRef
end
-- ==== Proof.InFPoint.lean ====
module

public import proofs.«01_k».proof.Proof.Gen.InFIdeal.Frame
public import proofs.«01_k».proof.Proof.Gen.InFRefIdeal
public import Idealize.ShloMosaic.Lib.Pipeline.ValueKit
public import Idealize.ShloMosaic.Lib.Claim
public import Idealize.ShloMosaic.Lib.Pointwise
public import Idealize.ShloMosaic.Lib.WritesUnit
public import proofs.«01_k».proof.Proof.NormFwd

@[expose] public section

set_option maxRecDepth 16384

noncomputable section

open Idealize.ShloMosaic Idealize.ShloMosaic.TcCoe Idealize.SL.Sem
open Idealize.ShloMosaic.Pipeline (Dat)
open scoped BigOperators

namespace Cert.InFIdeal.InF
open Cert.InFIdeal Cert.InFIdeal.Gen
open Cert.NormRef (rowU rowU_congr)
variable (m : (ℓ : Loc nD τ sig) → Buf (Elt Ideal) ℓ)

/-- Column `q` of the product of a row `u` with the weights `W`, a row for each column; the last 112 columns are zero. -/
def rowP (u : Fin 1024 → EReal) (W : FVec Ideal S3088x1024 .bf16) (q : Fin 3200) : EReal :=
  if h : q.val < 3088 then ∑ k : Fin 1024, u k * W (ix2 ⟨q.val, h⟩ k) else 0

/-- A later store hides what it covers. -/
theorem peel {o p n k : ℕ} {inb} (w : (⟨2, ![n, k]⟩ : Shape).Idx → Elt Ideal .f32) (L : List (View.Piece (Elt Ideal) S512x3200 .f32))
    (y : S512x3200.Idx) (R : EReal)
    (hin : ∀ (a : Fin n) (b : Fin k), (y 0).val = o + a.val → (y 1).val = p + b.val → w (ix2 a b) = R)
    (hout : ¬((o ≤ (y 0).val ∧ (y 0).val < o + n) ∧ p ≤ (y 1).val ∧ (y 1).val < p + k) → View.canon L y = R) :
    View.canon ((⟨Rect.unit (s := S512x3200) ![o, p] ![n, k] inb, w⟩ : View.Piece (Elt Ideal) S512x3200 .f32) :: L) y = R := by
  by_cases hm : y ∈ (Rect.unit (s := S512x3200) ![o, p] ![n, k] inb).set
  · have h := Rect.mem_set_unit.mp hm
    have h0 : o ≤ (y 0).val ∧ (y 0).val < o + n := h 0
    have h1 : p ≤ (y 1).val ∧ (y 1).val < p + k := h 1
    have e : (Rect.unit (s := S512x3200) ![o, p] ![n, k] inb).emb (ix2 ⟨(y 0).val - o, by omega⟩ ⟨(y 1).val - p, by omega⟩) = y := by
      funext a
      refine Fin.ext ?_
      fin_cases a
      · show o + 1 * ((y 0).val - o) = (y 0).val
        omega
      · show p + 1 * ((y 1).val - p) = (y 1).val
        omega
    refine (congrArg _ e.symm).trans ((View.canon_cons_emb (Val := Elt Ideal) (e := .f32)
      (Rect.unit (s := S512x3200) ![o, p] ![n, k] inb) w L (ix2 ⟨(y 0).val - o, by omega⟩ ⟨(y 1).val - p, by omega⟩)).trans ?_)
    exact hin _ _ (by dsimp only; omega) (by dsimp only; omega)
  · refine (View.canon_cons_of_not_mem (Val := Elt Ideal) (e := .f32)
      (⟨Rect.unit (s := S512x3200) ![o, p] ![n, k] inb, w⟩ : View.Piece (Elt Ideal) S512x3200 .f32) L hm).trans ?_
    refine hout fun h => hm (Rect.mem_set_unit.mpr fun a => ?_)
    fin_cases a
    · exact h.1
    · exact h.2

section
variable (X : FVec Ideal S512x1024 .f32) (M : FVec Ideal S1x6x1024 .f32) (G : FVec Ideal S1x1024 .f32) (W : FVec Ideal S3088x1024 .bf16)

/-- The halves of a tile, the rows of the modulation and the parts of the weights that are read. -/
abbrev up (X : FVec Ideal S512x1024 .f32) : FVec Ideal S256x1024 .f32 :=
  View.ld (Val := Elt Ideal) (e' := .f32) X (Rect.unit (s := S512x1024) ![0, 0] S256x1024.size inb_S512x1024_S256x1024_0_0)

abbrev lo (X : FVec Ideal S512x1024 .f32) : FVec Ideal S256x1024 .f32 :=
  View.ld (Val := Elt Ideal) (e' := .f32) X (Rect.unit (s := S512x1024) ![256, 0] S256x1024.size inb_S512x1024_S256x1024_256_0)

abbrev mod0 (M : FVec Ideal S1x6x1024 .f32) : FVec Ideal S1x1x1024 .f32 :=
  View.ld (Val := Elt Ideal) (e' := .f32) M (Rect.unit (s := S1x6x1024) ![0, 0, 0] S1x1x1024.size inb_S1x6x1024_S1x1x1024_0_0_0)

abbrev mod1 (M : FVec Ideal S1x6x1024 .f32) : FVec Ideal S1x1x1024 .f32 :=
  View.ld (Val := Elt Ideal) (e' := .f32) M (Rect.unit (s := S1x6x1024) ![0, 1, 0] S1x1x1024.size inb_S1x6x1024_S1x1x1024_0_1_0)

abbrev wHead (W : FVec Ideal S3088x1024 .bf16) : FVec Ideal S3072x1024 .bf16 :=
  View.ld (Val := Elt Ideal) (e' := .bf16) W (Rect.unit (s := S3088x1024) ![0, 0] S3072x1024.size inb_S3088x1024_S3072x1024_0_0)

abbrev wTail (W : FVec Ideal S3088x1024 .bf16) : FVec Ideal S16x1024 .bf16 :=
  View.ld (Val := Elt Ideal) (e' := .bf16) W (Rect.unit (s := S3088x1024) ![3072, 0] S16x1024.size inb_S3088x1024_S16x1024_3072_0)

/-- Row `r` of a tile of the normed stream. -/
def tileU (r : Fin 512) : Fin 1024 → EReal :=
  rowU (fun k => X (ix2 r k)) (fun k => G (ix2 0 k)) (fun k => M (ix3 0 1 k)) (fun k => M (ix3 0 0 k))

theorem mod0_apply (k : Fin 1024) : mod0 M (ix3 0 0 k) = M (ix3 0 0 k) := by
  unfold mod0; pointwise; blk_ext

theorem mod1_apply (k : Fin 1024) : mod1 M (ix3 0 0 k) = M (ix3 0 1 k) := by
  unfold mod1; pointwise; blk_ext

theorem wHead_apply (l : Fin 3072) (j : Fin 1024) : wHead W (ix2 l j) = W (ix2 ⟨l.val, by omega⟩ j) := by
  unfold wHead; pointwise; blk_ext

theorem wTail_apply (l : Fin 16) (j : Fin 1024) : wTail W (ix2 l j) = W (ix2 ⟨3072 + l.val, by omega⟩ j) := by
  unfold wTail; pointwise; blk_ext

theorem pay_u (v : FVec Ideal S256x1024 .f32) (g : FVec Ideal S1x1024 .f32) (s e : FVec Ideal S1x1x1024 .f32) (a : Fin 256) (b : Fin 1024) :
    (k0_pay5 (F := Ideal) v g s e (ix2 a b) : EReal) = rowU (fun k => v (ix2 a k)) (fun k => g (ix2 0 k)) (fun k => s (ix3 0 0 k)) (fun k => e (ix3 0 0 k)) b := by
  pointwise [k0_pay5]
  rfl

theorem u_up (a : Fin 256) (b : Fin 1024) :
    (k0_pay5 (F := Ideal) (up X) G (mod1 M) (mod0 M) (ix2 a b) : EReal) = tileU X M G ⟨a.val, by omega⟩ b := by
  rw [pay_u]
  exact rowU_congr (fun k => by unfold up; pointwise; blk_ext) (fun k => rfl) (mod1_apply M) (mod0_apply M) rfl

theorem u_lo (a : Fin 256) (b : Fin 1024) :
    (k0_pay11 (F := Ideal) (lo X) G (mod1 M) (mod0 M) (ix2 a b) : EReal) = tileU X M G ⟨256 + a.val, by omega⟩ b := by
  refine (pay_u (lo X) G (mod1 M) (mod0 M) a b).trans ?_
  exact rowU_congr (fun k => by unfold lo; pointwise; blk_ext) (fun k => rfl) (mod1_apply M) (mod0_apply M) rfl

theorem head_up (v : FVec Ideal S256x1024 .bf16) (u : Fin 1024 → EReal) (a : Fin 256) (hv : ∀ k, v (ix2 a k) = u k) (b : Fin 3072) (q : Fin 3200)
    (hq : q.val = b.val) : k0_pay2 v (wHead W) (ix2 a b) = rowP u W q := by
  unfold rowP
  rw [dif_pos (by omega)]
  pointwise [k0_pay2]
  refine Finset.sum_congr rfl fun k _ => congrArg₂ (fun u v : EReal => u * v) (hv k) ((wHead_apply W b k).trans ?_)
  exact congrArg (fun l => W (ix2 l k)) (Fin.ext hq.symm)

theorem tail_up (v : FVec Ideal S256x1024 .bf16) (u : Fin 1024 → EReal) (a : Fin 256) (hv : ∀ k, v (ix2 a k) = u k) (b : Fin 16) (q : Fin 3200)
    (hq : q.val = 3072 + b.val) : k0_pay4 v (wTail W) (ix2 a b) = rowP u W q := by
  unfold rowP
  rw [dif_pos (by omega)]
  pointwise [k0_pay4]
  refine Finset.sum_congr rfl fun k _ => congrArg₂ (fun u v : EReal => u * v) (hv k) ((wTail_apply W b k).trans ?_)
  exact congrArg (fun l => W (ix2 l k)) (Fin.ext hq.symm)

/-- What the two halves of a tile leave in the first result. -/
theorem p_pieces (y : S512x3200.Idx) :
    View.canon (Val := Elt Ideal) (s := S512x3200) (e := .f32)
      [⟨Rect.unit (s := S512x3200) ![256, 3072] S256x16.size inb_S512x3200_S256x16_256_3072,
        k0_pay4 (F := Ideal) (k0_pay11 (lo X) G (mod1 M) (mod0 M)) (wTail W)⟩,
       ⟨Rect.unit (s := S512x3200) ![256, 3072] S256x128.size inb_S512x3200_S256x128_256_3072, k0_pay3 (F := Ideal)⟩,
       ⟨Rect.unit (s := S512x3200) ![256, 0] S256x3072.size inb_S512x3200_S256x3072_256_0,
        k0_pay2 (F := Ideal) (k0_pay11 (lo X) G (mod1 M) (mod0 M)) (wHead W)⟩,
       ⟨Rect.unit (s := S512x3200) ![0, 3072] S256x16.size inb_S512x3200_S256x16_0_3072,
        k0_pay10 (F := Ideal) (k0_pay5 (up X) G (mod1 M) (mod0 M)) (wTail W)⟩,
       ⟨Rect.unit (s := S512x3200) ![0, 3072] S256x128.size inb_S512x3200_S256x128_0_3072, k0_pay9 (F := Ideal) (k0_pay8 (F := Ideal))⟩,
       ⟨Rect.unit (s := S512x3200) ![0, 0] S256x3072.size inb_S512x3200_S256x3072_0_0,
        k0_pay7 (F := Ideal) (up X) G (mod1 M) (mod0 M) (wHead W)⟩] y
      = rowP (tileU X M G (y 0)) W (y 1) := by
  have l0 : (y 0).val < 512 := (y 0).isLt
  have l1 : (y 1).val < 3200 := (y 1).isLt
  have hr (r : Fin 512) (h : (y 0).val = r.val) : tileU X M G r = tileU X M G (y 0) := congrArg _ (Fin.ext h.symm)
  have hz (h : 3088 ≤ (y 1).val) : rowP (tileU X M G (y 0)) W (y 1) = 0 := dif_neg (by omega)
  refine peel _ _ y _ (fun a b ha hb => ?_) fun n0 => ?_
  · exact tail_up W _ _ a (fun k => (u_lo X M G a k).trans (congrFun (hr _ ha) k)) b (y 1) hb
  refine peel _ _ y _ (fun a b ha hb => ?_) fun n1 => ?_
  · rw [hz (by omega)]
    pointwise [k0_pay3]
  refine peel _ _ y _ (fun a b ha hb => ?_) fun n2 => ?_
  · exact head_up W _ _ a (fun k => (u_lo X M G a k).trans (congrFun (hr _ ha) k)) b (y 1) (by omega)
  refine peel _ _ y _ (fun a b ha hb => ?_) fun n3 => ?_
  · exact tail_up W _ _ a (fun k => (u_up X M G a k).trans (congrFun (hr _ (ha.trans (Nat.zero_add _))) k)) b (y 1) hb
  refine peel _ _ y _ (fun a b ha hb => ?_) fun n4 => ?_
  · rw [hz (by omega)]
    pointwise [k0_pay9, k0_pay8]
  refine peel _ _ y _ (fun a b ha hb => ?_) fun n5 => ?_
  · exact head_up W _ _ a (fun k => (u_up X M G a k).trans (congrFun (hr _ (ha.trans (Nat.zero_add _))) k)) b (y 1) (by omega)
  · omega

/-- What the two halves of a tile leave in the second result. -/
theorem u_pieces (y : S512x1024.Idx) :
    View.canon (Val := Elt Ideal) (s := S512x1024) (e := .bf16)
      [⟨Rect.unit (s := S512x1024) ![256, 0] S256x1024.size inb_S512x1024_S256x1024_256_0,
        k0_pay1 (F := Ideal) (k0_pay11 (lo X) G (mod1 M) (mod0 M))⟩,
       ⟨Rect.unit (s := S512x1024) ![0, 0] S256x1024.size inb_S512x1024_S256x1024_0_0,
        k0_pay6 (F := Ideal) (up X) G (mod1 M) (mod0 M)⟩] y
      = tileU X M G (y 0) (y 1) := by
  canon_tiles x h
  · idx_vars x
    refine Eq.trans ?_ ((u_lo X M G x0 x1).trans ?_)
    · pointwise [k0_pay1]
    · exact congrArg₂ (tileU X M G) (Fin.ext h0.symm) (Fin.ext h1.symm)
  · idx_vars x
    refine Eq.trans ?_ ((u_up X M G x0 x1).trans ?_)
    · pointwise [k0_pay6]
    · exact congrArg₂ (tileU X M G) (Fin.ext (by simpa using h0.symm)) (Fin.ext h1.symm)

end

end Cert.InFIdeal.InF
end
-- ==== Proof.InFValue.lean ====
/- `in_proj_fwd`: the two results, tile by tile on the kernel's side, and as the reference computes them. -/
module

public import proofs.«01_k».proof.Proof.InFPoint

@[expose] public section

set_option maxRecDepth 16384

noncomputable section

open Idealize.ShloMosaic Idealize.ShloMosaic.TcCoe Idealize.SL.Sem
open Idealize.ShloMosaic.Pipeline (Dat)
open scoped BigOperators

namespace Cert.InFIdeal.InF
open Cert.InFIdeal Cert.InFIdeal.Gen
open Cert.NormRef (rowU rowU_congr)
variable (m : (ℓ : Loc nD τ sig) → Buf (Elt Ideal) ℓ)

/-- Row `R` of the normed stream, and of the product. -/
def gU (x : FVec Ideal S4096x1024 .f32) (md : FVec Ideal S2x6144 .f32) (g : FVec Ideal S1x1024 .f32) (R : Fin 4096) : Fin 1024 → EReal :=
  rowU (fun k => x (ix2 R k)) (fun k => g (ix2 0 k)) (fun k => md (ix2 ⟨R.val / 2048, by omega⟩ ⟨1024 + k.val, by omega⟩))
    (fun k => md (ix2 ⟨R.val / 2048, by omega⟩ ⟨k.val, by omega⟩))

def gP (x : FVec Ideal S4096x1024 .f32) (md : FVec Ideal S2x6144 .f32) (g : FVec Ideal S1x1024 .f32) (w : FVec Ideal S1024x3088 .f32)
    (R : Fin 4096) (q : Fin 3200) : EReal :=
  if h : q.val < 3088 then ∑ k : Fin 1024, gU x md g R k * w (ix2 k ⟨q.val, h⟩) else 0

theorem idx : ∀ t : Fin cfg0.N, win0_0.index t = ![t.val, 0] ∧ win0_1.index t = ![t.val / 4, 0, 0] ∧ win0_2.index t = ![0, 0]
    ∧ win0_3.index t = ![0, 0] ∧ win0_5.index t = ![t.val, 0] ∧ win0_6.index t = ![t.val, 0] := (by decide +kernel : ∀ t : Fin grid0.N, _)

theorem blk_X (c : Dev nD) (t : Fin cfg0.N) (ht : t.val < 8) (r : Fin 512) (j : Fin 1024) : iblk m c 0 t (ix2 r j)
    = m ((c : Thread nD τ).loc main_arg0) (ix2 ⟨t.val * 512 + r.val, by omega⟩ j) := by
  blk_ext [iblk, V, idx t]

theorem blk_M (c : Dev nD) (t : Fin cfg0.N) (ht : t.val < 8) (i : Fin 6) (j : Fin 1024) : iblk m c 1 t (ix3 0 i j)
    = m ((c : Thread nD τ).loc main_arg1) (ix2 ⟨t.val / 4, by omega⟩ ⟨i.val * 1024 + j.val, by omega⟩) := by
  have e : iblk m c 1 t (ix3 0 i j) = V m c main_v0 (ix3 ⟨t.val / 4, by omega⟩ i j) := by blk_ext [iblk, idx t]
  rw [e]
  entry_read
  pointwise

theorem blk_G (c : Dev nD) (t : Fin cfg0.N) (j : Fin 1024) : iblk m c 2 t (ix2 0 j)
    = m ((c : Thread nD τ).loc main_arg2) (ix2 0 j) := by
  blk_ext [iblk, V, idx t]

theorem blk_W (c : Dev nD) (t : Fin cfg0.N) (l : Fin 3088) (j : Fin 1024) : iblk m c 3 t (ix2 l j)
    = m ((c : Thread nD τ).loc main_arg3) (ix2 j l) := by
  have e : iblk m c 3 t (ix2 l j) = V m c main_v2 (ix2 l j) := by blk_ext [iblk, idx t]
  rw [e]
  entry_read
  pointwise

/-- Row `r` of point `t` is row `512 t + r` of the whole. -/
theorem pt_U (c : Dev nD) (t : Fin cfg0.N) (ht : t.val < 8) (r : Fin 512) :
    tileU (iblk m c 0 t) (iblk m c 1 t) (iblk m c 2 t) r
      = gU (m ((c : Thread nD τ).loc main_arg0)) (m ((c : Thread nD τ).loc main_arg1)) (m ((c : Thread nD τ).loc main_arg2)) ⟨t.val * 512 + r.val, by omega⟩ := by
  funext j
  unfold tileU gU
  refine rowU_congr (fun k => blk_X m c t ht r k) (fun k => blk_G m c t k) (fun k => (blk_M m c t ht 1 k).trans ?_)
    (fun k => (blk_M m c t ht 0 k).trans ?_) rfl
  · exact congrArg (m ((c : Thread nD τ).loc main_arg1)) (congrArg₂ ix2 (Fin.ext (by dsimp only; omega)) (Fin.ext (by rfl)))
  · exact congrArg (m ((c : Thread nD τ).loc main_arg1)) (congrArg₂ ix2 (Fin.ext (by dsimp only; omega)) (Fin.ext (by simp)))

theorem pt_P (c : Dev nD) (t : Fin cfg0.N) (ht : t.val < 8) (r : Fin 512) (q : Fin 3200) :
    rowP (tileU (iblk m c 0 t) (iblk m c 1 t) (iblk m c 2 t) r) (iblk m c 3 t) q
      = gP (m ((c : Thread nD τ).loc main_arg0)) (m ((c : Thread nD τ).loc main_arg1)) (m ((c : Thread nD τ).loc main_arg2)) (m ((c : Thread nD τ).loc main_arg3)) ⟨t.val * 512 + r.val, by omega⟩ q := by
  unfold rowP gP
  rw [pt_U m c t ht r]
  by_cases h : q.val < 3088
  · rw [dif_pos h, dif_pos h]
    exact Finset.sum_congr rfl fun k _ => congrArg (fun u : EReal => _ * u) (blk_W m c t ⟨q.val, h⟩ k)
  · rw [dif_neg h, dif_neg h]

theorem p_g (c : Dev nD) (t : Fin cfg0.N) (y : S512x3200.Idx) (R : Fin 4096) (q : Fin 3200) (hR : R.val = t.val * 512 + (y 0).val)
    (hq : q.val = (y 1).val) : (outsAt0 m c t).1 y = gP (m ((c : Thread nD τ).loc main_arg0)) (m ((c : Thread nD τ).loc main_arg1)) (m ((c : Thread nD τ).loc main_arg2)) (m ((c : Thread nD τ).loc main_arg3)) R q := by
  obtain rfl : y 1 = q := Fin.ext hq.symm
  have e : (outsAt0 m c t).1 y = rowP (tileU (iblk m c 0 t) (iblk m c 1 t) (iblk m c 2 t) (y 0)) (iblk m c 3 t) (y 1) := by
    simp only [outsAt0]
    frame_out
    exact p_pieces (iblk m c 0 t) (iblk m c 1 t) (iblk m c 2 t) (iblk m c 3 t) y
  refine e.trans ((pt_P m c t (lt_of_lt_of_eq t.isLt N_0) (y 0) (y 1)).trans ?_)
  exact congrArg (gP (m ((c : Thread nD τ).loc main_arg0)) (m ((c : Thread nD τ).loc main_arg1)) (m ((c : Thread nD τ).loc main_arg2)) (m ((c : Thread nD τ).loc main_arg3)) · (y 1)) (Fin.ext hR.symm)

theorem u_g (c : Dev nD) (t : Fin cfg0.N) (y : S512x1024.Idx) (R : Fin 4096) (j : Fin 1024) (hR : R.val = t.val * 512 + (y 0).val)
    (hj : j.val = (y 1).val) : (outsAt0 m c t).2 y = gU (m ((c : Thread nD τ).loc main_arg0)) (m ((c : Thread nD τ).loc main_arg1)) (m ((c : Thread nD τ).loc main_arg2)) R j := by
  obtain rfl : y 1 = j := Fin.ext hj.symm
  have e : (outsAt0 m c t).2 y = tileU (iblk m c 0 t) (iblk m c 1 t) (iblk m c 2 t) (y 0) (y 1) := by
    simp only [outsAt0]
    frame_out
    exact u_pieces (iblk m c 0 t) (iblk m c 1 t) (iblk m c 2 t) y
  refine e.trans ((congrFun (pt_U m c t (lt_of_lt_of_eq t.isLt N_0) (y 0)) (y 1)).trans ?_)
  exact congrArg (gU (m ((c : Thread nD τ).loc main_arg0)) (m ((c : Thread nD τ).loc main_arg1)) (m ((c : Thread nD τ).loc main_arg2)) · (y 1)) (Fin.ext hR.symm)

theorem final_p (c : Dev nD) : (dats m 0 c).arrAt 5 cfg0.N = fun y : S4096x3200.Idx =>
    gP (m ((c : Thread nD τ).loc main_arg0)) (m ((c : Thread nD τ).loc main_arg1)) (m ((c : Thread nD τ).loc main_arg2)) (m ((c : Thread nD τ).loc main_arg3)) (y 0) (y 1) := by
  refine (dats m 0 c).arrAt_eq_of_covers 5 _ (by decide +kernel) fun t hf y => ?_
  blk_simp
  rw [after0_5]
  refine p_g m c t y _ _ ?_ ?_ <;> blk_simp <;> simp [idx t]

theorem final_u (c : Dev nD) : (dats m 0 c).arrAt 6 cfg0.N = fun y : S4096x1024.Idx =>
    gU (m ((c : Thread nD τ).loc main_arg0)) (m ((c : Thread nD τ).loc main_arg1)) (m ((c : Thread nD τ).loc main_arg2)) (y 0) (y 1) := by
  refine (dats m 0 c).arrAt_eq_of_covers 6 _ (by decide +kernel) fun t hf y => ?_
  blk_simp
  rw [after0_6]
  refine u_g m c t y _ _ ?_ ?_ <;> blk_simp <;> simp [idx t]

end Cert.InFIdeal.InF

namespace Cert.InFRefIdeal.InF
open Cert.InFRefIdeal Cert.InFRefIdeal.Gen
open Cert.NormRef
open Cert.InFIdeal.InF (gU gP)

section
variable (x : FVec Ideal S4096x1024 .f32) (md : FVec Ideal S2x6144 .f32) (g : FVec Ideal S1x1024 .f32) (w : FVec Ideal S1024x3088 .f32)

/-- The normed stream by sequence, and the two results. -/
def us : FVec Ideal S2x2048x1024 .f32 :=
  normed (seqs x) g (extractStridedSlice S2x1x1024 ![0, 0, 1024] (mod3 md) slices_S2x1x6144_S2x1x1024_0_0_1024)
    (extractStridedSlice S2x1x1024 ![0, 0, 0] (mod3 md) slices_S2x1x6144_S2x1x1024_0_0_0)

def outP : FVec Ideal S4096x3200 .f32 :=
  concatenate S4096x3200 1 [⟨S4096x3088, (shapeCast _ (Host.dotGeneral dot_S2x2048x1024_S1024x3088_S2x2048x3088_2_0_01_1_n_n none (us x md g) w)
    shapeCasts_S2x2048x3088_S4096x3088)⟩, ⟨S4096x112, (broadcastInDim S4096x112 ![] bcast_S_S4096x112 (constant S_ .f32 0x00000000#32))⟩]
    concatenates_S4096x3088_S4096x112_S4096x3200_d1

def outU : FVec Ideal S4096x1024 .bf16 :=
  truncf .bf16 (shapeCast S4096x1024 (us x md g) shapeCasts_S2x2048x1024_S4096x1024) bitsLt_bf16_f32

theorem us_apply (b : Fin 2) (s : Fin 2048) (j : Fin 1024) : us x md g (ix3 b s j) = gU x md g ⟨b.val * 2048 + s.val, by omega⟩ j := by
  have e : (b.val * 2048 + s.val) / 2048 = b.val := by omega
  unfold gU us
  simp only [e]
  rw [normed_apply]
  refine rowU_congr (fun k => seqs_apply x b s k) (fun k => rfl) (fun k => ?_) (fun k => ?_) rfl <;> pointwise [mod3]

theorem outP_eq : outP x md g w = fun y => gP x md g w (y 0) (y 1) := by
  funext y
  idx_vars y
  unfold gP
  pointwise [outP]
  by_cases h : y1.val < 3088
  · rw [dif_pos h, dif_pos h]
    refine Finset.sum_congr rfl fun k _ => congrArg (fun u : EReal => u * _) ((us_apply x md g _ _ k).trans ?_)
    exact congrArg (gU x md g · k) (Fin.ext (by dsimp only; omega))
  · rw [dif_neg h, dif_neg h]

theorem outU_eq : outU x md g = fun y => gU x md g (y 0) (y 1) := by
  funext y
  idx_vars y
  pointwise [outU]
  rw [us_apply]
  exact congrArg (gU x md g · y1) (Fin.ext (by dsimp only; omega))

end

end Cert.InFRefIdeal.InF

namespace Cert.InFIdeal.InF
open Cert.InFIdeal Cert.InFIdeal.Gen
variable (m : (ℓ : Loc nD τ sig) → Buf (Elt Ideal) ℓ)

/-- The product. -/
theorem out_p (m' : (ℓ : Loc InFRefIdeal.nD InFRefIdeal.τ InFRefIdeal.sig) → Buf (Elt Ideal) ℓ) (c : Dev nD)
    (h3 : m' ((c.tc : Thread InFRefIdeal.nD InFRefIdeal.τ).loc InFRefIdeal.main_arg3) = m ((c.tc : Thread nD τ).loc main_arg3)) :
    InFRefIdeal.InF.outP (m ((c.tc : Thread nD τ).loc main_arg0)) (m ((c.tc : Thread nD τ).loc main_arg1)) (m ((c.tc : Thread nD τ).loc main_arg2))
        (m' ((c.tc : Thread InFRefIdeal.nD InFRefIdeal.τ).loc InFRefIdeal.main_arg3))
      = (dats m 0 c).arrAt 5 cfg0.N := by
  rw [h3, final_p]
  exact InFRefIdeal.InF.outP_eq _ _ _ _

/-- The normed stream. -/
theorem out_u (c : Dev nD) :
    InFRefIdeal.InF.outU (m ((c.tc : Thread nD τ).loc main_arg0)) (m ((c.tc : Thread nD τ).loc main_arg1)) (m ((c.tc : Thread nD τ).loc main_arg2))
      = (dats m 0 c).arrAt 6 cfg0.N := by
  rw [final_u]
  exact InFRefIdeal.InF.outU_eq _ _ _

end Cert.InFIdeal.InF
end
-- ==== Proof.OutFPoint.lean ====
module

public import proofs.«01_k».proof.Proof.Gen.OutFIdeal.Frame
public import proofs.«01_k».proof.Proof.Gen.OutFRefIdeal
public import Idealize.ShloMosaic.Lib.Pipeline.ValueKit
public import Idealize.ShloMosaic.Lib.Claim
public import Idealize.ShloMosaic.Lib.Pointwise
public import proofs.«01_k».proof.Proof.NormFwd

@[expose] public section

set_option maxRecDepth 16384

noncomputable section

open Idealize.ShloMosaic Idealize.ShloMosaic.TcCoe Idealize.SL.Sem
open Idealize.ShloMosaic.Pipeline (Dat)
open scoped BigOperators

namespace Cert.OutFIdeal.OutF
open Cert.OutFIdeal Cert.OutFIdeal.Gen
open Cert.NormRef (rowU rowU_congr)

/-- Column `j` of the product of the two rows `a` and `b` side by side with the weights `W`. -/
def rowO (a : Fin 512 → EReal) (b : Fin 1024 → EReal) (W : Fin 1536 → Fin 1024 → EReal) (j : Fin 1024) : EReal :=
  ∑ l : Fin 1536, (if h : l.val < 512 then a ⟨l.val, h⟩ else b ⟨l.val - 512, by omega⟩) * W l j

theorem rowO_congr {a a' : Fin 512 → EReal} {b b' : Fin 1024 → EReal} {W W' : Fin 1536 → Fin 1024 → EReal} {j j' : Fin 1024}
    (ha : ∀ k, a k = a' k) (hb : ∀ k, b k = b' k) (hW : ∀ l k, W l k = W' l k) (hj : j = j') : rowO a b W j = rowO a' b' W' j' := by
  obtain rfl := funext ha; obtain rfl := funext hb; obtain rfl := funext fun l => funext (hW l); rw [hj]

/-- The halves of a tile and the rows of the modulation that are read. -/
abbrev upA (X : FVec Ideal S512x512 .bf16) : FVec Ideal S256x512 .bf16 :=
  View.ld (Val := Elt Ideal) (e' := .bf16) X (Rect.unit (s := S512x512) ![0, 0] S256x512.size inb_S512x512_S256x512_0_0)

abbrev loA (X : FVec Ideal S512x512 .bf16) : FVec Ideal S256x512 .bf16 :=
  View.ld (Val := Elt Ideal) (e' := .bf16) X (Rect.unit (s := S512x512) ![256, 0] S256x512.size inb_S512x512_S256x512_256_0)

abbrev upB (X : FVec Ideal S512x1024 .bf16) : FVec Ideal S256x1024 .bf16 :=
  View.ld (Val := Elt Ideal) (e' := .bf16) X (Rect.unit (s := S512x1024) ![0, 0] S256x1024.size inb_S512x1024_S256x1024_0_0)

abbrev loB (X : FVec Ideal S512x1024 .bf16) : FVec Ideal S256x1024 .bf16 :=
  View.ld (Val := Elt Ideal) (e' := .bf16) X (Rect.unit (s := S512x1024) ![256, 0] S256x1024.size inb_S512x1024_S256x1024_256_0)

abbrev up (X : FVec Ideal S512x1024 .f32) : FVec Ideal S256x1024 .f32 :=
  View.ld (Val := Elt Ideal) (e' := .f32) X (Rect.unit (s := S512x1024) ![0, 0] S256x1024.size inb_S512x1024_S256x1024_0_0)

abbrev lo (X : FVec Ideal S512x1024 .f32) : FVec Ideal S256x1024 .f32 :=
  View.ld (Val := Elt Ideal) (e' := .f32) X (Rect.unit (s := S512x1024) ![256, 0] S256x1024.size inb_S512x1024_S256x1024_256_0)

abbrev mod2 (M : FVec Ideal S1x6x1024 .f32) : FVec Ideal S1x1x1024 .f32 :=
  View.ld (Val := Elt Ideal) (e' := .f32) M (Rect.unit (s := S1x6x1024) ![0, 2, 0] S1x1x1024.size inb_S1x6x1024_S1x1x1024_0_2_0)

abbrev mod3 (M : FVec Ideal S1x6x1024 .f32) : FVec Ideal S1x1x1024 .f32 :=
  View.ld (Val := Elt Ideal) (e' := .f32) M (Rect.unit (s := S1x6x1024) ![0, 3, 0] S1x1x1024.size inb_S1x6x1024_S1x1x1024_0_3_0)

abbrev mod4 (M : FVec Ideal S1x6x1024 .f32) : FVec Ideal S1x1x1024 .f32 :=
  View.ld (Val := Elt Ideal) (e' := .f32) M (Rect.unit (s := S1x6x1024) ![0, 4, 0] S1x1x1024.size inb_S1x6x1024_S1x1x1024_0_4_0)

section
variable (A : FVec Ideal S512x512 .bf16) (B : FVec Ideal S512x1024 .bf16) (W : FVec Ideal S1536x1024 .bf16) (X : FVec Ideal S512x1024 .f32)
  (M : FVec Ideal S1x6x1024 .f32) (G : FVec Ideal S1x1024 .f32)

/-- Row `r` of a tile of the product, of the residual stream, and of its norm. -/
def tileO (r : Fin 512) : Fin 1024 → EReal := rowO (fun k => A (ix2 r k)) (fun k => B (ix2 r k)) (fun l k => W (ix2 l k))

def tileH (r : Fin 512) (j : Fin 1024) : EReal := X (ix2 r j) + M (ix3 0 2 j) * tileO A B W r j

def tileU (r : Fin 512) : Fin 1024 → EReal :=
  rowU (tileH A B W X M r) (fun k => G (ix2 0 k)) (fun k => M (ix3 0 4 k)) (fun k => M (ix3 0 3 k))

theorem mod2_apply (k : Fin 1024) : mod2 M (ix3 0 0 k) = M (ix3 0 2 k) := by
  unfold mod2; pointwise; blk_ext

theorem mod3_apply (k : Fin 1024) : mod3 M (ix3 0 0 k) = M (ix3 0 3 k) := by
  unfold mod3; pointwise; blk_ext

theorem mod4_apply (k : Fin 1024) : mod4 M (ix3 0 0 k) = M (ix3 0 4 k) := by
  unfold mod4; pointwise; blk_ext

theorem up_apply (a : Fin 256) (b : Fin 1024) : up X (ix2 a b) = X (ix2 ⟨a.val, by omega⟩ b) := by
  unfold up; pointwise; blk_ext

theorem lo_apply (a : Fin 256) (b : Fin 1024) : lo X (ix2 a b) = X (ix2 ⟨256 + a.val, by omega⟩ b) := by
  unfold lo; pointwise; blk_ext

theorem pay_o (p : FVec Ideal S256x512 .bf16) (q : FVec Ideal S256x1024 .bf16) (w : FVec Ideal S1536x1024 .bf16) (a : Fin 256) (b : Fin 1024) :
    (k0_pay2 (F := Ideal) p q w (ix2 a b) : EReal) = rowO (fun k => p (ix2 a k)) (fun k => q (ix2 a k)) (fun l k => w (ix2 l k)) b := by
  unfold rowO
  pointwise [k0_pay2]

theorem o_up (a : Fin 256) (b : Fin 1024) : (k0_pay2 (F := Ideal) (upA A) (upB B) W (ix2 a b) : EReal) = tileO A B W ⟨a.val, by omega⟩ b := by
  refine (pay_o _ _ _ a b).trans (rowO_congr (fun k => ?_) (fun k => ?_) (fun l k => rfl) rfl)
  · unfold upA; pointwise; blk_ext
  · unfold upB; pointwise; blk_ext

theorem o_lo (a : Fin 256) (b : Fin 1024) : (k0_pay8 (F := Ideal) (loA A) (loB B) W (ix2 a b) : EReal) = tileO A B W ⟨256 + a.val, by omega⟩ b := by
  refine (pay_o _ _ _ a b).trans (rowO_congr (fun k => ?_) (fun k => ?_) (fun l k => rfl) rfl)
  · unfold loA; pointwise; blk_ext
  · unfold loB; pointwise; blk_ext

theorem h_up (a : Fin 256) (b : Fin 1024) : (k0_pay4 (F := Ideal) (upA A) (upB B) W (up X) (mod2 M) (ix2 a b) : EReal) = tileH A B W X M ⟨a.val, by omega⟩ b := by
  unfold tileH
  rw [← o_up A B W, ← up_apply X, ← mod2_apply M]
  pointwise [k0_pay4]

theorem h_lo (a : Fin 256) (b : Fin 1024) : (k0_pay10 (F := Ideal) (loA A) (loB B) W (lo X) (mod2 M) (ix2 a b) : EReal) = tileH A B W X M ⟨256 + a.val, by omega⟩ b := by
  unfold tileH
  rw [← o_lo A B W, ← lo_apply X, ← mod2_apply M]
  pointwise [k0_pay10]

theorem pay_u (p : FVec Ideal S256x512 .bf16) (q : FVec Ideal S256x1024 .bf16) (w : FVec Ideal S1536x1024 .bf16) (x : FVec Ideal S256x1024 .f32)
    (gt s e : FVec Ideal S1x1x1024 .f32) (g : FVec Ideal S1x1024 .f32) (a : Fin 256) (b : Fin 1024) :
    (k0_pay7 (F := Ideal) (k0_pay6 p q w x gt g) s e (ix2 a b) : EReal)
      = rowU (fun k => (k0_pay4 (F := Ideal) p q w x gt (ix2 a k) : EReal)) (fun k => g (ix2 0 k)) (fun k => s (ix3 0 0 k)) (fun k => e (ix3 0 0 k)) b := by
  pointwise [k0_pay7, k0_pay6]
  rfl

theorem pay_u' (v : FVec Ideal S256x1024 .f32) (s e : FVec Ideal S1x1x1024 .f32) (g : FVec Ideal S1x1024 .f32) (a : Fin 256) (b : Fin 1024) :
    (k0_pay1 (F := Ideal) v g s e (ix2 a b) : EReal)
      = rowU (fun k => v (ix2 a k)) (fun k => g (ix2 0 k)) (fun k => s (ix3 0 0 k)) (fun k => e (ix3 0 0 k)) b := by
  pointwise [k0_pay1]
  rfl

/-- What the two halves of a tile leave in the three results. -/
theorem h_pieces (y : S512x1024.Idx) :
    View.canon (Val := Elt Ideal) (s := S512x1024) (e := .f32)
      [⟨Rect.unit (s := S512x1024) ![256, 0] S256x1024.size inb_S512x1024_S256x1024_256_0,
        k0_pay11 (F := Ideal) (loA A) (loB B) W (lo X) (mod2 M)⟩,
       ⟨Rect.unit (s := S512x1024) ![0, 0] S256x1024.size inb_S512x1024_S256x1024_0_0,
        k0_pay5 (F := Ideal) (upA A) (upB B) W (up X) (mod2 M)⟩] y
      = tileH A B W X M (y 0) (y 1) := by
  canon_tiles x h
  · idx_vars x
    refine Eq.trans ?_ ((h_lo A B W X M x0 x1).trans ?_)
    · pointwise [k0_pay11]
    · exact congrArg₂ (tileH A B W X M) (Fin.ext h0.symm) (Fin.ext h1.symm)
  · idx_vars x
    refine Eq.trans ?_ ((h_up A B W X M x0 x1).trans ?_)
    · pointwise [k0_pay5]
    · exact congrArg₂ (tileH A B W X M) (Fin.ext (by simpa using h0.symm)) (Fin.ext h1.symm)

theorem o_pieces (y : S512x1024.Idx) :
    View.canon (Val := Elt Ideal) (s := S512x1024) (e := .bf16)
      [⟨Rect.unit (s := S512x1024) ![256, 0] S256x1024.size inb_S512x1024_S256x1024_256_0,
        k0_pay9 (F := Ideal) (loA A) (loB B) W⟩,
       ⟨Rect.unit (s := S512x1024) ![0, 0] S256x1024.size inb_S512x1024_S256x1024_0_0,
        k0_pay3 (F := Ideal) (upA A) (upB B) W⟩] y
      = tileO A B W (y 0) (y 1) := by
  canon_tiles x h
  · idx_vars x
    refine Eq.trans ?_ ((o_lo A B W x0 x1).trans ?_)
    · pointwise [k0_pay9]
    · exact congrArg₂ (tileO A B W) (Fin.ext h0.symm) (Fin.ext h1.symm)
  · idx_vars x
    refine Eq.trans ?_ ((o_up A B W x0 x1).trans ?_)
    · pointwise [k0_pay3]
    · exact congrArg₂ (tileO A B W) (Fin.ext (by simpa using h0.symm)) (Fin.ext h1.symm)

theorem u_pieces (y : S512x1024.Idx) :
    View.canon (Val := Elt Ideal) (s := S512x1024) (e := .bf16)
      [⟨Rect.unit (s := S512x1024) ![256, 0] S256x1024.size inb_S512x1024_S256x1024_256_0,
        k0_pay1 (F := Ideal) (k0_pay10 (loA A) (loB B) W (lo X) (mod2 M)) G (mod4 M) (mod3 M)⟩,
       ⟨Rect.unit (s := S512x1024) ![0, 0] S256x1024.size inb_S512x1024_S256x1024_0_0,
        k0_pay7 (F := Ideal) (k0_pay6 (upA A) (upB B) W (up X) (mod2 M) G) (mod4 M) (mod3 M)⟩] y
      = tileU A B W X M G (y 0) (y 1) := by
  canon_tiles x h
  · idx_vars x
    have e : tileU A B W X M G ⟨256 + x0.val, by omega⟩ x1 = tileU A B W X M G (y 0) (y 1) :=
      congrArg₂ (tileU A B W X M G) (Fin.ext h0.symm) (Fin.ext h1.symm)
    refine (pay_u' _ _ _ _ x0 x1).trans (Eq.trans ?_ e)
    exact rowU_congr (fun k => h_lo A B W X M x0 k) (fun k => rfl) (mod4_apply M) (mod3_apply M) rfl
  · idx_vars x
    have e : tileU A B W X M G ⟨x0.val, by omega⟩ x1 = tileU A B W X M G (y 0) (y 1) :=
      congrArg₂ (tileU A B W X M G) (Fin.ext (by simpa using h0.symm)) (Fin.ext h1.symm)
    refine (pay_u _ _ _ _ _ _ _ _ x0 x1).trans (Eq.trans ?_ e)
    exact rowU_congr (fun k => h_up A B W X M x0 k) (fun k => rfl) (mod4_apply M) (mod3_apply M) rfl

end

end Cert.OutFIdeal.OutF
end
-- ==== Proof.OutFValue.lean ====
/- `out_proj_fwd`: the three results, tile by tile on the kernel's side, and as the reference computes them. -/
module

public import proofs.«01_k».proof.Proof.OutFPoint

@[expose] public section

set_option maxRecDepth 16384

noncomputable section

open Idealize.ShloMosaic Idealize.ShloMosaic.TcCoe Idealize.SL.Sem
open Idealize.ShloMosaic.Pipeline (Dat)
open scoped BigOperators

namespace Cert.OutFIdeal.OutF
open Cert.OutFIdeal Cert.OutFIdeal.Gen
open Cert.NormRef (rowU rowU_congr)
variable (m : (ℓ : Loc nD τ sig) → Buf (Elt Ideal) ℓ)

section
variable (a : FVec Ideal S4096x512 .f32) (b : FVec Ideal S4096x1024 .f32) (w : FVec Ideal S1536x1024 .f32) (x : FVec Ideal S4096x1024 .f32)
  (md : FVec Ideal S2x6144 .f32) (g : FVec Ideal S1x1024 .f32)

/-- Row `R` of the product, of the residual stream, and of its norm. -/
def gO (R : Fin 4096) : Fin 1024 → EReal := rowO (fun k => a (ix2 R k)) (fun k => b (ix2 R k)) (fun l k => w (ix2 l k))

def gH (R : Fin 4096) (j : Fin 1024) : EReal := x (ix2 R j) + md (ix2 ⟨R.val / 2048, by omega⟩ ⟨2048 + j.val, by omega⟩) * gO a b w R j

def gU (R : Fin 4096) : Fin 1024 → EReal :=
  rowU (gH a b w x md R) (fun k => g (ix2 0 k)) (fun k => md (ix2 ⟨R.val / 2048, by omega⟩ ⟨4096 + k.val, by omega⟩))
    (fun k => md (ix2 ⟨R.val / 2048, by omega⟩ ⟨3072 + k.val, by omega⟩))

end

theorem idx : ∀ t : Fin cfg0.N, win0_0.index t = ![t.val, 0] ∧ win0_1.index t = ![t.val, 0] ∧ win0_2.index t = ![0, 0]
    ∧ win0_3.index t = ![t.val, 0] ∧ win0_4.index t = ![t.val / 4, 0, 0] ∧ win0_5.index t = ![0, 0] ∧ win0_6.index t = ![t.val, 0]
    ∧ win0_7.index t = ![t.val, 0] ∧ win0_8.index t = ![t.val, 0] := (by decide +kernel : ∀ t : Fin grid0.N, _)

theorem blk_A (c : Dev nD) (t : Fin cfg0.N) (ht : t.val < 8) (r : Fin 512) (j : Fin 512) : iblk m c 0 t (ix2 r j)
    = (m ((c : Thread nD τ).loc main_arg0)) (ix2 ⟨t.val * 512 + r.val, by omega⟩ j) := by
  have e : iblk m c 0 t (ix2 r j) = V m c main_v0 (ix2 ⟨t.val * 512 + r.val, by omega⟩ j) := by blk_ext [iblk, idx t]
  rw [e]
  entry_read
  pointwise

theorem blk_B (c : Dev nD) (t : Fin cfg0.N) (ht : t.val < 8) (r : Fin 512) (j : Fin 1024) : iblk m c 1 t (ix2 r j)
    = (m ((c : Thread nD τ).loc main_arg1)) (ix2 ⟨t.val * 512 + r.val, by omega⟩ j) := by
  have e : iblk m c 1 t (ix2 r j) = V m c main_v1 (ix2 ⟨t.val * 512 + r.val, by omega⟩ j) := by blk_ext [iblk, idx t]
  rw [e]
  entry_read
  pointwise

theorem blk_W (c : Dev nD) (t : Fin cfg0.N) (l : Fin 1536) (j : Fin 1024) : iblk m c 2 t (ix2 l j)
    = (m ((c : Thread nD τ).loc main_arg2)) (ix2 l j) := by
  have e : iblk m c 2 t (ix2 l j) = V m c main_v2 (ix2 l j) := by blk_ext [iblk, idx t]
  rw [e]
  entry_read
  pointwise

theorem blk_X (c : Dev nD) (t : Fin cfg0.N) (ht : t.val < 8) (r : Fin 512) (j : Fin 1024) : iblk m c 3 t (ix2 r j)
    = (m ((c : Thread nD τ).loc main_arg3)) (ix2 ⟨t.val * 512 + r.val, by omega⟩ j) := by
  blk_ext [iblk, V, idx t]

theorem blk_M (c : Dev nD) (t : Fin cfg0.N) (ht : t.val < 8) (i : Fin 6) (j : Fin 1024) : iblk m c 4 t (ix3 0 i j)
    = (m ((c : Thread nD τ).loc main_arg4)) (ix2 ⟨t.val / 4, by omega⟩ ⟨i.val * 1024 + j.val, by omega⟩) := by
  have e : iblk m c 4 t (ix3 0 i j) = V m c main_v3 (ix3 ⟨t.val / 4, by omega⟩ i j) := by blk_ext [iblk, idx t]
  rw [e]
  entry_read
  pointwise

theorem blk_G (c : Dev nD) (t : Fin cfg0.N) (j : Fin 1024) : iblk m c 5 t (ix2 0 j)
    = (m ((c : Thread nD τ).loc main_arg5)) (ix2 0 j) := by
  blk_ext [iblk, V, idx t]

/-- A row of the modulation, for the sequence that the tile's rows belong to. -/
theorem row_M (c : Dev nD) (t : Fin cfg0.N) (ht : t.val < 8) (r : Fin 512) (i : Fin 6) (j : Fin 1024) (q : Fin 6144)
    (hq : q.val = i.val * 1024 + j.val) : iblk m c 4 t (ix3 0 i j) = (m ((c : Thread nD τ).loc main_arg4)) (ix2 ⟨(t.val * 512 + r.val) / 2048, by omega⟩ q) :=
  (blk_M m c t ht i j).trans (congrArg (m ((c : Thread nD τ).loc main_arg4)) (congrArg₂ ix2 (Fin.ext (by dsimp only; omega)) (Fin.ext hq.symm)))

/-- Row `r` of point `t` is row `512 t + r` of the whole. -/
theorem pt_O (c : Dev nD) (t : Fin cfg0.N) (ht : t.val < 8) (r : Fin 512) :
    tileO (iblk m c 0 t) (iblk m c 1 t) (iblk m c 2 t) r = gO (m ((c : Thread nD τ).loc main_arg0)) (m ((c : Thread nD τ).loc main_arg1)) (m ((c : Thread nD τ).loc main_arg2)) ⟨t.val * 512 + r.val, by omega⟩ :=
  funext fun j => rowO_congr (fun k => blk_A m c t ht r k) (fun k => blk_B m c t ht r k) (fun l k => blk_W m c t l k) rfl

theorem pt_H (c : Dev nD) (t : Fin cfg0.N) (ht : t.val < 8) (r : Fin 512) :
    tileH (iblk m c 0 t) (iblk m c 1 t) (iblk m c 2 t) (iblk m c 3 t) (iblk m c 4 t) r
      = gH (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + r.val, by omega⟩ := by
  funext j
  unfold tileH gH
  rw [pt_O m c t ht r, blk_X m c t ht r j, row_M m c t ht r 2 j ⟨2048 + j.val, by omega⟩ (by rfl)]

theorem pt_U (c : Dev nD) (t : Fin cfg0.N) (ht : t.val < 8) (r : Fin 512) :
    tileU (iblk m c 0 t) (iblk m c 1 t) (iblk m c 2 t) (iblk m c 3 t) (iblk m c 4 t) (iblk m c 5 t) r
      = gU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by omega⟩ :=
  funext fun j => rowU_congr (congrFun (pt_H m c t ht r)) (fun k => blk_G m c t k)
    (fun k => row_M m c t ht r 4 k _ (by rfl)) (fun k => row_M m c t ht r 3 k _ (by rfl)) rfl

theorem h_g (c : Dev nD) (t : Fin cfg0.N) (y : S512x1024.Idx) (R : Fin 4096) (j : Fin 1024) (hR : R.val = t.val * 512 + (y 0).val)
    (hj : j.val = (y 1).val) : (dats m 0 c).after 6 t y = gH (m ((c : Thread nD τ).loc main_arg0)) (m ((c : Thread nD τ).loc main_arg1)) (m ((c : Thread nD τ).loc main_arg2)) (m ((c : Thread nD τ).loc main_arg3)) (m ((c : Thread nD τ).loc main_arg4)) R j := by
  obtain rfl : y 1 = j := Fin.ext hj.symm
  have e : (dats m 0 c).after 6 t y
      = tileH (iblk m c 0 t) (iblk m c 1 t) (iblk m c 2 t) (iblk m c 3 t) (iblk m c 4 t) (y 0) (y 1) := by
    rw [after0_6]
    frame_out
    exact h_pieces (iblk m c 0 t) (iblk m c 1 t) (iblk m c 2 t) (iblk m c 3 t) (iblk m c 4 t) y
  refine e.trans ((congrFun (pt_H m c t (lt_of_lt_of_eq t.isLt N_0) (y 0)) (y 1)).trans ?_)
  exact congrArg (gH (m ((c : Thread nD τ).loc main_arg0)) (m ((c : Thread nD τ).loc main_arg1)) (m ((c : Thread nD τ).loc main_arg2)) (m ((c : Thread nD τ).loc main_arg3)) (m ((c : Thread nD τ).loc main_arg4)) · (y 1)) (Fin.ext hR.symm)

theorem o_g (c : Dev nD) (t : Fin cfg0.N) (y : S512x1024.Idx) (R : Fin 4096) (j : Fin 1024) (hR : R.val = t.val * 512 + (y 0).val)
    (hj : j.val = (y 1).val) : (dats m 0 c).after 7 t y = gO (m ((c : Thread nD τ).loc main_arg0)) (m ((c : Thread nD τ).loc main_arg1)) (m ((c : Thread nD τ).loc main_arg2)) R j := by
  obtain rfl : y 1 = j := Fin.ext hj.symm
  have e : (dats m 0 c).after 7 t y = tileO (iblk m c 0 t) (iblk m c 1 t) (iblk m c 2 t) (y 0) (y 1) := by
    rw [after0_7]
    frame_out
    exact o_pieces (iblk m c 0 t) (iblk m c 1 t) (iblk m c 2 t) y
  refine e.trans ((congrFun (pt_O m c t (lt_of_lt_of_eq t.isLt N_0) (y 0)) (y 1)).trans ?_)
  exact congrArg (gO (m ((c : Thread nD τ).loc main_arg0)) (m ((c : Thread nD τ).loc main_arg1)) (m ((c : Thread nD τ).loc main_arg2)) · (y 1)) (Fin.ext hR.symm)

theorem u_g (c : Dev nD) (t : Fin cfg0.N) (y : S512x1024.Idx) (R : Fin 4096) (j : Fin 1024) (hR : R.val = t.val * 512 + (y 0).val)
    (hj : j.val = (y 1).val) : (dats m 0 c).after 8 t y = gU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R j := by
  obtain rfl : y 1 = j := Fin.ext hj.symm
  have e : (dats m 0 c).after 8 t y
      = tileU (iblk m c 0 t) (iblk m c 1 t) (iblk m c 2 t) (iblk m c 3 t) (iblk m c 4 t) (iblk m c 5 t) (y 0) (y 1) := by
    rw [after0_8]
    frame_out
    exact u_pieces (iblk m c 0 t) (iblk m c 1 t) (iblk m c 2 t) (iblk m c 3 t) (iblk m c 4 t) (iblk m c 5 t) y
  refine e.trans ((congrFun (pt_U m c t (lt_of_lt_of_eq t.isLt N_0) (y 0)) (y 1)).trans ?_)
  exact congrArg (gU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) · (y 1)) (Fin.ext hR.symm)

theorem final_h (c : Dev nD) : (dats m 0 c).arrAt 6 cfg0.N = fun y : S4096x1024.Idx => gH (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 6 _ (by decide +kernel) fun t hf y => ?_
  blk_simp
  refine h_g m c t y _ _ ?_ ?_ <;> blk_simp <;> simp [idx t]

theorem final_o (c : Dev nD) : (dats m 0 c).arrAt 7 cfg0.N = fun y : S4096x1024.Idx => gO (m ((c : Thread nD τ).loc main_arg0)) (m ((c : Thread nD τ).loc main_arg1)) (m ((c : Thread nD τ).loc main_arg2)) (y 0) (y 1) := by
  refine (dats m 0 c).arrAt_eq_of_covers 7 _ (by decide +kernel) fun t hf y => ?_
  blk_simp
  refine o_g m c t y _ _ ?_ ?_ <;> blk_simp <;> simp [idx t]

theorem final_u (c : Dev nD) : (dats m 0 c).arrAt 8 cfg0.N = fun y : S4096x1024.Idx => gU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) := by
  refine (dats m 0 c).arrAt_eq_of_covers 8 _ (by decide +kernel) fun t hf y => ?_
  blk_simp
  refine u_g m c t y _ _ ?_ ?_ <;> blk_simp <;> simp [idx t]

end Cert.OutFIdeal.OutF

namespace Cert.OutFRefIdeal.OutF
open Cert.OutFRefIdeal Cert.OutFRefIdeal.Gen
open Cert.NormRef
open Cert.OutFIdeal.OutF (rowO rowO_congr gO gH gU)

section
variable (a : FVec Ideal S4096x512 .f32) (b : FVec Ideal S4096x1024 .f32) (w : FVec Ideal S1536x1024 .f32) (x : FVec Ideal S4096x1024 .f32)
  (md : FVec Ideal S2x6144 .f32) (g : FVec Ideal S1x1024 .f32)

/-- The product, the residual stream and its norm by sequence, and the three results. -/
def os : FVec Ideal S2x2048x1024 .f32 :=
  Host.dotGeneral dot_S2x2048x1536_S1536x1024_S2x2048x1024_2_0_01_1_n_n none
    (concatenate S2x2048x1536 2 [⟨S2x2048x512, shapeCast _ a shapeCasts_S4096x512_S2x2048x512⟩,
      ⟨S2x2048x1024, shapeCast _ b shapeCasts_S4096x1024_S2x2048x1024⟩] concatenates_S2x2048x512_S2x2048x1024_S2x2048x1536_d2) w

def hs : FVec Ideal S2x2048x1024 .f32 :=
  addf (seqs x) (mulf (spread (extractStridedSlice S2x1x1024 ![0, 0, 2048] (mod3 md) slices_S2x1x6144_S2x1x1024_0_0_2048)) (os a b w))

def us : FVec Ideal S2x2048x1024 .f32 :=
  normed (hs a b w x md) g (extractStridedSlice S2x1x1024 ![0, 0, 4096] (mod3 md) slices_S2x1x6144_S2x1x1024_0_0_4096)
    (extractStridedSlice S2x1x1024 ![0, 0, 3072] (mod3 md) slices_S2x1x6144_S2x1x1024_0_0_3072)

def outH : FVec Ideal S4096x1024 .f32 := shapeCast S4096x1024 (hs a b w x md) shapeCasts_S2x2048x1024_S4096x1024

def outO : FVec Ideal S4096x1024 .bf16 :=
  truncf .bf16 (shapeCast S4096x1024 (os a b w) shapeCasts_S2x2048x1024_S4096x1024) bitsLt_bf16_f32

def outU : FVec Ideal S4096x1024 .bf16 :=
  truncf .bf16 (shapeCast S4096x1024 (us a b w x md g) shapeCasts_S2x2048x1024_S4096x1024) bitsLt_bf16_f32

theorem os_apply (i : Fin 2) (s : Fin 2048) (j : Fin 1024) : os a b w (ix3 i s j) = gO a b w ⟨i.val * 2048 + s.val, by omega⟩ j := by
  unfold gO rowO
  pointwise [os]

theorem hs_apply (i : Fin 2) (s : Fin 2048) (j : Fin 1024) :
    hs a b w x md (ix3 i s j) = gH a b w x md ⟨i.val * 2048 + s.val, by omega⟩ j := by
  have e : (i.val * 2048 + s.val) / 2048 = i.val := by omega
  unfold gH
  simp only [e]
  rw [← os_apply]
  pointwise [hs]
  rw [seqs_apply, spread_apply]
  pointwise [mod3]

theorem us_apply (i : Fin 2) (s : Fin 2048) (j : Fin 1024) :
    us a b w x md g (ix3 i s j) = gU a b w x md g ⟨i.val * 2048 + s.val, by omega⟩ j := by
  have e : (i.val * 2048 + s.val) / 2048 = i.val := by omega
  unfold gU us
  simp only [e]
  rw [normed_apply]
  refine rowU_congr (fun k => hs_apply a b w x md i s k) (fun k => rfl) (fun k => ?_) (fun k => ?_) rfl <;> pointwise [mod3]

theorem outH_eq : outH a b w x md = fun y => gH a b w x md (y 0) (y 1) := by
  funext y
  idx_vars y
  pointwise [outH]
  rw [hs_apply]
  exact congrArg (gH a b w x md · y1) (Fin.ext (by dsimp only; omega))

theorem outO_eq : outO a b w = fun y => gO a b w (y 0) (y 1) := by
  funext y
  idx_vars y
  pointwise [outO]
  rw [os_apply]
  exact congrArg (gO a b w · y1) (Fin.ext (by dsimp only; omega))

theorem outU_eq : outU a b w x md g = fun y => gU a b w x md g (y 0) (y 1) := by
  funext y
  idx_vars y
  pointwise [outU]
  rw [us_apply]
  exact congrArg (gU a b w x md g · y1) (Fin.ext (by dsimp only; omega))

end

end Cert.OutFRefIdeal.OutF

namespace Cert.OutFIdeal.OutF
open Cert.OutFIdeal Cert.OutFIdeal.Gen
variable (m : (ℓ : Loc nD τ sig) → Buf (Elt Ideal) ℓ)

/-- The residual stream, the product, and the norm. -/
theorem out_h (c : Dev nD) : OutFRefIdeal.OutF.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = (dats m 0 c).arrAt 6 cfg0.N := by
  rw [final_h]
  exact OutFRefIdeal.OutF.outH_eq _ _ _ _ _

theorem out_o (c : Dev nD) : OutFRefIdeal.OutF.outO (m ((c.tc : Thread nD τ).loc main_arg0)) (m ((c.tc : Thread nD τ).loc main_arg1)) (m ((c.tc : Thread nD τ).loc main_arg2)) = (dats m 0 c).arrAt 7 cfg0.N := by
  rw [final_o]
  exact OutFRefIdeal.OutF.outO_eq _ _ _

theorem out_u (c : Dev nD) : OutFRefIdeal.OutF.outU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (dats m 0 c).arrAt 8 cfg0.N := by
  rw [final_u]
  exact OutFRefIdeal.OutF.outU_eq _ _ _ _ _ _

end Cert.OutFIdeal.OutF
end
-- ==== Proof.ClaimsProduct.lean ====
/- The value claims of the products of the backward pass without a norm: the kernel's run and the reference's end with the same results. -/
module

public import proofs.«01_k».proof.Defs
public import proofs.«01_k».proof.Proof.DownXValue
public import proofs.«01_k».proof.Proof.Gen.DownXIdeal
public import proofs.«01_k».proof.Proof.Gen.DownXIdeal.Frame
public import proofs.«01_k».proof.Proof.Gen.DownXRefIdeal
public import proofs.«01_k».proof.Proof.Gen.DownXRefIdeal.Run
public import proofs.«01_k».proof.Proof.DownWValue
public import proofs.«01_k».proof.Proof.Gen.DownWIdeal
public import proofs.«01_k».proof.Proof.Gen.DownWIdeal.Frame
public import proofs.«01_k».proof.Proof.Gen.DownWRefIdeal
public import proofs.«01_k».proof.Proof.Gen.DownWRefIdeal.Run
public import proofs.«01_k».proof.Proof.UpWValue
public import proofs.«01_k».proof.Proof.Gen.UpWIdeal
public import proofs.«01_k».proof.Proof.Gen.UpWIdeal.Frame
public import proofs.«01_k».proof.Proof.Gen.UpWRefIdeal
public import proofs.«01_k».proof.Proof.Gen.UpWRefIdeal.Run
public import proofs.«01_k».proof.Proof.OutXValue
public import proofs.«01_k».proof.Proof.Gen.OutXIdeal
public import proofs.«01_k».proof.Proof.Gen.OutXIdeal.Frame
public import proofs.«01_k».proof.Proof.Gen.OutXRefIdeal
public import proofs.«01_k».proof.Proof.Gen.OutXRefIdeal.Run
public import proofs.«01_k».proof.Proof.OutWValue
public import proofs.«01_k».proof.Proof.Gen.OutWIdeal
public import proofs.«01_k».proof.Proof.Gen.OutWIdeal.Frame
public import proofs.«01_k».proof.Proof.Gen.OutWRefIdeal
public import proofs.«01_k».proof.Proof.Gen.OutWRefIdeal.Run
public import Idealize.ShloMosaic.Adequacy
public import Idealize.ShloMosaic.Init

@[expose] public section

noncomputable section

namespace Cert.Proof

open Idealize.ShloMosaic Idealize.SL.Sem

theorem downX_algebraic : Cert.algebraic_DownXIdeal_DownXRefIdeal := by
  pair_intro
  · run_from Cert.DownXIdeal.Gen.run_main m g
  · run_from Cert.DownXRefIdeal.Value.run m' g'
    exact (Cert.DownXIdeal.Value.final m c).symm

theorem downW_algebraic : Cert.algebraic_DownWIdeal_DownWRefIdeal := by
  pair_intro
  · run_from Cert.DownWIdeal.Gen.run_main m g
  · run_from Cert.DownWRefIdeal.Value.run m' g'
    exact (Cert.DownWIdeal.Value.final m c).symm

theorem upW_algebraic : Cert.algebraic_UpWIdeal_UpWRefIdeal := by
  pair_intro
  · run_from Cert.UpWIdeal.Gen.run_main m g
  · run_from Cert.UpWRefIdeal.Value.run m' g'
    exact (Cert.UpWIdeal.Value.final m c).symm

theorem outX_algebraic : Cert.algebraic_OutXIdeal_OutXRefIdeal := by
  pair_intro
  · run_from Cert.OutXIdeal.Gen.run_main m g
  · run_from Cert.OutXRefIdeal.Value.run m' g'
    · exact (Cert.OutXIdeal.Value.final_p m c).symm
    · exact (Cert.OutXIdeal.Value.final_s m c).symm

theorem outW_algebraic : Cert.algebraic_OutWIdeal_OutWRefIdeal := by
  pair_intro
  · run_from Cert.OutWIdeal.Gen.run_main m g
  · run_from Cert.OutWRefIdeal.Value.run m' g'
    exact (Cert.OutWIdeal.Value.final m c).symm

end Cert.Proof

end
-- ==== Proof.ClaimsPool.lean ====
/- The value claims of `pool_bwd`: the kernel's run and the reference's end with the same results. -/
module

public import proofs.«01_k».proof.Defs
public import proofs.«01_k».proof.Proof.PoolValue
public import proofs.«01_k».proof.Proof.Gen.PoolIdeal
public import proofs.«01_k».proof.Proof.Gen.PoolIdeal.Frame
public import proofs.«01_k».proof.Proof.Gen.PoolRefIdeal
public import proofs.«01_k».proof.Proof.Gen.PoolRefIdeal.Run
public import Idealize.ShloMosaic.Adequacy
public import Idealize.ShloMosaic.Init

@[expose] public section

noncomputable section

namespace Cert.Proof

open Idealize.ShloMosaic Idealize.SL.Sem

set_option maxHeartbeats 3200000 in
theorem pool_algebraic : Cert.algebraic_PoolIdeal_PoolRefIdeal_pre_finite_weights_and_cotangent := by
  pair_intro
  · run_from Cert.PoolIdeal.Gen.run_main m g
    exact Cert.PoolIdeal.Gen.V_main_arg0 m c
  · run_from Cert.PoolRefIdeal.Value.run m' g'
    · exact Cert.PoolIdeal.Pool.out_du m m' c hpre (hagree c).2.1 (hagree c).2.2.1 (hagree c).2.2.2
    · exact Cert.PoolIdeal.Pool.out_dw m m' c (hagree c).1 (hagree c).2.2.1 (hagree c).2.2.2
    · exact Cert.PoolIdeal.Pool.out_ds m m' c (hagree c).1 (hagree c).2.1 (hagree c).2.2.2

end Cert.Proof

end
-- ==== Proof.ClaimsUpX.lean ====
/- The value claims of `mlp_up_bwd`: the kernel's run and the reference's end with the same results. -/
module

public import proofs.«01_k».proof.Defs
public import proofs.«01_k».proof.Proof.UpXValue
public import proofs.«01_k».proof.Proof.Gen.UpXIdeal
public import proofs.«01_k».proof.Proof.Gen.UpXIdeal.Frame
public import proofs.«01_k».proof.Proof.Gen.UpXRefIdeal
public import proofs.«01_k».proof.Proof.Gen.UpXRefIdeal.Run
public import Idealize.ShloMosaic.Adequacy
public import Idealize.ShloMosaic.Init

@[expose] public section

noncomputable section

namespace Cert.Proof

open Idealize.ShloMosaic Idealize.SL.Sem

set_option maxHeartbeats 3200000 in
theorem upX_algebraic : Cert.algebraic_UpXIdeal_UpXRefIdeal := by
  pair_intro
  · run_from Cert.UpXIdeal.Gen.run_main m g
  · run_from Cert.UpXRefIdeal.Value.run m' g'
    · exact Cert.UpXIdeal.UpX.out_x m m' c (hagree c).1 (hagree c).2.1 (hagree c).2.2.1 (hagree c).2.2.2.1 (hagree c).2.2.2.2.1 (hagree c).2.2.2.2.2.1 (hagree c).2.2.2.2.2.2
    · exact Cert.UpXIdeal.UpX.out_o m m' c (hagree c).1 (hagree c).2.1 (hagree c).2.2.1 (hagree c).2.2.2.1 (hagree c).2.2.2.2.1 (hagree c).2.2.2.2.2.1 (hagree c).2.2.2.2.2.2
    · exact Cert.UpXIdeal.UpX.out_m m m' c (hagree c).1 (hagree c).2.1 (hagree c).2.2.1 (hagree c).2.2.2.1 (hagree c).2.2.2.2.1 (hagree c).2.2.2.2.2.1 (hagree c).2.2.2.2.2.2
    · exact Cert.UpXIdeal.UpX.out_g m c

end Cert.Proof

end
-- ==== Proof.ClaimsInX.lean ====
/- The value claims of `in_proj_bwd`: the kernel's run and the reference's end with the same results. -/
module

public import proofs.«01_k».proof.Defs
public import proofs.«01_k».proof.Proof.InXValue
public import proofs.«01_k».proof.Proof.Gen.InXIdeal
public import proofs.«01_k».proof.Proof.Gen.InXIdeal.Frame
public import proofs.«01_k».proof.Proof.Gen.InXRefIdeal
public import proofs.«01_k».proof.Proof.Gen.InXRefIdeal.Run
public import Idealize.ShloMosaic.Adequacy
public import Idealize.ShloMosaic.Init

@[expose] public section

noncomputable section

namespace Cert.Proof

open Idealize.ShloMosaic Idealize.SL.Sem

set_option maxHeartbeats 3200000 in
theorem inX_algebraic : Cert.algebraic_InXIdeal_InXRefIdeal := by
  pair_intro
  · run_from Cert.InXIdeal.Gen.run_main m g
  · run_from Cert.InXRefIdeal.Value.run m' g'
    · exact Cert.InXIdeal.InX.out_x m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2
    · rw [(hagree c).2.2.1, (hagree c).2.2.2.1, (hagree c).2.2.2.2.2.1, (hagree c).2.2.2.2.2.2.1, (hagree c).2.2.2.2.2.2.2.1, (hagree c).2.2.2.2.2.2.2.2]
      exact Cert.InXIdeal.InX.out_m m c
    · exact Cert.InXIdeal.InX.out_g m c

end Cert.Proof

end
-- ==== Proof.ClaimsForward.lean ====
/- The value claims of the products of the forward pass: the kernel's run and the reference's end with the same results. -/
module

public import proofs.«01_k».proof.Defs
public import proofs.«01_k».proof.Proof.UpFValue
public import proofs.«01_k».proof.Proof.Gen.UpFIdeal
public import proofs.«01_k».proof.Proof.Gen.UpFIdeal.Frame
public import proofs.«01_k».proof.Proof.Gen.UpFRefIdeal
public import proofs.«01_k».proof.Proof.Gen.UpFRefIdeal.Run
public import proofs.«01_k».proof.Proof.InFValue
public import proofs.«01_k».proof.Proof.Gen.InFIdeal
public import proofs.«01_k».proof.Proof.Gen.InFIdeal.Frame
public import proofs.«01_k».proof.Proof.Gen.InFRefIdeal
public import proofs.«01_k».proof.Proof.Gen.InFRefIdeal.Run
public import proofs.«01_k».proof.Proof.OutFValue
public import proofs.«01_k».proof.Proof.Gen.OutFIdeal
public import proofs.«01_k».proof.Proof.Gen.OutFIdeal.Frame
public import proofs.«01_k».proof.Proof.Gen.OutFRefIdeal
public import proofs.«01_k».proof.Proof.Gen.OutFRefIdeal.Run
public import Idealize.ShloMosaic.Adequacy
public import Idealize.ShloMosaic.Init

@[expose] public section

noncomputable section

namespace Cert.Proof

open Idealize.ShloMosaic Idealize.SL.Sem

set_option maxHeartbeats 3200000 in
theorem upF_algebraic : Cert.algebraic_UpFIdeal_UpFRefIdeal := by
  pair_intro
  · run_from Cert.UpFIdeal.Gen.run_main m g
  · run_from Cert.UpFRefIdeal.Value.run m' g'
    · exact (Cert.UpFIdeal.Value.final m c).symm

set_option maxHeartbeats 3200000 in
theorem inF_algebraic : Cert.algebraic_InFIdeal_InFRefIdeal := by
  pair_intro
  · run_from Cert.InFIdeal.Gen.run_main m g
  · run_from Cert.InFRefIdeal.Value.run m' g'
    · exact Cert.InFIdeal.InF.out_p m m' c (hagree c).2.2.2
    · exact Cert.InFIdeal.InF.out_u m c

set_option maxHeartbeats 3200000 in
theorem outF_algebraic : Cert.algebraic_OutFIdeal_OutFRefIdeal := by
  pair_intro
  · run_from Cert.OutFIdeal.Gen.run_main m g
  · run_from Cert.OutFRefIdeal.Value.run m' g'
    · exact Cert.OutFIdeal.OutF.out_h m c
    · exact Cert.OutFIdeal.OutF.out_o m c
    · exact Cert.OutFIdeal.OutF.out_u m c

end Cert.Proof

end
-- ==== Proof.Head.lean ====
/- One row of the loss head: the error, its gradient, and the gradient below the last norm. -/
module

public import proofs.«01_k».proof.Proof.Norm

@[expose] public section

set_option maxRecDepth 16384

noncomputable section

open Idealize.ShloMosaic Idealize.ShloMosaic.TcCoe Idealize.SL.Sem
open scoped BigOperators

namespace Cert.Head
open Cert.Reals Cert.Norm

/-- A row of the second product of the layer, of the first one's row `a`. -/
def rowF {n : ℕ} (a : Fin n → EReal) (w : Fin n → Fin 1024 → EReal) (j : Fin 1024) : EReal :=
  ∑ l, max (a l) 0 * max (a l) 0 * w l j

/-- The error of a row against the target, and what the loss sends back to the row. -/
def rowE (h g t : Fin 1024 → EReal) (j : Fin 1024) : EReal := h j * rowR h * g j - t j

def rowY (h g t : Fin 1024 → EReal) (j : Fin 1024) : EReal := rowE h g t j * Ideal.ofBits .f32 0x3A800000#32

/-- One row of the gradient below the norm, of a row `d` at the norm's output. -/
def rowB (d h g : Fin 1024 → EReal) (j : Fin 1024) : EReal :=
  rowR h * (d j * g j - h j * rowR h * Ideal.div (∑ k, d k * g k * (h k * rowR h)) (Ideal.ofBits .f32 0x44800000#32))

theorem rowN_zero (d : Fin 1024 → EReal) (j : Fin 1024) : rowN d (fun _ => 0) j = d j := by
  unfold rowN
  rw [add_zero, mul_one]

/-- Without modulation and without a second path the row's gradient is the one of the modulated norm. -/
theorem rowB_eq (d h g : Fin 1024 → EReal) (j : Fin 1024) :
    d j * g j * rowR h + h j * rowQ (fun k => d k * g k) h + rowQ (fun k => d k * g k) h * h j = rowB d h g j := by
  have e := row_eq d h g (fun _ => 0) (fun _ => 0) j
  simp only [rowX, rowN_zero, zero_add] at e
  exact e

theorem word_two : Ideal.ofBits FTy.f32 0x40000000#32 = ((2 : ℝ) : EReal) := by
  simp [Ideal.ofBits, Ideal.ieee, -EReal.coe_mul]; norm_num

theorem word_one_half : Ideal.ofBits FTy.f32 0x3F000000#32 = ((1 / 2 : ℝ) : EReal) := by
  simp [Ideal.ofBits, Ideal.ieee, -EReal.coe_mul]; norm_num

theorem word_inv : Ideal.ofBits FTy.f32 0x3A800000#32 = ((1 / 1024 : ℝ) : EReal) := by
  simp [Ideal.ofBits, Ideal.ieee, -EReal.coe_mul]; norm_num

/-- Half of the mean of a square has the mean of the error as its gradient. -/
theorem mean_grad (x : EReal) :
    Ideal.div (Ideal.ofBits .f32 0x3F000000#32 * 1) (Ideal.ofBits .f32 0x44800000#32) * (Ideal.ofBits .f32 0x40000000#32 * x)
      = x * Ideal.ofBits .f32 0x3A800000#32 := by
  rw [word_one_half, word_1024, word_two, word_inv, mul_one, div_coe _ _ (by norm_num), ← mul_assoc, ← EReal.coe_mul, mul_comm]
  norm_num

end Cert.Head
end
-- ==== Proof.DownFPoint.lean ====
/- What one point of `mlp_down_loss` leaves in its five results. -/
module

public import proofs.«01_k».proof.Proof.Gen.DownFIdeal.Frame
public import proofs.«01_k».proof.Proof.Gen.DownFRefIdeal
public import Idealize.ShloMosaic.Lib.Pipeline.ValueKit
public import Idealize.ShloMosaic.Lib.Claim
public import Idealize.ShloMosaic.Lib.Pointwise
public import Idealize.ShloMosaic.Lib.WritesUnit
public import proofs.«01_k».proof.Proof.Head

@[expose] public section

set_option maxRecDepth 16384

noncomputable section

open Idealize.ShloMosaic Idealize.ShloMosaic.TcCoe Idealize.SL.Sem
open Idealize.ShloMosaic.Pipeline (Dat)
open scoped BigOperators

namespace Cert.DownFIdeal.DownF
open Cert.DownFIdeal Cert.DownFIdeal.Gen
open Cert.Norm Cert.Head

/-- The upper and the lower half of a tile's rows, and the gate of the modulation. -/
abbrev upA (X : FVec Ideal S512x4096 .bf16) : FVec Ideal S256x4096 .bf16 :=
  View.ld (Val := Elt Ideal) (e' := .bf16) X (Rect.unit (s := S512x4096) ![0, 0] S256x4096.size inb_S512x4096_S256x4096_0_0)

abbrev loA (X : FVec Ideal S512x4096 .bf16) : FVec Ideal S256x4096 .bf16 :=
  View.ld (Val := Elt Ideal) (e' := .bf16) X (Rect.unit (s := S512x4096) ![256, 0] S256x4096.size inb_S512x4096_S256x4096_256_0)

abbrev up (X : FVec Ideal S512x1024 .f32) : FVec Ideal S256x1024 .f32 :=
  View.ld (Val := Elt Ideal) (e' := .f32) X (Rect.unit (s := S512x1024) ![0, 0] S256x1024.size inb_S512x1024_S256x1024_0_0)

abbrev lo (X : FVec Ideal S512x1024 .f32) : FVec Ideal S256x1024 .f32 :=
  View.ld (Val := Elt Ideal) (e' := .f32) X (Rect.unit (s := S512x1024) ![256, 0] S256x1024.size inb_S512x1024_S256x1024_256_0)

abbrev mod5 (M : FVec Ideal S1x6x1024 .f32) : FVec Ideal S1x1x1024 .f32 :=
  View.ld (Val := Elt Ideal) (e' := .f32) M (Rect.unit (s := S1x6x1024) ![0, 5, 0] S1x1x1024.size inb_S1x6x1024_S1x1x1024_0_5_0)

theorem up_apply (X : FVec Ideal S512x1024 .f32) (a : Fin 256) (b : Fin 1024) : up X (ix2 a b) = X (ix2 ⟨a.val, by omega⟩ b) := by
  unfold up; pointwise; blk_ext

theorem lo_apply (X : FVec Ideal S512x1024 .f32) (a : Fin 256) (b : Fin 1024) : lo X (ix2 a b) = X (ix2 ⟨256 + a.val, by omega⟩ b) := by
  unfold lo; pointwise; blk_ext

theorem upA_apply (X : FVec Ideal S512x4096 .bf16) (a : Fin 256) (b : Fin 4096) : upA X (ix2 a b) = X (ix2 ⟨a.val, by omega⟩ b) := by
  unfold upA; pointwise; blk_ext

theorem loA_apply (X : FVec Ideal S512x4096 .bf16) (a : Fin 256) (b : Fin 4096) : loA X (ix2 a b) = X (ix2 ⟨256 + a.val, by omega⟩ b) := by
  unfold loA; pointwise; blk_ext

theorem mod5_apply (M : FVec Ideal S1x6x1024 .f32) (p q : Fin 1) (k : Fin 1024) : mod5 M (ix3 p q k) = M (ix3 0 5 k) := by
  obtain rfl : p = 0 := Subsingleton.elim _ _
  obtain rfl : q = 0 := Subsingleton.elim _ _
  unfold mod5; pointwise; blk_ext

/-- The rows of a half tile: the norm of `h`, the error and its gradient against the gain and the target. -/
theorem factor_0 (g5 : Vec Ideal S1x1x1024 .f32) (p : Vec Ideal S256x4096 .bf16) (w : Vec Ideal S4096x1024 .bf16) (x : Vec Ideal S256x1024 .f32)
    (a : Fin 256) : (k0_pay11 (F := Ideal) (k0_pay9 g5 p w x) k0_pay10 (ix2 a 0) : EReal) = rowR fun k => k0_pay8 (F := Ideal) g5 p w x (ix2 a k) := by
  pointwise [k0_pay11, k0_pay10, k0_pay9]
  rfl

theorem norm_0 (g5 : Vec Ideal S1x1x1024 .f32) (p : Vec Ideal S256x4096 .bf16) (w : Vec Ideal S4096x1024 .bf16) (x : Vec Ideal S256x1024 .f32)
    (a : Fin 256) (b : Fin 1024) : (k0_pay12 (F := Ideal) (k0_pay8 g5 p w x) (k0_pay9 g5 p w x) k0_pay10 (ix2 a b) : EReal)
      = k0_pay8 (F := Ideal) g5 p w x (ix2 a b) * rowR fun k => k0_pay8 (F := Ideal) g5 p w x (ix2 a k) := by
  rw [← factor_0]
  pointwise [k0_pay12]

theorem err_0 (g5 : Vec Ideal S1x1x1024 .f32) (p : Vec Ideal S256x4096 .bf16) (w : Vec Ideal S4096x1024 .bf16) (x : Vec Ideal S256x1024 .f32)
    (g : Vec Ideal S1x1024 .f32) (t : Vec Ideal S256x1024 .f32) (a : Fin 256) (b : Fin 1024) :
    (k0_pay13 (F := Ideal) (k0_pay8 g5 p w x) (k0_pay9 g5 p w x) k0_pay10 g t (ix2 a b) : EReal)
      = rowE (fun k => k0_pay8 (F := Ideal) g5 p w x (ix2 a k)) (fun k => g (ix2 0 k)) (fun k => t (ix2 a k)) b := by
  unfold rowE
  rw [← norm_0]
  pointwise [k0_pay13]

theorem dy_0 (g5 : Vec Ideal S1x1x1024 .f32) (p : Vec Ideal S256x4096 .bf16) (w : Vec Ideal S4096x1024 .bf16) (x : Vec Ideal S256x1024 .f32)
    (g : Vec Ideal S1x1024 .f32) (t : Vec Ideal S256x1024 .f32) (a : Fin 256) (b : Fin 1024) :
    (k0_pay14 (F := Ideal) (k0_pay8 g5 p w x) (k0_pay9 g5 p w x) k0_pay10 g t (ix2 a b) : EReal)
      = rowY (fun k => k0_pay8 (F := Ideal) g5 p w x (ix2 a k)) (fun k => g (ix2 0 k)) (fun k => t (ix2 a k)) b := by
  unfold rowY
  rw [← err_0]
  pointwise [k0_pay14]

theorem below_0 (g5 : Vec Ideal S1x1x1024 .f32) (p : Vec Ideal S256x4096 .bf16) (w : Vec Ideal S4096x1024 .bf16) (x : Vec Ideal S256x1024 .f32)
    (g : Vec Ideal S1x1024 .f32) (t : Vec Ideal S256x1024 .f32) (a : Fin 256) (b : Fin 1024) :
    (k0_pay15 (F := Ideal) (k0_pay8 g5 p w x) (k0_pay9 g5 p w x) k0_pay10 g t g (ix2 a b) : EReal)
      = rowB (rowY (fun k => k0_pay8 (F := Ideal) g5 p w x (ix2 a k)) (fun k => g (ix2 0 k)) (fun k => t (ix2 a k)))
          (fun k => k0_pay8 (F := Ideal) g5 p w x (ix2 a k)) (fun k => g (ix2 0 k)) b := by
  unfold rowB
  simp only [← norm_0, ← dy_0]
  rw [← factor_0]
  pointwise [k0_pay15]

theorem factor_1 (g5 : FVec Ideal S1x1024 .f32) (p : Vec Ideal S256x4096 .bf16) (w : Vec Ideal S4096x1024 .bf16) (x : Vec Ideal S256x1024 .f32)
    (a : Fin 256) : (k0_pay24 (F := Ideal) g5 p w x (ix2 a 0) : EReal) = rowR fun k => k0_pay23 (F := Ideal) g5 p w x (ix2 a k) := by
  pointwise [k0_pay24]
  rfl

theorem norm_1 (g5 : FVec Ideal S1x1024 .f32) (p : Vec Ideal S256x4096 .bf16) (w : Vec Ideal S4096x1024 .bf16) (x : Vec Ideal S256x1024 .f32)
    (a : Fin 256) (b : Fin 1024) : (k0_pay25 (F := Ideal) g5 p w x (ix2 a b) : EReal)
      = k0_pay23 (F := Ideal) g5 p w x (ix2 a b) * rowR fun k => k0_pay23 (F := Ideal) g5 p w x (ix2 a k) := by
  rw [← factor_1]
  pointwise [k0_pay25]

theorem err_1 (g5 : FVec Ideal S1x1024 .f32) (p : Vec Ideal S256x4096 .bf16) (w : Vec Ideal S4096x1024 .bf16) (x : Vec Ideal S256x1024 .f32)
    (g : Vec Ideal S1x1024 .f32) (t : Vec Ideal S256x1024 .f32) (a : Fin 256) (b : Fin 1024) :
    (k0_pay26 (F := Ideal) g5 p w x g t (ix2 a b) : EReal)
      = rowE (fun k => k0_pay23 (F := Ideal) g5 p w x (ix2 a k)) (fun k => g (ix2 0 k)) (fun k => t (ix2 a k)) b := by
  unfold rowE
  rw [← norm_1]
  pointwise [k0_pay26]

theorem dy_1 (g5 : FVec Ideal S1x1024 .f32) (p : Vec Ideal S256x4096 .bf16) (w : Vec Ideal S4096x1024 .bf16) (x : Vec Ideal S256x1024 .f32)
    (g : Vec Ideal S1x1024 .f32) (t : Vec Ideal S256x1024 .f32) (a : Fin 256) (b : Fin 1024) :
    (k0_pay27 (F := Ideal) g5 p w x g t (ix2 a b) : EReal)
      = rowY (fun k => k0_pay23 (F := Ideal) g5 p w x (ix2 a k)) (fun k => g (ix2 0 k)) (fun k => t (ix2 a k)) b := by
  unfold rowY
  rw [← err_1]
  pointwise [k0_pay27]

theorem below_1 (g5 : FVec Ideal S1x1024 .f32) (p : Vec Ideal S256x4096 .bf16) (w : Vec Ideal S4096x1024 .bf16) (x : Vec Ideal S256x1024 .f32)
    (g : Vec Ideal S1x1024 .f32) (t : Vec Ideal S256x1024 .f32) (a : Fin 256) (b : Fin 1024) :
    (k0_pay28 (F := Ideal) (k0_pay24 g5 p w x) (k0_pay25 g5 p w x) (k0_pay27 g5 p w x g t) g (ix2 a b) : EReal)
      = rowB (rowY (fun k => k0_pay23 (F := Ideal) g5 p w x (ix2 a k)) (fun k => g (ix2 0 k)) (fun k => t (ix2 a k)))
          (fun k => k0_pay23 (F := Ideal) g5 p w x (ix2 a k)) (fun k => g (ix2 0 k)) b := by
  unfold rowB
  simp only [← norm_1, ← dy_1]
  rw [← factor_1]
  pointwise [k0_pay28]

section
variable (A : FVec Ideal S512x4096 .bf16) (W : FVec Ideal S4096x1024 .bf16) (X : FVec Ideal S512x1024 .f32)
  (M : FVec Ideal S1x6x1024 .f32) (G : FVec Ideal S1x1024 .f32) (T : FVec Ideal S512x1024 .f32)

/-- A row of a tile's product, of the stream above the last norm, of the error, and of the gradient below the norm. -/
def tileN (r : Fin 512) : Fin 1024 → EReal := rowF (fun l => A (ix2 r l)) (fun l j => W (ix2 l j))

def tileH (r : Fin 512) (j : Fin 1024) : EReal := X (ix2 r j) + M (ix3 0 5 j) * tileN A W r j

def tileE (r : Fin 512) : Fin 1024 → EReal := rowE (tileH A W X M r) (fun k => G (ix2 0 k)) (fun k => T (ix2 r k))

def tileB (r : Fin 512) : Fin 1024 → EReal :=
  rowB (rowY (tileH A W X M r) (fun k => G (ix2 0 k)) (fun k => T (ix2 r k))) (tileH A W X M r) (fun k => G (ix2 0 k))

theorem n_up (a : Fin 256) (b : Fin 1024) :
    (k0_pay7 (F := Ideal) (upA A) W (ix2 a b) : EReal) = tileN A W ⟨a.val, by omega⟩ b := by
  unfold tileN rowF
  simp only [← upA_apply]
  pointwise [k0_pay7]

theorem n_lo (a : Fin 256) (b : Fin 1024) :
    (k0_pay22 (F := Ideal) (loA A) W (ix2 a b) : EReal) = tileN A W ⟨256 + a.val, by omega⟩ b := by
  unfold tileN rowF
  simp only [← loA_apply]
  pointwise [k0_pay22]

theorem h_up (a : Fin 256) (b : Fin 1024) :
    (k0_pay8 (F := Ideal) (mod5 M) (upA A) W (up X) (ix2 a b) : EReal) = tileH A W X M ⟨a.val, by omega⟩ b := by
  unfold tileH
  rw [← n_up A W a b, ← up_apply X a b, ← mod5_apply M 0 0 b]
  pointwise [k0_pay8, k0_pay6]

theorem h_lo (a : Fin 256) (b : Fin 1024) :
    (k0_pay23 (F := Ideal) (k0_pay6 (mod5 M)) (loA A) W (lo X) (ix2 a b) : EReal) = tileH A W X M ⟨256 + a.val, by omega⟩ b := by
  unfold tileH
  rw [← n_lo A W a b, ← lo_apply X a b, ← mod5_apply M 0 0 b]
  pointwise [k0_pay23, k0_pay6]

theorem h_up_row (a : Fin 256) :
    (fun k => (k0_pay8 (F := Ideal) (mod5 M) (upA A) W (up X) (ix2 a k) : EReal)) = tileH A W X M ⟨a.val, by omega⟩ :=
  funext fun k => h_up A W X M a k

theorem h_lo_row (a : Fin 256) :
    (fun k => (k0_pay23 (F := Ideal) (k0_pay6 (mod5 M)) (loA A) W (lo X) (ix2 a k) : EReal)) = tileH A W X M ⟨256 + a.val, by omega⟩ :=
  funext fun k => h_lo A W X M a k

theorem t_up_row (a : Fin 256) : (fun k => up T (ix2 a k)) = fun k => T (ix2 ⟨a.val, by omega⟩ k) := funext fun k => up_apply T a k

theorem t_lo_row (a : Fin 256) : (fun k => lo T (ix2 a k)) = fun k => T (ix2 ⟨256 + a.val, by omega⟩ k) := funext fun k => lo_apply T a k

theorem b_up (a : Fin 256) (b : Fin 1024) :
    (k0_pay15 (F := Ideal) (k0_pay8 (mod5 M) (upA A) W (up X)) (k0_pay9 (mod5 M) (upA A) W (up X)) k0_pay10 G (up T) G (ix2 a b) : EReal)
      = tileB A W X M G T ⟨a.val, by omega⟩ b := by
  refine (below_0 _ _ _ _ _ _ a b).trans ?_
  rw [h_up_row A W X M a, t_up_row T a]
  rfl

theorem b_lo (a : Fin 256) (b : Fin 1024) :
    (k0_pay28 (F := Ideal) (k0_pay24 (k0_pay6 (mod5 M)) (loA A) W (lo X)) (k0_pay25 (k0_pay6 (mod5 M)) (loA A) W (lo X))
        (k0_pay27 (k0_pay6 (mod5 M)) (loA A) W (lo X) G (lo T)) G (ix2 a b) : EReal)
      = tileB A W X M G T ⟨256 + a.val, by omega⟩ b := by
  refine (below_1 _ _ _ _ _ _ a b).trans ?_
  rw [h_lo_row A W X M a, t_lo_row T a]
  rfl

/-- The gradient below the norm, and the gradient of the product. -/
theorem x_pieces (y : S512x1024.Idx) :
    View.canon (Val := Elt Ideal) (s := S512x1024) (e := .f32)
      [⟨Rect.unit (s := S512x1024) ![256, 0] S256x1024.size inb_S512x1024_S256x1024_256_0,
        k0_pay29 (F := Ideal) (k0_pay24 (k0_pay6 (mod5 M)) (loA A) W (lo X)) (k0_pay25 (k0_pay6 (mod5 M)) (loA A) W (lo X))
          (k0_pay27 (k0_pay6 (mod5 M)) (loA A) W (lo X) G (lo T)) G⟩,
       ⟨Rect.unit (s := S512x1024) ![0, 0] S256x1024.size inb_S512x1024_S256x1024_0_0,
        k0_pay16 (F := Ideal) (k0_pay8 (mod5 M) (upA A) W (up X)) (k0_pay9 (mod5 M) (upA A) W (up X)) k0_pay10 G (up T) G⟩] y
      = tileB A W X M G T (y 0) (y 1) := by
  canon_tiles x h
  · idx_vars x
    refine Eq.trans ?_ ((b_lo A W X M G T x0 x1).trans ?_)
    · pointwise [k0_pay29]
    · exact congrArg₂ (tileB A W X M G T) (Fin.ext h0.symm) (Fin.ext h1.symm)
  · idx_vars x
    refine Eq.trans ?_ ((b_up A W X M G T x0 x1).trans ?_)
    · pointwise [k0_pay16]
    · exact congrArg₂ (tileB A W X M G T) (Fin.ext (by simpa using h0.symm)) (Fin.ext h1.symm)

theorem o_pieces (y : S512x1024.Idx) :
    View.canon (Val := Elt Ideal) (s := S512x1024) (e := .bf16)
      [⟨Rect.unit (s := S512x1024) ![256, 0] S256x1024.size inb_S512x1024_S256x1024_256_0,
        k0_pay30 (F := Ideal) (k0_pay6 (mod5 M)) (k0_pay24 (k0_pay6 (mod5 M)) (loA A) W (lo X)) (k0_pay25 (k0_pay6 (mod5 M)) (loA A) W (lo X))
          (k0_pay27 (k0_pay6 (mod5 M)) (loA A) W (lo X) G (lo T)) G⟩,
       ⟨Rect.unit (s := S512x1024) ![0, 0] S256x1024.size inb_S512x1024_S256x1024_0_0,
        k0_pay17 (F := Ideal) (k0_pay6 (mod5 M)) (k0_pay8 (mod5 M) (upA A) W (up X)) (k0_pay9 (mod5 M) (upA A) W (up X)) k0_pay10 G (up T) G⟩] y
      = tileB A W X M G T (y 0) (y 1) * M (ix3 0 5 (y 1)) := by
  canon_tiles x h
  · idx_vars x
    refine Eq.trans (b := (k0_pay28 (F := Ideal) (k0_pay24 (k0_pay6 (mod5 M)) (loA A) W (lo X)) (k0_pay25 (k0_pay6 (mod5 M)) (loA A) W (lo X))
        (k0_pay27 (k0_pay6 (mod5 M)) (loA A) W (lo X) G (lo T)) G (ix2 x0 x1) : EReal) * mod5 M (ix3 0 0 x1)) ?_ ?_
    · pointwise [k0_pay30, k0_pay6]
    · rw [b_lo A W X M G T x0 x1, mod5_apply]
      exact congrArg₂ (fun r b => tileB A W X M G T r b * M (ix3 0 5 b)) (Fin.ext h0.symm) (Fin.ext h1.symm)
  · idx_vars x
    refine Eq.trans (b := (k0_pay15 (F := Ideal) (k0_pay8 (mod5 M) (upA A) W (up X)) (k0_pay9 (mod5 M) (upA A) W (up X)) k0_pay10 G (up T) G
        (ix2 x0 x1) : EReal) * mod5 M (ix3 0 0 x1)) ?_ ?_
    · pointwise [k0_pay17, k0_pay6]
    · rw [b_up A W X M G T x0 x1, mod5_apply]
      exact congrArg₂ (fun r b => tileB A W X M G T r b * M (ix3 0 5 b)) (Fin.ext (by simpa using h0.symm)) (Fin.ext h1.symm)

/-- What a tile adds to the squared errors, to the gain's gradient and to the gate's. -/
def tileSq (j : Fin 1024) : EReal := ∑ r : Fin 512, tileE A W X M G T r j * tileE A W X M G T r j

def tileG (j : Fin 1024) : EReal :=
  ∑ r : Fin 512, rowY (tileH A W X M r) (fun k => G (ix2 0 k)) (fun k => T (ix2 r k)) j * (tileH A W X M r j * rowR (tileH A W X M r))

def tileD (j : Fin 1024) : EReal := ∑ r : Fin 512, tileB A W X M G T r j * tileN A W r j

theorem sum_halves (f : Fin 512 → EReal) :
    (∑ a : Fin 256, f ⟨a.val, by omega⟩) + ∑ a : Fin 256, f ⟨256 + a.val, by omega⟩ = ∑ r, f r :=
  (Fin.sum_univ_add (a := 256) (b := 256) f).symm

theorem sq_point (acc : FVec Ideal S1x1024 .f32) (y : S1x1024.Idx) :
    k0_pay32 (F := Ideal) (k0_pay18 (k0_pay8 (mod5 M) (upA A) W (up X)) (k0_pay9 (mod5 M) (upA A) W (up X)) k0_pay10 G (up T))
        (k0_pay26 (k0_pay6 (mod5 M)) (loA A) W (lo X) G (lo T)) acc y
      = acc y + tileSq A W X M G T (y 1) := by
  idx_vars y
  obtain rfl : y0 = 0 := Subsingleton.elim _ _
  unfold tileSq
  rw [← sum_halves]
  simp only [tileE, ← h_up_row A W X M, ← h_lo_row A W X M, ← t_up_row T, ← t_lo_row T]
  simp only [← err_0, ← err_1]
  pointwise [k0_pay32, k0_pay18]

theorem g_point (acc : FVec Ideal S1x1024 .f32) (y : S1x1024.Idx) :
    k0_pay1 (F := Ideal) (k0_pay33 (k0_pay20 (k0_pay19 (k0_pay8 (mod5 M) (upA A) W (up X)) (k0_pay9 (mod5 M) (upA A) W (up X)) k0_pay10 G (up T)))
        (k0_pay25 (k0_pay6 (mod5 M)) (loA A) W (lo X)) (k0_pay27 (k0_pay6 (mod5 M)) (loA A) W (lo X) G (lo T)) acc) y
      = acc y + tileG A W X M G T (y 1) := by
  idx_vars y
  obtain rfl : y0 = 0 := Subsingleton.elim _ _
  unfold tileG
  rw [← sum_halves]
  simp only [← h_up_row A W X M, ← h_lo_row A W X M, ← t_up_row T, ← t_lo_row T]
  simp only [← dy_0, ← dy_1, ← norm_0, ← norm_1]
  pointwise [k0_pay1, k0_pay33, k0_pay20, k0_pay19]

theorem d_point (acc : FVec Ideal S1x1x1024 .f32) (y : S1x1x1024.Idx) :
    k0_pay2 (F := Ideal) (k0_pay31 (k0_pay21 (k0_pay7 (upA A) W)
          (k0_pay15 (k0_pay8 (mod5 M) (upA A) W (up X)) (k0_pay9 (mod5 M) (upA A) W (up X)) k0_pay10 G (up T) G))
        (k0_pay22 (loA A) W) (k0_pay24 (k0_pay6 (mod5 M)) (loA A) W (lo X)) (k0_pay25 (k0_pay6 (mod5 M)) (loA A) W (lo X))
        (k0_pay27 (k0_pay6 (mod5 M)) (loA A) W (lo X) G (lo T)) G) acc y
      = acc y + tileD A W X M G T (y 2) := by
  idx_vars y
  obtain rfl : y0 = 0 := Subsingleton.elim _ _
  obtain rfl : y1 = 0 := Subsingleton.elim _ _
  unfold tileD
  rw [← sum_halves]
  simp only [← b_up, ← b_lo, ← n_up, ← n_lo]
  pointwise [k0_pay2, k0_pay31, k0_pay21]

end

end Cert.DownFIdeal.DownF
end
-- ==== Proof.DownFCases.lean ====
/- The grid's points of `mlp_down_loss`: the first of all, the first of a sequence, and the others. -/
module

public import proofs.«01_k».proof.Proof.Gen.DownFIdeal.Frame
public import proofs.«01_k».proof.Proof.Gen.DownFRefIdeal
public import Idealize.ShloMosaic.Lib.Pipeline.ValueKit
public import Idealize.ShloMosaic.Lib.Claim
public import Idealize.ShloMosaic.Lib.Pointwise
public import Idealize.ShloMosaic.Lib.WritesUnit
public import proofs.«01_k».proof.Proof.DownFPoint

@[expose] public section

set_option maxRecDepth 16384

noncomputable section

open Idealize.ShloMosaic Idealize.ShloMosaic.TcCoe Idealize.SL.Sem
open Idealize.ShloMosaic.Pipeline (Dat)
open scoped BigOperators

namespace Cert.DownFIdeal.DownF
open Cert.DownFIdeal Cert.DownFIdeal.Gen
open Cert.Norm Cert.Head
variable (m : (ℓ : Loc nD τ sig) → Buf (Elt Ideal) ℓ)

/-- What point `t` computes of its rows, and what it adds to the three sums. -/
abbrev ptB (c : Dev nD) (t : Fin cfg0.N) : Fin 512 → Fin 1024 → EReal :=
  tileB (iblk m c 0 t) (iblk m c 1 t) (iblk m c 2 t) (iblk m c 3 t) (iblk m c 4 t) (iblk m c 5 t)

abbrev ptMod (c : Dev nD) (t : Fin cfg0.N) : FVec Ideal S1x6x1024 .f32 := iblk m c 3 t

abbrev ptSq (c : Dev nD) (t : Fin cfg0.N) : Fin 1024 → EReal :=
  tileSq (iblk m c 0 t) (iblk m c 1 t) (iblk m c 2 t) (iblk m c 3 t) (iblk m c 4 t) (iblk m c 5 t)

abbrev ptG (c : Dev nD) (t : Fin cfg0.N) : Fin 1024 → EReal :=
  tileG (iblk m c 0 t) (iblk m c 1 t) (iblk m c 2 t) (iblk m c 3 t) (iblk m c 4 t) (iblk m c 5 t)

abbrev ptD (c : Dev nD) (t : Fin cfg0.N) : Fin 1024 → EReal :=
  tileD (iblk m c 0 t) (iblk m c 1 t) (iblk m c 2 t) (iblk m c 3 t) (iblk m c 4 t) (iblk m c 5 t)

/-- The block a sum starts from holds zeros. -/
theorem fill_sq (y : S1x1024.Idx) : (k0_pay3 (F := Ideal) y : EReal) = 0 := by
  pointwise [k0_pay3]

theorem fill_g (y : S1x1024.Idx) : (k0_pay4 (F := Ideal) y : EReal) = 0 := by
  pointwise [k0_pay4]

theorem fill_d (y : S1x1x1024.Idx) : (k0_pay5 (F := Ideal) y : EReal) = 0 := by
  pointwise [k0_pay5]

theorem kinds (t : Fin cfg0.N) : (t.val % 8 = 0 ∧ t.val % 4 = 0) ∨ (¬t.val % 8 = 0 ∧ ¬t.val % 4 = 0) ∨ (¬t.val % 8 = 0 ∧ t.val % 4 = 0) := by
  omega

theorem o_t (c : Dev nD) (t : Fin cfg0.N) (y : S512x1024.Idx) :
    (outsAt0 m c t.val t.isLt).1 y = ptB m c t (y 0) (y 1) * ptMod m c t (ix3 0 5 (y 1)) := by
  rcases kinds t with ⟨h0, h1⟩ | ⟨h0, h1⟩ | ⟨h0, h1⟩ <;>
    first | rw [outsAt0_A m c t h0 h1] | rw [outsAt0_B m c t h0 h1] | rw [outsAt0_C m c t h0 h1]
  all_goals
    dsimp only
    frame_out
    exact o_pieces (iblk m c 0 t) (iblk m c 1 t) (iblk m c 2 t) (iblk m c 3 t) (iblk m c 4 t) (iblk m c 5 t) y

theorem x_t (c : Dev nD) (t : Fin cfg0.N) (y : S512x1024.Idx) : (outsAt0 m c t.val t.isLt).2.1 y = ptB m c t (y 0) (y 1) := by
  rcases kinds t with ⟨h0, h1⟩ | ⟨h0, h1⟩ | ⟨h0, h1⟩ <;>
    first | rw [outsAt0_A m c t h0 h1] | rw [outsAt0_B m c t h0 h1] | rw [outsAt0_C m c t h0 h1]
  all_goals
    dsimp only
    frame_out
    exact x_pieces (iblk m c 0 t) (iblk m c 1 t) (iblk m c 2 t) (iblk m c 3 t) (iblk m c 4 t) (iblk m c 5 t) y

/-- The three sums at the points that start them, and at the others. -/
theorem sq_reset (c : Dev nD) (t : Fin cfg0.N) (h0 : t.val % 8 = 0) (y : S1x1024.Idx) :
    (outsAt0 m c t.val t.isLt).2.2.1 y = 0 + ptSq m c t (y 1) := by
  rw [outsAt0_A m c t h0 (by omega)]
  dsimp only
  frame_out
  exact (sq_point (iblk m c 0 t) (iblk m c 1 t) (iblk m c 2 t) (iblk m c 3 t) (iblk m c 4 t) (iblk m c 5 t) _ y).trans (congrArg (· + _) (fill_sq y))

theorem g_reset (c : Dev nD) (t : Fin cfg0.N) (h0 : t.val % 8 = 0) (y : S1x1024.Idx) :
    (outsAt0 m c t.val t.isLt).2.2.2.1 y = 0 + ptG m c t (y 1) := by
  rw [outsAt0_A m c t h0 (by omega)]
  dsimp only
  frame_out
  exact (g_point (iblk m c 0 t) (iblk m c 1 t) (iblk m c 2 t) (iblk m c 3 t) (iblk m c 4 t) (iblk m c 5 t) _ y).trans (congrArg (· + _) (fill_g y))

theorem d_reset (c : Dev nD) (t : Fin cfg0.N) (h1 : t.val % 4 = 0) (y : S1x1x1024.Idx) :
    (outsAt0 m c t.val t.isLt).2.2.2.2 y = 0 + ptD m c t (y 2) := by
  by_cases h0 : t.val % 8 = 0 <;>
    first | rw [outsAt0_A m c t h0 h1] | rw [outsAt0_C m c t h0 h1]
  all_goals
    dsimp only
    frame_out
    exact (d_point (iblk m c 0 t) (iblk m c 1 t) (iblk m c 2 t) (iblk m c 3 t) (iblk m c 4 t) (iblk m c 5 t) _ y).trans (congrArg (· + _) (fill_d y))

theorem sq_step (c : Dev nD) (t : Fin cfg0.N) (h0 : ¬t.val % 8 = 0) (y : S1x1024.Idx) :
    (outsAt0 m c t.val t.isLt).2.2.1 y = (outsAt0 m c (t.val - 1) (by omega)).2.2.1 y + ptSq m c t (y 1) := by
  by_cases h1 : t.val % 4 = 0 <;>
    first | rw [outsAt0_C m c t h0 h1] | rw [outsAt0_B m c t h0 h1]
  all_goals
    dsimp only
    generalize outsAt0 m c (t.val - 1) _ = prev
    frame_out
    exact sq_point (iblk m c 0 t) (iblk m c 1 t) (iblk m c 2 t) (iblk m c 3 t) (iblk m c 4 t) (iblk m c 5 t) _ y

theorem g_step (c : Dev nD) (t : Fin cfg0.N) (h0 : ¬t.val % 8 = 0) (y : S1x1024.Idx) :
    (outsAt0 m c t.val t.isLt).2.2.2.1 y = (outsAt0 m c (t.val - 1) (by omega)).2.2.2.1 y + ptG m c t (y 1) := by
  by_cases h1 : t.val % 4 = 0 <;>
    first | rw [outsAt0_C m c t h0 h1] | rw [outsAt0_B m c t h0 h1]
  all_goals
    dsimp only
    generalize outsAt0 m c (t.val - 1) _ = prev
    frame_out
    exact g_point (iblk m c 0 t) (iblk m c 1 t) (iblk m c 2 t) (iblk m c 3 t) (iblk m c 4 t) (iblk m c 5 t) _ y

theorem d_step (c : Dev nD) (t : Fin cfg0.N) (h1 : ¬t.val % 4 = 0) (y : S1x1x1024.Idx) :
    (outsAt0 m c t.val t.isLt).2.2.2.2 y = (outsAt0 m c (t.val - 1) (by omega)).2.2.2.2 y + ptD m c t (y 2) := by
  rw [outsAt0_B m c t (by omega) h1]
  dsimp only
  generalize outsAt0 m c (t.val - 1) _ = prev
  frame_out
  exact d_point (iblk m c 0 t) (iblk m c 1 t) (iblk m c 2 t) (iblk m c 3 t) (iblk m c 4 t) (iblk m c 5 t) _ y

end Cert.DownFIdeal.DownF
end
-- ==== Proof.DownFFinal.lean ====
/- The whole arrays `mlp_down_loss` leaves. -/
module

public import proofs.«01_k».proof.Proof.Gen.DownFIdeal.Frame
public import proofs.«01_k».proof.Proof.Gen.DownFRefIdeal
public import Idealize.ShloMosaic.Lib.Pipeline.ValueKit
public import Idealize.ShloMosaic.Lib.Claim
public import Idealize.ShloMosaic.Lib.Pointwise
public import Idealize.ShloMosaic.Lib.WritesUnit
public import proofs.«01_k».proof.Proof.DownFCases

@[expose] public section

set_option maxRecDepth 16384

noncomputable section

open Idealize.ShloMosaic Idealize.ShloMosaic.TcCoe Idealize.SL.Sem
open Idealize.ShloMosaic.Pipeline (Dat)
open scoped BigOperators

namespace Cert.DownFIdeal.DownF
open Cert.DownFIdeal Cert.DownFIdeal.Gen
open Cert.Norm Cert.Head
variable (m : (ℓ : Loc nD τ sig) → Buf (Elt Ideal) ℓ)

section
variable (a : FVec Ideal S4096x4096 .f32) (w : FVec Ideal S4096x1024 .f32) (x : FVec Ideal S4096x1024 .f32) (md : FVec Ideal S2x6144 .f32)
  (g : FVec Ideal S1x1024 .f32) (tg : FVec Ideal S4096x1024 .f32)

/-- Row `R` of the product, of the stream above the last norm, of the error, of the loss's gradient and of the gradient below the norm. -/
def gN (R : Fin 4096) : Fin 1024 → EReal := rowF (fun l => a (ix2 R l)) (fun l j => w (ix2 l j))

def gH (R : Fin 4096) (j : Fin 1024) : EReal := x (ix2 R j) + md (ix2 ⟨R.val / 2048, by omega⟩ ⟨5120 + j.val, by omega⟩) * gN a w R j

def gE (R : Fin 4096) : Fin 1024 → EReal := rowE (gH a w x md R) (fun k => g (ix2 0 k)) (fun k => tg (ix2 R k))

def gY (R : Fin 4096) : Fin 1024 → EReal := rowY (gH a w x md R) (fun k => g (ix2 0 k)) (fun k => tg (ix2 R k))

def gB (R : Fin 4096) : Fin 1024 → EReal := rowB (gY a w x md g tg R) (gH a w x md R) (fun k => g (ix2 0 k))

/-- The gradient of the product, and the sums over the rows. -/
def gO (R : Fin 4096) (j : Fin 1024) : EReal :=
  gB a w x md g tg R j * md (ix2 ⟨R.val / 2048, by omega⟩ ⟨5120 + j.val, by omega⟩)

def gSq (j : Fin 1024) : EReal := ∑ R : Fin 4096, gE a w x md g tg R j * gE a w x md g tg R j

def gG (j : Fin 1024) : EReal := ∑ R : Fin 4096, gY a w x md g tg R j * (gH a w x md R j * rowR (gH a w x md R))

def gD (b : Fin 2) (j : Fin 1024) : EReal :=
  ∑ r : Fin 2048, gB a w x md g tg ⟨b.val * 2048 + r.val, by omega⟩ j * gN a w ⟨b.val * 2048 + r.val, by omega⟩ j

end

theorem idx : ∀ t : Fin cfg0.N, win0_0.index t = ![t.val, 0] ∧ win0_1.index t = ![0, 0] ∧ win0_2.index t = ![t.val, 0]
    ∧ win0_3.index t = ![t.val / 4, 0, 0] ∧ win0_4.index t = ![0, 0] ∧ win0_5.index t = ![t.val, 0]
    ∧ win0_6.index t = ![t.val, 0] ∧ win0_7.index t = ![t.val, 0] ∧ win0_8.index t = ![0, 0] ∧ win0_9.index t = ![0, 0]
    ∧ win0_10.index t = ![t.val / 4, 0, 0] := (by decide +kernel : ∀ t : Fin grid0.N, _)

theorem blk_A (c : Dev nD) (t : Fin cfg0.N) (ht : t.val < 8) (r : Fin 512) (f : Fin 4096) : iblk m c 0 t (ix2 r f)
    = m ((c : Thread nD τ).loc main_arg0) (ix2 ⟨t.val * 512 + r.val, by omega⟩ f) := by
  have e : iblk m c 0 t (ix2 r f) = V m c main_v0 (ix2 ⟨t.val * 512 + r.val, by omega⟩ f) := by blk_ext [iblk, idx t]
  rw [e]
  entry_read
  pointwise

theorem blk_W (c : Dev nD) (t : Fin cfg0.N) (f : Fin 4096) (j : Fin 1024) : iblk m c 1 t (ix2 f j)
    = m ((c : Thread nD τ).loc main_arg1) (ix2 f j) := by
  have e : iblk m c 1 t (ix2 f j) = V m c main_v1 (ix2 f j) := by blk_ext [iblk, idx t]
  rw [e]
  entry_read
  pointwise

theorem blk_X (c : Dev nD) (t : Fin cfg0.N) (ht : t.val < 8) (r : Fin 512) (j : Fin 1024) : iblk m c 2 t (ix2 r j)
    = m ((c : Thread nD τ).loc main_arg2) (ix2 ⟨t.val * 512 + r.val, by omega⟩ j) := by
  blk_ext [iblk, V, idx t]

theorem blk_M (c : Dev nD) (t : Fin cfg0.N) (ht : t.val < 8) (i : Fin 6) (j : Fin 1024) : iblk m c 3 t (ix3 0 i j)
    = m ((c : Thread nD τ).loc main_arg3) (ix2 ⟨t.val / 4, by omega⟩ ⟨i.val * 1024 + j.val, by omega⟩) := by
  have e : iblk m c 3 t (ix3 0 i j) = V m c main_v2 (ix3 ⟨t.val / 4, by omega⟩ i j) := by blk_ext [iblk, idx t]
  rw [e]
  entry_read
  pointwise

theorem blk_G (c : Dev nD) (t : Fin cfg0.N) (j : Fin 1024) : iblk m c 4 t (ix2 0 j)
    = m ((c : Thread nD τ).loc main_arg4) (ix2 0 j) := by
  blk_ext [iblk, V, idx t]

theorem blk_T (c : Dev nD) (t : Fin cfg0.N) (ht : t.val < 8) (r : Fin 512) (j : Fin 1024) : iblk m c 5 t (ix2 r j)
    = m ((c : Thread nD τ).loc main_arg5) (ix2 ⟨t.val * 512 + r.val, by omega⟩ j) := by
  blk_ext [iblk, V, idx t]

/-- Row `r` of point `t` is row `512 t + r` of the whole. -/
theorem blk_gN (c : Dev nD) (t : Fin cfg0.N) (ht : t.val < 8) (r : Fin 512) : tileN (iblk m c 0 t) (iblk m c 1 t) r
    = gN (m ((c : Thread nD τ).loc main_arg0)) (m ((c : Thread nD τ).loc main_arg1)) ⟨t.val * 512 + r.val, by omega⟩ := by
  unfold tileN gN
  simp only [blk_A m c t ht, blk_W m c t]

theorem blk_gate (c : Dev nD) (t : Fin cfg0.N) (ht : t.val < 8) (r : Fin 512) (j : Fin 1024) : iblk m c 3 t (ix3 0 5 j)
    = m ((c : Thread nD τ).loc main_arg3) (ix2 ⟨(t.val * 512 + r.val) / 2048, by omega⟩ ⟨5120 + j.val, by omega⟩) :=
  (blk_M m c t ht 5 j).trans (congrArg (m ((c : Thread nD τ).loc main_arg3)) (congrArg₂ ix2 (Fin.ext (by dsimp only; omega)) (Fin.ext rfl)))

theorem blk_gH (c : Dev nD) (t : Fin cfg0.N) (ht : t.val < 8) (r : Fin 512) :
    tileH (iblk m c 0 t) (iblk m c 1 t) (iblk m c 2 t) (iblk m c 3 t) r
      = gH (m ((c : Thread nD τ).loc main_arg0)) (m ((c : Thread nD τ).loc main_arg1)) (m ((c : Thread nD τ).loc main_arg2)) (m ((c : Thread nD τ).loc main_arg3)) ⟨t.val * 512 + r.val, by omega⟩ := by
  funext j
  unfold tileH gH
  rw [blk_gN m c t ht r, blk_X m c t ht r j, blk_gate m c t ht r j]

theorem blk_gE (c : Dev nD) (t : Fin cfg0.N) (ht : t.val < 8) (r : Fin 512) :
    tileE (iblk m c 0 t) (iblk m c 1 t) (iblk m c 2 t) (iblk m c 3 t) (iblk m c 4 t) (iblk m c 5 t) r
      = gE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by omega⟩ := by
  unfold tileE gE
  rw [blk_gH m c t ht r]
  simp only [blk_G m c t, blk_T m c t ht]

theorem blk_gY (c : Dev nD) (t : Fin cfg0.N) (ht : t.val < 8) (r : Fin 512) :
    rowY (tileH (iblk m c 0 t) (iblk m c 1 t) (iblk m c 2 t) (iblk m c 3 t) r) (fun k => iblk m c 4 t (ix2 0 k)) (fun k => iblk m c 5 t (ix2 r k))
      = gY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by omega⟩ := by
  unfold gY
  rw [blk_gH m c t ht r]
  simp only [blk_G m c t, blk_T m c t ht]

theorem pt_B (c : Dev nD) (t : Fin cfg0.N) (ht : t.val < 8) (r : Fin 512) : ptB m c t r
    = gB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by omega⟩ := by
  unfold ptB tileB gB
  rw [blk_gY m c t ht r, blk_gH m c t ht r]
  simp only [blk_G m c t]

theorem x_g (c : Dev nD) (t : Fin cfg0.N) (y : S512x1024.Idx) (R : Fin 4096) (j : Fin 1024) (hR : R.val = t.val * 512 + (y 0).val)
    (hj : j.val = (y 1).val) : (outsAt0 m c t.val t.isLt).2.1 y = gB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R j := by
  obtain rfl : y 1 = j := Fin.ext hj.symm
  refine (x_t m c t y).trans ((congrFun (pt_B m c t (lt_of_lt_of_eq t.isLt N_0) (y 0)) (y 1)).trans ?_)
  exact congrArg (gB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) · (y 1)) (Fin.ext hR.symm)

theorem o_g (c : Dev nD) (t : Fin cfg0.N) (y : S512x1024.Idx) (R : Fin 4096) (j : Fin 1024) (hR : R.val = t.val * 512 + (y 0).val)
    (hj : j.val = (y 1).val) : (outsAt0 m c t.val t.isLt).1 y = gO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R j := by
  have ht : t.val < 8 := lt_of_lt_of_eq t.isLt N_0
  obtain rfl : y 1 = j := Fin.ext hj.symm
  have h512 : (y 0).val < 512 := (y 0).isLt
  obtain ⟨R, hlt⟩ := R
  obtain rfl : R = t.val * 512 + (y 0).val := hR
  exact (o_t m c t y).trans (congrArg₂ (fun (u v : EReal) => u * v) (congrFun (pt_B m c t ht (y 0)) (y 1)) (blk_gate m c t ht (y 0) (y 1)))

theorem final_o (c : Dev nD) : (dats m 0 c).arrAt 6 cfg0.N = fun y : S4096x1024.Idx =>
    gO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) := by
  refine (dats m 0 c).arrAt_eq_of_covers 6 _ (by decide +kernel) fun t hf y => ?_
  blk_simp
  rw [after0_6]
  refine o_g m c t y _ _ ?_ ?_ <;> blk_simp <;> simp [idx t]

theorem final_x (c : Dev nD) : (dats m 0 c).arrAt 7 cfg0.N = fun y : S4096x1024.Idx =>
    gB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) := by
  refine (dats m 0 c).arrAt_eq_of_covers 7 _ (by decide +kernel) fun t hf y => ?_
  blk_simp
  rw [after0_7]
  refine x_g m c t y _ _ ?_ ?_ <;> blk_simp <;> simp [idx t]

theorem sum_sq (c : Dev nD) (j : Fin 1024) : ∑ t : Fin cfg0.N, ptSq m c t j = gSq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  unfold gSq ptSq tileSq
  exact Fin.sum_mul_add_congr (n := 512) fun s k hl => by
    rw [blk_gE m c s (lt_of_lt_of_eq s.isLt N_0) k]

theorem sum_g (c : Dev nD) (j : Fin 1024) : ∑ t : Fin cfg0.N, ptG m c t j = gG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  unfold gG ptG tileG
  exact Fin.sum_mul_add_congr (n := 512) fun s k hl => by
    rw [blk_gY m c s (lt_of_lt_of_eq s.isLt N_0) k, blk_gH m c s (lt_of_lt_of_eq s.isLt N_0) k]

theorem final_sq (c : Dev nD) : (dats m 0 c).arrAt 8 cfg0.N = fun y : S1x1024.Idx => gSq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 1) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0)
    (fun t j => ptSq m c t (j 1)) (fun t h j => sq_reset m c t h j) (fun t h j => sq_step m c t h j) (le_of_eq N_0) t0_7 rfl j, zero_add]
  exact sum_sq m c (j 1)

theorem final_g (c : Dev nD) : (dats m 0 c).arrAt 9 cfg0.N = fun y : S1x1024.Idx => gG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 1) := by
  refine (dats m 0 c).arrAt_eq_of_after_last 9 t0_7 (by decide +kernel) _ fun j => ?_
  blk_simp
  rw [after0_9, Pipeline.eq_sum_fin_of_reset_step_apply_last (fun n h => (outsAt0 m c n h).2.2.2.1) 8 (fun _ => 0)
    (fun t j => ptG m c t (j 1)) (fun t h j => g_reset m c t h j) (fun t h j => g_step m c t h j) (le_of_eq N_0) t0_7 rfl j, zero_add]
  exact sum_g m c (j 1)

theorem d_run (c : Dev nD) (b : Fin 2) (j : Fin 1024) (h : ∀ s : Fin 4, 4 * b.val + s.val < cfg0.N) :
    ∑ s : Fin 4, ptD m c ⟨4 * b.val + s.val, h s⟩ j = gD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b j := by
  have ht : ∀ s : Fin 4, 4 * b.val + s.val < 8 := fun s => by omega
  have hr : ∀ (s : Fin 4) (k : Fin 512) (hl : s.val * 512 + k.val < 2048), (⟨(4 * b.val + s.val) * 512 + k.val, by omega⟩ : Fin 4096)
      = ⟨b.val * 2048 + (s.val * 512 + k.val), by omega⟩ := fun s k hl => Fin.ext (by dsimp only; omega)
  unfold gD ptD tileD
  exact Fin.sum_mul_add_congr (n := 512) fun s k hl => by
    rw [← hr s k hl]
    exact congrArg₂ (fun (u v : EReal) => u * v) (congrFun (pt_B m c ⟨_, h s⟩ (ht s) k) j) (congrFun (blk_gN m c ⟨_, h s⟩ (ht s) k) j)

theorem d_g (c : Dev nD) (t : Fin 8) (y : S1x1x1024.Idx) (b : Fin 2) (j : Fin 1024) (hb : b.val = t.val / 4)
    (hj : j.val = (y 2).val) (h : ∀ s : Fin 4, 4 * (t.val / 4) + s.val < cfg0.N) :
    ∑ s : Fin 4, ptD m c ⟨4 * (t.val / 4) + s.val, h s⟩ (y 2) = gD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b j := by
  obtain rfl : y 2 = j := Fin.ext hj.symm
  simp only [← hb] at h ⊢
  exact d_run m c b (y 2) h

theorem final_d (c : Dev nD) : (dats m 0 c).arrAt 10 cfg0.N = fun y : S2x1x1024.Idx =>
    gD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 2) := by
  refine (dats m 0 c).arrAt_eq_of_covers 10 _ (by decide +kernel) fun t hf y => ?_
  blk_simp
  rw [after0_10, Pipeline.eq_sum_fin_of_reset_step_apply_of_flush (fun n h => (outsAt0 m c n h).2.2.2.2) 4 (fun _ => 0)
    (fun t y => ptD m c t (y 2)) (fun t h j => d_reset m c t h j) (fun t h j => d_step m c t h j) t ((flush0_10 t).mp hf) _, zero_add]
  refine d_g m c t y _ _ ?_ ?_ _ <;> blk_simp <;> simp [idx t]

end Cert.DownFIdeal.DownF
end
-- ==== Proof.DownFRef.lean ====
/- The reference of `mlp_down_loss`, by rows. -/
module

public import proofs.«01_k».proof.Proof.Gen.DownFRefIdeal
public import proofs.«01_k».proof.Proof.NormRef
public import proofs.«01_k».proof.Proof.DownFFinal

@[expose] public section

set_option maxRecDepth 16384

noncomputable section

open Idealize.ShloMosaic Idealize.ShloMosaic.TcCoe Idealize.SL.Sem
open scoped BigOperators

namespace Cert.DownFRefIdeal.DownF
open Cert.DownFRefIdeal Cert.DownFRefIdeal.Gen
open Cert.Reals Cert.Norm Cert.NormRef Cert.Head
open Cert.DownFIdeal.DownF (gN gH gE gY gB gO gSq gG gD)

section
variable (h n : FVec Ideal S2x2048x1024 .f32)

/-- The share of a row's gradient `n` through the norm's factor, and the gradient below the norm. -/
def through : FVec Ideal S2x2048 .f32 :=
  Host.reduceAdd (Host.divf (mulf (shapeCast S2x2048x1 (Host.reduceAdd (mulf h n) zero reducesTo_S2x2048x1024_S2x2048_d2 h_S_)
    shapeCasts_S2x2048_S2x2048x1)
    (mulf (broadcastInDim S2x2048x1 ![] bcast_S_S2x2048x1 (constant S_ .f32 0xBF000000#32)) (Host.divf (Host.rsqrt (ms h)) (ms h)))) len)
    zero reducesTo_S2x2048x1_S2x2048_d2 h_S_

def q : FVec Ideal S2x2048x1024 .f32 := broadcastInDim S2x2048x1024 ![0, 1] bcast_S2x2048_S2x2048x1024_0_1 (through h n)

def back : FVec Ideal S2x2048x1024 .f32 := addf (addf (mulf n (rs h)) (mulf h (q h n))) (mulf (q h n) h)

/-- A sum over all rows. -/
def total (v : FVec Ideal S2x2048x1024 .f32) : FVec Ideal S1024 .f32 := Host.reduceAdd v zero reducesTo_S2x2048x1024_S1024_d0_1 h_S_

theorem q_apply (b : Fin 2) (s : Fin 2048) (j : Fin 1024) :
    q h n (ix3 b s j) = rowQ (fun k => n (ix3 b s k)) fun k => h (ix3 b s k) := by
  unfold rowQ
  pointwise [q, through, len, zero]
  rw [Fin.sum_univ_one, ms_apply]
  rfl

theorem total_apply (v : FVec Ideal S2x2048x1024 .f32) (j : Fin 1024) : total v (ix1 j) = ∑ b : Fin 2, ∑ s : Fin 2048, v (ix3 b s j) := by
  pointwise [total, zero]
  refine (sum_two _ _ _ _).trans ?_
  rw [zero_add]

end

section
variable (a : FVec Ideal S4096x4096 .f32) (w : FVec Ideal S4096x1024 .f32) (x : FVec Ideal S4096x1024 .f32) (md : FVec Ideal S2x6144 .f32)
  (g : FVec Ideal S1x1024 .f32) (tg : FVec Ideal S4096x1024 .f32)

def gate : FVec Ideal S2x2048x1024 .f32 :=
  broadcastInDim S2x2048x1024 ![0, 1, 2] bcast_S2x1x1024_S2x2048x1024_0_1_2
    (extractStridedSlice S2x1x1024 ![0, 0, 5120] (mod3 md) slices_S2x1x6144_S2x1x1024_0_0_5120)

/-- The first product's positive part, and the second product of its square. -/
def relu : FVec Ideal S2x2048x4096 .f32 :=
  maximumf (shapeCast _ a shapeCasts_S4096x4096_S2x2048x4096) (broadcastInDim S2x2048x4096 ![] bcast_S_S2x2048x4096 zero)

def dn : FVec Ideal S2x2048x1024 .f32 :=
  Host.dotGeneral dot_S2x2048x4096_S4096x1024_S2x2048x1024_2_0_01_1_n_n none (mulf (relu a) (relu a)) w

def hs : FVec Ideal S2x2048x1024 .f32 := addf (seqs x) (mulf (gate md) (dn a w))

/-- The normed rows, the error, and the loss's gradient. -/
def hh : FVec Ideal S2x2048x1024 .f32 := mulf (hs a w x md) (rs (hs a w x md))

def err : FVec Ideal S2x2048x1024 .f32 := subf (mulf (hh a w x md) (gain g)) (seqs tg)

def dy : FVec Ideal S2x2048x1024 .f32 :=
  mulf (broadcastInDim S2x2048x1024 ![0, 1] bcast_S2x2048_S2x2048x1024_0_1
      (Host.divf (broadcastInDim S2x2048 ![] bcast_S_S2x2048 (mulf (constant S_ .f32 0x3F000000#32) (constant S_ .f32 0x3F800000#32)))
        (broadcastInDim S2x2048 ![] bcast_S_S2x2048 (constant S_ .f32 0x44800000#32))))
    (mulf (broadcastInDim S2x2048x1024 ![] bcast_S_S2x2048x1024 (constant S_ .f32 0x40000000#32)) (err a w x md g tg))

def below : FVec Ideal S2x2048x1024 .f32 := back (hs a w x md) (mulf (dy a w x md g tg) (gain g))

/-- The five results. -/
def outO : FVec Ideal S4096x1024 .bf16 :=
  truncf .bf16 (shapeCast S4096x1024 (mulf (gate md) (below a w x md g tg)) shapeCasts_S2x2048x1024_S4096x1024) bitsLt_bf16_f32

def outX : FVec Ideal S4096x1024 .f32 := shapeCast _ (below a w x md g tg) shapeCasts_S2x2048x1024_S4096x1024

def outSq : FVec Ideal S1x1024 .f32 :=
  broadcastInDim S1x1024 ![1] bcast_S1024_S1x1024_1 (total (mulf (err a w x md g tg) (err a w x md g tg)))

def outG : FVec Ideal S1x1024 .f32 :=
  broadcastInDim S1x1024 ![1] bcast_S1024_S1x1024_1 (Host.reduceAdd (shapeCast S1x1x1024 (total (mulf (hh a w x md) (dy a w x md g tg)))
    shapeCasts_S1024_S1x1x1024) zero reducesTo_S1x1x1024_S1024_d0_1 h_S_)

def outD : FVec Ideal S2x1x1024 .f32 := rowsum (mulf (below a w x md g tg) (dn a w))

theorem gate_apply (b : Fin 2) (s : Fin 2048) (j : Fin 1024) : gate md (ix3 b s j) = md (ix2 b ⟨5120 + j.val, by omega⟩) := by
  pointwise [gate, mod3]

theorem dn_apply (b : Fin 2) (s : Fin 2048) (j : Fin 1024) : dn a w (ix3 b s j) = gN a w ⟨b.val * 2048 + s.val, by omega⟩ j := by
  unfold gN rowF
  pointwise [dn, relu, zero]

theorem hs_apply (b : Fin 2) (s : Fin 2048) (j : Fin 1024) : hs a w x md (ix3 b s j) = gH a w x md ⟨b.val * 2048 + s.val, by omega⟩ j := by
  have e : (b.val * 2048 + s.val) / 2048 = b.val := by omega
  unfold gH
  simp only [e]
  pointwise [hs]
  rw [gate_apply, seqs_apply, dn_apply]

theorem hh_apply (b : Fin 2) (s : Fin 2048) (j : Fin 1024) : hh a w x md (ix3 b s j)
    = gH a w x md ⟨b.val * 2048 + s.val, by omega⟩ j * rowR (gH a w x md ⟨b.val * 2048 + s.val, by omega⟩) := by
  pointwise [hh]
  rw [rs_apply]
  simp only [hs_apply]

theorem err_apply (b : Fin 2) (s : Fin 2048) (j : Fin 1024) :
    err a w x md g tg (ix3 b s j) = gE a w x md g tg ⟨b.val * 2048 + s.val, by omega⟩ j := by
  unfold gE rowE
  pointwise [err]
  rw [hh_apply, gain_apply, seqs_apply]

theorem dy_apply (b : Fin 2) (s : Fin 2048) (j : Fin 1024) :
    dy a w x md g tg (ix3 b s j) = gY a w x md g tg ⟨b.val * 2048 + s.val, by omega⟩ j := by
  refine Eq.trans ?_ (mean_grad _)
  pointwise [dy]
  rw [err_apply]
  rfl

theorem below_apply (b : Fin 2) (s : Fin 2048) (j : Fin 1024) :
    below a w x md g tg (ix3 b s j) = gB a w x md g tg ⟨b.val * 2048 + s.val, by omega⟩ j := by
  refine Eq.trans ?_ (rowB_eq _ _ _ _)
  pointwise [below, back]
  rw [rs_apply, q_apply]
  pointwise
  simp only [hs_apply, dy_apply, gain_apply]

theorem outX_eq : outX a w x md g tg = fun y => gB a w x md g tg (y 0) (y 1) := by
  funext y
  idx_vars y
  pointwise [outX]
  rw [below_apply]
  exact congrArg (gB a w x md g tg · y1) (Fin.ext (by dsimp only; omega))

theorem outO_eq : outO a w x md g tg = fun y => gO a w x md g tg (y 0) (y 1) := by
  funext y
  idx_vars y
  pointwise [outO]
  rw [below_apply, gate_apply, mul_comm]
  exact congrArg₂ (fun (u v : EReal) => u * v) (congrArg (gB a w x md g tg · y1) (Fin.ext (by dsimp only; omega))) rfl

theorem outSq_eq : outSq a w x md g tg = fun y => gSq a w x md g tg (y 1) := by
  funext y
  idx_vars y
  pointwise [outSq]
  rw [total_apply]
  unfold gSq
  exact Fin.sum_mul_add_congr (n := 2048) fun b s hl => by
    pointwise
    rw [err_apply]

theorem outG_eq : outG a w x md g tg = fun y => gG a w x md g tg (y 1) := by
  funext y
  idx_vars y
  pointwise [outG, zero]
  refine (sum_two _ _ _ _).trans ?_
  rw [zero_add, Fin.sum_univ_one, Fin.sum_univ_one]
  pointwise
  rw [total_apply]
  unfold gG
  exact Fin.sum_mul_add_congr (n := 2048) fun b s hl => by
    pointwise
    rw [hh_apply, dy_apply, mul_comm]

theorem outD_eq : outD a w x md g tg = fun y => gD a w x md g tg (y 0) (y 2) := by
  funext y
  idx_vars y
  unfold gD
  pointwise [outD, rowsum, zero]
  simp only [below_apply, dn_apply]

end

end Cert.DownFRefIdeal.DownF
end
-- ==== Proof.DownFValue.lean ====
/- The values of `mlp_down_loss`: each array the kernel leaves is the reference's. -/
module

public import proofs.«01_k».proof.Proof.Gen.DownFRefIdeal
public import proofs.«01_k».proof.Proof.Gen.DownFRefIdeal.Run
public import proofs.«01_k».proof.Proof.Reals
public import proofs.«01_k».proof.Proof.DownFRef

@[expose] public section

set_option maxRecDepth 16384

noncomputable section

open Idealize.ShloMosaic Idealize.ShloMosaic.TcCoe Idealize.SL.Sem
open Idealize.ShloMosaic.Pipeline (Dat)
open scoped BigOperators

namespace Cert.DownFIdeal.DownF
open Cert.DownFIdeal Cert.DownFIdeal.Gen

variable (m : (ℓ : Loc nD τ sig) → Buf (Elt Ideal) ℓ)
  (m' : (ℓ : Loc DownFRefIdeal.nD DownFRefIdeal.τ DownFRefIdeal.sig) → Buf (Elt Ideal) ℓ)

/-- The two programs start from the same arguments. -/
abbrev Agree (c : Dev nD) : Prop :=
  m' ((c.tc : Thread DownFRefIdeal.nD DownFRefIdeal.τ).loc DownFRefIdeal.main_arg0) = m ((c.tc : Thread nD τ).loc main_arg0)
    ∧ m' ((c.tc : Thread DownFRefIdeal.nD DownFRefIdeal.τ).loc DownFRefIdeal.main_arg1) = m ((c.tc : Thread nD τ).loc main_arg1)
    ∧ m' ((c.tc : Thread DownFRefIdeal.nD DownFRefIdeal.τ).loc DownFRefIdeal.main_arg2) = m ((c.tc : Thread nD τ).loc main_arg2)
    ∧ m' ((c.tc : Thread DownFRefIdeal.nD DownFRefIdeal.τ).loc DownFRefIdeal.main_arg3) = m ((c.tc : Thread nD τ).loc main_arg3)
    ∧ m' ((c.tc : Thread DownFRefIdeal.nD DownFRefIdeal.τ).loc DownFRefIdeal.main_arg4) = m ((c.tc : Thread nD τ).loc main_arg4)
    ∧ m' ((c.tc : Thread DownFRefIdeal.nD DownFRefIdeal.τ).loc DownFRefIdeal.main_arg5) = m ((c.tc : Thread nD τ).loc main_arg5)

/-- The gradient of the product. -/
theorem out_o (c : Dev nD) (h : Agree m m' c) : DownFRefIdeal.Value.res_out0 m' c = (dats m 0 c).arrAt 6 cfg0.N := by
  obtain ⟨h0, h1, h2, h3, h4, h5⟩ := h
  refine Eq.trans (b := DownFRefIdeal.DownF.outO (m' ((c.tc : Thread DownFRefIdeal.nD DownFRefIdeal.τ).loc DownFRefIdeal.main_arg0)) (m' ((c.tc : Thread DownFRefIdeal.nD DownFRefIdeal.τ).loc DownFRefIdeal.main_arg1)) (m' ((c.tc : Thread DownFRefIdeal.nD DownFRefIdeal.τ).loc DownFRefIdeal.main_arg2)) (m' ((c.tc : Thread DownFRefIdeal.nD DownFRefIdeal.τ).loc DownFRefIdeal.main_arg3)) (m' ((c.tc : Thread DownFRefIdeal.nD DownFRefIdeal.τ).loc DownFRefIdeal.main_arg4)) (m' ((c.tc : Thread DownFRefIdeal.nD DownFRefIdeal.τ).loc DownFRefIdeal.main_arg5))) rfl ?_
  rw [h0, h1, h2, h3, h4, h5, final_o]
  exact DownFRefIdeal.DownF.outO_eq _ _ _ _ _ _

/-- The gradient below the norm. -/
theorem out_x (c : Dev nD) (h : Agree m m' c) : DownFRefIdeal.Value.res_out1 m' c = (dats m 0 c).arrAt 7 cfg0.N := by
  obtain ⟨h0, h1, h2, h3, h4, h5⟩ := h
  refine Eq.trans (b := DownFRefIdeal.DownF.outX (m' ((c.tc : Thread DownFRefIdeal.nD DownFRefIdeal.τ).loc DownFRefIdeal.main_arg0)) (m' ((c.tc : Thread DownFRefIdeal.nD DownFRefIdeal.τ).loc DownFRefIdeal.main_arg1)) (m' ((c.tc : Thread DownFRefIdeal.nD DownFRefIdeal.τ).loc DownFRefIdeal.main_arg2)) (m' ((c.tc : Thread DownFRefIdeal.nD DownFRefIdeal.τ).loc DownFRefIdeal.main_arg3)) (m' ((c.tc : Thread DownFRefIdeal.nD DownFRefIdeal.τ).loc DownFRefIdeal.main_arg4)) (m' ((c.tc : Thread DownFRefIdeal.nD DownFRefIdeal.τ).loc DownFRefIdeal.main_arg5))) rfl ?_
  rw [h0, h1, h2, h3, h4, h5, final_x]
  exact DownFRefIdeal.DownF.outX_eq _ _ _ _ _ _

/-- The squared errors by feature. -/
theorem out_sq (c : Dev nD) (h : Agree m m' c) : DownFRefIdeal.Value.res_out2 m' c = (dats m 0 c).arrAt 8 cfg0.N := by
  obtain ⟨h0, h1, h2, h3, h4, h5⟩ := h
  refine Eq.trans (b := DownFRefIdeal.DownF.outSq (m' ((c.tc : Thread DownFRefIdeal.nD DownFRefIdeal.τ).loc DownFRefIdeal.main_arg0)) (m' ((c.tc : Thread DownFRefIdeal.nD DownFRefIdeal.τ).loc DownFRefIdeal.main_arg1)) (m' ((c.tc : Thread DownFRefIdeal.nD DownFRefIdeal.τ).loc DownFRefIdeal.main_arg2)) (m' ((c.tc : Thread DownFRefIdeal.nD DownFRefIdeal.τ).loc DownFRefIdeal.main_arg3)) (m' ((c.tc : Thread DownFRefIdeal.nD DownFRefIdeal.τ).loc DownFRefIdeal.main_arg4)) (m' ((c.tc : Thread DownFRefIdeal.nD DownFRefIdeal.τ).loc DownFRefIdeal.main_arg5))) rfl ?_
  rw [h0, h1, h2, h3, h4, h5, final_sq]
  exact DownFRefIdeal.DownF.outSq_eq _ _ _ _ _ _

/-- The gradient of the gain. -/
theorem out_g (c : Dev nD) (h : Agree m m' c) : DownFRefIdeal.Value.res_out3 m' c = (dats m 0 c).arrAt 9 cfg0.N := by
  obtain ⟨h0, h1, h2, h3, h4, h5⟩ := h
  refine Eq.trans (b := DownFRefIdeal.DownF.outG (m' ((c.tc : Thread DownFRefIdeal.nD DownFRefIdeal.τ).loc DownFRefIdeal.main_arg0)) (m' ((c.tc : Thread DownFRefIdeal.nD DownFRefIdeal.τ).loc DownFRefIdeal.main_arg1)) (m' ((c.tc : Thread DownFRefIdeal.nD DownFRefIdeal.τ).loc DownFRefIdeal.main_arg2)) (m' ((c.tc : Thread DownFRefIdeal.nD DownFRefIdeal.τ).loc DownFRefIdeal.main_arg3)) (m' ((c.tc : Thread DownFRefIdeal.nD DownFRefIdeal.τ).loc DownFRefIdeal.main_arg4)) (m' ((c.tc : Thread DownFRefIdeal.nD DownFRefIdeal.τ).loc DownFRefIdeal.main_arg5))) rfl ?_
  rw [h0, h1, h2, h3, h4, h5, final_g]
  exact DownFRefIdeal.DownF.outG_eq _ _ _ _ _ _

/-- The gradient of the gate. -/
theorem out_d (c : Dev nD) (h : Agree m m' c) : DownFRefIdeal.Value.res_out4 m' c = (dats m 0 c).arrAt 10 cfg0.N := by
  obtain ⟨h0, h1, h2, h3, h4, h5⟩ := h
  refine Eq.trans (b := DownFRefIdeal.DownF.outD (m' ((c.tc : Thread DownFRefIdeal.nD DownFRefIdeal.τ).loc DownFRefIdeal.main_arg0)) (m' ((c.tc : Thread DownFRefIdeal.nD DownFRefIdeal.τ).loc DownFRefIdeal.main_arg1)) (m' ((c.tc : Thread DownFRefIdeal.nD DownFRefIdeal.τ).loc DownFRefIdeal.main_arg2)) (m' ((c.tc : Thread DownFRefIdeal.nD DownFRefIdeal.τ).loc DownFRefIdeal.main_arg3)) (m' ((c.tc : Thread DownFRefIdeal.nD DownFRefIdeal.τ).loc DownFRefIdeal.main_arg4)) (m' ((c.tc : Thread DownFRefIdeal.nD DownFRefIdeal.τ).loc DownFRefIdeal.main_arg5))) rfl ?_
  rw [h0, h1, h2, h3, h4, h5, final_d]
  exact DownFRefIdeal.DownF.outD_eq _ _ _ _ _ _

end Cert.DownFIdeal.DownF
end
-- ==== Proof.ClaimsDownF.lean ====
/- The value claims of `mlp_down_loss`: the kernel's run and the reference's end with the same results. -/
module

public import proofs.«01_k».proof.Defs
public import proofs.«01_k».proof.Proof.DownFValue
public import proofs.«01_k».proof.Proof.Gen.DownFIdeal
public import proofs.«01_k».proof.Proof.Gen.DownFIdeal.Frame
public import proofs.«01_k».proof.Proof.Gen.DownFRefIdeal
public import proofs.«01_k».proof.Proof.Gen.DownFRefIdeal.Run
public import Idealize.ShloMosaic.Adequacy
public import Idealize.ShloMosaic.Init

@[expose] public section

noncomputable section

namespace Cert.Proof

open Idealize.ShloMosaic Idealize.SL.Sem

set_option maxHeartbeats 3200000 in
theorem downF_algebraic : Cert.algebraic_DownFIdeal_DownFRefIdeal := by
  pair_intro
  · run_from Cert.DownFIdeal.Gen.run_main m g
  · run_from Cert.DownFRefIdeal.Value.run m' g'
    · exact Cert.DownFIdeal.DownF.out_o m m' c (hagree c)
    · exact Cert.DownFIdeal.DownF.out_x m m' c (hagree c)
    · exact Cert.DownFIdeal.DownF.out_sq m m' c (hagree c)
    · exact Cert.DownFIdeal.DownF.out_g m m' c (hagree c)
    · exact Cert.DownFIdeal.DownF.out_d m m' c (hagree c)

end Cert.Proof

end
-- ==== Proof.InWRun.lean ====
/- The run of `grad_w_in`: each grid point fills one block of 512 rows with a product, and the last point the first 128 rows
   of a block that overhangs the array. -/
module

public import proofs.«01_k».proof.Proof.Gen.InWIdeal.Frame
public import proofs.«01_k».proof.Proof.Gen.InWIdeal.Skeleton
public import Idealize.ShloMosaic.Lib.Pipeline.Value
public import Idealize.ShloMosaic.Lib.Claim

@[expose] public section

set_option maxRecDepth 16384

noncomputable section

namespace Cert.InWIdeal.InW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.InWIdeal Cert.InWIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

abbrev rIn : Rect S4096x512 := Rect.unit (s := S4096x512) ![0, 0] S4096x512.size inb_S4096x512_S4096x512_0_0
abbrev rLast : Rect S4096x128 := Rect.unit (s := S4096x128) ![0, 0] S4096x128.size inb_S4096x128_S4096x128_0_0
abbrev rU : Rect S4096x1024 := Rect.unit (s := S4096x1024) ![0, 0] S4096x1024.size inb_S4096x1024_S4096x1024_0_0
abbrev rFull : Rect S512x1024 := Rect.unit (s := S512x1024) ![0, 0] S512x1024.size inb_S512x1024_S512x1024_0_0
abbrev rHead : Rect S512x1024 := Rect.unit (s := S512x1024) ![0, 0] S128x1024.size inb_S512x1024_S128x1024_0_0

/-- A whole block: the product of 512 columns of a cotangent with the normed stream. -/
def full (x : Vec F S4096x512 .bf16) (u : Vec F S4096x1024 .bf16) : Vec F S512x1024 .bf16 :=
  View.canon [⟨rFull, k0_pay1 (View.ld x rIn) (View.ld u rU)⟩]

/-- The last block: only its first 128 rows are written. -/
def head (x : Vec F S4096x128 .bf16) (u : Vec F S4096x1024 .bf16) : Vec F S512x1024 .bf16 :=
  View.canon [⟨rHead, k0_pay4 (View.ld x rLast) (View.ld u rU)⟩]

/-- The block of a point, by the branch the point takes. -/
def block (i : grid0.Coords) (x0 x1 x2 : Vec F S4096x512 .bf16) (x3 : Vec F S4096x128 .bf16) (x4 : Vec F S4096x1024 .bf16) :
    Vec F S512x1024 .bf16 :=
  if k0_cond1 i = 1#1 then full x0 x4 else if k0_cond2 i = 1#1 then full x1 x4
    else if k0_cond3 i = 1#1 then full x2 x4 else head x3 x4

/-- Exactly one branch is taken. -/
abbrev One (i : grid0.Coords) : Prop :=
  (k0_cond1 i = 1#1 ∧ ¬k0_cond2 i = 1#1 ∧ ¬k0_cond3 i = 1#1 ∧ ¬k0_cond4 i = 1#1)
  ∨ (¬k0_cond1 i = 1#1 ∧ k0_cond2 i = 1#1 ∧ ¬k0_cond3 i = 1#1 ∧ ¬k0_cond4 i = 1#1)
  ∨ (¬k0_cond1 i = 1#1 ∧ ¬k0_cond2 i = 1#1 ∧ k0_cond3 i = 1#1 ∧ ¬k0_cond4 i = 1#1)
  ∨ (¬k0_cond1 i = 1#1 ∧ ¬k0_cond2 i = 1#1 ∧ ¬k0_cond3 i = 1#1 ∧ k0_cond4 i = 1#1)

theorem one : ∀ t : Fin cfg0.N, One (grid0.coords t) :=
  (by decide +kernel : ∀ t : Fin grid0.N, One (grid0.coords t))

/-- A store of the whole block reads back as its payload. -/
theorem read_full {sp} (v : View sig .tc sp S512x1024 .bf16) (f : v.ty.Contents (Elt F)) (w : Vec F S512x1024 .bf16) (y : S512x1024.Idx) :
    v.read (Elt F) (v.writes (Elt F) f [⟨rFull, w⟩]) y = View.canon (Val := Elt F) [⟨rFull, w⟩] y :=
  congrFun (View.read_writes_eq_canon v f _ (fun y => View.cover_of_tiled [⟨rFull, w⟩] S512x1024.size (by rfl) y)) y

/-- A store of the first 128 rows reads back, on them, as its payload. -/
theorem read_head {sp} (v : View sig .tc sp S512x1024 .bf16) (f : v.ty.Contents (Elt F)) (w : Vec F S128x1024 .bf16) (y : S512x1024.Idx)
    (hy : (y 0).val < 128) : v.read (Elt F) (v.writes (Elt F) f [⟨rHead, w⟩]) y = View.canon (Val := Elt F) [⟨rHead, w⟩] y := by
  refine View.read_writes_apply_eq_canon v f y _ ⟨_, List.mem_singleton_self _, ?_⟩
  rw [Rect.mem_set_unit]
  intro a
  match a with
  | ⟨0, _⟩ => exact ⟨Nat.zero_le _, by simpa using hy⟩
  | ⟨1, _⟩ => exact ⟨Nat.zero_le _, by simpa using (y 1).isLt⟩

set_option maxHeartbeats 4000000 in
/-- The body leaves its inputs, and in the output's buffer the block of the point, on the rows that it writes. -/
theorem run (c : Dev nD) (E : Set ℕ) (i : grid0.Coords)
    (a1 : Memref sig .tc .vmem S4096x512 .bf16) (h1 : a1.IsWhole) (a2 : Memref sig .tc .vmem S4096x512 .bf16) (h2 : a2.IsWhole)
    (a3 : Memref sig .tc .vmem S4096x512 .bf16) (h3 : a3.IsWhole) (a4 : Memref sig .tc .vmem S4096x128 .bf16) (h4 : a4.IsWhole)
    (a5 : Memref sig .tc .vmem S4096x1024 .bf16) (h5 : a5.IsWhole) (a6 : Memref sig .tc .vmem S512x1024 .bf16) (h6 : a6.IsWhole)
    (hi : One i) (x0 x1 x2 : Vec F S4096x512 .bf16) (x3 : Vec F S4096x128 .bf16) (x4 : Vec F S4096x1024 .bf16) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ (∃ g, owns (c : Thread nD τ) a6 fullShare g
                ∗ ⌜∀ y : S512x1024.Idx, (k0_cond4 i = 1#1 → (y 0).val < 128) → g y = block i x0 x1 x2 x3 x4 y⌝)) -∗ K ⟨⟩))
      ⊢ wp frame (wpE (defs₀ (F := F)) Variants.none c none) E (cc0_grad_w_in i a1 h1 a2 h2 a3 h3 a4 h4 a5 h5 a6 h6) K := by
  simp only [cc0_grad_w_in_eq_skeleton]; unfold cc0_grad_w_in_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  rcases hi with ⟨c1, c2, c3, c4⟩ | ⟨c1, c2, c3, c4⟩ | ⟨c1, c2, c3, c4⟩ | ⟨c1, c2, c3, c4⟩
  all_goals
    sl_exec (disch := first | sl_exact c1 | sl_exact c2 | sl_exact c3 | sl_exact c4)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _
    isplitl [H5]
    · iexists _; isplitr; swap; · iexact H5
      ipureintro; rfl
    ipureintro
    intro y hy
    simp only [block, c1, c2, c3, if_true, if_false]
  · exact read_full _ _ _ y
  · exact read_full _ _ _ y
  · exact read_full _ _ _ y
  · exact read_head _ _ _ y (hy c4)

/-! ## The run of the whole call -/

/-- After the body at a point each input's buffer holds its block, the output's the block of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => block (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = block (grid0.coords t) (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Where the last branch is taken, the block has 128 rows inside the array. -/
theorem rows : ∀ t : Fin cfg0.N, k0_cond4 (grid0.coords t) = 1#1 → win0_5.xsize (grid0.coords t) 0 = 128 :=
  (by decide +kernel : ∀ t : Fin grid0.N, k0_cond4 (grid0.coords t) = 1#1 → win0_5.xsize (grid0.coords t) 0 = 128)

/-- At every point some branch is taken, so the output's buffer is stored to. -/
theorem live : ∀ t : Fin cfg0.N, idle0 5 (grid0.coords t) = false :=
  (by decide +kernel : ∀ t : Fin grid0.N, idle0 5 (grid0.coords t) = false)

/-- What the body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: of the output's buffer, its rows inside the array. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare
        (win0_5.fill (grid0.coords t) d (win0_5.cut (grid0.coords t) ((dats m 0 c).after 5 t)))))

set_option maxHeartbeats 1600000 in
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (run c Set.univ (grid0.coords t) _ _ _ _ _ _ _ _ _ _ _ _ (one t)
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%g, H5, %hg⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists g
  rw [win0_5.fill_congr_cut (grid0.coords t) (X := g) (funext fun j => hg _ fun h => by
    have hj := (j 0).isLt
    have e : win0_5.xsize (grid0.coords t) 0 = 128 := rows t h
    exact lt_of_lt_of_eq hj e)]
  iexact H5

theorem defs_row (t : Fin cfg0.N) :
    defs₀ (F := F) .tc cfg0.body (cfg0.bodyArgs t (cfg0.slots t)) = bodyAt0 t := by
  unfold defs₀; rw [Defs.onTc_tc]

theorem obligation (c : Dev nD) : BodyObligationLoose (dats (F := F) m 0 c) (defs₀ (F := F)) Variants.none () Set.univ := fun t => by
  rw [bigSep_W0, bigSep_W0, defs_row]
  simp only
  rw [live t]
  exact triple_restated (sound_body m c t) rfl .rfl fun _ => .rfl

set_option backward.isDefEq.respectTransparency.types false in
set_option maxHeartbeats 800000 in
/-- Every execution of the call ends, with every array of the pipeline at the contents computed from the blocks and every
    semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := obligation m) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.InWIdeal.InW

end
-- ==== Proof.InWValue.lean ====
/- The value of `grad_w_in`: the array the kernel leaves is the reference's gradient of the first projection's matrix. -/
module

public import proofs.«01_k».proof.Proof.InWRun
public import proofs.«01_k».proof.Proof.Gen.InWRefIdeal
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

/-! ## The reference -/

namespace Cert.InWRefIdeal.InW
open Cert.InWRefIdeal Cert.InWRefIdeal.Gen

variable (u : FVec Ideal S4096x1024 .f32) (da : FVec Ideal S4096x512 .f32) (db : FVec Ideal S4096x1024 .f32) (dc : FVec Ideal S4096x1536 .f32)
  (de : FVec Ideal S4096x16 .f32)

/-- The four gradients side by side. -/
def cat : FVec Ideal S4096x3088 .f32 :=
  addf (addf (addf
    (pad S4096x3088 ![0, 3072] ![0, 0] ![0, 0] de (constant S_ .f32 0x00000000#32) pads_S4096x16_S4096x3088_000_307200 h_S_)
    (pad S4096x3088 ![0, 1536] ![0, 16] ![0, 0] dc (constant S_ .f32 0x00000000#32) pads_S4096x1536_S4096x3088_000_1536160 h_S_))
    (pad S4096x3088 ![0, 512] ![0, 1552] ![0, 0] db (constant S_ .f32 0x00000000#32) pads_S4096x1024_S4096x3088_000_51215520 h_S_))
    (pad S4096x3088 ![0, 0] ![0, 2576] ![0, 0] da (constant S_ .f32 0x00000000#32) pads_S4096x512_S4096x3088_000_025760 h_S_)

/-- The result: the gradient transposed, and rows of zeros. -/
def out : FVec Ideal S3200x1024 .bf16 :=
  truncf .bf16 (concatenate S3200x1024 0
    [⟨S3088x1024, transpose S3088x1024 [1, 0] (transpose S1024x3088 [1, 0]
        (Host.dotGeneral dot_S4096x3088_S4096x1024_S3088x1024_0_0_1_1_n_n none (cat da db dc de) u)
        transposes_S3088x1024_S1024x3088_1_0) transposes_S1024x3088_S3088x1024_1_0⟩,
      ⟨S112x1024, broadcastInDim S112x1024 ![] bcast_S_S112x1024 (constant S_ .f32 0x00000000#32)⟩]
    concatenates_S3088x1024_S112x1024_S3200x1024_d0) bitsLt_bf16_f32

/-- A column of the four side by side, of zeros past the last. -/
def col (r : Fin 4096) (l : Fin 3200) : EReal :=
  if h : l.val < 512 then da (ix2 r ⟨l.val, h⟩)
  else if h : l.val < 1536 then db (ix2 r ⟨l.val - 512, by omega⟩)
  else if h : l.val < 3072 then dc (ix2 r ⟨l.val - 1536, by omega⟩)
  else if h : l.val < 3088 then de (ix2 r ⟨l.val - 3072, by omega⟩)
  else 0

theorem cat_apply (r : Fin 4096) (l : Fin 3088) : cat da db dc de (ix2 r l) = col da db dc de r ⟨l.val, by omega⟩ := by
  unfold col
  pointwise [cat]
  by_cases h1 : l.val < 512
  · rw [dif_neg (by omega), dif_neg (by omega), dif_neg (by omega), dif_pos h1, dif_pos h1, zero_add, zero_add, zero_add]
  by_cases h2 : l.val < 1536
  · rw [dif_neg (by omega), dif_neg (by omega), dif_pos (by omega), dif_neg h1, dif_neg h1, dif_pos h2, zero_add, zero_add, add_zero]
  by_cases h3 : l.val < 3072
  · rw [dif_neg (by omega), dif_pos (by omega), dif_neg (by omega), dif_neg h1, dif_neg h1, dif_neg h2, dif_pos h3, zero_add, add_zero, add_zero]
  · rw [dif_pos (by omega), dif_neg (by omega), dif_neg (by omega), dif_neg h1, dif_neg h1, dif_neg h2, dif_neg h3, add_zero, add_zero, add_zero]

/-- Row `l` of the result is column `l` of the gradients times the tokens' stream. -/
theorem out_apply (l : Fin 3200) (j : Fin 1024) : out u da db dc de (ix2 l j) = ∑ r, col da db dc de r l * u (ix2 r j) := by
  pointwise [out]
  by_cases h : l.val < 3088
  · rw [dif_pos (by omega)]
    simp only [cat_apply]
  · rw [dif_neg (by omega)]
    refine (Finset.sum_eq_zero fun r _ => ?_).symm
    unfold col
    rw [dif_neg (by omega), dif_neg (by omega), dif_neg (by omega), dif_neg h, zero_mul]

end Cert.InWRefIdeal.InW

/-! ## The kernel -/

namespace Cert.InWIdeal.InW
open Cert.InWIdeal Cert.InWIdeal.Gen
open Cert.InWRefIdeal.InW (out col out_apply)

variable (m : (ℓ : Loc nD τ sig) → Buf (Elt Ideal) ℓ)

theorem idx : ∀ t : Fin cfg0.N, win0_0.index t = ![0, 0] ∧ win0_3.index t = ![0, 0] ∧ win0_4.index t = ![0, 0] ∧ win0_5.index t = ![t.val, 0]
    ∧ win0_1.index t = ![0, min (t.val - 1) 1] ∧ win0_2.index t = ![0, min (t.val - 3) 2] :=
  (by decide +kernel : ∀ t : Fin grid0.N, _)

/-- Which branch a point takes. -/
theorem cases : ∀ t : Fin cfg0.N, (k0_cond1 (grid0.coords t) = 1#1 ↔ t.val = 0) ∧ (k0_cond2 (grid0.coords t) = 1#1 ↔ 1 ≤ t.val ∧ t.val < 3)
    ∧ (k0_cond3 (grid0.coords t) = 1#1 ↔ 3 ≤ t.val ∧ t.val < 6) ∧ (t.val < 6 ∨ t.val = 6 ∧ win0_5.xsize (grid0.coords t) 0 = 128) :=
  (by decide +kernel : ∀ t : Fin grid0.N, _)

variable (c : Dev nD)

theorem in0 (t : Fin cfg0.N) (r : Fin 4096) (k : Fin 512) : iblk m c 0 t (ix2 r k) = m ((c : Thread nD τ).loc main_arg2) (ix2 r k) := by
  blk_point [iblk, V, idx t]

theorem in1 (t : Fin cfg0.N) (r : Fin 4096) (k : Fin 512) :
    iblk m c 1 t (ix2 r k) = m ((c : Thread nD τ).loc main_arg3) (ix2 r ⟨min (t.val - 1) 1 * 512 + k.val, by omega⟩) := by
  blk_point [iblk, V, idx t]

theorem in2 (t : Fin cfg0.N) (r : Fin 4096) (k : Fin 512) :
    iblk m c 2 t (ix2 r k) = m ((c : Thread nD τ).loc main_arg4) (ix2 r ⟨min (t.val - 3) 2 * 512 + k.val, by omega⟩) := by
  blk_point [iblk, V, idx t]

/-- The last input has 112 columns of zeros appended. -/
theorem in3 (t : Fin cfg0.N) (r : Fin 4096) (k : Fin 128) :
    iblk m c 3 t (ix2 r k) = if h : k.val < 16 then m ((c : Thread nD τ).loc main_arg5) (ix2 r ⟨k.val, h⟩) else (0 : EReal) := by
  have e : iblk m c 3 t (ix2 r k) = V m c main_v5 (ix2 r k) := by
    blk_point [iblk, idx t]
  have e' : (V m c main_v5 : FVec Ideal S4096x128 .bf16) = truncf (F := Ideal) .bf16 (concatenate S4096x128 1
      [⟨S4096x16, (m ((c : Thread nD τ).loc main_arg5) : FVec Ideal S4096x16 .f32)⟩,
        ⟨S4096x112, broadcastInDim S4096x112 ![] bcast_S_S4096x112 (constant S_ .f32 0x00000000#32)⟩]
      concatenates_S4096x16_S4096x112_S4096x128_d1) bitsLt_bf16_f32 := by
    unfold V
    after_results
  rw [e, e']
  pointwise

theorem in4 (t : Fin cfg0.N) (r : Fin 4096) (k : Fin 1024) : iblk m c 4 t (ix2 r k) = m ((c : Thread nD τ).loc main_arg0) (ix2 r k) := by
  blk_point [iblk, V, idx t]

theorem full_apply (x : Vec Ideal S4096x512 .bf16) (u : Vec Ideal S4096x1024 .bf16) (k : Fin 512) (j : Fin 1024) :
    full x u (ix2 k j) = ∑ r, x (ix2 r k) * u (ix2 r j) := by
  unfold full
  rw [View.canon_unit_zero (by decide), View.ld_unit_zero (by decide), View.ld_unit_zero (by decide)]
  pointwise [k0_pay1]

theorem head_apply (x : Vec Ideal S4096x128 .bf16) (u : Vec Ideal S4096x1024 .bf16) (k : Fin 128) (j : Fin 1024) :
    head x u (ix2 ⟨k.val, by omega⟩ j) = ∑ r, x (ix2 r k) * u (ix2 r j) := by
  unfold head
  rw [View.ld_unit_zero (by decide), View.ld_unit_zero (by decide)]
  have e : rHead.emb (ix2 k j) = ix2 ⟨k.val, by omega⟩ j := by
    funext a
    refine Fin.ext ?_
    fin_cases a
    · show 0 + 1 * k.val = k.val
      omega
    · show 0 + 1 * j.val = j.val
      omega
  refine (congrArg _ e.symm).trans ((View.canon_cons_emb (Val := Elt Ideal) (e := .bf16) rHead _ [] (ix2 k j)).trans ?_)
  pointwise [k0_pay4]

/-- The block of a point at an index, where the point writes it. -/
theorem point (t : Fin cfg0.N) (k : S512x1024.Idx) (l : S3200x1024.Idx) (h0 : (l 0).val = t.val * 512 + (k 0).val)
    (h1 : (l 1).val = (k 1).val) (hk : t.val = 6 → (k 0).val < 128) :
    block (grid0.coords t) (iblk m c 0 t) (iblk m c 1 t) (iblk m c 2 t) (iblk m c 3 t) (iblk m c 4 t) k
      = out (m ((c : Thread nD τ).loc main_arg0)) (m ((c : Thread nD τ).loc main_arg2)) (m ((c : Thread nD τ).loc main_arg3))
          (m ((c : Thread nD τ).loc main_arg4)) (m ((c : Thread nD τ).loc main_arg5)) l := by
  obtain ⟨c1, c2, c3, c4⟩ := cases t
  idx_vars k
  idx_vars l
  obtain rfl : l1 = k1 := Fin.ext h1
  replace h0 : l0.val = t.val * 512 + k0.val := h0
  rw [out_apply]
  unfold block col
  by_cases b1 : t.val = 0
  · rw [if_pos (c1.mpr b1), full_apply]
    refine Finset.sum_congr rfl fun r _ => ?_
    rw [in0, in4, dif_pos (by omega)]
    congr 3
    exact Fin.ext (by dsimp only; omega)
  rw [if_neg fun h => b1 (c1.mp h)]
  by_cases b2 : t.val < 3
  · rw [if_pos (c2.mpr (by omega)), full_apply]
    refine Finset.sum_congr rfl fun r _ => ?_
    rw [in1, in4, dif_neg (by omega), dif_pos (by omega)]
    congr 3
    exact Fin.ext (by dsimp only; omega)
  rw [if_neg fun h => b2 (c2.mp h).2]
  by_cases b3 : t.val < 6
  · rw [if_pos (c3.mpr (by omega)), full_apply]
    refine Finset.sum_congr rfl fun r _ => ?_
    rw [in2, in4, dif_neg (by omega), dif_neg (by omega), dif_pos (by omega)]
    congr 3
    exact Fin.ext (by dsimp only; omega)
  rw [if_neg fun h => b3 (c3.mp h).2]
  have hk' : k0.val < 128 := hk (by omega)
  refine (head_apply _ _ ⟨k0.val, hk'⟩ l1).trans (Finset.sum_congr rfl fun r _ => ?_)
  rw [in3, in4, dif_neg (show ¬l0.val < 512 by omega), dif_neg (show ¬l0.val < 1536 by omega), dif_neg (show ¬l0.val < 3072 by omega)]
  by_cases b4 : k0.val < 16
  · rw [dif_pos (show (⟨k0.val, hk'⟩ : Fin 128).val < 16 from b4), dif_pos (show l0.val < 3088 by omega)]
    congr 3
    exact Fin.ext (by dsimp only; omega)
  · rw [dif_neg (show ¬(⟨k0.val, hk'⟩ : Fin 128).val < 16 from b4), dif_neg (show ¬l0.val < 3088 by omega)]

theorem final : (dats m 0 c).arrAt 5 (cfgs 0).N
    = out (m ((c : Thread nD τ).loc main_arg0)) (m ((c : Thread nD τ).loc main_arg2)) (m ((c : Thread nD τ).loc main_arg3))
      (m ((c : Thread nD τ).loc main_arg4)) (m ((c : Thread nD τ).loc main_arg5)) := by
  refine (dats m 0 c).arrAt_eq_of_covers 5 _ (by decide +kernel) fun t hf y => ?_
  blk_simp
  rw [after_5]
  have e : win0_5.index t = ![t.val, 0] := (idx t).2.2.2.1
  have off : ∀ a : Fin 2, ((win0_5.blk t).view.emb y a).val = win0_5.index t a * S512x1024.size a + (y a).val := fun a =>
    ValueKit.view_emb_slice_whole_unit_val main_v7 _ _ _ y a
  refine point m c t _ _ ?_ ?_ fun h => ?_
  · refine (off 0).trans ?_
    rw [e]
    rfl
  · refine (off 1).trans ?_
    rw [e]
    exact Nat.zero_add _
  · have hy : (y 0).val < win0_5.xsize (grid0.coords t) 0 := (y 0).isLt
    obtain h' | h' := (cases t).2.2.2
    · omega
    · exact lt_of_lt_of_eq hy h'.2

end Cert.InWIdeal.InW

end
-- ==== Proof.ClaimsInW.lean ====
/- The value claim of `grad_w_in`: the kernel's run and the reference's end with the same result; and the kernel's own run. -/
module

public import proofs.«01_k».proof.Defs
public import proofs.«01_k».proof.Proof.InWRun
public import proofs.«01_k».proof.Proof.InWValue
public import proofs.«01_k».proof.Proof.Gen.InW
public import proofs.«01_k».proof.Proof.Gen.InWIdeal
public import proofs.«01_k».proof.Proof.Gen.InWRefIdeal
public import proofs.«01_k».proof.Proof.Gen.InWRefIdeal.Run
public import Idealize.ShloMosaic.Adequacy
public import Idealize.ShloMosaic.Init

@[expose] public section

noncomputable section

namespace Cert.Proof

open Idealize.ShloMosaic Idealize.SL.Sem

set_option maxHeartbeats 3200000 in
theorem inW_algebraic : Cert.algebraic_InWIdeal_InWRefIdeal := by
  pair_intro
  · run_from Cert.InWIdeal.InW.run_main m g
  · run_from Cert.InWRefIdeal.Value.run m' g'
    rw [(hagree c).2.2.1, (hagree c).2.2.2.1, (hagree c).2.2.2.2.1, (hagree c).2.2.2.2.2]
    exact (Cert.InWIdeal.InW.final m c).symm

/-- The program is the idealized one word for word: its bodies are, -/
theorem inW_bodies : Cert.InW.defs₀ (F := Bits) = Cert.InWIdeal.defs₀ (F := Bits) := by
  unfold Cert.InW.defs₀ Cert.InWIdeal.defs₀
  refine congrArg Defs.onTc ?_
  funext l a
  match l, a with
  | 0, (t, s) => rfl
  | ⟨_ + 1, h⟩, _ => exact absurd h (Nat.not_lt.2 (Nat.le_add_left _ _))

theorem inW_defs : Cert.InW.defs (F := Bits) = Cert.InWIdeal.defs (F := Bits) :=
  congrArg (Pipeline.defs Cert.InWIdeal.pcfgs) inW_bodies

/-- so its run is too. -/
theorem inW_frame : Cert.quiescent_InW := fun m ρ _ => by
  rw [inW_defs]
  exact Cert.InWIdeal.InW.frame (F := Bits) m ρ

end Cert.Proof

end
-- ==== Proof.AdaValue.lean ====
/- The value of `ada_mod`: the array of the modulation the kernel leaves is the product of the activated conditions with the
   weights and the bias, and the other array is the activated conditions. -/
module

public import proofs.«01_k».proof.Proof.Gen.AdaIdeal.Frame
public import proofs.«01_k».proof.Proof.Gen.AdaRefIdeal
public import Idealize.ShloMosaic.Lib.Pipeline.ValueKit
public import Idealize.ShloMosaic.Lib.Claim
public import Idealize.ShloMosaic.Lib.Pointwise

@[expose] public section

set_option maxRecDepth 16384

noncomputable section

namespace Cert.AdaIdeal.Ada

open Idealize.ShloMosaic Idealize.ShloMosaic.TcCoe Idealize.SL.Sem
open Idealize.ShloMosaic.Pipeline (Dat)
open scoped BigOperators
open Cert.AdaIdeal Cert.AdaIdeal.Gen

variable (m : (ℓ : Loc nD τ sig) → Buf (Elt Ideal) ℓ)

/-- The activated conditions: each times its logistic. -/
abbrev act (a : FVec Ideal Cert.AdaRefIdeal.S16x1024 .f32) : FVec Ideal Cert.AdaRefIdeal.S16x1024 .f32 :=
  let one := broadcastInDim Cert.AdaRefIdeal.S16x1024 ![] Cert.AdaRefIdeal.Gen.bcast_S_S16x1024 (constant Cert.AdaRefIdeal.S_ .f32 0x3F800000#32)
  mulf a (Host.divf one (addf one (Host.exp (Host.negf a))))

/-- The modulation. -/
abbrev modulation (a : FVec Ideal Cert.AdaRefIdeal.S16x1024 .f32) (w : FVec Ideal Cert.AdaRefIdeal.S1024x1536 .f32)
    (b : FVec Ideal Cert.AdaRefIdeal.S1x1536 .f32) : FVec Ideal Cert.AdaRefIdeal.S16x1536 .f32 :=
  addf (Host.dotGeneral Cert.AdaRefIdeal.dot_S16x1024_S1024x1536_S16x1536_1_0_0_1_n_n none (act a) w)
    (broadcastInDim Cert.AdaRefIdeal.S16x1536 ![0, 1] Cert.AdaRefIdeal.Gen.bcast_S1x1536_S16x1536_0_1 b)

theorem idx : ∀ t : Fin cfg0.N, win0_0.index t = ![0, 0] ∧ win0_1.index t = ![0, t.val] ∧ win0_2.index t = ![0, t.val]
    ∧ win0_4.index t = ![0, t.val] ∧ win0_5.index t = ![0, 0] := (by decide +kernel : ∀ t : Fin grid0.N, _)

/-- The kernel's activation is the same: it negates by taking the element from zero. -/
theorem act_eq (a : Vec Ideal S16x1024 .f32) : k0_pay1 a = act a := by
  funext y
  pointwise [k0_pay1, act]
  rw [sub_eq_add_neg, zero_add]

/-- The conditions are resident. -/
theorem conditions (c : Dev nD) (t : Fin cfg0.N) : (iblk m c 0 t : Vec Ideal S16x1024 .f32) = m ((c : Thread nD τ).loc main_arg0) := by
  funext y
  blk_point [iblk, V, idx t]

set_option maxHeartbeats 800000 in
theorem point (c : Dev nD) (t : Fin cfg0.N) (y) :
    k0_pay3 (iblk m c 0 t) (iblk m c 1 t) (iblk m c 2 t) y
      = modulation (m ((c : Thread nD τ).loc main_arg0)) (m ((c : Thread nD τ).loc main_arg1)) (m ((c : Thread nD τ).loc main_arg2))
        (((cfg0.win 4).blk t).view.emb y) := by
  unfold k0_pay3 modulation
  rw [act_eq, conditions m c t]
  generalize act (m ((c : Thread nD τ).loc main_arg0)) = a
  pointwise
  blk_point [iblk, V, idx t]

theorem final_mod (c : Dev nD) : (dats m 0 c).arrAt 4 (cfgs 0).N
    = modulation (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out [out0_4]
  exact point m c t y

theorem final_act (c : Dev nD) : (dats m 0 c).arrAt 5 (cfgs 0).N = act (m ((c : Thread nD τ).loc main_arg0)) := by
  refine (dats m 0 c).arrAt_eq_of_covers 5 _ (by decide +kernel) fun t hf y => ?_
  blk_simp
  rw [after0_5]
  frame_out [out0_5]
  unfold k0_pay2
  rw [act_eq, conditions m c t]
  generalize act (m ((c : Thread nD τ).loc main_arg0)) = a
  pointwise
  blk_ext! [idx t]

end Cert.AdaIdeal.Ada

end
-- ==== Proof.ClaimsAda.lean ====
/- The value claims of `ada_mod`: the kernel's run and the reference's end with the same results. -/
module

public import proofs.«01_k».proof.Defs
public import proofs.«01_k».proof.Proof.AdaValue
public import proofs.«01_k».proof.Proof.Gen.AdaIdeal
public import proofs.«01_k».proof.Proof.Gen.AdaIdeal.Frame
public import proofs.«01_k».proof.Proof.Gen.AdaRefIdeal
public import proofs.«01_k».proof.Proof.Gen.AdaRefIdeal.Run
public import Idealize.ShloMosaic.Adequacy
public import Idealize.ShloMosaic.Init

@[expose] public section

noncomputable section

namespace Cert.Proof

open Idealize.ShloMosaic Idealize.SL.Sem

set_option maxHeartbeats 3200000 in
theorem ada_algebraic : Cert.algebraic_AdaIdeal_AdaRefIdeal := by
  pair_intro
  · run_from Cert.AdaIdeal.Gen.run_main m g
  · run_from Cert.AdaRefIdeal.Value.run m' g'
    · exact (Cert.AdaIdeal.Ada.final_mod m c).symm
    · exact (Cert.AdaIdeal.Ada.final_act m c).symm

end Cert.Proof

end
-- ==== Proof.PoolFTile.lean ====
module

public import proofs.«01_k».proof.Proof.Gen.PoolFIdeal.Frame
public import Idealize.ShloMosaic.Lib.Pipeline.ValueKit
public import Idealize.ShloMosaic.Lib.Claim
public import Idealize.ShloMosaic.Lib.Pointwise
public import Idealize.ShloMosaic.Lib.WordArith

@[expose] public section

set_option maxRecDepth 16384

noncomputable section

open Idealize.ShloMosaic Idealize.ShloMosaic.TcCoe Idealize.SL.Sem
open scoped BigOperators

namespace Cert.PoolFIdeal.PoolF
open Cert.PoolFIdeal Cert.PoolFIdeal.Gen

/-- `v` holds at row `a` the sum of `q` over the `n` rows that end with `a`, wherever those rows are in the block. -/
def Ends (v : FVec Ideal S1040x128 .f32) (q : ℕ → Fin 128 → EReal) (n : ℕ) : Prop :=
  ∀ (a : Fin 1040) (b : Fin 128), n ≤ a.val + 1 → v (ix2 a b) = ∑ j ∈ Finset.range n, q (a.val - j) b

theorem Ends.one (q : ℕ → Fin 128 → EReal) (v : FVec Ideal S1040x128 .f32)
    (h : ∀ (k : Fin 1040) (b : Fin 128), v (ix2 k b) = q k.val b) : Ends v q 1 := fun a b _ => by
  rw [h, Finset.sum_range_one, Nat.sub_zero]

theorem Ends.double {v : FVec Ideal S1040x128 .f32} {q : ℕ → Fin 128 → EReal} {n : ℕ} (hv : Ends v q n)
    {w : FVec Ideal S1040x128 .f32}
    (hw : ∀ (a : Fin 1040) (b : Fin 128) (h : n ≤ a.val), w (ix2 a b) = v (ix2 a b) + v (ix2 ⟨a.val - n, by omega⟩ b)) (hn : 0 < n) :
    Ends w q (n + n) := fun a b h => by
  rw [hw a b (by omega), hv a b (by omega), hv _ b (by dsimp only; omega), Finset.sum_range_add]
  simp only [Nat.sub_sub]

/-- One stage of the kernel: the block and the block turned by `k` rows, that is the rows `k` before. -/
def stage (k : BitVec 32) (v : FVec Ideal S1040x128 .f32) : FVec Ideal S1040x128 .f32 :=
  addf v (dynamicRotate 0 k none v rotates_S1040x128_d0)

theorem stage_1 (v : FVec Ideal S1040x128 .f32) (a : Fin 1040) (b : Fin 128) (h : 1 ≤ a.val) :
    stage 1#32 v (ix2 a b) = v (ix2 a b) + v (ix2 ⟨a.val - 1, by omega⟩ b) := by
  have e : (a.val + 1040 - 1) % 1040 = a.val - 1 := by omega
  pointwise [stage]
  simp only [e]

theorem stage_2 (v : FVec Ideal S1040x128 .f32) (a : Fin 1040) (b : Fin 128) (h : 2 ≤ a.val) :
    stage 2#32 v (ix2 a b) = v (ix2 a b) + v (ix2 ⟨a.val - 2, by omega⟩ b) := by
  have e : (a.val + 1040 - 2) % 1040 = a.val - 2 := by omega
  pointwise [stage]
  simp only [e]

theorem stage_4 (v : FVec Ideal S1040x128 .f32) (a : Fin 1040) (b : Fin 128) (h : 4 ≤ a.val) :
    stage 4#32 v (ix2 a b) = v (ix2 a b) + v (ix2 ⟨a.val - 4, by omega⟩ b) := by
  have e : (a.val + 1040 - 4) % 1040 = a.val - 4 := by omega
  pointwise [stage]
  simp only [e]

theorem stage_8 (v : FVec Ideal S1040x128 .f32) (a : Fin 1040) (b : Fin 128) (h : 8 ≤ a.val) :
    stage 8#32 v (ix2 a b) = v (ix2 a b) + v (ix2 ⟨a.val - 8, by omega⟩ b) := by
  have e : (a.val + 1040 - 8) % 1040 = a.val - 8 := by omega
  pointwise [stage]
  simp only [e]

/-- The rows a tile's means are formed from: the 16 before it, or zeros at the start of a sequence, and its own 1024. -/
def extAt (i : grid0.Coords) (x1 : Vec Ideal S16x512 .f32) (x0 : Vec Ideal S1024x512 .f32) (k : ℕ) (n : Fin 512) : EReal :=
  if h : k < 16 then (if (i 1).val = 0 then 0 else x1 (ix2 ⟨k, h⟩ n))
  else if h : k - 16 < 1024 then x0 (ix2 ⟨k - 16, h⟩ n) else 0

theorem ext_apply (i : grid0.Coords) (x1 : Vec Ideal S16x512 .f32) (x0 : Vec Ideal S1024x512 .f32) (k : Fin 1040)
    (n : Fin 512) : k0_pay4 i x1 x0 (ix2 k n) = extAt i x1 x0 k.val n := by
  have hi : (i 1).val < 2 := (i 1).isLt
  have e : Scalar.cmpi .eq (BitVec.ofNat 32 (i 1).val) 0#32 = BitVec.ofBool (decide ((i 1).val = 0)) := by
    generalize (i 1).val = z at hi ⊢
    interval_cases z <;> rfl
  pointwise [k0_pay4]
  rw [e]
  unfold extAt
  have hk := k.isLt
  by_cases h : k.val < 16
  · simp only [h, dite_true]
    by_cases hz : (i 1).val = 0 <;> simp [hz, Scalar.select]
  · have h' : k.val - 16 < 1024 := by omega
    simp only [h, h', dite_false, dite_true]

/-- The channels of group `g`: of the block, and of the tile. -/
def cols (v : FVec Ideal S1040x512 .f32) : Fin 4 → FVec Ideal S1040x128 .f32
  | 0 => extractStridedSlice S1040x128 ![0, 0] v slices_S1040x512_o0_0_S1040x128
  | 1 => extractStridedSlice S1040x128 ![0, 128] v slices_S1040x512_o0_128_S1040x128
  | 2 => extractStridedSlice S1040x128 ![0, 256] v slices_S1040x512_o0_256_S1040x128
  | 3 => extractStridedSlice S1040x128 ![0, 384] v slices_S1040x512_o0_384_S1040x128

theorem cols_apply (v : FVec Ideal S1040x512 .f32) (g : Fin 4) (k : Fin 1040) (b : Fin 128) :
    cols v g (ix2 k b) = v (ix2 k ⟨128 * g.val + b.val, by omega⟩) := by
  fin_cases g <;> pointwise [cols] <;> rfl

def own (v : Vec Ideal S1024x512 .f32) : Fin 4 → FVec Ideal S1024x128 .f32
  | 0 => extractStridedSlice S1024x128 ![0, 0] v slices_S1024x512_o0_0_S1024x128
  | 1 => extractStridedSlice S1024x128 ![0, 128] v slices_S1024x512_o0_128_S1024x128
  | 2 => extractStridedSlice S1024x128 ![0, 256] v slices_S1024x512_o0_256_S1024x128
  | 3 => extractStridedSlice S1024x128 ![0, 384] v slices_S1024x512_o0_384_S1024x128

theorem own_apply (v : Vec Ideal S1024x512 .f32) (g : Fin 4) (k : Fin 1024) (b : Fin 128) :
    own v g (ix2 k b) = v (ix2 k ⟨128 * g.val + b.val, by omega⟩) := by
  fin_cases g <;> pointwise [own] <;> rfl

/-- The sums over the windows of group `g`. -/
def sums (v : FVec Ideal S1040x128 .f32) : Fin 4 → FVec Ideal S1040x128 .f32
  | 0 => stage 1#32 v
  | 1 => stage 2#32 (stage 1#32 v)
  | 2 => stage 4#32 (stage 2#32 (stage 1#32 v))
  | 3 => stage 8#32 (stage 4#32 (stage 2#32 (stage 1#32 v)))

theorem sums_ends (v : FVec Ideal S1040x128 .f32) (q : ℕ → Fin 128 → EReal) (h : Ends v q 1) (g : Fin 4) :
    Ends (sums v g) q (2 ^ (g.val + 1)) := by
  have h2 := h.double (fun a b h => stage_1 _ a b h) (by omega)
  have h4 := h2.double (fun a b h => stage_2 _ a b h) (by omega)
  have h8 := h4.double (fun a b h => stage_4 _ a b h) (by omega)
  have h16 := h8.double (fun a b h => stage_8 _ a b h) (by omega)
  fin_cases g
  · exact h2
  · exact h4
  · exact h8
  · exact h16

/-- The count of rows the window of `w` rows at row `k` of the tile has. -/
theorem word_cnt (z k w : ℕ) (hz : z < 2) (hk : k < 1024) (hw : w < 32) :
    (FloatOps.sitofp (F := Ideal) .f32 (IntOp.minsi (IntOp.addi (IntOp.addi (Scalar.muli (BitVec.ofNat 32 z) 1024#32)
      (BitVec.ofNat 32 k)) 1#32) (BitVec.ofNat 32 w))) = (((min (z * 1024 + k + 1) w : ℕ) : ℝ) : EReal) := by
  have e : (IntOp.addi (IntOp.addi (Scalar.muli (BitVec.ofNat 32 z) 1024#32) (BitVec.ofNat 32 k)) 1#32).toNat
      = z * 1024 + k + 1 := by
    simp only [IntOp.addi, Scalar.muli, IntOp.muli, BitVec.toNat_add, BitVec.toNat_mul, BitVec.toNat_ofNat]
    omega
  have ew : (BitVec.ofNat 32 w).toNat = w := by
    rw [BitVec.toNat_ofNat]; omega
  have h : (IntOp.minsi (IntOp.addi (IntOp.addi (Scalar.muli (BitVec.ofNat 32 z) 1024#32) (BitVec.ofNat 32 k)) 1#32)
      (BitVec.ofNat 32 w)).toInt = ((min (z * 1024 + k + 1) w : ℕ) : ℤ) := by
    rw [BitVec.toInt_eq_toNat_of_lt, WordArith.toNat_minsi_of_lt _ _ (by omega) (by omega), e, ew]
    rw [WordArith.toNat_minsi_of_lt _ _ (by omega) (by omega), e, ew]
    omega
  show (((IntOp.minsi _ _).toInt : ℝ) : EReal) = _
  rw [h]
  push_cast
  rfl

/-- The counts of the rows of the tile, down its rows. -/
def counts (i : grid0.Coords) (w : BitVec 32) : FVec Ideal S1024x1 .f32 :=
  sitofp .f32 (minsi (addi (k0_pay5 i) (broadcast S1024x1 1#32)) (broadcast S1024x1 w))

theorem counts_apply (i : grid0.Coords) (w : ℕ) (hw : w < 32) (k : Fin 1024) (z : Fin 1) :
    counts i (BitVec.ofNat 32 w) (ix2 k z) = (((min ((i 1).val * 1024 + k.val + 1) w : ℕ) : ℝ) : EReal) := by
  have hi : (i 1).val < 2 := (i 1).isLt
  refine Eq.trans ?_ (word_cnt (i 1).val k.val w hi k.isLt hw)
  pointwise [counts, k0_pay5]

/-- The means less the stream: the sums of the rows that are the tile's, over their counts. -/
def pool (s : FVec Ideal S1040x128 .f32) (n : FVec Ideal S1024x1 .f32) (u : FVec Ideal S1024x128 .f32) : FVec Ideal S1024x128 .bf16 :=
  truncf .bf16 (subf (divf (extractStridedSlice S1024x128 ![16, 0] s slices_S1040x128_o16_0_S1024x128)
    (broadcastTo S1024x128 n broadcasts_S1024x1_S1024x128)) u) bitsLt_bf16_f32

theorem pool_apply (s : FVec Ideal S1040x128 .f32) (n : FVec Ideal S1024x1 .f32) (u : FVec Ideal S1024x128 .f32) (r : Fin 1024)
    (b : Fin 128) : pool s n u (ix2 r b) = Ideal.div (s (ix2 ⟨16 + r.val, by omega⟩ b)) (n (ix2 r 0)) - u (ix2 r b) := by
  pointwise [pool]

/-- The product of the means and a weight, scaled. -/
def scaled (p : FVec Ideal S1024x128 .bf16) (w : Vec Ideal S1x128x128 .f32) (s : Vec Ideal S1x128 .f32) : FVec Ideal S1024x128 .bf16 :=
  truncf .bf16 (mulf (matmul dot_S1024x128_S128x128_S1024x128_1_0_0_1_n_n none p
    (truncf .bf16 (shapeCast S128x128 w shapeCasts_S1x128x128_S128x128) bitsLt_bf16_f32) (constant S1024x128 .f32 0x00000000#32))
    (broadcastTo S1024x128 s broadcasts_S1x128_S1024x128)) bitsLt_bf16_f32

theorem scaled_apply (p : FVec Ideal S1024x128 .bf16) (w : Vec Ideal S1x128x128 .f32) (s : Vec Ideal S1x128 .f32) (r : Fin 1024)
    (b : Fin 128) : scaled p w s (ix2 r b) = (∑ d : Fin 128, p (ix2 r d) * w (ix3 0 d b)) * s (ix2 0 b) := by
  pointwise [scaled]

theorem stored (p : FVec Ideal S1024x128 .bf16) (r : Fin 1024) (b : Fin 128) :
    shapeCast S1024x128 p shapeCasts_S1024x128_S1024x128 (ix2 r b) = p (ix2 r b) := by
  pointwise

/-- What the kernel leaves for group `g`. -/
def tile (i : grid0.Coords) (x1 : Vec Ideal S16x512 .f32) (x0 : Vec Ideal S1024x512 .f32) (g : Fin 4) : FVec Ideal S1024x128 .bf16 :=
  pool (sums (cols (k0_pay4 i x1 x0) g) g) (counts i (BitVec.ofNat 32 (2 ^ (g.val + 1)))) (own x0 g)

theorem tile_apply (i : grid0.Coords) (x1 : Vec Ideal S16x512 .f32) (x0 : Vec Ideal S1024x512 .f32) (g : Fin 4) (r : Fin 1024)
    (b : Fin 128) : tile i x1 x0 g (ix2 r b)
      = Ideal.div (∑ j ∈ Finset.range (2 ^ (g.val + 1)), extAt i x1 x0 (16 + r.val - j) ⟨128 * g.val + b.val, by omega⟩)
        (((min ((i 1).val * 1024 + r.val + 1) (2 ^ (g.val + 1)) : ℕ) : ℝ) : EReal)
        - x0 (ix2 r ⟨128 * g.val + b.val, by omega⟩) := by
  have hw : 2 ^ (g.val + 1) ≤ 16 := Nat.pow_le_pow_right (n := 2) (by omega) (show g.val + 1 ≤ 4 by omega)
  have h1 : Ends (cols (k0_pay4 i x1 x0) g) (fun k b => extAt i x1 x0 k ⟨128 * g.val + b.val, by omega⟩) 1 :=
    Ends.one _ _ fun k b => by rw [cols_apply, ext_apply]
  unfold tile
  rw [pool_apply, sums_ends _ _ h1 g _ b (by dsimp only; omega), counts_apply _ _ (by omega), own_apply]

end Cert.PoolFIdeal.PoolF
end
-- ==== Proof.PoolFRows.lean ====
module

public import proofs.«01_k».proof.Proof.Gen.PoolFIdeal.Frame
public import Idealize.ShloMosaic.Lib.Pipeline.ValueKit
public import Idealize.ShloMosaic.Lib.Claim
public import Idealize.ShloMosaic.Lib.Pointwise
public import proofs.«01_k».proof.Proof.PoolFTile

@[expose] public section

set_option maxRecDepth 16384

noncomputable section

open Idealize.ShloMosaic Idealize.ShloMosaic.TcCoe Idealize.SL.Sem
open Idealize.ShloMosaic.Pipeline (Dat)
open scoped BigOperators

namespace Cert.PoolFIdeal.PoolF
open Cert.PoolFIdeal Cert.PoolFIdeal.Gen
variable (m : (ℓ : Loc nD τ sig) → Buf (Elt Ideal) ℓ)

/-- Row `r` of the pooled columns of the stream, zero past its end. -/
def row (U : FVec Ideal S4096x3200 .f32) (r : ℕ) (n : Fin 512) : EReal :=
  if h : r < 4096 then U (ix2 ⟨r, h⟩ ⟨n.val, by omega⟩) else 0

/-- The mean over the window of `w` rows that ends with row `r`, within its sequence, less the row itself. -/
def meanRow (U : FVec Ideal S4096x3200 .f32) (w r : ℕ) (n : Fin 512) : EReal :=
  Ideal.div (∑ j ∈ Finset.range w, if j ≤ r % 2048 then row U (r - j) n else 0) (((min (r % 2048 + 1) w : ℕ) : ℝ) : EReal)
    - row U r n

def meanAt (U : FVec Ideal S4096x3200 .f32) : FVec Ideal S4096x512 .bf16 := fun y =>
  meanRow U (2 ^ ((y 1).val / 128 + 1)) (y 0).val ⟨(y 1).val, (y 1).isLt⟩

theorem meanAt_apply (U : FVec Ideal S4096x3200 .f32) (y : S4096x512.Idx) (r : ℕ) (g : Fin 4) (b : Fin 128)
    (h0 : (y 0).val = r) (h1 : (y 1).val = 128 * g.val + b.val) :
    meanAt U y = meanRow U (2 ^ (g.val + 1)) r ⟨128 * g.val + b.val, by omega⟩ := by
  unfold meanAt
  have e : (y 1).val / 128 = g.val := by omega
  have e1 : (⟨(y 1).val, (y 1).isLt⟩ : Fin 512) = ⟨128 * g.val + b.val, by omega⟩ := Fin.ext h1
  rw [e1, e, h0]

/-- The product of the means and the weight of group `g`, scaled. -/
def outRow (U : FVec Ideal S4096x3200 .f32) (W : FVec Ideal S4x128x128 .f32) (PS : FVec Ideal S1x512 .f32) (r : ℕ) (g : Fin 4)
    (b : Fin 128) : EReal :=
  (∑ d : Fin 128, meanRow U (2 ^ (g.val + 1)) r ⟨128 * g.val + d.val, by omega⟩ * W (ix3 g d b))
    * PS (ix2 0 ⟨128 * g.val + b.val, by omega⟩)

def outAt (U : FVec Ideal S4096x3200 .f32) (W : FVec Ideal S4x128x128 .f32) (PS : FVec Ideal S1x512 .f32) :
    FVec Ideal S4096x512 .bf16 := fun y =>
  outRow U W PS (y 0).val ⟨(y 1).val / 128 % 4, by omega⟩ ⟨(y 1).val % 128, by omega⟩

theorem outAt_apply (U : FVec Ideal S4096x3200 .f32) (W : FVec Ideal S4x128x128 .f32) (PS : FVec Ideal S1x512 .f32)
    (y : S4096x512.Idx) (r : ℕ) (g : Fin 4) (b : Fin 128) (h0 : (y 0).val = r) (h1 : (y 1).val = 128 * g.val + b.val) :
    outAt U W PS y = outRow U W PS r g b := by
  unfold outAt
  have e1 : (⟨(y 1).val / 128 % 4, by omega⟩ : Fin 4) = g := Fin.ext (by dsimp only; omega)
  have e2 : (⟨(y 1).val % 128, by omega⟩ : Fin 128) = b := Fin.ext (by dsimp only; omega)
  rw [e1, e2, h0]

theorem idx : ∀ t : Fin cfg0.N, win0_0.index t = ![t.val, 0]
    ∧ win0_1.index t = ![t.val * 64 - 1, 0]
    ∧ win0_2.index t = ![0, 0, 0]
    ∧ win0_3.index t = ![0, 0]
    ∧ win0_4.index t = ![0, 0]
    ∧ win0_5.index t = ![t.val, 0]
    ∧ win0_6.index t = ![t.val, 0] ∧ (grid0.coords t 1).val = t.val % 2 :=
  (by decide +kernel : ∀ t : Fin grid0.N, _)

theorem u_own (c : Dev nD) (t : Fin cfg0.N) (h : t.val < 4) (k : Fin 1024) (n : Fin 512) : X0_0 m c t (ix2 k n)
    = m ((c : Thread nD τ).loc main_arg0) (ix2 ⟨t.val * 1024 + k.val, by omega⟩ ⟨n.val, by omega⟩) := by
  unfold X0_0 Pipeline.Window.fill
  rw [dif_pos (moved0_0 t _)]
  blk_ext [iblk, V, idx t]

theorem u_halo (c : Dev nD) (t : Fin cfg0.N) (h : t.val < 4) (ht : 0 < t.val) (k : Fin 16) (n : Fin 512) :
    X0_1 m c t (ix2 k n)
    = m ((c : Thread nD τ).loc main_arg0) (ix2 ⟨t.val * 1024 + k.val - 16, by omega⟩ ⟨n.val, by omega⟩) := by
  unfold X0_1 Pipeline.Window.fill
  rw [dif_pos (moved0_1 t _)]
  blk_ext [iblk, V, idx t]

/-- The tile's rows are the stream's, and zeros before the start of a sequence. -/
theorem ext_rows (c : Dev nD) (t : Fin cfg0.N) (h : t.val < 4) (k : ℕ) (hk : k < 1040) (n : Fin 512) :
    extAt (grid0.coords t) (X0_1 m c t) (X0_0 m c t) k n
      = if 16 ≤ t.val % 2 * 1024 + k then row (m ((c : Thread nD τ).loc main_arg0)) (t.val * 1024 + k - 16) n else 0 := by
  unfold extAt row
  rw [(idx t).2.2.2.2.2.2.2]
  by_cases h1 : k < 16
  · rw [dif_pos h1]
    by_cases h2 : t.val % 2 = 0
    · rw [if_pos h2, if_neg (by omega)]
    · rw [if_neg h2, if_pos (by omega), dif_pos (by omega), u_halo m c t h (by omega)]
  · rw [dif_neg h1, dif_pos (by omega), if_pos (by omega), dif_pos (by omega), u_own m c t h]
    congr 2
    exact Fin.ext (by dsimp only; omega)

theorem tile_rows (c : Dev nD) (t : Fin cfg0.N) (g : Fin 4) (r : Fin 1024) (b : Fin 128) :
    tile (grid0.coords t) (X0_1 m c t) (X0_0 m c t) g (ix2 r b)
      = meanRow (m ((c : Thread nD τ).loc main_arg0)) (2 ^ (g.val + 1)) (t.val * 1024 + r.val) ⟨128 * g.val + b.val, by omega⟩ := by
  have h : t.val < 4 := lt_of_lt_of_eq t.isLt (show cfg0.N = 4 from N_0)
  have hw : 2 ^ (g.val + 1) ≤ 16 := Nat.pow_le_pow_right (n := 2) (by omega) (show g.val + 1 ≤ 4 by omega)
  have hm : (t.val * 1024 + r.val) % 2048 = t.val % 2 * 1024 + r.val := by omega
  rw [tile_apply, u_own m c t h, (idx t).2.2.2.2.2.2.2, meanRow, hm]
  have hr : row (m ((c : Thread nD τ).loc main_arg0)) (t.val * 1024 + r.val) ⟨128 * g.val + b.val, by omega⟩
      = m ((c : Thread nD τ).loc main_arg0) (ix2 ⟨t.val * 1024 + r.val, by omega⟩ ⟨128 * g.val + b.val, by omega⟩) := by
    rw [row, dif_pos (by omega)]
  rw [hr]
  congr 2
  refine Finset.sum_congr rfl fun j hj => ?_
  have hj' := Finset.mem_range.mp hj
  rw [ext_rows m c t h _ (by omega)]
  have e : t.val * 1024 + (16 + r.val - j) - 16 = t.val * 1024 + r.val - j := by omega
  rw [e]
  exact if_congr (by omega) rfl rfl

theorem weight (c : Dev nD) (t : Fin cfg0.N) (g : Fin 4) (b d : Fin 128) :
    iblk m c 2 t (ix3 g b d) = m ((c : Thread nD τ).loc main_arg1) (ix3 g b d) := by
  blk_ext [iblk, V, idx t]

theorem scale (c : Dev nD) (t : Fin cfg0.N) (n : Fin 512) :
    iblk m c 3 t (ix2 0 n) = m ((c : Thread nD τ).loc main_arg2) (ix2 0 n) := by
  blk_ext [iblk, V, idx t]

/-- The means, of this program's arguments. -/
@[irreducible] def mean (c : Dev nD) : FVec Ideal S4096x512 .bf16 := meanAt (m ((c : Thread nD τ).loc main_arg0))

/-- The scaled products, of this program's arguments. -/
@[irreducible] def out (c : Dev nD) : FVec Ideal S4096x512 .bf16 :=
  outAt (m ((c : Thread nD τ).loc main_arg0)) (m ((c : Thread nD τ).loc main_arg1)) (m ((c : Thread nD τ).loc main_arg2))

theorem mean_piece (c : Dev nD) (t : Fin cfg0.N) (g : Fin 4) (p : FVec Ideal S1024x128 .bf16)
    (hp : p = tile (grid0.coords t) (X0_1 m c t) (X0_0 m c t) g) (x0 : Fin 1024) (x1 : Fin 128) (z : S4096x512.Idx)
    (h0 : (z 0).val = t.val * 1024 + x0.val) (h1 : (z 1).val = 128 * g.val + x1.val) :
    shapeCast S1024x128 p shapeCasts_S1024x128_S1024x128 (ix2 x0 x1) = mean m c z := by
  rw [stored, hp, tile_rows, mean, meanAt_apply _ _ _ g x1 h0 h1]

theorem out_piece (c : Dev nD) (t : Fin cfg0.N) (g : Fin 4) (p : FVec Ideal S1024x128 .bf16)
    (hp : p = tile (grid0.coords t) (X0_1 m c t) (X0_0 m c t) g) (wg : Vec Ideal S1x128x128 .f32) (ps : Vec Ideal S1x128 .f32)
    (x0 : Fin 1024) (x1 : Fin 128) (z : S4096x512.Idx)
    (hW : ∀ b d : Fin 128, wg (ix3 0 b d) = (m ((c : Thread nD τ).loc main_arg1) : FVec Ideal S4x128x128 .f32) (ix3 g b d))
    (hP : ∀ d : Fin 128, ps (ix2 0 d) = (m ((c : Thread nD τ).loc main_arg2) : FVec Ideal S1x512 .f32)
      (ix2 0 ⟨128 * g.val + d.val, by omega⟩))
    (h0 : (z 0).val = t.val * 1024 + x0.val) (h1 : (z 1).val = 128 * g.val + x1.val) :
    shapeCast S1024x128 (scaled p wg ps) shapeCasts_S1024x128_S1024x128 (ix2 x0 x1) = out m c z := by
  rw [stored, scaled_apply, hp, out, outAt_apply _ _ _ _ _ g x1 h0 h1, outRow]
  simp only [tile_rows, hW, hP]

set_option maxHeartbeats 1600000 in
theorem point_mean (c : Dev nD) (t : Fin cfg0.N) (y) :
    (out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (X0_0 m c t) (X0_1 m c t) (iblk m c 2 t) (iblk m c 3 t)
      (iblk m c 4 t)) y = mean m c ((win0_6.blk t).view.emb y) := by
  frame_out
  canon_tiles x h
  · idx_vars x
    exact mean_piece m c t 3 _ rfl x0 x1 _ (by blk_simp [idx t]; omega) (by blk_simp [idx t]; omega)
  · idx_vars x
    exact mean_piece m c t 2 _ rfl x0 x1 _ (by blk_simp [idx t]; omega) (by blk_simp [idx t]; omega)
  · idx_vars x
    exact mean_piece m c t 1 _ rfl x0 x1 _ (by blk_simp [idx t]; omega) (by blk_simp [idx t]; omega)
  · idx_vars x
    exact mean_piece m c t 0 _ rfl x0 x1 _ (by blk_simp [idx t]; omega) (by blk_simp [idx t]; omega)

set_option maxHeartbeats 1600000 in
theorem point_out (c : Dev nD) (t : Fin cfg0.N) (y) :
    (out0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (X0_0 m c t) (X0_1 m c t) (iblk m c 2 t) (iblk m c 3 t)
      (iblk m c 4 t)) y = out m c ((win0_5.blk t).view.emb y) := by
  frame_out
  canon_tiles x h
  · idx_vars x
    exact out_piece m c t 3 _ rfl _ _ x0 x1 _ (fun b d => by pointwise; exact weight m c t _ b d)
      (fun d => by pointwise; exact scale m c t _) (by blk_simp [idx t]; omega) (by blk_simp [idx t]; omega)
  · idx_vars x
    exact out_piece m c t 2 _ rfl _ _ x0 x1 _ (fun b d => by pointwise; exact weight m c t _ b d)
      (fun d => by pointwise; exact scale m c t _) (by blk_simp [idx t]; omega) (by blk_simp [idx t]; omega)
  · idx_vars x
    exact out_piece m c t 1 _ rfl _ _ x0 x1 _ (fun b d => by pointwise; exact weight m c t _ b d)
      (fun d => by pointwise; exact scale m c t _) (by blk_simp [idx t]; omega) (by blk_simp [idx t]; omega)
  · idx_vars x
    exact out_piece m c t 0 _ rfl _ _ x0 x1 _ (fun b d => by pointwise; exact weight m c t _ b d)
      (fun d => by pointwise; exact scale m c t _) (by blk_simp [idx t]; omega) (by blk_simp [idx t]; omega)

end Cert.PoolFIdeal.PoolF
end
-- ==== Proof.PoolFRunning.lean ====
module

public import proofs.«01_k».proof.Proof.Gen.PoolFRefIdeal
public import Idealize.ShloMosaic.Lib.Pipeline.ValueKit
public import Idealize.ShloMosaic.Lib.Claim
public import Idealize.ShloMosaic.Lib.Pointwise
public import proofs.«01_k».proof.Proof.Reals
public import proofs.«01_k».proof.Proof.PoolGrad

@[expose] public section

set_option maxRecDepth 16384

noncomputable section

open Idealize.ShloMosaic Idealize.ShloMosaic.TcCoe Idealize.SL.Sem
open scoped BigOperators

namespace Cert.PoolFRefIdeal.PoolF
open Cert.PoolFRefIdeal Cert.PoolFRefIdeal.Gen
open Cert.Reals
open Cert.PoolRefIdeal.Pool (fold_add min_cast word_2 word_4 word_8 word_16 place)

/-- The pooled columns of the stream, by example. -/
def rows (U : FVec Ideal S4096x3200 .f32) : FVec Ideal S2x2048x512 .f32 :=
  shapeCast S2x2048x512 (extractStridedSlice S4096x512 ![0, 0] U slices_S4096x3200_S4096x512_0_0) shapeCasts_S4096x512_S2x2048x512

theorem rows_apply (U : FVec Ideal S4096x3200 .f32) (b : Fin 2) (t : Fin 2048) (n : Fin 512) :
    rows U (ix3 b t n) = U (ix2 ⟨b.val * 2048 + t.val, by omega⟩ ⟨n.val, by omega⟩) := by
  pointwise [rows]

/-- The running sums over the positions. -/
def running (x : FVec Ideal S2x2048x512 .f32) : FVec Ideal S2x2048x512 .f32 :=
  Host.reduceWindowAdd ![1, 2048, 1] ![1, 1, 1] ![0, 2047, 0] ![0, 0, 0] x (broadcastInDim S_ ![] bcast_S_S_ (constant S_ .f32 0x00000000#32))
    reduceWindows_S2x2048x512_S2x2048x512_w1s1p0_0_w2048s1p2047_0_w1s1p0_0 h_S_

/-- The sum over every earlier row of the sequence, and the row. -/
theorem running_apply (x : FVec Ideal S2x2048x512 .f32) (b : Fin 2) (t : Fin 2048) (n : Fin 512) :
    running x (ix3 b t n)
      = ∑ j : Fin 2048, if h : 2047 ≤ t.val + j.val then x (ix3 b ⟨t.val + j.val - 2047, by omega⟩ n) else 0 := by
  unfold running Host.reduceWindowAdd
  rw [Ideal.hostReduceWindowAdd_def]
  unfold Ideal.hostReduceWindowAdd Host.reduceWindow
  dsimp only
  refine (fold_add _ _).trans ?_
  have hz : (broadcastInDim S_ ![] bcast_S_S_ (constant S_ FTy.f32 0#32) (Shape.Idx.first h_S_) : Ideal .f32) = (0 : EReal) := by
    pointwise
  rw [hz]
  refine (zero_add _).trans ((Equiv.sum_comp (Shape.rowMajor ⟨3, ![1, 2048, 1]⟩).symm (fun i : (⟨3, ![1, 2048, 1]⟩ : Shape).Idx =>
    if h : 2047 ≤ t.val + (i 1).val then x (ix3 b ⟨t.val + (i 1).val - 2047, by
      have h1 : (i 1).val < 2048 := (i 1).isLt
      omega⟩ n) else 0)).symm.trans ?_).symm |>.trans ?_
  · refine Finset.sum_congr rfl fun k _ => ?_
    have i0 : (place k 0).val = 0 := Nat.lt_one_iff.mp (place k 0).isLt
    have i1 : (place k 1).val < 2048 := (place k 1).isLt
    have i2 : (place k 2).val = 0 := Nat.lt_one_iff.mp (place k 2).isLt
    by_cases hj : 2047 ≤ t.val + (place k 1).val
    · rw [dif_pos hj, dif_pos (fun a => by
        match a with
        | ⟨0, _⟩ => exact ⟨Nat.zero_le _, by show b.val * 1 + (place k 0).val - 0 < 2; omega⟩
        | ⟨1, _⟩ => exact ⟨by show 2047 ≤ t.val * 1 + (place k 1).val; omega, by show t.val * 1 + (place k 1).val - 2047 < 2048; omega⟩
        | ⟨2, _⟩ => exact ⟨Nat.zero_le _, by show n.val * 1 + (place k 2).val - 0 < 512; omega⟩)]
      refine congrArg x (funext fun a => Fin.ext ?_)
      match a with
      | ⟨0, _⟩ => show b.val = b.val * 1 + (place k 0).val - 0; omega
      | ⟨1, _⟩ => show t.val + (place k 1).val - 2047 = t.val * 1 + (place k 1).val - 2047; omega
      | ⟨2, _⟩ => show n.val = n.val * 1 + (place k 2).val - 0; omega
    · rw [dif_neg hj, dif_neg fun h => hj (by
        have := (h 1).1
        change 2047 ≤ t.val * 1 + (place k 1).val at this
        omega)]
  · refine (Fintype.sum_bijective (fun j : Fin 2048 => (ix3 (0 : Fin 1) j (0 : Fin 1) : (⟨3, ![1, 2048, 1]⟩ : Shape).Idx))
      ⟨fun p q e => congrFun e 1, fun i => ⟨i 1, ?_⟩⟩ _ _ (fun _ => rfl)).symm
    funext a
    apply Fin.ext
    match a with
    | ⟨0, _⟩ => exact (Nat.lt_one_iff.mp (i 0).isLt).symm
    | ⟨1, _⟩ => rfl
    | ⟨2, _⟩ => exact (Nat.lt_one_iff.mp (i 2).isLt).symm

theorem shift (q : ℕ → ℝ) (t : ℕ) (h : t < 2048) :
    ∑ j ∈ Finset.range 2048, (if 2047 ≤ t + j then q (t + j - 2047) else 0) = ∑ s ∈ Finset.range (t + 1), q s := by
  have e : (2048 : ℕ) = (2047 - t) + (t + 1) := by omega
  rw [e, Finset.sum_range_add, Finset.sum_eq_zero (fun j hj => if_neg (by have := Finset.mem_range.mp hj; omega)), zero_add]
  refine Finset.sum_congr rfl fun s hs => ?_
  rw [if_pos (by omega)]
  congr 1
  omega

/-- Of real rows, the running sum is the real one. -/
theorem running_real (x : FVec Ideal S2x2048x512 .f32) (b : Fin 2) (n : Fin 512) (q : ℕ → ℝ)
    (hq : ∀ s : Fin 2048, x (ix3 b s n) = ((q s.val : ℝ) : EReal)) (t : Fin 2048) :
    running x (ix3 b t n) = ((∑ s ∈ Finset.range (t.val + 1), q s : ℝ) : EReal) := by
  rw [running_apply, sum_coe _ _ (fun j : Fin 2048 => if 2047 ≤ t.val + j.val then q (t.val + j.val - 2047) else 0) (fun j => ?_)]
  · congr 1
    refine (Fin.sum_univ_eq_sum_range (fun j => if 2047 ≤ t.val + j then q (t.val + j - 2047) else 0) 2048).trans ?_
    exact shift q t.val t.isLt
  · by_cases h : 2047 ≤ t.val + j.val
    · rw [dif_pos h, if_pos h, hq]
    · rw [dif_neg h, if_neg h]; rfl

/-- A running sum less the one `w` rows before: the sum over the `w` rows that end here. -/
theorem telescope (q : ℕ → ℝ) (t w : ℕ) :
    (∑ s ∈ Finset.range (t + 1), q s) - (if w ≤ t then ∑ s ∈ Finset.range (t - w + 1), q s else 0)
      = ∑ j ∈ Finset.range w, if j ≤ t then q (t - j) else 0 := by
  let f : ℕ → ℝ := fun j => if j ≤ t then q (t - j) else 0
  have hf (n k : ℕ) (h : n + k = t + 1) : ∑ s ∈ Finset.range n, q s = ∑ j ∈ Finset.range n, f (k + j) := by
    rw [← Finset.sum_range_reflect]
    refine Finset.sum_congr rfl fun j hj => ?_
    have hj' := Finset.mem_range.mp hj
    simp only [f]
    rw [if_pos (by omega)]
    congr 1
    omega
  show _ = ∑ j ∈ Finset.range w, f j
  have h0 := hf (t + 1) 0 (by omega)
  simp only [Nat.zero_add] at h0
  rw [h0]
  by_cases h : w ≤ t
  · have e : t + 1 = w + (t - w + 1) := by omega
    rw [if_pos h, hf (t - w + 1) w (by omega), e, Finset.sum_range_add]
    ring
  · have e : w = (t + 1) + (w - (t + 1)) := by omega
    have h3 := Finset.sum_range_add f (t + 1) (w - (t + 1))
    rw [← e] at h3
    rw [if_neg h, h3, Finset.sum_eq_zero (s := Finset.range (w - (t + 1))) (fun j _ => if_neg (by omega))]
    ring

/-- How many rows the window of `w` rows at each row holds. -/
def cnts (k : BitVec 32) : FVec Ideal S2x2048x128 .f32 :=
  broadcastInDim S2x2048x128 ![0, 1, 2] bcast_S1x2048x1_S2x2048x128_0_1_2 (minimumf (broadcastInDim S1x2048x1 ![1] bcast_S2048_S1x2048x1_1
    (addf (broadcastInDim S2048 ![] bcast_S_S2048 (constant S_ .f32 0x3F800000#32)) (sitofp .f32 (iotaInDim S2048 32 0))))
    (broadcastInDim S1x2048x1 ![] bcast_S_S1x2048x1 (constant S_ .f32 k)))

theorem cnts_apply (k : BitVec 32) (w : ℕ) (hk : Ideal.ofBits FTy.f32 k = ((w : ℝ) : EReal)) (b : Fin 2) (s : Fin 2048) (a : Fin 128) :
    cnts k (ix3 b s a) = (((min (s.val + 1) w : ℕ) : ℝ) : EReal) := by
  have hs : (1 : EReal) + FloatOps.sitofp (F := Ideal) .f32 (BitVec.ofNat 32 s.val) = (((s.val + 1 : ℕ) : ℝ) : EReal) := by
    show (1 : EReal) + ((((BitVec.ofNat 32 s.val).toInt : ℤ) : ℝ) : EReal) = _
    rw [BitVec.toInt_eq_toNat_of_lt (by rw [BitVec.toNat_ofNat]; omega), BitVec.toNat_ofNat, Nat.mod_eq_of_lt (by omega)]
    push_cast
    rw [add_comm]
  pointwise [cnts]
  rw [hk, hs, min_cast]

/-- The channels of group `g`. -/
def part (x : FVec Ideal S2x2048x512 .f32) : Fin 4 → FVec Ideal S2x2048x128 .f32
  | 0 => extractStridedSlice S2x2048x128 ![0, 0, 0] x slices_S2x2048x512_S2x2048x128_0_0_0
  | 1 => extractStridedSlice S2x2048x128 ![0, 0, 128] x slices_S2x2048x512_S2x2048x128_0_0_128
  | 2 => extractStridedSlice S2x2048x128 ![0, 0, 256] x slices_S2x2048x512_S2x2048x128_0_0_256
  | 3 => extractStridedSlice S2x2048x128 ![0, 0, 384] x slices_S2x2048x512_S2x2048x128_0_0_384

theorem part_apply (x : FVec Ideal S2x2048x512 .f32) (g : Fin 4) (b : Fin 2) (s : Fin 2048) (a : Fin 128) :
    part x g (ix3 b s a) = x (ix3 b s ⟨128 * g.val + a.val, by omega⟩) := by
  fin_cases g <;> pointwise [part] <;> rfl

/-- The rows the width of the group's window earlier, zeros before the start. -/
def prev (x : FVec Ideal S2x2048x128 .f32) : Fin 4 → FVec Ideal S2x2048x128 .f32
  | 0 => concatenate S2x2048x128 1 [⟨S2x2x128, (broadcastInDim S2x2x128 ![] bcast_S_S2x2x128 (constant S_ .f32 0x00000000#32))⟩,
      ⟨S2x2046x128, (extractStridedSlice S2x2046x128 ![0, 0, 0] x slices_S2x2048x128_S2x2046x128_0_0_0)⟩]
      concatenates_S2x2x128_S2x2046x128_S2x2048x128_d1
  | 1 => concatenate S2x2048x128 1 [⟨S2x4x128, (broadcastInDim S2x4x128 ![] bcast_S_S2x4x128 (constant S_ .f32 0x00000000#32))⟩,
      ⟨S2x2044x128, (extractStridedSlice S2x2044x128 ![0, 0, 0] x slices_S2x2048x128_S2x2044x128_0_0_0)⟩]
      concatenates_S2x4x128_S2x2044x128_S2x2048x128_d1
  | 2 => concatenate S2x2048x128 1 [⟨S2x8x128, (broadcastInDim S2x8x128 ![] bcast_S_S2x8x128 (constant S_ .f32 0x00000000#32))⟩,
      ⟨S2x2040x128, (extractStridedSlice S2x2040x128 ![0, 0, 0] x slices_S2x2048x128_S2x2040x128_0_0_0)⟩]
      concatenates_S2x8x128_S2x2040x128_S2x2048x128_d1
  | 3 => concatenate S2x2048x128 1 [⟨S2x16x128, (broadcastInDim S2x16x128 ![] bcast_S_S2x16x128 (constant S_ .f32 0x00000000#32))⟩,
      ⟨S2x2032x128, (extractStridedSlice S2x2032x128 ![0, 0, 0] x slices_S2x2048x128_S2x2032x128_0_0_0)⟩]
      concatenates_S2x16x128_S2x2032x128_S2x2048x128_d1

theorem prev_apply (x : FVec Ideal S2x2048x128 .f32) (g : Fin 4) (b : Fin 2) (s : Fin 2048) (a : Fin 128) :
    prev x g (ix3 b s a) = if h : 2 ^ (g.val + 1) ≤ s.val then x (ix3 b ⟨s.val - 2 ^ (g.val + 1), lt_of_le_of_lt (Nat.sub_le _ _) s.isLt⟩ a) else 0 := by
  fin_cases g <;> pointwise [prev] <;> split <;> rename_i h
  all_goals first
    | rw [dif_neg (by omega)]
    | rw [dif_pos (by omega)]; exact congrArg (fun z => x (ix3 b z a)) (Fin.ext (by dsimp only; omega))

/-- The means of group `g` less its stream. -/
def mean (S U : FVec Ideal S2x2048x512 .f32) : Fin 4 → FVec Ideal S2x2048x128 .f32
  | 0 => subf (Host.divf (subf (part S 0) (prev (part S 0) 0)) (cnts 0x40000000#32)) (part U 0)
  | 1 => subf (Host.divf (subf (part S 1) (prev (part S 1) 1)) (cnts 0x40800000#32)) (part U 1)
  | 2 => subf (Host.divf (subf (part S 2) (prev (part S 2) 2)) (cnts 0x41000000#32)) (part U 2)
  | 3 => subf (Host.divf (subf (part S 3) (prev (part S 3) 3)) (cnts 0x41800000#32)) (part U 3)

theorem mean_apply (S U : FVec Ideal S2x2048x512 .f32) (g : Fin 4) (b : Fin 2) (s : Fin 2048) (a : Fin 128) :
    mean S U g (ix3 b s a) = Ideal.div (part S g (ix3 b s a) - prev (part S g) g (ix3 b s a))
      (((min (s.val + 1) (2 ^ (g.val + 1)) : ℕ) : ℝ) : EReal) - part U g (ix3 b s a) := by
  fin_cases g
  · exact congrArg (fun z => Ideal.div _ z - _) (cnts_apply _ 2 word_2 b s a)
  · exact congrArg (fun z => Ideal.div _ z - _) (cnts_apply _ 4 word_4 b s a)
  · exact congrArg (fun z => Ideal.div _ z - _) (cnts_apply _ 8 word_8 b s a)
  · exact congrArg (fun z => Ideal.div _ z - _) (cnts_apply _ 16 word_16 b s a)

/-- The means of the four groups. -/
def means (S U : FVec Ideal S2x2048x512 .f32) : FVec Ideal S2x2048x4x128 .f32 :=
  concatenate S2x2048x4x128 2 [
    ⟨S2x2048x1x128, broadcastInDim S2x2048x1x128 ![0, 1, 3] bcast_S2x2048x128_S2x2048x1x128_0_1_3 (mean S U 0)⟩,
    ⟨S2x2048x1x128, broadcastInDim S2x2048x1x128 ![0, 1, 3] bcast_S2x2048x128_S2x2048x1x128_0_1_3 (mean S U 1)⟩,
    ⟨S2x2048x1x128, broadcastInDim S2x2048x1x128 ![0, 1, 3] bcast_S2x2048x128_S2x2048x1x128_0_1_3 (mean S U 2)⟩,
    ⟨S2x2048x1x128, broadcastInDim S2x2048x1x128 ![0, 1, 3] bcast_S2x2048x128_S2x2048x1x128_0_1_3 (mean S U 3)⟩]
    concatenates_S2x2048x1x128_S2x2048x1x128_S2x2048x1x128_S2x2048x1x128_S2x2048x4x128_d2

theorem means_apply (S U : FVec Ideal S2x2048x512 .f32) (g : Fin 4) (b : Fin 2) (s : Fin 2048) (a : Fin 128) :
    means S U (ix4 b s g a) = mean S U g (ix3 b s a) := by
  unfold means
  generalize mean S U = M
  fin_cases g <;> pointwise

end Cert.PoolFRefIdeal.PoolF
end
-- ==== Proof.PoolFValue.lean ====
module

public import proofs.«01_k».proof.Defs
public import proofs.«01_k».proof.Proof.Gen.PoolFIdeal.Frame
public import proofs.«01_k».proof.Proof.Gen.PoolFRefIdeal
public import proofs.«01_k».proof.Proof.Gen.PoolFRefIdeal.Run
public import proofs.«01_k».proof.Proof.Gen.Pre_finite_stream
public import Idealize.ShloMosaic.Lib.Pipeline.ValueKit
public import Idealize.ShloMosaic.Lib.Claim
public import Idealize.ShloMosaic.Lib.Pointwise
public import proofs.«01_k».proof.Proof.Reals
public import proofs.«01_k».proof.Proof.PoolFRows
public import proofs.«01_k».proof.Proof.PoolFRunning

@[expose] public section

set_option maxRecDepth 16384

noncomputable section

open Idealize.ShloMosaic Idealize.ShloMosaic.TcCoe Idealize.SL.Sem
open Idealize.ShloMosaic.Pipeline (Dat)
open scoped BigOperators

namespace Cert.PoolFRefIdeal.PoolF
open Cert.PoolFRefIdeal Cert.PoolFRefIdeal.Gen
open Cert.Reals
open Cert.PoolFIdeal.PoolF (row meanRow meanAt meanAt_apply outRow outAt outAt_apply)

/-- Of a real stream, the means of the running sums are the means over the windows. -/
theorem means_rows (U : FVec Ideal S4096x3200 .f32) (hU : ∀ (r : ℕ) (n : Fin 512), ∃ q : ℝ, row U r n = (q : EReal))
    (b : Fin 2) (t : Fin 2048) (g : Fin 4) (a : Fin 128) :
    means (running (rows U)) (rows U) (ix4 b t g a)
      = meanRow U (2 ^ (g.val + 1)) (b.val * 2048 + t.val) ⟨128 * g.val + a.val, by omega⟩ := by
  choose q hq using hU
  generalize hn : (⟨128 * g.val + a.val, by omega⟩ : Fin 512) = n
  have hrow (s : Fin 2048) : rows U (ix3 b s n) = row U (b.val * 2048 + s.val) n := by
    rw [rows_apply, row, dif_pos (by omega)]
  have hrun := running_real (rows U) b n (fun s => q (b.val * 2048 + s) n) (fun s => by rw [hrow, hq])
  have hm : (b.val * 2048 + t.val) % 2048 = t.val := by omega
  rw [means_apply, mean_apply, prev_apply]
  simp only [part_apply]
  rw [hn, hrow, meanRow, hm, hrun]
  congr 2
  have key := congrArg (fun r : ℝ => (r : EReal)) (telescope (fun s => q (b.val * 2048 + s) n) t.val (2 ^ (g.val + 1)))
  rw [sum_coe _ _ (fun j => if j ≤ t.val then q (b.val * 2048 + (t.val - j)) n else 0) (fun j => ?_), ← key, EReal.coe_sub]
  · congr 1
    by_cases h : 2 ^ (g.val + 1) ≤ t.val
    · rw [dif_pos h, if_pos h, hrun]
    · rw [dif_neg h, if_neg h]; rfl
  · by_cases h : j ≤ t.val
    · rw [if_pos h, if_pos h, hq, Nat.add_sub_assoc h]
    · rw [if_neg h, if_neg h]; rfl

/-- The rows of an array of means, as the reference returns them. -/
theorem mean_rows (U : FVec Ideal S4096x3200 .f32) (M : FVec Ideal S2x2048x4x128 .f32)
    (hM : ∀ (b : Fin 2) (t : Fin 2048) (g : Fin 4) (a : Fin 128), M (ix4 b t g a)
      = meanRow U (2 ^ (g.val + 1)) (b.val * 2048 + t.val) ⟨128 * g.val + a.val, by omega⟩) :
    truncf .bf16 (shapeCast S4096x512 M shapeCasts_S2x2048x4x128_S4096x512) bitsLt_bf16_f32 = meanAt U := by
  funext y
  idx_vars y
  have hb : ∃ (b : Fin 2) (t : Fin 2048), y0 = ⟨b.val * 2048 + t.val, by omega⟩ :=
    ⟨⟨y0.val / 2048, by omega⟩, ⟨y0.val % 2048, by omega⟩, Fin.ext (by dsimp only; omega)⟩
  have hg : ∃ (g : Fin 4) (a : Fin 128), y1 = ⟨128 * g.val + a.val, by omega⟩ :=
    ⟨⟨y1.val / 128, by omega⟩, ⟨y1.val % 128, by omega⟩, Fin.ext (by dsimp only; omega)⟩
  obtain ⟨b, t, rfl⟩ := hb
  obtain ⟨g, a, rfl⟩ := hg
  rw [meanAt_apply U _ (b.val * 2048 + t.val) g a rfl rfl, ← hM b t g a]
  pointwise

theorem out_rows (U : FVec Ideal S4096x3200 .f32) (W : FVec Ideal S4x128x128 .f32) (PS : FVec Ideal S1x512 .f32)
    (M : FVec Ideal S2x2048x4x128 .f32)
    (hM : ∀ (b : Fin 2) (t : Fin 2048) (g : Fin 4) (a : Fin 128), M (ix4 b t g a)
      = meanRow U (2 ^ (g.val + 1)) (b.val * 2048 + t.val) ⟨128 * g.val + a.val, by omega⟩) :
    truncf .bf16 (shapeCast S4096x512 (mulf (shapeCast S2x2048x512 (transpose S2x2048x4x128 [2, 3, 0, 1]
      (Host.dotGeneral (F := Ideal) dot_S4x128x128_S2x2048x4x128_S4x128x2x2048_1_3_2_01_0_2 none W M)
      transposes_S4x128x2x2048_S2x2048x4x128_2_3_0_1) shapeCasts_S2x2048x4x128_S2x2048x512)
      (broadcastInDim S2x2048x512 ![0, 1, 2] bcast_S1x1x512_S2x2048x512_0_1_2 (broadcastInDim S1x1x512 ![1, 2] bcast_S1x512_S1x1x512_1_2 PS)))
      shapeCasts_S2x2048x512_S4096x512) bitsLt_bf16_f32 = outAt U W PS := by
  funext y
  idx_vars y
  have hb : ∃ (b : Fin 2) (t : Fin 2048), y0 = ⟨b.val * 2048 + t.val, by omega⟩ :=
    ⟨⟨y0.val / 2048, by omega⟩, ⟨y0.val % 2048, by omega⟩, Fin.ext (by dsimp only; omega)⟩
  have hg : ∃ (g : Fin 4) (a : Fin 128), y1 = ⟨128 * g.val + a.val, by omega⟩ :=
    ⟨⟨y1.val / 128, by omega⟩, ⟨y1.val % 128, by omega⟩, Fin.ext (by dsimp only; omega)⟩
  obtain ⟨b, t, rfl⟩ := hb
  obtain ⟨g, a, rfl⟩ := hg
  rw [outAt_apply U W PS _ (b.val * 2048 + t.val) g a rfl rfl, outRow]
  simp only [← hM]
  pointwise
  refine congrArg (· * _) (Finset.sum_congr rfl fun d _ => ?_)
  rw [mul_comm]

end Cert.PoolFRefIdeal.PoolF

namespace Cert.PoolFIdeal.PoolF
open Cert.PoolFIdeal Cert.PoolFIdeal.Gen

variable (m : (ℓ : Loc nD τ sig) → Buf (Elt Ideal) ℓ)
  (m' : (ℓ : Loc PoolFRefIdeal.nD PoolFRefIdeal.τ PoolFRefIdeal.sig) → Buf (Elt Ideal) ℓ)

/-- The precondition: the pooled columns are real. -/
theorem real_rows (U : FVec Ideal S4096x3200 .f32) (W : FVec Ideal S4x128x128 .f32) (PS : FVec Ideal S1x512 .f32)
    (h : Cert.Pre_finite_stream.fn (F := Ideal) U W PS = fun _ => 1#1) (r : ℕ) (n : Fin 512) : ∃ q : ℝ, row U r n = (q : EReal) := by
  unfold row
  by_cases hr : r < 4096
  · obtain ⟨q, hq⟩ := Cert.Reals.real_of_bit _ _ h (ix2 ⟨r, hr⟩ n)
    refine ⟨q, ?_⟩
    rw [dif_pos hr, ← hq]
    pointwise
  · exact ⟨0, by rw [dif_neg hr]; rfl⟩

/-- The array of the means. -/
theorem final_mean (c : Dev nD) : (dats m 0 c).arrAt 6 cfg0.N = mean m c := by
  refine (dats m 0 c).arrAt_eq_of_covers 6 _ (by decide +kernel) fun t hf y => ?_
  blk_simp
  rw [after0_6, outsAt0]
  dsimp only
  refine (point_mean m c t y).trans ?_
  rfl

/-- The array of the scaled products. -/
theorem final_out (c : Dev nD) : (dats m 0 c).arrAt 5 cfg0.N = out m c := by
  refine (dats m 0 c).arrAt_eq_of_covers 5 _ (by decide +kernel) fun t hf y => ?_
  blk_simp
  rw [after0_5, outsAt0]
  dsimp only
  exact point_out m c t y

/-- The means: the kernel's are the reference's where the pooled columns are real. -/
theorem out_mean (c : Dev nD) (hpre : Cert.Pre_PoolFIdeal_finite_stream m)
    (h0 : m' ((c.tc : Thread PoolFRefIdeal.nD PoolFRefIdeal.τ).loc PoolFRefIdeal.main_arg0) = m ((c.tc : Thread nD τ).loc main_arg0)) :
    PoolFRefIdeal.Value.res_out1 m' c = (dats m 0 c).arrAt 6 cfg0.N := by
  rw [final_mean, mean]
  refine Eq.trans ?_ (PoolFRefIdeal.PoolF.mean_rows (m ((c.tc : Thread nD τ).loc main_arg0)) _
    (PoolFRefIdeal.PoolF.means_rows _ (real_rows _ _ _ (hpre c))))
  rw [← h0]
  rfl

/-- The scaled products. -/
theorem out_out (c : Dev nD) (hpre : Cert.Pre_PoolFIdeal_finite_stream m)
    (h0 : m' ((c.tc : Thread PoolFRefIdeal.nD PoolFRefIdeal.τ).loc PoolFRefIdeal.main_arg0) = m ((c.tc : Thread nD τ).loc main_arg0))
    (h1 : m' ((c.tc : Thread PoolFRefIdeal.nD PoolFRefIdeal.τ).loc PoolFRefIdeal.main_arg1) = m ((c.tc : Thread nD τ).loc main_arg1))
    (h2 : m' ((c.tc : Thread PoolFRefIdeal.nD PoolFRefIdeal.τ).loc PoolFRefIdeal.main_arg2) = m ((c.tc : Thread nD τ).loc main_arg2)) :
    PoolFRefIdeal.Value.res_out0 m' c = (dats m 0 c).arrAt 5 cfg0.N := by
  rw [final_out, out]
  refine Eq.trans ?_ (PoolFRefIdeal.PoolF.out_rows (m ((c.tc : Thread nD τ).loc main_arg0)) (m ((c.tc : Thread nD τ).loc main_arg1))
    (m ((c.tc : Thread nD τ).loc main_arg2)) _ (PoolFRefIdeal.PoolF.means_rows _ (real_rows _ _ _ (hpre c))))
  rw [← h0, ← h1, ← h2]
  rfl

end Cert.PoolFIdeal.PoolF
end
-- ==== Proof.ClaimsPoolF.lean ====
/- The value claims of `pool_fwd`: the kernel's run and the reference's end with the same results. -/
module

public import proofs.«01_k».proof.Defs
public import proofs.«01_k».proof.Proof.PoolFValue
public import proofs.«01_k».proof.Proof.Gen.PoolFIdeal
public import proofs.«01_k».proof.Proof.Gen.PoolFIdeal.Frame
public import proofs.«01_k».proof.Proof.Gen.PoolFRefIdeal
public import proofs.«01_k».proof.Proof.Gen.PoolFRefIdeal.Run
public import Idealize.ShloMosaic.Adequacy
public import Idealize.ShloMosaic.Init

@[expose] public section

noncomputable section

namespace Cert.Proof

open Idealize.ShloMosaic Idealize.SL.Sem

set_option maxHeartbeats 3200000 in
theorem poolF_algebraic : Cert.algebraic_PoolFIdeal_PoolFRefIdeal_pre_finite_stream := by
  pair_intro
  · run_from Cert.PoolFIdeal.Gen.run_main m g
  · run_from Cert.PoolFRefIdeal.Value.run m' g'
    · exact Cert.PoolFIdeal.PoolF.out_out m m' c hpre (hagree c).1 (hagree c).2.1 (hagree c).2.2
    · exact Cert.PoolFIdeal.PoolF.out_mean m m' c hpre (hagree c).1

end Cert.Proof

end
-- ==== Proof.lean ====
/- The proof of the claim of `Defs`: for each call of the backward pass its frames, that its ideal program is the
   printed one, and that its results are those of its reference. -/
module

public import proofs.«01_k».proof.Defs
public import proofs.«01_k».proof.Proof.Gen.DownX
public import proofs.«01_k».proof.Proof.Gen.DownX.Skeleton
public import proofs.«01_k».proof.Proof.Gen.DownX.Launch
public import proofs.«01_k».proof.Proof.Gen.DownX.Points
public import proofs.«01_k».proof.Proof.Gen.DownX.Frame
public import proofs.«01_k».proof.Proof.Gen.DownXIdeal
public import proofs.«01_k».proof.Proof.Gen.DownXIdeal.Skeleton
public import proofs.«01_k».proof.Proof.Gen.DownXIdeal.Launch
public import proofs.«01_k».proof.Proof.Gen.DownXIdeal.Points
public import proofs.«01_k».proof.Proof.Gen.DownXIdeal.Frame
public import proofs.«01_k».proof.Proof.Gen.DownXIdeal.Value
public import proofs.«01_k».proof.Proof.Gen.DownXRefIdeal.Run
public import proofs.«01_k».proof.Proof.Gen.DownXRefIdeal
public import proofs.«01_k».proof.Proof.Gen.DownW
public import proofs.«01_k».proof.Proof.Gen.DownW.Skeleton
public import proofs.«01_k».proof.Proof.Gen.DownW.Launch
public import proofs.«01_k».proof.Proof.Gen.DownW.Points
public import proofs.«01_k».proof.Proof.Gen.DownW.Frame
public import proofs.«01_k».proof.Proof.Gen.DownWIdeal
public import proofs.«01_k».proof.Proof.Gen.DownWIdeal.Skeleton
public import proofs.«01_k».proof.Proof.Gen.DownWIdeal.Launch
public import proofs.«01_k».proof.Proof.Gen.DownWIdeal.Points
public import proofs.«01_k».proof.Proof.Gen.DownWIdeal.Frame
public import proofs.«01_k».proof.Proof.Gen.DownWIdeal.Value
public import proofs.«01_k».proof.Proof.Gen.DownWRefIdeal.Run
public import proofs.«01_k».proof.Proof.Gen.DownWRefIdeal
public import proofs.«01_k».proof.Proof.Gen.UpW
public import proofs.«01_k».proof.Proof.Gen.UpW.Skeleton
public import proofs.«01_k».proof.Proof.Gen.UpW.Launch
public import proofs.«01_k».proof.Proof.Gen.UpW.Points
public import proofs.«01_k».proof.Proof.Gen.UpW.Frame
public import proofs.«01_k».proof.Proof.Gen.UpWIdeal
public import proofs.«01_k».proof.Proof.Gen.UpWIdeal.Skeleton
public import proofs.«01_k».proof.Proof.Gen.UpWIdeal.Launch
public import proofs.«01_k».proof.Proof.Gen.UpWIdeal.Points
public import proofs.«01_k».proof.Proof.Gen.UpWIdeal.Frame
public import proofs.«01_k».proof.Proof.Gen.UpWIdeal.Value
public import proofs.«01_k».proof.Proof.Gen.UpWRefIdeal.Run
public import proofs.«01_k».proof.Proof.Gen.UpWRefIdeal
public import proofs.«01_k».proof.Proof.Gen.OutX
public import proofs.«01_k».proof.Proof.Gen.OutX.Skeleton
public import proofs.«01_k».proof.Proof.Gen.OutX.Launch
public import proofs.«01_k».proof.Proof.Gen.OutX.Points
public import proofs.«01_k».proof.Proof.Gen.OutX.Frame
public import proofs.«01_k».proof.Proof.Gen.OutXIdeal
public import proofs.«01_k».proof.Proof.Gen.OutXIdeal.Skeleton
public import proofs.«01_k».proof.Proof.Gen.OutXIdeal.Launch
public import proofs.«01_k».proof.Proof.Gen.OutXIdeal.Points
public import proofs.«01_k».proof.Proof.Gen.OutXIdeal.Frame
public import proofs.«01_k».proof.Proof.Gen.OutXIdeal.Value
public import proofs.«01_k».proof.Proof.Gen.OutXRefIdeal.Run
public import proofs.«01_k».proof.Proof.Gen.OutXRefIdeal
public import proofs.«01_k».proof.Proof.Gen.OutW
public import proofs.«01_k».proof.Proof.Gen.OutW.Skeleton
public import proofs.«01_k».proof.Proof.Gen.OutW.Launch
public import proofs.«01_k».proof.Proof.Gen.OutW.Points
public import proofs.«01_k».proof.Proof.Gen.OutW.Frame
public import proofs.«01_k».proof.Proof.Gen.OutWIdeal
public import proofs.«01_k».proof.Proof.Gen.OutWIdeal.Skeleton
public import proofs.«01_k».proof.Proof.Gen.OutWIdeal.Launch
public import proofs.«01_k».proof.Proof.Gen.OutWIdeal.Points
public import proofs.«01_k».proof.Proof.Gen.OutWIdeal.Frame
public import proofs.«01_k».proof.Proof.Gen.OutWIdeal.Value
public import proofs.«01_k».proof.Proof.Gen.OutWRefIdeal.Run
public import proofs.«01_k».proof.Proof.Gen.OutWRefIdeal
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolRefIdeal
public import proofs.«01_k».proof.Proof.Gen.PoolRefIdeal.Run
public import proofs.«01_k».proof.Proof.Gen.Pre_finite_weights_and_cotangent
public import proofs.«01_k».proof.Proof.Gen.UpX
public import proofs.«01_k».proof.Proof.Gen.UpX.Skeleton
public import proofs.«01_k».proof.Proof.Gen.UpX.Launch
public import proofs.«01_k».proof.Proof.Gen.UpX.Points
public import proofs.«01_k».proof.Proof.Gen.UpX.Frame
public import proofs.«01_k».proof.Proof.Gen.UpXIdeal
public import proofs.«01_k».proof.Proof.Gen.UpXIdeal.Skeleton
public import proofs.«01_k».proof.Proof.Gen.UpXIdeal.Launch
public import proofs.«01_k».proof.Proof.Gen.UpXIdeal.Points
public import proofs.«01_k».proof.Proof.Gen.UpXIdeal.Frame
public import proofs.«01_k».proof.Proof.Gen.UpXIdeal.Value
public import proofs.«01_k».proof.Proof.Gen.UpXRefIdeal.Run
public import proofs.«01_k».proof.Proof.Gen.UpXRefIdeal
public import proofs.«01_k».proof.Proof.Gen.InX
public import proofs.«01_k».proof.Proof.Gen.InX.Skeleton
public import proofs.«01_k».proof.Proof.Gen.InX.Launch
public import proofs.«01_k».proof.Proof.Gen.InX.Points
public import proofs.«01_k».proof.Proof.Gen.InX.Frame
public import proofs.«01_k».proof.Proof.Gen.InXIdeal
public import proofs.«01_k».proof.Proof.Gen.InXIdeal.Skeleton
public import proofs.«01_k».proof.Proof.Gen.InXIdeal.Launch
public import proofs.«01_k».proof.Proof.Gen.InXIdeal.Points
public import proofs.«01_k».proof.Proof.Gen.InXIdeal.Frame
public import proofs.«01_k».proof.Proof.Gen.InXIdeal.Value
public import proofs.«01_k».proof.Proof.Gen.InXRefIdeal.Run
public import proofs.«01_k».proof.Proof.Gen.InXRefIdeal
public import proofs.«01_k».proof.Proof.Gen.UpF
public import proofs.«01_k».proof.Proof.Gen.UpF.Skeleton
public import proofs.«01_k».proof.Proof.Gen.UpF.Launch
public import proofs.«01_k».proof.Proof.Gen.UpF.Points
public import proofs.«01_k».proof.Proof.Gen.UpF.Frame
public import proofs.«01_k».proof.Proof.Gen.UpFIdeal
public import proofs.«01_k».proof.Proof.Gen.UpFIdeal.Skeleton
public import proofs.«01_k».proof.Proof.Gen.UpFIdeal.Launch
public import proofs.«01_k».proof.Proof.Gen.UpFIdeal.Points
public import proofs.«01_k».proof.Proof.Gen.UpFIdeal.Frame
public import proofs.«01_k».proof.Proof.Gen.UpFIdeal.Value
public import proofs.«01_k».proof.Proof.Gen.UpFRefIdeal.Run
public import proofs.«01_k».proof.Proof.Gen.UpFRefIdeal
public import proofs.«01_k».proof.Proof.Gen.InF
public import proofs.«01_k».proof.Proof.Gen.InF.Skeleton
public import proofs.«01_k».proof.Proof.Gen.InF.Launch
public import proofs.«01_k».proof.Proof.Gen.InF.Points
public import proofs.«01_k».proof.Proof.Gen.InF.Frame
public import proofs.«01_k».proof.Proof.Gen.InFIdeal
public import proofs.«01_k».proof.Proof.Gen.InFIdeal.Skeleton
public import proofs.«01_k».proof.Proof.Gen.InFIdeal.Launch
public import proofs.«01_k».proof.Proof.Gen.InFIdeal.Points
public import proofs.«01_k».proof.Proof.Gen.InFIdeal.Frame
public import proofs.«01_k».proof.Proof.Gen.InFIdeal.Value
public import proofs.«01_k».proof.Proof.Gen.InFRefIdeal.Run
public import proofs.«01_k».proof.Proof.Gen.InFRefIdeal
public import proofs.«01_k».proof.Proof.Gen.OutF
public import proofs.«01_k».proof.Proof.Gen.OutF.Skeleton
public import proofs.«01_k».proof.Proof.Gen.OutF.Launch
public import proofs.«01_k».proof.Proof.Gen.OutF.Points
public import proofs.«01_k».proof.Proof.Gen.OutF.Frame
public import proofs.«01_k».proof.Proof.Gen.OutFIdeal
public import proofs.«01_k».proof.Proof.Gen.OutFIdeal.Skeleton
public import proofs.«01_k».proof.Proof.Gen.OutFIdeal.Launch
public import proofs.«01_k».proof.Proof.Gen.OutFIdeal.Points
public import proofs.«01_k».proof.Proof.Gen.OutFIdeal.Frame
public import proofs.«01_k».proof.Proof.Gen.OutFIdeal.Value
public import proofs.«01_k».proof.Proof.Gen.OutFRefIdeal.Run
public import proofs.«01_k».proof.Proof.Gen.OutFRefIdeal
public import proofs.«01_k».proof.Proof.Gen.DownF
public import proofs.«01_k».proof.Proof.Gen.DownF.Skeleton
public import proofs.«01_k».proof.Proof.Gen.DownF.Launch
public import proofs.«01_k».proof.Proof.Gen.DownF.Points
public import proofs.«01_k».proof.Proof.Gen.DownF.Frame
public import proofs.«01_k».proof.Proof.Gen.DownFIdeal
public import proofs.«01_k».proof.Proof.Gen.DownFIdeal.Skeleton
public import proofs.«01_k».proof.Proof.Gen.DownFIdeal.Launch
public import proofs.«01_k».proof.Proof.Gen.DownFIdeal.Points
public import proofs.«01_k».proof.Proof.Gen.DownFIdeal.Frame
public import proofs.«01_k».proof.Proof.Gen.DownFIdeal.Value
public import proofs.«01_k».proof.Proof.Gen.DownFRefIdeal.Run
public import proofs.«01_k».proof.Proof.Gen.DownFRefIdeal
public import proofs.«01_k».proof.Proof.Gen.InW
public import proofs.«01_k».proof.Proof.Gen.InWIdeal
public import proofs.«01_k».proof.Proof.Gen.InWIdeal.Skeleton
public import proofs.«01_k».proof.Proof.Gen.InWIdeal.Frame
public import proofs.«01_k».proof.Proof.Gen.InWRefIdeal.Run
public import proofs.«01_k».proof.Proof.Gen.InWRefIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal.Run
public import proofs.«01_k».proof.Proof.Gen.AdaRefIdeal
public import proofs.«01_k».proof.Proof.Gen.PoolF
public import proofs.«01_k».proof.Proof.Gen.PoolF.Skeleton
public import proofs.«01_k».proof.Proof.Gen.PoolF.Launch
public import proofs.«01_k».proof.Proof.Gen.PoolF.Points
public import proofs.«01_k».proof.Proof.Gen.PoolF.Frame
public import proofs.«01_k».proof.Proof.Gen.PoolFIdeal
public import proofs.«01_k».proof.Proof.Gen.PoolFIdeal.Skeleton
public import proofs.«01_k».proof.Proof.Gen.PoolFIdeal.Launch
public import proofs.«01_k».proof.Proof.Gen.PoolFIdeal.Points
public import proofs.«01_k».proof.Proof.Gen.PoolFIdeal.Frame
public import proofs.«01_k».proof.Proof.Gen.PoolFRefIdeal.Run
public import proofs.«01_k».proof.Proof.Gen.PoolFRefIdeal
public import proofs.«01_k».proof.Proof.Gen.Pre_finite_stream
public import proofs.«01_k».proof.Proof.DownXValue
public import proofs.«01_k».proof.Proof.DownWValue
public import proofs.«01_k».proof.Proof.UpWValue
public import proofs.«01_k».proof.Proof.OutXValue
public import proofs.«01_k».proof.Proof.OutWValue
public import proofs.«01_k».proof.Proof.PoolValue
public import proofs.«01_k».proof.Proof.UpXValue
public import proofs.«01_k».proof.Proof.InXValue
public import proofs.«01_k».proof.Proof.UpFValue
public import proofs.«01_k».proof.Proof.InFValue
public import proofs.«01_k».proof.Proof.OutFValue
public import proofs.«01_k».proof.Proof.ClaimsProduct
public import proofs.«01_k».proof.Proof.ClaimsPool
public import proofs.«01_k».proof.Proof.ClaimsUpX
public import proofs.«01_k».proof.Proof.ClaimsInX
public import proofs.«01_k».proof.Proof.ClaimsForward
public import proofs.«01_k».proof.Proof.ClaimsDownF
public import proofs.«01_k».proof.Proof.ClaimsInW
public import proofs.«01_k».proof.Proof.ClaimsAda
public import proofs.«01_k».proof.Proof.ClaimsPoolF
public import Idealize.ShloMosaic.Adequacy
public import Idealize.ShloMosaic.Init

@[expose] public section

noncomputable section

namespace Cert.Proof

open Idealize.ShloMosaic Idealize.SL.Sem Cert.DownX

theorem downXRef_frame : Cert.quiescent_DownXRefIdeal := fun m g _ =>
  (θ_run _ _ _).mono (fun _ h => ⟨fun c => (h c).2, sem_eq_zero_of_no_sems (by decide) _⟩) (Cert.DownXRefIdeal.Value.run m g)

theorem downWRef_frame : Cert.quiescent_DownWRefIdeal := fun m g _ =>
  (θ_run _ _ _).mono (fun _ h => ⟨fun c => (h c).2, sem_eq_zero_of_no_sems (by decide) _⟩) (Cert.DownWRefIdeal.Value.run m g)

theorem upWRef_frame : Cert.quiescent_UpWRefIdeal := fun m g _ =>
  (θ_run _ _ _).mono (fun _ h => ⟨fun c => (h c).2, sem_eq_zero_of_no_sems (by decide) _⟩) (Cert.UpWRefIdeal.Value.run m g)

theorem outXRef_frame : Cert.quiescent_OutXRefIdeal := fun m g _ =>
  (θ_run _ _ _).mono (fun _ h => ⟨fun c => (h c).2.2, sem_eq_zero_of_no_sems (by decide) _⟩) (Cert.OutXRefIdeal.Value.run m g)

theorem outWRef_frame : Cert.quiescent_OutWRefIdeal := fun m g _ =>
  (θ_run _ _ _).mono (fun _ h => ⟨fun c => (h c).2, sem_eq_zero_of_no_sems (by decide) _⟩) (Cert.OutWRefIdeal.Value.run m g)

theorem poolRef_frame : Cert.quiescent_PoolRefIdeal := fun m g _ =>
  (θ_run _ _ _).mono (fun _ h => ⟨fun c => (h c).2.2.2, sem_eq_zero_of_no_sems (by decide) _⟩) (Cert.PoolRefIdeal.Value.run m g)

theorem upXRef_frame : Cert.quiescent_UpXRefIdeal := fun m g _ =>
  (θ_run _ _ _).mono (fun _ h => ⟨fun c => (h c).2.2.2.2, sem_eq_zero_of_no_sems (by decide) _⟩) (Cert.UpXRefIdeal.Value.run m g)

theorem inXRef_frame : Cert.quiescent_InXRefIdeal := fun m g _ =>
  (θ_run _ _ _).mono (fun _ h => ⟨fun c => (h c).2.2.2, sem_eq_zero_of_no_sems (by decide) _⟩) (Cert.InXRefIdeal.Value.run m g)

theorem upFRef_frame : Cert.quiescent_UpFRefIdeal := fun m g _ =>
  (θ_run _ _ _).mono (fun _ h => ⟨fun c => (h c).2, sem_eq_zero_of_no_sems (by decide) _⟩) (Cert.UpFRefIdeal.Value.run m g)

theorem inFRef_frame : Cert.quiescent_InFRefIdeal := fun m g _ =>
  (θ_run _ _ _).mono (fun _ h => ⟨fun c => (h c).2.2, sem_eq_zero_of_no_sems (by decide) _⟩) (Cert.InFRefIdeal.Value.run m g)

theorem outFRef_frame : Cert.quiescent_OutFRefIdeal := fun m g _ =>
  (θ_run _ _ _).mono (fun _ h => ⟨fun c => (h c).2.2.2, sem_eq_zero_of_no_sems (by decide) _⟩) (Cert.OutFRefIdeal.Value.run m g)

theorem downFRef_frame : Cert.quiescent_DownFRefIdeal := fun m g _ =>
  (θ_run _ _ _).mono (fun _ h => ⟨fun c => (h c).2.2.2.2.2, sem_eq_zero_of_no_sems (by decide) _⟩) (Cert.DownFRefIdeal.Value.run m g)

theorem inWRef_frame : Cert.quiescent_InWRefIdeal := fun m g _ =>
  (θ_run _ _ _).mono (fun _ h => ⟨fun c => (h c).2, sem_eq_zero_of_no_sems (by decide) _⟩) (Cert.InWRefIdeal.Value.run m g)

theorem adaRef_frame : Cert.quiescent_AdaRefIdeal := fun m g _ =>
  (θ_run _ _ _).mono (fun _ h => ⟨fun c => (h c).2.2, sem_eq_zero_of_no_sems (by decide) _⟩) (Cert.AdaRefIdeal.Value.run m g)

theorem poolFRef_frame : Cert.quiescent_PoolFRefIdeal := fun m g _ =>
  (θ_run _ _ _).mono (fun _ h => ⟨fun c => (h c).2.2, sem_eq_zero_of_no_sems (by decide) _⟩) (Cert.PoolFRefIdeal.Value.run m g)

theorem claim : Cert.Claim := ⟨Cert.DownX.Gen.facts, Cert.DownXIdeal.Gen.facts, Cert.DownXRefIdeal.Gen.facts, Cert.DownW.Gen.facts, Cert.DownWIdeal.Gen.facts, Cert.DownWRefIdeal.Gen.facts, Cert.UpW.Gen.facts, Cert.UpWIdeal.Gen.facts, Cert.UpWRefIdeal.Gen.facts, Cert.OutX.Gen.facts, Cert.OutXIdeal.Gen.facts, Cert.OutXRefIdeal.Gen.facts, Cert.OutW.Gen.facts, Cert.OutWIdeal.Gen.facts, Cert.OutWRefIdeal.Gen.facts,
  Cert.Pool.Gen.facts, Cert.PoolIdeal.Gen.facts, Cert.PoolRefIdeal.Gen.facts,
  Cert.UpX.Gen.facts, Cert.UpXIdeal.Gen.facts, Cert.UpXRefIdeal.Gen.facts,
  Cert.InX.Gen.facts, Cert.InXIdeal.Gen.facts, Cert.InXRefIdeal.Gen.facts,
  Cert.UpF.Gen.facts, Cert.UpFIdeal.Gen.facts, Cert.UpFRefIdeal.Gen.facts,
  Cert.InF.Gen.facts, Cert.InFIdeal.Gen.facts, Cert.InFRefIdeal.Gen.facts,
  Cert.OutF.Gen.facts, Cert.OutFIdeal.Gen.facts, Cert.OutFRefIdeal.Gen.facts,
  Cert.DownF.Gen.facts, Cert.DownFIdeal.Gen.facts, Cert.DownFRefIdeal.Gen.facts,
  Cert.InW.Gen.facts, Cert.InWIdeal.Gen.facts, Cert.InWRefIdeal.Gen.facts,
  Cert.Ada.Gen.facts, Cert.AdaIdeal.Gen.facts, Cert.AdaRefIdeal.Gen.facts,
  Cert.PoolF.Gen.facts, Cert.PoolFIdeal.Gen.facts, Cert.PoolFRefIdeal.Gen.facts, Cert.Pre_finite_weights_and_cotangent.Gen.facts, Cert.Pre_finite_stream.Gen.facts,
  fun m ρ _ => Cert.DownX.Gen.frame m ρ, fun m ρ _ => Cert.DownXIdeal.Gen.frame m ρ, downXRef_frame,
  fun m ρ _ => Cert.DownW.Gen.frame m ρ, fun m ρ _ => Cert.DownWIdeal.Gen.frame m ρ, downWRef_frame,
  fun m ρ _ => Cert.UpW.Gen.frame m ρ, fun m ρ _ => Cert.UpWIdeal.Gen.frame m ρ, upWRef_frame,
  fun m ρ _ => Cert.OutX.Gen.frame m ρ, fun m ρ _ => Cert.OutXIdeal.Gen.frame m ρ, outXRef_frame,
  fun m ρ _ => Cert.OutW.Gen.frame m ρ, fun m ρ _ => Cert.OutWIdeal.Gen.frame m ρ, outWRef_frame,
  fun m ρ _ => Cert.Pool.Gen.frame m ρ, fun m ρ _ => Cert.PoolIdeal.Gen.frame m ρ, fun m ρ _ => Cert.PoolIdeal.Gen.frame m ρ,
  poolRef_frame, fun m ρ _ => poolRef_frame m ρ trivial,
  fun m ρ _ => Cert.UpX.Gen.frame m ρ, fun m ρ _ => Cert.UpXIdeal.Gen.frame m ρ, upXRef_frame,
  fun m ρ _ => Cert.InX.Gen.frame m ρ, fun m ρ _ => Cert.InXIdeal.Gen.frame m ρ, inXRef_frame,
  fun m ρ _ => Cert.UpF.Gen.frame m ρ, fun m ρ _ => Cert.UpFIdeal.Gen.frame m ρ, upFRef_frame,
  fun m ρ _ => Cert.InF.Gen.frame m ρ, fun m ρ _ => Cert.InFIdeal.Gen.frame m ρ, inFRef_frame,
  fun m ρ _ => Cert.OutF.Gen.frame m ρ, fun m ρ _ => Cert.OutFIdeal.Gen.frame m ρ, outFRef_frame,
  fun m ρ _ => Cert.DownF.Gen.frame m ρ, fun m ρ _ => Cert.DownFIdeal.Gen.frame m ρ, downFRef_frame,
  inW_frame, fun m ρ _ => Cert.InWIdeal.InW.frame m ρ, inWRef_frame,
  fun m ρ _ => Cert.Ada.Gen.frame m ρ, fun m ρ _ => Cert.AdaIdeal.Gen.frame m ρ, adaRef_frame,
  fun m ρ _ => Cert.PoolF.Gen.frame m ρ, fun m ρ _ => Cert.PoolFIdeal.Gen.frame m ρ, fun m ρ _ => Cert.PoolFIdeal.Gen.frame m ρ,
  poolFRef_frame, fun m ρ _ => poolFRef_frame m ρ trivial,
  trivial, downX_algebraic, trivial, downW_algebraic, trivial, upW_algebraic, trivial, outX_algebraic, trivial, outW_algebraic, trivial, pool_algebraic,
  trivial, upX_algebraic,
  trivial, inX_algebraic,
  trivial, upF_algebraic,
  trivial, inF_algebraic,
  trivial, outF_algebraic,
  trivial, downF_algebraic,
  trivial, inW_algebraic,
  trivial, ada_algebraic,
  trivial, poolF_algebraic⟩

end Cert.Proof

end
